-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))).2.2.2.2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))).2.2.2.2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).2.2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))).2.2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).2.2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))).2.2.2.2.2 = (fun _ => 1#1)

def Pre_Kernel16 [hPre_a_chip16 : Cert.Pre_a_chip16.Facts] (m : (ℓ : Loc Cert.Kernel16.nD Cert.Kernel16.τ Cert.Kernel16.sig) → Buf (Elt Bits) ℓ) : Prop :=
  ∀ c : Dev Cert.Kernel16.nD,
    (Cert.Pre_a_chip16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2))).1 = (fun _ => 1#1)
    ∧ (Cert.Pre_a_chip16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2))).2 = (fun _ => 1#1)

def Pre_Kernel16Ideal [hPre_a_chip16 : Cert.Pre_a_chip16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_a_chip16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_a_chip16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_a_chip16 [hPre_a_chip16 : Cert.Pre_a_chip16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_a_chip16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_a_chip16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2 = (fun _ => 1#1)

def Pre_Kernel17 [hPre_a_chip17 : Cert.Pre_a_chip17.Facts] (m : (ℓ : Loc Cert.Kernel17.nD Cert.Kernel17.τ Cert.Kernel17.sig) → Buf (Elt Bits) ℓ) : Prop :=
  ∀ c : Dev Cert.Kernel17.nD,
    (Cert.Pre_a_chip17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2))).1 = (fun _ => 1#1)
    ∧ (Cert.Pre_a_chip17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2))).2 = (fun _ => 1#1)

def Pre_Kernel17Ideal [hPre_a_chip17 : Cert.Pre_a_chip17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_a_chip17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).1 = (fun _ => 1#1)
    ∧ (Cert.Pre_a_chip17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_a_chip17 [hPre_a_chip17 : Cert.Pre_a_chip17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_a_chip17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).1 = (fun _ => 1#1)
    ∧ (Cert.Pre_a_chip17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2 = (fun _ => 1#1)

def Pre_Kernel18 [hPre_a_chip18 : Cert.Pre_a_chip18.Facts] (m : (ℓ : Loc Cert.Kernel18.nD Cert.Kernel18.τ Cert.Kernel18.sig) → Buf (Elt Bits) ℓ) : Prop :=
  ∀ c : Dev Cert.Kernel18.nD,
    (Cert.Pre_a_chip18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2))).1 = (fun _ => 1#1)
    ∧ (Cert.Pre_a_chip18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2))).2 = (fun _ => 1#1)

def Pre_Kernel18Ideal [hPre_a_chip18 : Cert.Pre_a_chip18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_a_chip18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).1 = (fun _ => 1#1)
    ∧ (Cert.Pre_a_chip18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_a_chip18 [hPre_a_chip18 : Cert.Pre_a_chip18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_a_chip18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).1 = (fun _ => 1#1)
    ∧ (Cert.Pre_a_chip18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2 = (fun _ => 1#1)

def Pre_Kernel19 [hPre_a_chip19 : Cert.Pre_a_chip19.Facts] (m : (ℓ : Loc Cert.Kernel19.nD Cert.Kernel19.τ Cert.Kernel19.sig) → Buf (Elt Bits) ℓ) : Prop :=
  ∀ c : Dev Cert.Kernel19.nD,
    (Cert.Pre_a_chip19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2))).1 = (fun _ => 1#1)
    ∧ (Cert.Pre_a_chip19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2))).2 = (fun _ => 1#1)

def Pre_Kernel19Ideal [hPre_a_chip19 : Cert.Pre_a_chip19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_a_chip19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).1 = (fun _ => 1#1)
    ∧ (Cert.Pre_a_chip19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_a_chip19 [hPre_a_chip19 : Cert.Pre_a_chip19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_a_chip19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).1 = (fun _ => 1#1)
    ∧ (Cert.Pre_a_chip19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).2 = (fun _ => 1#1)

def Pre_Kernel20 [hPre_a_core20 : Cert.Pre_a_core20.Facts] (m : (ℓ : Loc Cert.Kernel20.nD Cert.Kernel20.τ Cert.Kernel20.sig) → Buf (Elt Bits) ℓ) : Prop :=
  ∀ c : Dev Cert.Kernel20.nD,
    (Cert.Pre_a_core20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2))).1 = (fun _ => 1#1)
    ∧ (Cert.Pre_a_core20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2))).2 = (fun _ => 1#1)

def Pre_Kernel20Ideal [hPre_a_core20 : Cert.Pre_a_core20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_a_core20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_a_core20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_a_core20 [hPre_a_core20 : Cert.Pre_a_core20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_a_core20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_a_core20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2 = (fun _ => 1#1)

def Pre_Kernel21 [hPre_a_core21 : Cert.Pre_a_core21.Facts] (m : (ℓ : Loc Cert.Kernel21.nD Cert.Kernel21.τ Cert.Kernel21.sig) → Buf (Elt Bits) ℓ) : Prop :=
  ∀ c : Dev Cert.Kernel21.nD,
    (Cert.Pre_a_core21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2))).1 = (fun _ => 1#1)
    ∧ (Cert.Pre_a_core21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2))).2 = (fun _ => 1#1)

def Pre_Kernel21Ideal [hPre_a_core21 : Cert.Pre_a_core21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_a_core21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).1 = (fun _ => 1#1)
    ∧ (Cert.Pre_a_core21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))).2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_a_core21 [hPre_a_core21 : Cert.Pre_a_core21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_a_core21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).1 = (fun _ => 1#1)
    ∧ (Cert.Pre_a_core21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))).2 = (fun _ => 1#1)

def Pre_Kernel22 [hPre_a_core22 : Cert.Pre_a_core22.Facts] (m : (ℓ : Loc Cert.Kernel22.nD Cert.Kernel22.τ Cert.Kernel22.sig) → Buf (Elt Bits) ℓ) : Prop :=
  ∀ c : Dev Cert.Kernel22.nD,
    (Cert.Pre_a_core22.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2))).1 = (fun _ => 1#1)
    ∧ (Cert.Pre_a_core22.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2))).2 = (fun _ => 1#1)

def Pre_Kernel22Ideal [hPre_a_core22 : Cert.Pre_a_core22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_a_core22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).1 = (fun _ => 1#1)
    ∧ (Cert.Pre_a_core22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_a_core22 [hPre_a_core22 : Cert.Pre_a_core22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_a_core22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).1 = (fun _ => 1#1)
    ∧ (Cert.Pre_a_core22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2 = (fun _ => 1#1)

def Pre_Kernel23 [hPre_a_core23 : Cert.Pre_a_core23.Facts] (m : (ℓ : Loc Cert.Kernel23.nD Cert.Kernel23.τ Cert.Kernel23.sig) → Buf (Elt Bits) ℓ) : Prop :=
  ∀ c : Dev Cert.Kernel23.nD,
    (Cert.Pre_a_core23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2))).1 = (fun _ => 1#1)
    ∧ (Cert.Pre_a_core23.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2))).2 = (fun _ => 1#1)

def Pre_Kernel23Ideal [hPre_a_core23 : Cert.Pre_a_core23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_a_core23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).1 = (fun _ => 1#1)
    ∧ (Cert.Pre_a_core23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_a_core23 [hPre_a_core23 : Cert.Pre_a_core23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_a_core23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).1 = (fun _ => 1#1)
    ∧ (Cert.Pre_a_core23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))).2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Kernel16 [hKernel16 : Cert.Kernel16.Facts] [hPre_a_chip16 : Cert.Pre_a_chip16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] [hPre_a_chip16 : Cert.Pre_a_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_a_chip16 [hReference16Ideal : Cert.Reference16Ideal.Facts] [hPre_a_chip16 : Cert.Pre_a_chip16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_a_chip16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] [hPre_a_chip17 : Cert.Pre_a_chip17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] [hPre_a_chip17 : Cert.Pre_a_chip17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_a_chip17 [hReference17Ideal : Cert.Reference17Ideal.Facts] [hPre_a_chip17 : Cert.Pre_a_chip17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_a_chip17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] [hPre_a_chip18 : Cert.Pre_a_chip18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] [hPre_a_chip18 : Cert.Pre_a_chip18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_a_chip18 [hReference18Ideal : Cert.Reference18Ideal.Facts] [hPre_a_chip18 : Cert.Pre_a_chip18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_a_chip18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] [hPre_a_chip19 : Cert.Pre_a_chip19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] [hPre_a_chip19 : Cert.Pre_a_chip19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_a_chip19 [hReference19Ideal : Cert.Reference19Ideal.Facts] [hPre_a_chip19 : Cert.Pre_a_chip19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_a_chip19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] [hPre_a_core20 : Cert.Pre_a_core20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] [hPre_a_core20 : Cert.Pre_a_core20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_a_core20 [hReference20Ideal : Cert.Reference20Ideal.Facts] [hPre_a_core20 : Cert.Pre_a_core20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_a_core20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] [hPre_a_core21 : Cert.Pre_a_core21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] [hPre_a_core21 : Cert.Pre_a_core21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_a_core21 [hReference21Ideal : Cert.Reference21Ideal.Facts] [hPre_a_core21 : Cert.Pre_a_core21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_a_core21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] [hPre_a_core22 : Cert.Pre_a_core22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] [hPre_a_core22 : Cert.Pre_a_core22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_a_core22 [hReference22Ideal : Cert.Reference22Ideal.Facts] [hPre_a_core22 : Cert.Pre_a_core22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_a_core22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] [hPre_a_core23 : Cert.Pre_a_core23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] [hPre_a_core23 : Cert.Pre_a_core23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_a_core23 [hReference23Ideal : Cert.Reference23Ideal.Facts] [hPre_a_core23 : Cert.Pre_a_core23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_a_core23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)) (v7 : (c : Dev Cert.Kernel4Ideal.nD) → Buf (Elt Ideal) ((c.tc : Thread Cert.Kernel4Ideal.nD Cert.Kernel4Ideal.τ).loc Cert.Kernel4Ideal.main_v2_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_v2_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v192) = v0 c
          ∧ r.2.mem ((c.tc : Thread Cert.Reference4Ideal.nD Cert.Reference4Ideal.τ).loc Cert.Reference4Ideal.main_v189) = v1 c
          ∧ r.2.mem ((c.tc : Thread Cert.Reference4Ideal.nD Cert.Reference4Ideal.τ).loc Cert.Reference4Ideal.main_v195) = v2 c
          ∧ r.2.mem ((c.tc : Thread Cert.Reference4Ideal.nD Cert.Reference4Ideal.τ).loc Cert.Reference4Ideal.main_v196) = v3 c
          ∧ r.2.mem ((c.tc : Thread Cert.Reference4Ideal.nD Cert.Reference4Ideal.τ).loc Cert.Reference4Ideal.main_v197) = v4 c
          ∧ r.2.mem ((c.tc : Thread Cert.Reference4Ideal.nD Cert.Reference4Ideal.τ).loc Cert.Reference4Ideal.main_v198) = v5 c
          ∧ r.2.mem ((c.tc : Thread Cert.Reference4Ideal.nD Cert.Reference4Ideal.τ).loc Cert.Reference4Ideal.main_v194) = v6 c
          ∧ r.2.mem ((c.tc : Thread Cert.Reference4Ideal.nD Cert.Reference4Ideal.τ).loc Cert.Reference4Ideal.main_v199) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v3_1)) (v1 : (c : Dev Cert.Kernel15Ideal.nD) → Buf (Elt Ideal) ((c.tc : Thread Cert.Kernel15Ideal.nD Cert.Kernel15Ideal.τ).loc Cert.Kernel15Ideal.main_v3_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_1) = v0 c
          ∧ r.2.mem ((c.tc : Thread Cert.Kernel15Ideal.nD Cert.Kernel15Ideal.τ).loc Cert.Kernel15Ideal.main_v3_4) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v71) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def preserves_Kernel16_Kernel16Ideal : Prop :=
  True

def algebraic_Kernel16Ideal_Reference16Ideal [hKernel16Ideal : Cert.Kernel16Ideal.Facts] [hReference16Ideal : Cert.Reference16Ideal.Facts] [hPre_a_chip16 : Cert.Pre_a_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] [hPre_a_chip17 : Cert.Pre_a_chip17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] [hPre_a_chip18 : Cert.Pre_a_chip18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] [hPre_a_chip19 : Cert.Pre_a_chip19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] [hPre_a_core20 : Cert.Pre_a_core20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] [hPre_a_core21 : Cert.Pre_a_core21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] [hPre_a_core22 : Cert.Pre_a_core22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] [hPre_a_core23 : Cert.Pre_a_core23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite3 : Cert.Pre_finite3.Facts) (hPre_finite4 : Cert.Pre_finite4.Facts) (hPre_finite15 : Cert.Pre_finite15.Facts) (hPre_a_chip16 : Cert.Pre_a_chip16.Facts) (hPre_a_chip17 : Cert.Pre_a_chip17.Facts) (hPre_a_chip18 : Cert.Pre_a_chip18.Facts) (hPre_a_chip19 : Cert.Pre_a_chip19.Facts) (hPre_a_core20 : Cert.Pre_a_core20.Facts) (hPre_a_core21 : Cert.Pre_a_core21.Facts) (hPre_a_core22 : Cert.Pre_a_core22.Facts) (hPre_a_core23 : Cert.Pre_a_core23.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16) (hPre_a_chip16 := hPre_a_chip16)
    ∧ quiescent_Kernel16Ideal (hKernel16Ideal := hKernel16Ideal) (hPre_a_chip16 := hPre_a_chip16)
    ∧ quiescent_Reference16Ideal (hReference16Ideal := hReference16Ideal)
    ∧ quiescent_Reference16Ideal_pre_a_chip16 (hReference16Ideal := hReference16Ideal) (hPre_a_chip16 := hPre_a_chip16)
    ∧ quiescent_Kernel17 (hKernel17 := hKernel17) (hPre_a_chip17 := hPre_a_chip17)
    ∧ quiescent_Kernel17Ideal (hKernel17Ideal := hKernel17Ideal) (hPre_a_chip17 := hPre_a_chip17)
    ∧ quiescent_Reference17Ideal (hReference17Ideal := hReference17Ideal)
    ∧ quiescent_Reference17Ideal_pre_a_chip17 (hReference17Ideal := hReference17Ideal) (hPre_a_chip17 := hPre_a_chip17)
    ∧ quiescent_Kernel18 (hKernel18 := hKernel18) (hPre_a_chip18 := hPre_a_chip18)
    ∧ quiescent_Kernel18Ideal (hKernel18Ideal := hKernel18Ideal) (hPre_a_chip18 := hPre_a_chip18)
    ∧ quiescent_Reference18Ideal (hReference18Ideal := hReference18Ideal)
    ∧ quiescent_Reference18Ideal_pre_a_chip18 (hReference18Ideal := hReference18Ideal) (hPre_a_chip18 := hPre_a_chip18)
    ∧ quiescent_Kernel19 (hKernel19 := hKernel19) (hPre_a_chip19 := hPre_a_chip19)
    ∧ quiescent_Kernel19Ideal (hKernel19Ideal := hKernel19Ideal) (hPre_a_chip19 := hPre_a_chip19)
    ∧ quiescent_Reference19Ideal (hReference19Ideal := hReference19Ideal)
    ∧ quiescent_Reference19Ideal_pre_a_chip19 (hReference19Ideal := hReference19Ideal) (hPre_a_chip19 := hPre_a_chip19)
    ∧ quiescent_Kernel20 (hKernel20 := hKernel20) (hPre_a_core20 := hPre_a_core20)
    ∧ quiescent_Kernel20Ideal (hKernel20Ideal := hKernel20Ideal) (hPre_a_core20 := hPre_a_core20)
    ∧ quiescent_Reference20Ideal (hReference20Ideal := hReference20Ideal)
    ∧ quiescent_Reference20Ideal_pre_a_core20 (hReference20Ideal := hReference20Ideal) (hPre_a_core20 := hPre_a_core20)
    ∧ quiescent_Kernel21 (hKernel21 := hKernel21) (hPre_a_core21 := hPre_a_core21)
    ∧ quiescent_Kernel21Ideal (hKernel21Ideal := hKernel21Ideal) (hPre_a_core21 := hPre_a_core21)
    ∧ quiescent_Reference21Ideal (hReference21Ideal := hReference21Ideal)
    ∧ quiescent_Reference21Ideal_pre_a_core21 (hReference21Ideal := hReference21Ideal) (hPre_a_core21 := hPre_a_core21)
    ∧ quiescent_Kernel22 (hKernel22 := hKernel22) (hPre_a_core22 := hPre_a_core22)
    ∧ quiescent_Kernel22Ideal (hKernel22Ideal := hKernel22Ideal) (hPre_a_core22 := hPre_a_core22)
    ∧ quiescent_Reference22Ideal (hReference22Ideal := hReference22Ideal)
    ∧ quiescent_Reference22Ideal_pre_a_core22 (hReference22Ideal := hReference22Ideal) (hPre_a_core22 := hPre_a_core22)
    ∧ quiescent_Kernel23 (hKernel23 := hKernel23) (hPre_a_core23 := hPre_a_core23)
    ∧ quiescent_Kernel23Ideal (hKernel23Ideal := hKernel23Ideal) (hPre_a_core23 := hPre_a_core23)
    ∧ quiescent_Reference23Ideal (hReference23Ideal := hReference23Ideal)
    ∧ quiescent_Reference23Ideal_pre_a_core23 (hReference23Ideal := hReference23Ideal) (hPre_a_core23 := hPre_a_core23)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal) (hPre_a_chip16 := hPre_a_chip16)
    ∧ preserves_Kernel17_Kernel17Ideal
    ∧ algebraic_Kernel17Ideal_Reference17Ideal (hKernel17Ideal := hKernel17Ideal) (hReference17Ideal := hReference17Ideal) (hPre_a_chip17 := hPre_a_chip17)
    ∧ preserves_Kernel18_Kernel18Ideal
    ∧ algebraic_Kernel18Ideal_Reference18Ideal (hKernel18Ideal := hKernel18Ideal) (hReference18Ideal := hReference18Ideal) (hPre_a_chip18 := hPre_a_chip18)
    ∧ preserves_Kernel19_Kernel19Ideal
    ∧ algebraic_Kernel19Ideal_Reference19Ideal (hKernel19Ideal := hKernel19Ideal) (hReference19Ideal := hReference19Ideal) (hPre_a_chip19 := hPre_a_chip19)
    ∧ preserves_Kernel20_Kernel20Ideal
    ∧ algebraic_Kernel20Ideal_Reference20Ideal (hKernel20Ideal := hKernel20Ideal) (hReference20Ideal := hReference20Ideal) (hPre_a_core20 := hPre_a_core20)
    ∧ preserves_Kernel21_Kernel21Ideal
    ∧ algebraic_Kernel21Ideal_Reference21Ideal (hKernel21Ideal := hKernel21Ideal) (hReference21Ideal := hReference21Ideal) (hPre_a_core21 := hPre_a_core21)
    ∧ preserves_Kernel22_Kernel22Ideal
    ∧ algebraic_Kernel22Ideal_Reference22Ideal (hKernel22Ideal := hKernel22Ideal) (hReference22Ideal := hReference22Ideal) (hPre_a_core22 := hPre_a_core22)
    ∧ preserves_Kernel23_Kernel23Ideal
    ∧ algebraic_Kernel23Ideal_Reference23Ideal (hKernel23Ideal := hKernel23Ideal) (hReference23Ideal := hReference23Ideal) (hPre_a_core23 := hPre_a_core23)
-- ==== Pre_a_chip16.lean ====
abbrev S1 : Shape := ⟨1, ![1]⟩
abbrev S4x512x1412 : Shape := ⟨3, ![4, 512, 1412]⟩
abbrev S3x512x1412 : Shape := ⟨3, ![3, 512, 1412]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x1412 .bf16) (main_arg2 : FVec F S3x512x1412 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_a_chip17.lean ====
abbrev S1 : Shape := ⟨1, ![1]⟩
abbrev S4x256x1024 : Shape := ⟨3, ![4, 256, 1024]⟩
abbrev S3x256x1024 : Shape := ⟨3, ![3, 256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x256x1024 .bf16) (main_arg2 : FVec F S3x256x1024 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_a_chip18.lean ====
abbrev S1 : Shape := ⟨1, ![1]⟩
abbrev S4x128x1024 : Shape := ⟨3, ![4, 128, 1024]⟩
abbrev S3x128x1024 : Shape := ⟨3, ![3, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x128x1024 .bf16) (main_arg2 : FVec F S3x128x1024 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_a_chip19.lean ====
abbrev S1 : Shape := ⟨1, ![1]⟩
abbrev S4x128x256 : Shape := ⟨3, ![4, 128, 256]⟩
abbrev S3x128x256 : Shape := ⟨3, ![3, 128, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x128x256 .bf16) (main_arg2 : FVec F S3x128x256 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_a_core20.lean ====
abbrev S1 : Shape := ⟨1, ![1]⟩
abbrev S1x1024x5760 : Shape := ⟨3, ![1, 1024, 5760]⟩
abbrev S1x512x5760 : Shape := ⟨3, ![1, 512, 5760]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x1024x5760 .f32) (main_arg2 : FVec F S1x512x5760 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  (main_v1, main_v3)
-- ==== Pre_a_core21.lean ====
abbrev S1 : Shape := ⟨1, ![1]⟩
abbrev S4x512x1024 : Shape := ⟨3, ![4, 512, 1024]⟩
abbrev S4x256x1024 : Shape := ⟨3, ![4, 256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x1024 .f32) (main_arg2 : FVec F S4x256x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  (main_v1, main_v3)
-- ==== Pre_a_core22.lean ====
abbrev S1 : Shape := ⟨1, ![1]⟩
abbrev S4x256x1024 : Shape := ⟨3, ![4, 256, 1024]⟩
abbrev S4x128x1024 : Shape := ⟨3, ![4, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x256x1024 .f32) (main_arg2 : FVec F S4x128x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  (main_v1, main_v3)
-- ==== Pre_a_core23.lean ====
abbrev S1 : Shape := ⟨1, ![1]⟩
abbrev S4x256x256 : Shape := ⟨3, ![4, 256, 256]⟩
abbrev S4x128x256 : Shape := ⟨3, ![4, 128, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x256x256 .f32) (main_arg2 : FVec F S4x128x256 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  (main_v1, main_v3)
-- ==== Pre_finite15.lean ====
abbrev S4096x2048 : Shape := ⟨2, ![4096, 2048]⟩
abbrev S4096x1024 : Shape := ⟨2, ![4096, 1024]⟩
abbrev S1x1024 : Shape := ⟨2, ![1, 1024]⟩
abbrev S1x2048 : Shape := ⟨2, ![1, 2048]⟩
abbrev S31x1024 : Shape := ⟨2, ![31, 1024]⟩
abbrev S_ : Shape := ⟨0, ![]⟩

class Facts : Prop where
  slices_S4096x2048_S4096x1024_0_1024 : S4096x2048.Slices ![0, 1024] S4096x1024
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_v3 : IVec S4096x1024 1) (main_v6 : IVec S4096x1024 1) (main_v9 : IVec S1x1024 1) (main_v12 : IVec S4096x1024 1) (main_v15 : IVec S1x1024 1) (main_v16 : FVec F S1x1024 .f32) (main_v17 : FVec F S1x1024 .f32) : IVec S4096x1024 1 × IVec S4096x1024 1 × IVec S1x1024 1 × IVec S4096x1024 1 × IVec S1x1024 1 × IVec S1x1024 1 :=
  let main_v18 : IVec S1x1024 1 := cmpf .olt main_v16 main_v17
  (main_v3, main_v6, main_v9, main_v12, main_v15, main_v18)

def fn {F : FTy → Type} [FloatOps F] (main_arg0 : FVec F S4096x2048 .f32) (main_arg1 : FVec F S4096x1024 .f32) (main_arg2 : FVec F S4096x1024 .f32) (main_arg3 : FVec F S1x1024 .f32) (main_arg4 : FVec F S4096x2048 .f32) (main_arg5 : FVec F S4096x1024 .f32) (main_arg6 : FVec F S1x2048 .f32) (main_arg7 : FVec F S31x1024 .f32) (main_arg8 : FVec F S1x1024 .f32) (main_arg9 : FVec F S1x1024 .f32) : IVec S4096x1024 1 × IVec S4096x1024 1 × IVec S1x1024 1 × IVec S4096x1024 1 × IVec S1x1024 1 × IVec S1x1024 1 :=
  let main_v0 : FVec F S4096x1024 .f32 := (extractStridedSlice S4096x1024 ![0, 1024] · slices_S4096x2048_S4096x1024_0_1024) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S4096x1024 .f32 := Host.absf main_arg5
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S1x1024 .f32 := Host.absf main_arg8
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024 .f32 := Host.absf main_arg9
  let main_cst_4 : FVec F S_ .f32 := constant S_ .f32 0x7F800000#32
  let main_v17 : FVec F S1x1024 .f32 := broadcastInDim S1x1024 ![] bcast_S_S1x1024 main_cst_4
  fn_part1 (F := F) main_v3 main_v6 main_v9 main_v12 main_v15 main_v16 main_v17
-- ==== Pre_finite3.lean ====
abbrev S4096x1536 : Shape := ⟨2, ![4096, 1536]⟩
abbrev S4096x1024 : Shape := ⟨2, ![4096, 1024]⟩
abbrev S4096x2048 : Shape := ⟨2, ![4096, 2048]⟩
abbrev S4096x128 : Shape := ⟨2, ![4096, 128]⟩
abbrev S1x1024 : Shape := ⟨2, ![1, 1024]⟩
abbrev S1024x5760 : Shape := ⟨2, ![1024, 5760]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S4096x128 : S_.BroadcastsInDim S4096x128 (![] : Fin 0 → Fin S4096x128.rank)
  bcast_S_S1x1024 : S_.BroadcastsInDim S1x1024 (![] : Fin 0 → Fin S1x1024.rank)
  bitsLt_bf16_f32 : FTy.bits .bf16 < FTy.bits .f32
  bcast_S_S1024x5760 : S_.BroadcastsInDim S1024x5760 (![] : Fin 0 → Fin S1024x5760.rank)

variable [Facts]

def fn_part1 {F : FTy → Type} [FloatOps F] (main_arg6 : FVec F S4096x1024 .f32) (main_arg7 : FVec F S1x1024 .f32) (main_arg9 : FVec F S1024x5760 .bf16) (main_v2 : IVec S4096x1536 1) (main_v5 : IVec S4096x1024 1) (main_v8 : IVec S4096x2048 1) (main_v11 : IVec S4096x1024 1) (main_v14 : IVec S4096x128 1) (main_v17 : IVec S4096x1024 1) : IVec S4096x1536 1 × IVec S4096x1024 1 × IVec S4096x2048 1 × IVec S4096x1024 1 × IVec S4096x128 1 × IVec S4096x1024 1 × IVec S4096x1024 1 × IVec S1x1024 1 × IVec S1024x5760 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1024x5760 .f32 := (extf .f32 · bitsLt_bf16_f32) main_arg9
  let main_v25 : FVec F S1024x5760 .f32 := Host.absf main_v24
  let main_cst_7 : FVec F S_ .f32 := constant S_ .f32 0x7F800000#32
  let main_v26 : FVec F S1024x5760 .f32 := broadcastInDim S1024x5760 ![] bcast_S_S1024x5760 main_cst_7
  let main_v27 : IVec S1024x5760 1 := cmpf .olt main_v25 main_v26
  (main_v2, main_v5, main_v8, main_v11, main_v14, main_v17, main_v20, main_v23, main_v27)

def fn {F : FTy → Type} [FloatOps F] (main_arg0 : FVec F S4096x1536 .f32) (main_arg1 : FVec F S4096x1024 .f32) (main_arg2 : FVec F S4096x2048 .f32) (main_arg3 : FVec F S4096x1024 .f32) (main_arg4 : FVec F S4096x128 .f32) (main_arg5 : FVec F S4096x1024 .f32) (main_arg6 : FVec F S4096x1024 .f32) (main_arg7 : FVec F S1x1024 .f32) (main_arg8 : FVec F S1x1024 .f32) (main_arg9 : FVec F S1024x5760 .bf16) : IVec S4096x1536 1 × IVec S4096x1024 1 × IVec S4096x2048 1 × IVec S4096x1024 1 × IVec S4096x128 1 × IVec S4096x1024 1 × IVec S4096x1024 1 × IVec S1x1024 1 × IVec S1024x5760 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x128 .f32 := Host.absf main_arg4
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_arg9 main_v2 main_v5 main_v8 main_v11 main_v14 main_v17
-- ==== Pre_finite4.lean ====
abbrev S4096x1024 : Shape := ⟨2, ![4096, 1024]⟩
abbrev S4096x256 : Shape := ⟨2, ![4096, 256]⟩
abbrev S1x1024 : Shape := ⟨2, ![1, 1024]⟩
abbrev S2048x1024 : Shape := ⟨2, ![2048, 1024]⟩
abbrev S1024x1024 : Shape := ⟨2, ![1024, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x256 : S_.BroadcastsInDim S4096x256 (![] : Fin 0 → Fin S4096x256.rank)
  bcast_S_S1x1024 : S_.BroadcastsInDim S1x1024 (![] : Fin 0 → Fin S1x1024.rank)
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part2 {F : FTy → Type} [FloatOps F] (main_arg12 : FVec F S2048x1024 .bf16) (main_arg13 : FVec F S1024x1024 .bf16) (main_arg14 : FVec F S256x1024 .bf16) (main_v2 : IVec S4096x1024 1) (main_v6 : IVec S4096x1024 1) (main_v10 : IVec S4096x1024 1) (main_v13 : IVec S4096x256 1) (main_v16 : IVec S4096x1024 1) (main_v19 : IVec S1x1024 1) (main_v22 : IVec S1x1024 1) (main_v25 : IVec S1x1024 1) (main_v28 : IVec S1x1024 1) (main_v31 : IVec S1x1024 1) (main_v34 : IVec S1x1024 1) (main_v35 : FVec F S1x1024 .f32) (main_cst_10 : FVec F S_ .f32) : IVec S4096x1024 1 × IVec S4096x1024 1 × IVec S4096x1024 1 × IVec S4096x256 1 × IVec S4096x1024 1 × IVec S1x1024 1 × IVec S1x1024 1 × IVec S1x1024 1 × IVec S1x1024 1 × IVec S1x1024 1 × IVec S1x1024 1 × IVec S1x1024 1 × IVec S2048x1024 1 × IVec S1024x1024 1 × IVec S256x1024 1 :=
  let main_v36 : FVec F S1x1024 .f32 := broadcastInDim S1x1024 ![] bcast_S_S1x1024 main_cst_10
  let main_v37 : IVec S1x1024 1 := cmpf .olt main_v35 main_v36
  let main_v38 : FVec F S2048x1024 .f32 := (extf .f32 · bitsLt_bf16_f32) main_arg12
  let main_v39 : FVec F S2048x1024 .f32 := Host.absf main_v38
  let main_cst_11 : FVec F S_ .f32 := constant S_ .f32 0x7F800000#32
  let main_v40 : FVec F S2048x1024 .f32 := broadcastInDim S2048x1024 ![] bcast_S_S2048x1024 main_cst_11
  let main_v41 : IVec S2048x1024 1 := cmpf .olt main_v39 main_v40
  let main_v42 : FVec F S1024x1024 .f32 := (extf .f32 · bitsLt_bf16_f32) main_arg13
  let main_v43 : FVec F S1024x1024 .f32 := Host.absf main_v42
  let main_cst_12 : FVec F S_ .f32 := constant S_ .f32 0x7F800000#32
  let main_v44 : FVec F S1024x1024 .f32 := broadcastInDim S1024x1024 ![] bcast_S_S1024x1024 main_cst_12
  let main_v45 : IVec S1024x1024 1 := cmpf .olt main_v43 main_v44
  let main_v46 : FVec F S256x1024 .f32 := (extf .f32 · bitsLt_bf16_f32) main_arg14
  let main_v47 : FVec F S256x1024 .f32 := Host.absf main_v46
  let main_cst_13 : FVec F S_ .f32 := constant S_ .f32 0x7F800000#32
  let main_v48 : FVec F S256x1024 .f32 := broadcastInDim S256x1024 ![] bcast_S_S256x1024 main_cst_13
  let main_v49 : IVec S256x1024 1 := cmpf .olt main_v47 main_v48
  (main_v2, main_v6, main_v10, main_v13, main_v16, main_v19, main_v22, main_v25, main_v28, main_v31, main_v34, main_v37, main_v41, main_v45, main_v49)

def fn_part1 {F : FTy → Type} [FloatOps F] (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S2048x1024 .bf16) (main_arg13 : FVec F S1024x1024 .bf16) (main_arg14 : FVec F S256x1024 .bf16) (main_v2 : IVec S4096x1024 1) (main_v6 : IVec S4096x1024 1) (main_v10 : IVec S4096x1024 1) (main_v13 : IVec S4096x256 1) (main_v16 : IVec S4096x1024 1) (main_v17 : FVec F S1x1024 .f32) (main_cst_4 : FVec F S_ .f32) : IVec S4096x1024 1 × IVec S4096x1024 1 × IVec S4096x1024 1 × IVec S4096x256 1 × IVec S4096x1024 1 × IVec S1x1024 1 × IVec S1x1024 1 × IVec S1x1024 1 × IVec S1x1024 1 × IVec S1x1024 1 × IVec S1x1024 1 × IVec S1x1024 1 × IVec S2048x1024 1 × IVec S1024x1024 1 × IVec S256x1024 1 :=
  let main_v18 : FVec F S1x1024 .f32 := broadcastInDim S1x1024 ![] bcast_S_S1x1024 main_cst_4
  let main_v19 : IVec S1x1024 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  let main_v26 : FVec F S1x1024 .f32 := Host.absf main_arg8
  let main_cst_7 : FVec F S_ .f32 := constant S_ .f32 0x7F800000#32
  let main_v27 : FVec F S1x1024 .f32 := broadcastInDim S1x1024 ![] bcast_S_S1x1024 main_cst_7
  let main_v28 : IVec S1x1024 1 := cmpf .olt main_v26 main_v27
  let main_v29 : FVec F S1x1024 .f32 := Host.absf main_arg9
  let main_cst_8 : FVec F S_ .f32 := constant S_ .f32 0x7F800000#32
  let main_v30 : FVec F S1x1024 .f32 := broadcastInDim S1x1024 ![] bcast_S_S1x1024 main_cst_8
  let main_v31 : IVec S1x1024 1 := cmpf .olt main_v29 main_v30
  let main_v32 : FVec F S1x1024 .f32 := Host.absf main_arg10
  let main_cst_9 : FVec F S_ .f32 := constant S_ .f32 0x7F800000#32
  let main_v33 : FVec F S1x1024 .f32 := broadcastInDim S1x1024 ![] bcast_S_S1x1024 main_cst_9
  let main_v34 : IVec S1x1024 1 := cmpf .olt main_v32 main_v33
  let main_v35 : FVec F S1x1024 .f32 := Host.absf main_arg11
  let main_cst_10 : FVec F S_ .f32 := constant S_ .f32 0x7F800000#32
  fn_part2 (F := F) main_arg12 main_arg13 main_arg14 main_v2 main_v6 main_v10 main_v13 main_v16 main_v19 main_v22 main_v25 main_v28 main_v31 main_v34 main_v35 main_cst_10

def fn {F : FTy → Type} [FloatOps F] (main_arg0 : FVec F S4096x1024 .f32) (main_arg1 : FVec F S4096x1024 .bf16) (main_arg2 : FVec F S4096x1024 .bf16) (main_arg3 : FVec F S4096x256 .f32) (main_arg4 : FVec F S4096x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S2048x1024 .bf16) (main_arg13 : FVec F S1024x1024 .bf16) (main_arg14 : FVec F S256x1024 .bf16) : IVec S4096x1024 1 × IVec S4096x1024 1 × IVec S4096x1024 1 × IVec S4096x256 1 × IVec S4096x1024 1 × IVec S1x1024 1 × IVec S1x1024 1 × IVec S1x1024 1 × IVec S1x1024 1 × IVec S1x1024 1 × IVec S1x1024 1 × IVec S1x1024 1 × IVec S2048x1024 1 × IVec S1024x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := (extf .f32 · bitsLt_bf16_f32) main_arg2
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x256 .f32 := Host.absf main_arg3
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S1x1024 .f32 := Host.absf main_arg5
  let main_cst_4 : FVec F S_ .f32 := constant S_ .f32 0x7F800000#32
  fn_part1 (F := F) main_arg6 main_arg7 main_arg8 main_arg9 main_arg10 main_arg11 main_arg12 main_arg13 main_arg14 main_v2 main_v6 main_v10 main_v13 main_v16 main_v17 main_cst_4
-- ==== Kernel2.lean ====
abbrev S4096x1024 : Shape := ⟨2, ![4096, 1024]⟩
abbrev S4096x5760 : Shape := ⟨2, ![4096, 5760]⟩
abbrev S1024x5760 : Shape := ⟨2, ![1024, 5760]⟩
abbrev S512x1024 : Shape := ⟨2, ![512, 1024]⟩
abbrev S512x1920 : Shape := ⟨2, ![512, 1920]⟩
abbrev S1024x1920 : Shape := ⟨2, ![1024, 1920]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | .local _ .vmem, ⟨0, _⟩ => ⟨S512x1024, .bf16⟩
  | .local _ .vmem, ⟨1, _⟩ => ⟨S512x1024, .bf16⟩
  | .local _ .vmem, ⟨2, _⟩ => ⟨S512x1920, .bf16⟩
  | .local _ .vmem, ⟨3, _⟩ => ⟨S512x1920, .bf16⟩
  | .local _ .vmem, ⟨4, _⟩ => ⟨S1024x1920, .f32⟩
  | .local _ .vmem, ⟨5, _⟩ => ⟨S1024x1920, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x5760 : Shape := ⟨2, ![4096, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S4096x1024, .f32⟩
  | .hbm, ⟨3, _⟩ => ⟨S4096x5760, .f32⟩
  | .hbm, ⟨4, _⟩ => ⟨S_, .f32⟩
  | .hbm, ⟨5, _⟩ => ⟨S1024x5760, .f32⟩
  | .hbm, ⟨6, _⟩ => ⟨S4096x5760, .f32⟩
  | .hbm, ⟨7, _⟩ => ⟨S5760x1024, .f32⟩
  | .hbm, ⟨8, _⟩ => ⟨S1024x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1536 : Shape := ⟨2, ![4096, 1536]⟩
abbrev S4096x1024 : Shape := ⟨2, ![4096, 1024]⟩
abbrev S4096x2048 : Shape := ⟨2, ![4096, 2048]⟩
abbrev S4096x128 : Shape := ⟨2, ![4096, 128]⟩
abbrev S1x1024 : Shape := ⟨2, ![1, 1024]⟩
abbrev S1024x5760 : Shape := ⟨2, ![1024, 5760]⟩
abbrev S4096x5760 : Shape := ⟨2, ![4096, 5760]⟩
abbrev S8x1024 : Shape := ⟨2, ![8, 1024]⟩
abbrev S256x1536 : Shape := ⟨2, ![256, 1536]⟩
abbrev S256x1024 : Shape := ⟨2, ![256, 1024]⟩
abbrev S256x2048 : Shape := ⟨2, ![256, 2048]⟩
abbrev S256x128 : Shape := ⟨2, ![256, 128]⟩
abbrev S256x5760 : Shape := ⟨2, ![256, 5760]⟩
abbrev S1024x1536 : Shape := ⟨2, ![1024, 1536]⟩
abbrev S1024x1024 : Shape := ⟨2, ![1024, 1024]⟩
abbrev S1024x2048 : Shape := ⟨2, ![1024, 2048]⟩
abbrev S1024x128 : Shape := ⟨2, ![1024, 128]⟩
abbrev S256 : Shape := ⟨1, ![256]⟩
abbrev S256x1 : Shape := ⟨2, ![256, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1024x5760, .bf16⟩
  | .hbm, ⟨10, _⟩ => ⟨S4096x1024, .f32⟩
  | .hbm, ⟨11, _⟩ => ⟨S4096x5760, .bf16⟩
  | .hbm, ⟨12, _⟩ => ⟨S8x1024, .f32⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1024x5760, .bf16⟩
  | .local _ .vmem, ⟨17, _⟩ => ⟨S256x1024, .f32⟩
  | .local _ .vmem, ⟨18, _⟩ => ⟨S256x1024, .f32⟩
  | .local _ .vmem, ⟨19, _⟩ => ⟨S256x5760, .bf16⟩
  | .local _ .vmem, ⟨20, _⟩ => ⟨S256x5760, .bf16⟩
  | .local _ .vmem, ⟨21, _⟩ => ⟨S8x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5760 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5760 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x1536 : Shape := ⟨2, ![4096, 1536]⟩
abbrev S4096x1024 : Shape := ⟨2, ![4096, 1024]⟩
abbrev S4096x2048 : Shape := ⟨2, ![4096, 2048]⟩
abbrev S4096x128 : Shape := ⟨2, ![4096, 128]⟩
abbrev S1x1024 : Shape := ⟨2, ![1, 1024]⟩
abbrev S1024x5760 : Shape := ⟨2, ![1024, 5760]⟩
abbrev S_ : Shape := ⟨0, ![]⟩
abbrev S4096x5760 : Shape := ⟨2, ![4096, 5760]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1024x5760, .bf16⟩
  | .hbm, ⟨10, _⟩ => ⟨S1024x5760, .f32⟩
  | .hbm, ⟨11, _⟩ => ⟨S_, .f32⟩
  | .hbm, ⟨12, _⟩ => ⟨S4096x5760, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x5760, .f32⟩
  | .hbm, ⟨48, _⟩ => ⟨S4096x5760, .f32⟩
  | .hbm, ⟨49, _⟩ => ⟨S4096x1536, .f32⟩
  | .hbm, ⟨50, _⟩ => ⟨S4096x1024, .f32⟩
  | .hbm, ⟨51, _⟩ => ⟨S4096x2048, .f32⟩
  | .hbm, ⟨52, _⟩ => ⟨S4096x1024, .f32⟩
  | .hbm, ⟨53, _⟩ => ⟨S4096x128, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x5760, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x5760, .bf16⟩
  | .hbm, ⟨104, _⟩ => ⟨S_, .f32⟩
  | .hbm, ⟨105, _⟩ => ⟨S6x1024, .f32⟩
  | .hbm, ⟨106, _⟩ => ⟨S8x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel4.lean ====
abbrev S4096x1024 : Shape := ⟨2, ![4096, 1024]⟩
abbrev S4096x256 : Shape := ⟨2, ![4096, 256]⟩
abbrev S1x1024 : Shape := ⟨2, ![1, 1024]⟩
abbrev S2048x1024 : Shape := ⟨2, ![2048, 1024]⟩
abbrev S1024x1024 : Shape := ⟨2, ![1024, 1024]⟩
abbrev S256x1024 : Shape := ⟨2, ![256, 1024]⟩
abbrev S_ : Shape := ⟨0, ![]⟩
abbrev S8x1024 : Shape := ⟨2, ![8, 1024]⟩
abbrev S4096x2048 : Shape := ⟨2, ![4096, 2048]⟩
abbrev S8x128 : Shape := ⟨2, ![8, 128]⟩
abbrev S512x1024 : Shape := ⟨2, ![512, 1024]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 26
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x256, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S2048x1024, .bf16⟩
  | .hbm, ⟨13, _⟩ => ⟨S1024x1024, .bf16⟩
  | .hbm, ⟨14, _⟩ => ⟨S256x1024, .bf16⟩
  | .hbm, ⟨15, _⟩ => ⟨S_, .f32⟩
  | .hbm, ⟨16, _⟩ => ⟨S1x1024, .f32⟩
  | .hbm, ⟨17, _⟩ => ⟨S8x1024, .f32⟩
  | .hbm, ⟨18, _⟩ => ⟨S4096x2048, .f32⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S8x1024, .f32⟩
  | .hbm, ⟨25, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S2048x1024, .bf16⟩
  | .local _ .vmem, ⟨12, _⟩ => ⟨S1024x1024, .bf16⟩
  | .local _ .vmem, ⟨13, _⟩ => ⟨S256x1024, .bf16⟩
  | .local _ .vmem, ⟨14, _⟩ => ⟨S512x2048, .f32⟩
  | .local _ .vmem, ⟨15, _⟩ => ⟨S512x2048, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S8x1024, .f32⟩
  | .local _ .vmem, ⟨27, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev main_v2_5 : Ref sig .tc := ⟨.hbm, 23, rfl⟩
abbrev main_v2_6 : Ref sig .tc := ⟨.hbm, 24, rfl⟩
abbrev main_v2_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference4Ideal.lean ====
abbrev S4096x1024 : Shape := ⟨2, ![4096, 1024]⟩
abbrev S4096x256 : Shape := ⟨2, ![4096, 256]⟩
abbrev S1x1024 : Shape := ⟨2, ![1, 1024]⟩
abbrev S2048x1024 : Shape := ⟨2, ![2048, 1024]⟩
abbrev S1024x1024 : Shape := ⟨2, ![1024, 1024]⟩
abbrev S256x1024 : Shape := ⟨2, ![256, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩
abbrev S3x1024 : Shape := ⟨2, ![3, 1024]⟩
abbrev S8x1024 : Shape := ⟨2, ![8, 1024]⟩
abbrev S8x128 : Shape := ⟨2, ![8, 128]⟩

abbrev nBuf : Space → Nat
  | .hbm => 269
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x256, .f32⟩
  | 4 => ⟨S4096x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S2048x1024, .bf16⟩
  | 13 => ⟨S1024x1024, .bf16⟩
  | 14 => ⟨S256x1024, .bf16⟩
  | 15 => ⟨S4096x2048, .bf16⟩
  | 16 => ⟨S4096x2048, .f32⟩
  | 17 => ⟨S2048x1024, .f32⟩
  | 18 => ⟨S1024x1024, .f32⟩
  | 19 => ⟨S256x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x1024, .f32⟩
  | 36 => ⟨S4096x1024, .f32⟩
  | 37 => ⟨S_, .f32⟩
  | 38 => ⟨S4096x1, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S_, .f32⟩
  | 78 => ⟨S4096x1, .f32⟩
  | 79 => ⟨S4096x1, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x1024, .f32⟩
  | 3 => ⟨S4096x1024, .f32⟩
  | 4 => ⟨S_, .f32⟩
  | 5 => ⟨S4096x1, .f32⟩
  | 6 => ⟨S4096x1, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096, .f32⟩
  | 25 => ⟨S_, .f32⟩
  | 26 => ⟨S4096, .f32⟩
  | 27 => ⟨S4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096, .f32⟩
  | 36 => ⟨S_, .f32⟩
  | 37 => ⟨S4096, .f32⟩
  | 38 => ⟨S4096, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S_, .f32⟩
  | 46 => ⟨S1024, .f32⟩
  | 47 => ⟨S1x1024, .f32⟩
  | 48 => ⟨S4096x1024, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S4096x1024, .f32⟩
  | 55 => ⟨S4096x1024, .f32⟩
  | 56 => ⟨S4096x1, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S4096x1024, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S_, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_2 (i : Nat) : BufTy := match i % 128 with
  | 0 => ⟨S4096x1024, .f32⟩
  | 1 => ⟨S_, .f32⟩
  | 2 => ⟨S1024, .f32⟩
  | 3 => ⟨S1x1024, .f32⟩
  | 4 => ⟨S4096x2048, .f32⟩
  | 5 => ⟨S_, .f32⟩
  | 6 => ⟨S3x1024, .f32⟩
  | 7 => ⟨S8x1024, .f32⟩
  | 8 => ⟨S4096x1024, .bf16⟩
  | 9 => ⟨S4096x1024, .bf16⟩
  | 10 => ⟨S4096x1024, .bf16⟩
  | 11 => ⟨S4096x1024, .bf16⟩
  | 12 => ⟨S8x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_23 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_24 : Ref sig .tc := ⟨.hbm, 148, rfl⟩
abbrev main_v108 : Ref sig .tc := ⟨.hbm, 149, rfl⟩
abbrev main_v109 : Ref sig .tc := ⟨.hbm, 150, rfl⟩
abbrev main_cst_25 : Ref sig .tc := ⟨.hbm, 151, rfl⟩
abbrev main_v110 : Ref sig .tc := ⟨.hbm, 152, rfl⟩
abbrev main_cst_26 : Ref sig .tc := ⟨.hbm, 153, rfl⟩
abbrev main_v111 : Ref sig .tc := ⟨.hbm, 154, rfl⟩
abbrev main_v112 : Ref sig .tc := ⟨.hbm, 155, rfl⟩
abbrev main_cst_27 : Ref sig .tc := ⟨.hbm, 156, rfl⟩
abbrev main_v113 : Ref sig .tc := ⟨.hbm, 157, rfl⟩
abbrev main_cst_28 : Ref sig .tc := ⟨.hbm, 158, rfl⟩
abbrev main_v114 : Ref sig .tc := ⟨.hbm, 159, rfl⟩
abbrev main_cst_29 : Ref sig .tc := ⟨.hbm, 160, rfl⟩
abbrev main_cst_30 : Ref sig .tc := ⟨.hbm, 161, rfl⟩
abbrev main_v115 : Ref sig .tc := ⟨.hbm, 162, rfl⟩
abbrev main_v116 : Ref sig .tc := ⟨.hbm, 163, rfl⟩
abbrev main_cst_31 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_32 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_33 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_34 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_35 : Ref sig .tc := ⟨.hbm, 186, rfl⟩
abbrev main_v135 : Ref sig .tc := ⟨.hbm, 187, rfl⟩
abbrev main_v136 : Ref sig .tc := ⟨.hbm, 188, rfl⟩
abbrev main_cst_36 : Ref sig .tc := ⟨.hbm, 189, rfl⟩
abbrev main_v137 : Ref sig .tc := ⟨.hbm, 190, rfl⟩
abbrev main_v138 : Ref sig .tc := ⟨.hbm, 191, rfl⟩
abbrev main_cst_37 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_38 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_39 : Ref sig .tc := ⟨.hbm, 202, rfl⟩
abbrev main_v147 : Ref sig .tc := ⟨.hbm, 203, rfl⟩
abbrev main_v148 : Ref sig .tc := ⟨.hbm, 204, rfl⟩
abbrev main_cst_40 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_41 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_42 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_43 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_44 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_45 : Ref sig .tc := ⟨.hbm, 234, rfl⟩
abbrev main_v173 : Ref sig .tc := ⟨.hbm, 235, rfl⟩
abbrev main_v174 : Ref sig .tc := ⟨.hbm, 236, rfl⟩
abbrev main_cst_46 : Ref sig .tc := ⟨.hbm, 237, rfl⟩
abbrev main_v175 : Ref sig .tc := ⟨.hbm, 238, rfl⟩
abbrev main_v176 : Ref sig .tc := ⟨.hbm, 239, rfl⟩
abbrev main_cst_47 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_48 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_49 : Ref sig .tc := ⟨.hbm, 250, rfl⟩
abbrev main_v185 : Ref sig .tc := ⟨.hbm, 251, rfl⟩
abbrev main_v186 : Ref sig .tc := ⟨.hbm, 252, rfl⟩
abbrev main_cst_50 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_cst_51 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_cst_52 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S4096x256, .bf16⟩
  | .hbm, ⟨3, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S256x1024, .f32⟩
  | .hbm, ⟨5, _⟩ => ⟨S4096x1024, .f32⟩
  | .hbm, ⟨6, _⟩ => ⟨S1024x256, .f32⟩
  | .hbm, ⟨7, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1024x1412 : Shape := ⟨2, ![1024, 1412]⟩
abbrev S256x1412 : Shape := ⟨2, ![256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S1024x1412, .f32⟩
  | .hbm, ⟨1, _⟩ => ⟨S1024x1412, .f32⟩
  | .hbm, ⟨2, _⟩ => ⟨S1024x1412, .f32⟩
  | .hbm, ⟨3, _⟩ => ⟨S1024x1412, .f32⟩
  | .hbm, ⟨4, _⟩ => ⟨S1024x1412, .f32⟩
  | .hbm, ⟨5, _⟩ => ⟨S1024x1412, .f32⟩
  | .hbm, ⟨6, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1024x1412 : Shape := ⟨2, ![1024, 1412]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1412, .f32⟩
  | .hbm, ⟨1, _⟩ => ⟨S1024x1412, .f32⟩
  | .hbm, ⟨2, _⟩ => ⟨S1024x1412, .f32⟩
  | .hbm, ⟨3, _⟩ => ⟨S1024x1412, .f32⟩
  | .hbm, ⟨4, _⟩ => ⟨S_, .f32⟩
  | .hbm, ⟨5, _⟩ => ⟨S1024x1412, .f32⟩
  | .hbm, ⟨6, _⟩ => ⟨S1024x1412, .f32⟩
  | .hbm, ⟨7, _⟩ => ⟨S_, .f32⟩
  | .hbm, ⟨8, _⟩ => ⟨S1024x1412, .f32⟩
  | .hbm, ⟨9, _⟩ => ⟨S1024x1412, .f32⟩
  | .hbm, ⟨10, _⟩ => ⟨S1024x1412, .f32⟩
  | .hbm, ⟨11, _⟩ => ⟨S_, .f32⟩
  | .hbm, ⟨12, _⟩ => ⟨S1024x1412, .f32⟩
  | .hbm, ⟨13, _⟩ => ⟨S1024x1412, .f32⟩
  | .hbm, ⟨14, _⟩ => ⟨S1024x1412, .f32⟩
  | .hbm, ⟨15, _⟩ => ⟨S_, .f32⟩
  | .hbm, ⟨16, _⟩ => ⟨S1024x1412, .f32⟩
  | .hbm, ⟨17, _⟩ => ⟨S1024x1412, .f32⟩
  | .hbm, ⟨18, _⟩ => ⟨S1024x1412, .f32⟩
  | .hbm, ⟨19, _⟩ => ⟨S_, .f32⟩
  | .hbm, ⟨20, _⟩ => ⟨S1024x1412, .f32⟩
  | .hbm, ⟨21, _⟩ => ⟨S1024x1412, .f32⟩
  | .hbm, ⟨22, _⟩ => ⟨S_, .f32⟩
  | .hbm, ⟨23, _⟩ => ⟨S1024x1412, .f32⟩
  | .hbm, ⟨24, _⟩ => ⟨S1024x1412, .f32⟩
  | .hbm, ⟨25, _⟩ => ⟨S1024x1412, .f32⟩
  | .hbm, ⟨26, _⟩ => ⟨S_, .f32⟩
  | .hbm, ⟨27, _⟩ => ⟨S1024x1412, .f32⟩
  | .hbm, ⟨28, _⟩ => ⟨S1024x1412, .f32⟩
  | .hbm, ⟨29, _⟩ => ⟨S1024x1412, .f32⟩
  | .hbm, ⟨30, _⟩ => ⟨S_, .f32⟩
  | .hbm, ⟨31, _⟩ => ⟨S1024x1412, .f32⟩
  | .hbm, ⟨32, _⟩ => ⟨S1024x1412, .f32⟩
  | .hbm, ⟨33, _⟩ => ⟨S1024x1412, .f32⟩
  | .hbm, ⟨34, _⟩ => ⟨S_, .f32⟩
  | .hbm, ⟨35, _⟩ => ⟨S1024x1412, .f32⟩
  | .hbm, ⟨36, _⟩ => ⟨S1024x1412, .f32⟩
  | _, _ => ⟨S1024x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x2048 : Shape := ⟨2, ![4096, 2048]⟩
abbrev S4096x1024 : Shape := ⟨2, ![4096, 1024]⟩
abbrev S1x1024 : Shape := ⟨2, ![1, 1024]⟩
abbrev S1x2048 : Shape := ⟨2, ![1, 2048]⟩
abbrev S31x1024 : Shape := ⟨2, ![31, 1024]⟩
abbrev S_ : Shape := ⟨0, ![]⟩
abbrev S32x1024 : Shape := ⟨2, ![32, 1024]⟩
abbrev S8x1024 : Shape := ⟨2, ![8, 1024]⟩
abbrev S256x1024 : Shape := ⟨2, ![256, 1024]⟩
abbrev S256x2048 : Shape := ⟨2, ![256, 2048]⟩
abbrev S288x1024 : Shape := ⟨2, ![288, 1024]⟩
abbrev S7x280x1024 : Shape := ⟨3, ![7, 280, 1024]⟩
abbrev S256 : Shape := ⟨1, ![256]⟩
abbrev S256x1 : Shape := ⟨2, ![256, 1]⟩
abbrev S1024 : Shape := ⟨1, ![1024]⟩
abbrev S280x1024 : Shape := ⟨2, ![280, 1024]⟩
abbrev S1x280x1024 : Shape := ⟨3, ![1, 280, 1024]⟩
abbrev S32x256 : Shape := ⟨2, ![32, 256]⟩
abbrev S1x32x256 : Shape := ⟨3, ![1, 32, 256]⟩
abbrev S1x256 : Shape := ⟨2, ![1, 256]⟩
abbrev S8x256 : Shape := ⟨2, ![8, 256]⟩

abbrev nBuf : Space → Nat
  | .hbm => 20
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S4096x1024, .f32⟩
  | .hbm, ⟨6, _⟩ => ⟨S1x2048, .f32⟩
  | .hbm, ⟨7, _⟩ => ⟨S31x1024, .f32⟩
  | .hbm, ⟨8, _⟩ => ⟨S1x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S32x1024, .f32⟩
  | .hbm, ⟨13, _⟩ => ⟨S4096x1024, .f32⟩
  | .hbm, ⟨14, _⟩ => ⟨S4096x1024, .f32⟩
  | .hbm, ⟨15, _⟩ => ⟨S4096x2048, .f32⟩
  | .hbm, ⟨16, _⟩ => ⟨S4096x1024, .f32⟩
  | .hbm, ⟨17, _⟩ => ⟨S32x1024, .f32⟩
  | .hbm, ⟨18, _⟩ => ⟨S1x2048, .f32⟩
  | .hbm, ⟨19, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S1x2048, .f32⟩
  | .local _ .vmem, ⟨11, _⟩ => ⟨S32x1024, .f32⟩
  | .local _ .vmem, ⟨12, _⟩ => ⟨S1x1024, .f32⟩
  | .local _ .vmem, ⟨13, _⟩ => ⟨S1x1024, .f32⟩
  | .local _ .vmem, ⟨14, _⟩ => ⟨S256x2048, .f32⟩
  | .local _ .vmem, ⟨15, _⟩ => ⟨S256x2048, .f32⟩
  | .local _ .vmem, ⟨16, _⟩ => ⟨S256x1024, .f32⟩
  | .local _ .vmem, ⟨17, _⟩ => ⟨S256x1024, .f32⟩
  | .local _ .vmem, ⟨18, _⟩ => ⟨S32x1024, .f32⟩
  | .local _ .vmem, ⟨19, _⟩ => ⟨S1x2048, .f32⟩
  | .local _ .vmem, ⟨20, _⟩ => ⟨S8x1024, .f32⟩
  | .local _ .vmem, ⟨21, _⟩ => ⟨S288x1024, .f32⟩
  | .local _ .vmem, ⟨22, _⟩ => ⟨S7x280x1024, .f32⟩
  | .local _ .vmem, ⟨23, _⟩ => ⟨S256x1024, .f32⟩
  | .local _ .vmem, ⟨24, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_71 : BitVec 32 := 0#32
  let c8_i32 : BitVec 32 := 8#32
  let v119 : BitVec 32 := Scalar.addi c0_i32_71 c8_i32
  let c1_i32 : BitVec 32 := 1#32
  ⟨c0_i32_71, v119, c1_i32⟩
def k0_mult1 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  v155
def k0_off1 (k0_t1 : Fin k0_t1_loop.trips) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v157 : Index := Scalar.indexCast v156
  let c0_97 : Index := 0#32
  ![v157.toNat, 0]
def k0_mult2 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32 : BitVec 32 := 24#32
  let v160 : BitVec 32 := Scalar.addi v156 c24_i32
  v160
def k0_off2 (k0_t1 : Fin k0_t1_loop.trips) (c24_i32 : BitVec 32) : Fin 3 → Nat :=
  let c5_99 : Index := 5#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v160 : BitVec 32 := Scalar.addi v156 c24_i32
  let v161 : BitVec 32 := v160
  let v162 : Index := Scalar.indexCast v161
  let c0_100 : Index := 0#32
  ![5, v162.toNat, 0]
def k0_mult3 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_107 : BitVec 32 := 24#32
  let v183 : BitVec 32 := Scalar.addi v156 c24_i32_107
  v183
def k0_off3 (k0_t1 : Fin k0_t1_loop.trips) (c24_i32_107 : BitVec 32) : Fin 3 → Nat :=
  let c4_108 : Index := 4#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v183 : BitVec 32 := Scalar.addi v156 c24_i32_107
  let v184 : BitVec 32 := v183
  let v185 : Index := Scalar.indexCast v184
  let c0_109 : Index := 0#32
  ![4, v185.toNat, 0]
def k0_mult4 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_115 : BitVec 32 := 24#32
  let v206 : BitVec 32 := Scalar.addi v156 c24_i32_115
  v206
def k0_off4 (k0_t1 : Fin k0_t1_loop.trips) (c24_i32_115 : BitVec 32) : Fin 3 → Nat :=
  let c3_116 : Index := 3#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v206 : BitVec 32 := Scalar.addi v156 c24_i32_115
  let v207 : BitVec 32 := v206
  let v208 : Index := Scalar.indexCast v207
  let c0_117 : Index := 0#32
  ![3, v208.toNat, 0]
def k0_mult5 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_123 : BitVec 32 := 24#32
  let v229 : BitVec 32 := Scalar.addi v156 c24_i32_123
  v229
def k0_off5 (k0_t1 : Fin k0_t1_loop.trips) (c24_i32_123 : BitVec 32) : Fin 3 → Nat :=
  let c2_124 : Index := 2#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v229 : BitVec 32 := Scalar.addi v156 c24_i32_123
  let v230 : BitVec 32 := v229
  let v231 : Index := Scalar.indexCast v230
  let c0_125 : Index := 0#32
  ![2, v231.toNat, 0]
def k0_mult6 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_131 : BitVec 32 := 24#32
  let v252 : BitVec 32 := Scalar.addi v156 c24_i32_131
  v252
def k0_off6 (k0_t1 : Fin k0_t1_loop.trips) (c24_i32_131 : BitVec 32) : Fin 3 → Nat :=
  let c1_132 : Index := 1#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v252 : BitVec 32 := Scalar.addi v156 c24_i32_131
  let v253 : BitVec 32 := v252
  let v254 : Index := Scalar.indexCast v253
  let c0_133 : Index := 0#32
  ![1, v254.toNat, 0]
def k0_mult7 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_139 : BitVec 32 := 24#32
  let v275 : BitVec 32 := Scalar.addi v156 c24_i32_139
  v275
def k0_off7 (k0_t1 : Fin k0_t1_loop.trips) (c24_i32_139 : BitVec 32) : Fin 3 → Nat :=
  let c0_140 : Index := 0#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v275 : BitVec 32 := Scalar.addi v156 c24_i32_139
  let v276 : BitVec 32 := v275
  let v277 : Index := Scalar.indexCast v276
  let c0_141 : Index := 0#32
  ![0, v277.toNat, 0]
def k0_mult8 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_147 : BitVec 32 := 24#32
  let v298 : BitVec 32 := Scalar.addi v156 c24_i32_147
  v298
def k0_off8 (k0_t1 : Fin k0_t1_loop.trips) (c24_i32_147 : BitVec 32) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v298 : BitVec 32 := Scalar.addi v156 c24_i32_147
  let v299 : BitVec 32 := v298
  let v300 : Index := Scalar.indexCast v299
  let c0_148 : Index := 0#32
  ![v300.toNat, 0]
def k0_mult9 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32 : BitVec 32 := 16#32
  let v320 : BitVec 32 := Scalar.addi v156 c16_i32
  v320
def k0_off9 (k0_t1 : Fin k0_t1_loop.trips) (c16_i32 : BitVec 32) : Fin 3 → Nat :=
  let c6_154 : Index := 6#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v320 : BitVec 32 := Scalar.addi v156 c16_i32
  let v321 : BitVec 32 := v320
  let v322 : Index := Scalar.indexCast v321
  let c0_155 : Index := 0#32
  ![6, v322.toNat, 0]
def k0_mult10 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_161 : BitVec 32 := 16#32
  let v343 : BitVec 32 := Scalar.addi v156 c16_i32_161
  v343
def k0_mult11 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_169 : BitVec 32 := 16#32
  let v366 : BitVec 32 := Scalar.addi v156 c16_i32_169
  v366
def k0_mult12 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_176 : BitVec 32 := 16#32
  let v389 : BitVec 32 := Scalar.addi v156 c16_i32_176
  v389
def k0_mult13 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_183 : BitVec 32 := 16#32
  let v412 : BitVec 32 := Scalar.addi v156 c16_i32_183
  v412
def k0_mult14 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_190 : BitVec 32 := 16#32
  let v435 : BitVec 32 := Scalar.addi v156 c16_i32_190
  v435
def k0_mult15 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_197 : BitVec 32 := 16#32
  let v458 : BitVec 32 := Scalar.addi v156 c16_i32_197
  v458
def k0_mult16 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_204 : BitVec 32 := 16#32
  let v481 : BitVec 32 := Scalar.addi v156 c16_i32_204
  v481
def k0_mult17 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_210 : BitVec 32 := 8#32
  let v503 : BitVec 32 := Scalar.addi v156 c8_i32_210
  v503
def k0_mult18 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_217 : BitVec 32 := 8#32
  let v526 : BitVec 32 := Scalar.addi v156 c8_i32_217
  v526
def k0_mult19 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_225 : BitVec 32 := 8#32
  let v549 : BitVec 32 := Scalar.addi v156 c8_i32_225
  v549
def k0_mult20 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_232 : BitVec 32 := 8#32
  let v572 : BitVec 32 := Scalar.addi v156 c8_i32_232
  v572
def k0_mult21 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_239 : BitVec 32 := 8#32
  let v595 : BitVec 32 := Scalar.addi v156 c8_i32_239
  v595
def k0_mult22 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_246 : BitVec 32 := 8#32
  let v618 : BitVec 32 := Scalar.addi v156 c8_i32_246
  v618
def k0_mult23 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_253 : BitVec 32 := 8#32
  let v641 : BitVec 32 := Scalar.addi v156 c8_i32_253
  v641
def k0_mult24 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_260 : BitVec 32 := 8#32
  let v664 : BitVec 32 := Scalar.addi v156 c8_i32_260
  v664
def k0_mult25 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_266 : BitVec 32 := 0#32
  let v686 : BitVec 32 := Scalar.addi v156 c0_i32_266
  v686
def k0_mult26 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_273 : BitVec 32 := 0#32
  let v709 : BitVec 32 := Scalar.addi v156 c0_i32_273
  v709
def k0_mult27 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_281 : BitVec 32 := 0#32
  let v732 : BitVec 32 := Scalar.addi v156 c0_i32_281
  v732
def k0_mult28 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_288 : BitVec 32 := 0#32
  let v755 : BitVec 32 := Scalar.addi v156 c0_i32_288
  v755
def k0_mult29 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_295 : BitVec 32 := 0#32
  let v778 : BitVec 32 := Scalar.addi v156 c0_i32_295
  v778
def k0_mult30 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_302 : BitVec 32 := 0#32
  let v801 : BitVec 32 := Scalar.addi v156 c0_i32_302
  v801
def k0_mult31 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_309 : BitVec 32 := 0#32
  let v824 : BitVec 32 := Scalar.addi v156 c0_i32_309
  v824
def k0_mult32 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_316 : BitVec 32 := 0#32
  let v847 : BitVec 32 := Scalar.addi v156 c0_i32_316
  v847
def k0_off10 (k0_t1 : Fin k0_t1_loop.trips) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v873 : Index := Scalar.indexCast v156
  let c256_323 : Index := 256#32
  ![v873.toNat, 256]
def k0_mult33 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_325 : BitVec 32 := 24#32
  let v876 : BitVec 32 := Scalar.addi v156 c24_i32_325
  v876
def k0_off11 (k0_t1 : Fin k0_t1_loop.trips) (c24_i32_325 : BitVec 32) : Fin 3 → Nat :=
  let c5_326 : Index := 5#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v876 : BitVec 32 := Scalar.addi v156 c24_i32_325
  let v877 : BitVec 32 := v876
  let v878 : Index := Scalar.indexCast v877
  let c256_327 : Index := 256#32
  ![5, v878.toNat, 256]
def k0_mult34 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_334 : BitVec 32 := 24#32
  let v899 : BitVec 32 := Scalar.addi v156 c24_i32_334
  v899
def k0_off12 (k0_t1 : Fin k0_t1_loop.trips) (c24_i32_334 : BitVec 32) : Fin 3 → Nat :=
  let c4_335 : Index := 4#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v899 : BitVec 32 := Scalar.addi v156 c24_i32_334
  let v900 : BitVec 32 := v899
  let v901 : Index := Scalar.indexCast v900
  let c256_336 : Index := 256#32
  ![4, v901.toNat, 256]
def k0_mult35 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_343 : BitVec 32 := 24#32
  let v922 : BitVec 32 := Scalar.addi v156 c24_i32_343
  v922
def k0_off13 (k0_t1 : Fin k0_t1_loop.trips) (c24_i32_343 : BitVec 32) : Fin 3 → Nat :=
  let c3_344 : Index := 3#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v922 : BitVec 32 := Scalar.addi v156 c24_i32_343
  let v923 : BitVec 32 := v922
  let v924 : Index := Scalar.indexCast v923
  let c256_345 : Index := 256#32
  ![3, v924.toNat, 256]
def k0_mult36 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_352 : BitVec 32 := 24#32
  let v945 : BitVec 32 := Scalar.addi v156 c24_i32_352
  v945
def k0_off14 (k0_t1 : Fin k0_t1_loop.trips) (c24_i32_352 : BitVec 32) : Fin 3 → Nat :=
  let c2_353 : Index := 2#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v945 : BitVec 32 := Scalar.addi v156 c24_i32_352
  let v946 : BitVec 32 := v945
  let v947 : Index := Scalar.indexCast v946
  let c256_354 : Index := 256#32
  ![2, v947.toNat, 256]
def k0_mult37 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_361 : BitVec 32 := 24#32
  let v968 : BitVec 32 := Scalar.addi v156 c24_i32_361
  v968
def k0_off15 (k0_t1 : Fin k0_t1_loop.trips) (c24_i32_361 : BitVec 32) : Fin 3 → Nat :=
  let c1_362 : Index := 1#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v968 : BitVec 32 := Scalar.addi v156 c24_i32_361
  let v969 : BitVec 32 := v968
  let v970 : Index := Scalar.indexCast v969
  let c256_363 : Index := 256#32
  ![1, v970.toNat, 256]
def k0_mult38 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_370 : BitVec 32 := 24#32
  let v991 : BitVec 32 := Scalar.addi v156 c24_i32_370
  v991
def k0_off16 (k0_t1 : Fin k0_t1_loop.trips) (c24_i32_370 : BitVec 32) : Fin 3 → Nat :=
  let c0_371 : Index := 0#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v991 : BitVec 32 := Scalar.addi v156 c24_i32_370
  let v992 : BitVec 32 := v991
  let v993 : Index := Scalar.indexCast v992
  let c256_372 : Index := 256#32
  ![0, v993.toNat, 256]
def k0_mult39 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_379 : BitVec 32 := 24#32
  let v1014 : BitVec 32 := Scalar.addi v156 c24_i32_379
  v1014
def k0_off17 (k0_t1 : Fin k0_t1_loop.trips) (c24_i32_379 : BitVec 32) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1014 : BitVec 32 := Scalar.addi v156 c24_i32_379
  let v1015 : BitVec 32 := v1014
  let v1016 : Index := Scalar.indexCast v1015
  let c256_380 : Index := 256#32
  ![v1016.toNat, 256]
def k0_mult40 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_387 : BitVec 32 := 16#32
  let v1036 : BitVec 32 := Scalar.addi v156 c16_i32_387
  v1036
def k0_off18 (k0_t1 : Fin k0_t1_loop.trips) (c16_i32_387 : BitVec 32) : Fin 3 → Nat :=
  let c6_388 : Index := 6#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1036 : BitVec 32 := Scalar.addi v156 c16_i32_387
  let v1037 : BitVec 32 := v1036
  let v1038 : Index := Scalar.indexCast v1037
  let c256_389 : Index := 256#32
  ![6, v1038.toNat, 256]
def k0_mult41 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_396 : BitVec 32 := 16#32
  let v1059 : BitVec 32 := Scalar.addi v156 c16_i32_396
  v1059
def k0_mult42 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_405 : BitVec 32 := 16#32
  let v1082 : BitVec 32 := Scalar.addi v156 c16_i32_405
  v1082
def k0_mult43 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_414 : BitVec 32 := 16#32
  let v1105 : BitVec 32 := Scalar.addi v156 c16_i32_414
  v1105
def k0_mult44 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_423 : BitVec 32 := 16#32
  let v1128 : BitVec 32 := Scalar.addi v156 c16_i32_423
  v1128
def k0_mult45 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_432 : BitVec 32 := 16#32
  let v1151 : BitVec 32 := Scalar.addi v156 c16_i32_432
  v1151
def k0_mult46 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_441 : BitVec 32 := 16#32
  let v1174 : BitVec 32 := Scalar.addi v156 c16_i32_441
  v1174
def k0_mult47 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_450 : BitVec 32 := 16#32
  let v1197 : BitVec 32 := Scalar.addi v156 c16_i32_450
  v1197
def k0_mult48 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_458 : BitVec 32 := 8#32
  let v1219 : BitVec 32 := Scalar.addi v156 c8_i32_458
  v1219
def k0_mult49 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_467 : BitVec 32 := 8#32
  let v1242 : BitVec 32 := Scalar.addi v156 c8_i32_467
  v1242
def k0_mult50 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_476 : BitVec 32 := 8#32
  let v1265 : BitVec 32 := Scalar.addi v156 c8_i32_476
  v1265
def k0_mult51 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_485 : BitVec 32 := 8#32
  let v1288 : BitVec 32 := Scalar.addi v156 c8_i32_485
  v1288
def k0_mult52 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_494 : BitVec 32 := 8#32
  let v1311 : BitVec 32 := Scalar.addi v156 c8_i32_494
  v1311
def k0_mult53 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_503 : BitVec 32 := 8#32
  let v1334 : BitVec 32 := Scalar.addi v156 c8_i32_503
  v1334
def k0_mult54 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_512 : BitVec 32 := 8#32
  let v1357 : BitVec 32 := Scalar.addi v156 c8_i32_512
  v1357
def k0_mult55 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_521 : BitVec 32 := 8#32
  let v1380 : BitVec 32 := Scalar.addi v156 c8_i32_521
  v1380
def k0_mult56 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_529 : BitVec 32 := 0#32
  let v1402 : BitVec 32 := Scalar.addi v156 c0_i32_529
  v1402
def k0_mult57 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_538 : BitVec 32 := 0#32
  let v1425 : BitVec 32 := Scalar.addi v156 c0_i32_538
  v1425
def k0_mult58 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_547 : BitVec 32 := 0#32
  let v1448 : BitVec 32 := Scalar.addi v156 c0_i32_547
  v1448
def k0_mult59 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_556 : BitVec 32 := 0#32
  let v1471 : BitVec 32 := Scalar.addi v156 c0_i32_556
  v1471
def k0_mult60 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_565 : BitVec 32 := 0#32
  let v1494 : BitVec 32 := Scalar.addi v156 c0_i32_565
  v1494
def k0_mult61 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_574 : BitVec 32 := 0#32
  let v1517 : BitVec 32 := Scalar.addi v156 c0_i32_574
  v1517
def k0_mult62 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_583 : BitVec 32 := 0#32
  let v1540 : BitVec 32 := Scalar.addi v156 c0_i32_583
  v1540
def k0_mult63 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_592 : BitVec 32 := 0#32
  let v1563 : BitVec 32 := Scalar.addi v156 c0_i32_592
  v1563
def k0_off19 (k0_t1 : Fin k0_t1_loop.trips) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1589 : Index := Scalar.indexCast v156
  let c512 : Index := 512#32
  ![v1589.toNat, 512]
def k0_mult64 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_602 : BitVec 32 := 24#32
  let v1592 : BitVec 32 := Scalar.addi v156 c24_i32_602
  v1592
def k0_off20 (k0_t1 : Fin k0_t1_loop.trips) (c24_i32_602 : BitVec 32) : Fin 3 → Nat :=
  let c5_603 : Index := 5#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1592 : BitVec 32 := Scalar.addi v156 c24_i32_602
  let v1593 : BitVec 32 := v1592
  let v1594 : Index := Scalar.indexCast v1593
  let c512_604 : Index := 512#32
  ![5, v1594.toNat, 512]
def k0_mult65 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_611 : BitVec 32 := 24#32
  let v1615 : BitVec 32 := Scalar.addi v156 c24_i32_611
  v1615
def k0_off21 (k0_t1 : Fin k0_t1_loop.trips) (c24_i32_611 : BitVec 32) : Fin 3 → Nat :=
  let c4_612 : Index := 4#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1615 : BitVec 32 := Scalar.addi v156 c24_i32_611
  let v1616 : BitVec 32 := v1615
  let v1617 : Index := Scalar.indexCast v1616
  let c512_613 : Index := 512#32
  ![4, v1617.toNat, 512]
def k0_mult66 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_620 : BitVec 32 := 24#32
  let v1638 : BitVec 32 := Scalar.addi v156 c24_i32_620
  v1638
def k0_off22 (k0_t1 : Fin k0_t1_loop.trips) (c24_i32_620 : BitVec 32) : Fin 3 → Nat :=
  let c3_621 : Index := 3#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1638 : BitVec 32 := Scalar.addi v156 c24_i32_620
  let v1639 : BitVec 32 := v1638
  let v1640 : Index := Scalar.indexCast v1639
  let c512_622 : Index := 512#32
  ![3, v1640.toNat, 512]
def k0_mult67 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_629 : BitVec 32 := 24#32
  let v1661 : BitVec 32 := Scalar.addi v156 c24_i32_629
  v1661
def k0_off23 (k0_t1 : Fin k0_t1_loop.trips) (c24_i32_629 : BitVec 32) : Fin 3 → Nat :=
  let c2_630 : Index := 2#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1661 : BitVec 32 := Scalar.addi v156 c24_i32_629
  let v1662 : BitVec 32 := v1661
  let v1663 : Index := Scalar.indexCast v1662
  let c512_631 : Index := 512#32
  ![2, v1663.toNat, 512]
def k0_mult68 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_638 : BitVec 32 := 24#32
  let v1684 : BitVec 32 := Scalar.addi v156 c24_i32_638
  v1684
def k0_off24 (k0_t1 : Fin k0_t1_loop.trips) (c24_i32_638 : BitVec 32) : Fin 3 → Nat :=
  let c1_639 : Index := 1#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1684 : BitVec 32 := Scalar.addi v156 c24_i32_638
  let v1685 : BitVec 32 := v1684
  let v1686 : Index := Scalar.indexCast v1685
  let c512_640 : Index := 512#32
  ![1, v1686.toNat, 512]
def k0_mult69 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_647 : BitVec 32 := 24#32
  let v1707 : BitVec 32 := Scalar.addi v156 c24_i32_647
  v1707
def k0_off25 (k0_t1 : Fin k0_t1_loop.trips) (c24_i32_647 : BitVec 32) : Fin 3 → Nat :=
  let c0_648 : Index := 0#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1707 : BitVec 32 := Scalar.addi v156 c24_i32_647
  let v1708 : BitVec 32 := v1707
  let v1709 : Index := Scalar.indexCast v1708
  let c512_649 : Index := 512#32
  ![0, v1709.toNat, 512]
def k0_mult70 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_656 : BitVec 32 := 24#32
  let v1730 : BitVec 32 := Scalar.addi v156 c24_i32_656
  v1730
def k0_off26 (k0_t1 : Fin k0_t1_loop.trips) (c24_i32_656 : BitVec 32) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1730 : BitVec 32 := Scalar.addi v156 c24_i32_656
  let v1731 : BitVec 32 := v1730
  let v1732 : Index := Scalar.indexCast v1731
  let c512_657 : Index := 512#32
  ![v1732.toNat, 512]
def k0_mult71 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_664 : BitVec 32 := 16#32
  let v1752 : BitVec 32 := Scalar.addi v156 c16_i32_664
  v1752
def k0_off27 (k0_t1 : Fin k0_t1_loop.trips) (c16_i32_664 : BitVec 32) : Fin 3 → Nat :=
  let c6_665 : Index := 6#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v1752 : BitVec 32 := Scalar.addi v156 c16_i32_664
  let v1753 : BitVec 32 := v1752
  let v1754 : Index := Scalar.indexCast v1753
  let c512_666 : Index := 512#32
  ![6, v1754.toNat, 512]
def k0_mult72 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_673 : BitVec 32 := 16#32
  let v1775 : BitVec 32 := Scalar.addi v156 c16_i32_673
  v1775
def k0_mult73 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_682 : BitVec 32 := 16#32
  let v1798 : BitVec 32 := Scalar.addi v156 c16_i32_682
  v1798
def k0_mult74 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_691 : BitVec 32 := 16#32
  let v1821 : BitVec 32 := Scalar.addi v156 c16_i32_691
  v1821
def k0_mult75 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_700 : BitVec 32 := 16#32
  let v1844 : BitVec 32 := Scalar.addi v156 c16_i32_700
  v1844
def k0_mult76 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_709 : BitVec 32 := 16#32
  let v1867 : BitVec 32 := Scalar.addi v156 c16_i32_709
  v1867
def k0_mult77 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_718 : BitVec 32 := 16#32
  let v1890 : BitVec 32 := Scalar.addi v156 c16_i32_718
  v1890
def k0_mult78 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_727 : BitVec 32 := 16#32
  let v1913 : BitVec 32 := Scalar.addi v156 c16_i32_727
  v1913
def k0_mult79 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_735 : BitVec 32 := 8#32
  let v1935 : BitVec 32 := Scalar.addi v156 c8_i32_735
  v1935
def k0_mult80 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_744 : BitVec 32 := 8#32
  let v1958 : BitVec 32 := Scalar.addi v156 c8_i32_744
  v1958
def k0_mult81 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_753 : BitVec 32 := 8#32
  let v1981 : BitVec 32 := Scalar.addi v156 c8_i32_753
  v1981
def k0_mult82 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_762 : BitVec 32 := 8#32
  let v2004 : BitVec 32 := Scalar.addi v156 c8_i32_762
  v2004
def k0_mult83 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_771 : BitVec 32 := 8#32
  let v2027 : BitVec 32 := Scalar.addi v156 c8_i32_771
  v2027
def k0_mult84 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_780 : BitVec 32 := 8#32
  let v2050 : BitVec 32 := Scalar.addi v156 c8_i32_780
  v2050
def k0_mult85 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_789 : BitVec 32 := 8#32
  let v2073 : BitVec 32 := Scalar.addi v156 c8_i32_789
  v2073
def k0_mult86 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_798 : BitVec 32 := 8#32
  let v2096 : BitVec 32 := Scalar.addi v156 c8_i32_798
  v2096
def k0_mult87 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_806 : BitVec 32 := 0#32
  let v2118 : BitVec 32 := Scalar.addi v156 c0_i32_806
  v2118
def k0_mult88 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_815 : BitVec 32 := 0#32
  let v2141 : BitVec 32 := Scalar.addi v156 c0_i32_815
  v2141
def k0_mult89 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_824 : BitVec 32 := 0#32
  let v2164 : BitVec 32 := Scalar.addi v156 c0_i32_824
  v2164
def k0_mult90 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_833 : BitVec 32 := 0#32
  let v2187 : BitVec 32 := Scalar.addi v156 c0_i32_833
  v2187
def k0_mult91 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_842 : BitVec 32 := 0#32
  let v2210 : BitVec 32 := Scalar.addi v156 c0_i32_842
  v2210
def k0_mult92 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_851 : BitVec 32 := 0#32
  let v2233 : BitVec 32 := Scalar.addi v156 c0_i32_851
  v2233
def k0_mult93 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_860 : BitVec 32 := 0#32
  let v2256 : BitVec 32 := Scalar.addi v156 c0_i32_860
  v2256
def k0_mult94 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_869 : BitVec 32 := 0#32
  let v2279 : BitVec 32 := Scalar.addi v156 c0_i32_869
  v2279
def k0_off28 (k0_t1 : Fin k0_t1_loop.trips) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2305 : Index := Scalar.indexCast v156
  let c768 : Index := 768#32
  ![v2305.toNat, 768]
def k0_mult95 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_879 : BitVec 32 := 24#32
  let v2308 : BitVec 32 := Scalar.addi v156 c24_i32_879
  v2308
def k0_off29 (k0_t1 : Fin k0_t1_loop.trips) (c24_i32_879 : BitVec 32) : Fin 3 → Nat :=
  let c5_880 : Index := 5#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2308 : BitVec 32 := Scalar.addi v156 c24_i32_879
  let v2309 : BitVec 32 := v2308
  let v2310 : Index := Scalar.indexCast v2309
  let c768_881 : Index := 768#32
  ![5, v2310.toNat, 768]
def k0_mult96 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_888 : BitVec 32 := 24#32
  let v2331 : BitVec 32 := Scalar.addi v156 c24_i32_888
  v2331
def k0_off30 (k0_t1 : Fin k0_t1_loop.trips) (c24_i32_888 : BitVec 32) : Fin 3 → Nat :=
  let c4_889 : Index := 4#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2331 : BitVec 32 := Scalar.addi v156 c24_i32_888
  let v2332 : BitVec 32 := v2331
  let v2333 : Index := Scalar.indexCast v2332
  let c768_890 : Index := 768#32
  ![4, v2333.toNat, 768]
def k0_mult97 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_897 : BitVec 32 := 24#32
  let v2354 : BitVec 32 := Scalar.addi v156 c24_i32_897
  v2354
def k0_off31 (k0_t1 : Fin k0_t1_loop.trips) (c24_i32_897 : BitVec 32) : Fin 3 → Nat :=
  let c3_898 : Index := 3#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2354 : BitVec 32 := Scalar.addi v156 c24_i32_897
  let v2355 : BitVec 32 := v2354
  let v2356 : Index := Scalar.indexCast v2355
  let c768_899 : Index := 768#32
  ![3, v2356.toNat, 768]
def k0_mult98 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_906 : BitVec 32 := 24#32
  let v2377 : BitVec 32 := Scalar.addi v156 c24_i32_906
  v2377
def k0_off32 (k0_t1 : Fin k0_t1_loop.trips) (c24_i32_906 : BitVec 32) : Fin 3 → Nat :=
  let c2_907 : Index := 2#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2377 : BitVec 32 := Scalar.addi v156 c24_i32_906
  let v2378 : BitVec 32 := v2377
  let v2379 : Index := Scalar.indexCast v2378
  let c768_908 : Index := 768#32
  ![2, v2379.toNat, 768]
def k0_mult99 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_915 : BitVec 32 := 24#32
  let v2400 : BitVec 32 := Scalar.addi v156 c24_i32_915
  v2400
def k0_off33 (k0_t1 : Fin k0_t1_loop.trips) (c24_i32_915 : BitVec 32) : Fin 3 → Nat :=
  let c1_916 : Index := 1#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2400 : BitVec 32 := Scalar.addi v156 c24_i32_915
  let v2401 : BitVec 32 := v2400
  let v2402 : Index := Scalar.indexCast v2401
  let c768_917 : Index := 768#32
  ![1, v2402.toNat, 768]
def k0_mult100 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_924 : BitVec 32 := 24#32
  let v2423 : BitVec 32 := Scalar.addi v156 c24_i32_924
  v2423
def k0_off34 (k0_t1 : Fin k0_t1_loop.trips) (c24_i32_924 : BitVec 32) : Fin 3 → Nat :=
  let c0_925 : Index := 0#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2423 : BitVec 32 := Scalar.addi v156 c24_i32_924
  let v2424 : BitVec 32 := v2423
  let v2425 : Index := Scalar.indexCast v2424
  let c768_926 : Index := 768#32
  ![0, v2425.toNat, 768]
def k0_mult101 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c24_i32_933 : BitVec 32 := 24#32
  let v2446 : BitVec 32 := Scalar.addi v156 c24_i32_933
  v2446
def k0_off35 (k0_t1 : Fin k0_t1_loop.trips) (c24_i32_933 : BitVec 32) : Fin 2 → Nat :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2446 : BitVec 32 := Scalar.addi v156 c24_i32_933
  let v2447 : BitVec 32 := v2446
  let v2448 : Index := Scalar.indexCast v2447
  let c768_934 : Index := 768#32
  ![v2448.toNat, 768]
def k0_mult102 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_941 : BitVec 32 := 16#32
  let v2468 : BitVec 32 := Scalar.addi v156 c16_i32_941
  v2468
def k0_off36 (k0_t1 : Fin k0_t1_loop.trips) (c16_i32_941 : BitVec 32) : Fin 3 → Nat :=
  let c6_942 : Index := 6#32
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let v2468 : BitVec 32 := Scalar.addi v156 c16_i32_941
  let v2469 : BitVec 32 := v2468
  let v2470 : Index := Scalar.indexCast v2469
  let c768_943 : Index := 768#32
  ![6, v2470.toNat, 768]
def k0_mult103 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_950 : BitVec 32 := 16#32
  let v2491 : BitVec 32 := Scalar.addi v156 c16_i32_950
  v2491
def k0_mult104 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_959 : BitVec 32 := 16#32
  let v2514 : BitVec 32 := Scalar.addi v156 c16_i32_959
  v2514
def k0_mult105 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_968 : BitVec 32 := 16#32
  let v2537 : BitVec 32 := Scalar.addi v156 c16_i32_968
  v2537
def k0_mult106 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_977 : BitVec 32 := 16#32
  let v2560 : BitVec 32 := Scalar.addi v156 c16_i32_977
  v2560
def k0_mult107 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_986 : BitVec 32 := 16#32
  let v2583 : BitVec 32 := Scalar.addi v156 c16_i32_986
  v2583
def k0_mult108 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_995 : BitVec 32 := 16#32
  let v2606 : BitVec 32 := Scalar.addi v156 c16_i32_995
  v2606
def k0_mult109 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c16_i32_1004 : BitVec 32 := 16#32
  let v2629 : BitVec 32 := Scalar.addi v156 c16_i32_1004
  v2629
def k0_mult110 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1012 : BitVec 32 := 8#32
  let v2651 : BitVec 32 := Scalar.addi v156 c8_i32_1012
  v2651
def k0_mult111 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1021 : BitVec 32 := 8#32
  let v2674 : BitVec 32 := Scalar.addi v156 c8_i32_1021
  v2674
def k0_mult112 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1030 : BitVec 32 := 8#32
  let v2697 : BitVec 32 := Scalar.addi v156 c8_i32_1030
  v2697
def k0_mult113 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1039 : BitVec 32 := 8#32
  let v2720 : BitVec 32 := Scalar.addi v156 c8_i32_1039
  v2720
def k0_mult114 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1048 : BitVec 32 := 8#32
  let v2743 : BitVec 32 := Scalar.addi v156 c8_i32_1048
  v2743
def k0_mult115 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1057 : BitVec 32 := 8#32
  let v2766 : BitVec 32 := Scalar.addi v156 c8_i32_1057
  v2766
def k0_mult116 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1066 : BitVec 32 := 8#32
  let v2789 : BitVec 32 := Scalar.addi v156 c8_i32_1066
  v2789
def k0_mult117 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c8_i32_1075 : BitVec 32 := 8#32
  let v2812 : BitVec 32 := Scalar.addi v156 c8_i32_1075
  v2812
def k0_mult118 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1083 : BitVec 32 := 0#32
  let v2834 : BitVec 32 := Scalar.addi v156 c0_i32_1083
  v2834
def k0_mult119 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1092 : BitVec 32 := 0#32
  let v2857 : BitVec 32 := Scalar.addi v156 c0_i32_1092
  v2857
def k0_mult120 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1101 : BitVec 32 := 0#32
  let v2880 : BitVec 32 := Scalar.addi v156 c0_i32_1101
  v2880
def k0_mult121 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1110 : BitVec 32 := 0#32
  let v2903 : BitVec 32 := Scalar.addi v156 c0_i32_1110
  v2903
def k0_mult122 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1119 : BitVec 32 := 0#32
  let v2926 : BitVec 32 := Scalar.addi v156 c0_i32_1119
  v2926
def k0_mult123 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1128 : BitVec 32 := 0#32
  let v2949 : BitVec 32 := Scalar.addi v156 c0_i32_1128
  v2949
def k0_mult124 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1137 : BitVec 32 := 0#32
  let v2972 : BitVec 32 := Scalar.addi v156 c0_i32_1137
  v2972
def k0_mult125 (k0_t1 : Fin k0_t1_loop.trips) : BitVec 32 :=
  let c0_i32_71 : BitVec 32 := 0#32
  let c1_i32 : BitVec 32 := 1#32
  let arg19 : BitVec 32 := Scf.iv c0_i32_71 c1_i32 k0_t1
  let c32_i32 : BitVec 32 := 32#32
  let v155 : BitVec 32 := Scalar.muli arg19 c32_i32
  let v156 : BitVec 32 := v155
  let c0_i32_1146 : BitVec 32 := 0#32
  let v2995 : BitVec 32 := Scalar.addi v156 c0_i32_1146
  v2995
def k0_cond2 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_96 : BitVec 32 := 0#32
  let v154 : BitVec 1 := Scalar.cmpi .ne v153 c0_i32_96
  v154

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S4096x2048 : Shape := ⟨2, ![4096, 2048]⟩
abbrev S4096x1024 : Shape := ⟨2, ![4096, 1024]⟩
abbrev S1x1024 : Shape := ⟨2, ![1, 1024]⟩
abbrev S1x2048 : Shape := ⟨2, ![1, 2048]⟩
abbrev S31x1024 : Shape := ⟨2, ![31, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 130
  | .vmem => 0
  | .smem => 0
  | _ => 0

abbrev hbmTy0_0 (i : Nat) : BufTy := match i % 128 with
  | 0 => ⟨S4096x2048, .f32⟩
  | 1 => ⟨S4096x1024, .f32⟩
  | 2 => ⟨S4096x1024, .f32⟩
  | 3 => ⟨S1x1024, .f32⟩
  | 4 => ⟨S4096x2048, .f32⟩
  | 5 => ⟨S4096x1024, .f32⟩
  | 6 => ⟨S1x2048, .f32⟩
  | 7 => ⟨S31x1024, .f32⟩
  | 8 => ⟨S1x1024, .f32⟩
  | 9 => ⟨S1x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S1024, .f32⟩
  | 86 => ⟨S1x1024, .f32⟩
  | 87 => ⟨S4096x1024, .f32⟩
  | 88 => ⟨S_, .f32⟩
  | 89 => ⟨S1024, .f32⟩
  | 90 => ⟨S1x1024, .f32⟩
  | 91 => ⟨S4096x1024, .f32⟩
  | 92 => ⟨S4096x1024, .f32⟩
  | 93 => ⟨S4096x1024, .f32⟩
  | 94 => ⟨S_, .f32⟩
  | 95 => ⟨S4096, .f32⟩
  | 96 => ⟨S4096x1, .f32⟩
  | 97 => ⟨S4096x1024, .f32⟩
  | 98 => ⟨S4096x1024, .f32⟩
  | 99 => ⟨S4096x1, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4096x2048, .f32⟩

abbrev hbmTy0_1 (i : Nat) : BufTy := match i % 128 with
  | 0 => ⟨S5x1024, .f32⟩
  | 1 => ⟨S8x1024, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v29_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v29_1 : Ref sig .tc := ⟨.hbm, 57, rfl⟩
abbrev main_v29_0 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v30_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v30_1 : Ref sig .tc := ⟨.hbm, 70, rfl⟩
abbrev main_v30_0 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v35 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_7 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_9 : Ref sig .tc := ⟨.hbm, 101, rfl⟩
abbrev main_v51 : Ref sig .tc := ⟨.hbm, 102, rfl⟩
abbrev main_v52 : Ref sig .tc := ⟨.hbm, 103, rfl⟩
abbrev main_cst_10 : Ref sig .tc := ⟨.hbm, 104, rfl⟩
abbrev main_v53 : Ref sig .tc := ⟨.hbm, 105, rfl⟩
abbrev main_v54 : Ref sig .tc := ⟨.hbm, 106, rfl⟩
abbrev main_cst_11 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_12 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_13 : Ref sig .tc := ⟨.hbm, 117, rfl⟩
abbrev main_v63 : Ref sig .tc := ⟨.hbm, 118, rfl⟩
abbrev main_v64 : Ref sig .tc := ⟨.hbm, 119, rfl⟩
abbrev main_cst_14 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_15 : Ref sig .tc := ⟨.hbm, 124, rfl⟩
abbrev main_v68 : Ref sig .tc := ⟨.hbm, 125, rfl⟩
abbrev main_v69 : Ref sig .tc := ⟨.hbm, 126, rfl⟩
abbrev main_cst_16 : Ref sig .tc := ⟨.hbm, 127, rfl⟩
abbrev main_v70 : Ref sig .tc := ⟨.hbm, 128, rfl⟩
abbrev main_v71 : Ref sig .tc := ⟨.hbm, 129, rfl⟩

abbrev nD : Nat := 1
abbrev τ : Topo := Topo.v7x

variable {F : FTy → Type} [FloatOps F]
-- ==== Kernel16.lean ====
abbrev S1 : Shape := ⟨1, ![1]⟩
abbrev S4x512x1412 : Shape := ⟨3, ![4, 512, 1412]⟩
abbrev S3x512x1412 : Shape := ⟨3, ![3, 512, 1412]⟩
abbrev S512x1412 : Shape := ⟨2, ![512, 1412]⟩
abbrev S1x256x1412 : Shape := ⟨3, ![1, 256, 1412]⟩
abbrev S3x256x1412 : Shape := ⟨3, ![3, 256, 1412]⟩
abbrev S256x1412 : Shape := ⟨2, ![256, 1412]⟩

abbrev nBuf : Space → Nat
  | .hbm => 3
  | .vmem => 6
  | .smem => 1
  | _ => 0

abbrev bufTy : (tb : Table) → Fin (tcTables nBuf tb) → BufTy
  | .hbm, ⟨0, _⟩ => ⟨S4x512x1412, .bf16⟩
  | .hbm, ⟨1, _⟩ => ⟨S3x512x1412, .bf16⟩
  | .hbm, ⟨2, _⟩ => ⟨S512x1412, .f32⟩
  | .local _ .vmem, ⟨0, _⟩ => ⟨S1x256x1412, .bf16⟩
  | .local _ .vmem, ⟨1, _⟩ => ⟨S1x256x1412, .bf16⟩
  | .local _ .vmem, ⟨2, _⟩ => ⟨S3x256x1412, .bf16⟩
  | .local _ .vmem, ⟨3, _⟩ => ⟨S3x256x1412, .bf16⟩
  | .local _ .vmem, ⟨4, _⟩ => ⟨S256x1412, .f32⟩
  | .local _ .vmem, ⟨5, _⟩ => ⟨S256x1412, .f32⟩
  | .local _ .smem, ⟨0, _⟩ => ⟨S1, .i32⟩
  | _, _ => ⟨S4x512x1412, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1412 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1412 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S1 : Shape := ⟨1, ![1]⟩
abbrev S4x512x1412 : Shape := ⟨3, ![4, 512, 1412]⟩
abbrev S3x512x1412 : Shape := ⟨3, ![3, 512, 1412]⟩
abbrev S_ : Shape := ⟨0, ![]⟩
abbrev S1x512x1412 : Shape := ⟨3, ![1, 512, 1412]⟩
abbrev S512x1412 : Shape := ⟨2, ![512, 1412]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x1412, .bf16⟩
  | .hbm, ⟨2, _⟩ => ⟨S3x512x1412, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x512x1412, .bf16⟩
  | .hbm, ⟨7, _⟩ => ⟨S512x1412, .bf16⟩
  | .hbm, ⟨8, _⟩ => ⟨S512x1412, .f32⟩
  | .hbm, ⟨9, _⟩ => ⟨S3x512x1412, .f32⟩
  | .hbm, ⟨10, _⟩ => ⟨S_, .f32⟩
  | .hbm, ⟨11, _⟩ => ⟨S512x1412, .f32⟩
  | .hbm, ⟨12, _⟩ => ⟨S512x1412, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel17.lean ====
abbrev S1 : Shape := ⟨1, ![1]⟩
abbrev S4x256x1024 : Shape := ⟨3, ![4, 256, 1024]⟩
abbrev S3x256x1024 : Shape := ⟨3, ![3, 256, 1024]⟩
abbrev S256x1024 : Shape := ⟨2, ![256, 1024]⟩
abbrev S1x256x1024 : Shape := ⟨3, ![1, 256, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S256x1024, .f32⟩
  | .local _ .vmem, ⟨0, _⟩ => ⟨S1x256x1024, .bf16⟩
  | .local _ .vmem, ⟨1, _⟩ => ⟨S3x256x1024, .bf16⟩
  | .local _ .vmem, ⟨2, _⟩ => ⟨S256x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference17Ideal.lean ====
abbrev S1 : Shape := ⟨1, ![1]⟩
abbrev S4x256x1024 : Shape := ⟨3, ![4, 256, 1024]⟩
abbrev S3x256x1024 : Shape := ⟨3, ![3, 256, 1024]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x256x1024, .bf16⟩
  | .hbm, ⟨2, _⟩ => ⟨S3x256x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x256x1024, .bf16⟩
  | .hbm, ⟨7, _⟩ => ⟨S256x1024, .bf16⟩
  | .hbm, ⟨8, _⟩ => ⟨S256x1024, .f32⟩
  | .hbm, ⟨9, _⟩ => ⟨S3x256x1024, .f32⟩
  | .hbm, ⟨10, _⟩ => ⟨S_, .f32⟩
  | .hbm, ⟨11, _⟩ => ⟨S256x1024, .f32⟩
  | .hbm, ⟨12, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel18.lean ====
abbrev S1 : Shape := ⟨1, ![1]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference18Ideal.lean ====
abbrev S1 : Shape := ⟨1, ![1]⟩
abbrev S4x128x1024 : Shape := ⟨3, ![4, 128, 1024]⟩
abbrev S3x128x1024 : Shape := ⟨3, ![3, 128, 1024]⟩
abbrev S_ : Shape := ⟨0, ![]⟩
abbrev S1x128x1024 : Shape := ⟨3, ![1, 128, 1024]⟩
abbrev S128x1024 : Shape := ⟨2, ![128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x128x1024, .bf16⟩
  | .hbm, ⟨2, _⟩ => ⟨S3x128x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x128x1024, .bf16⟩
  | .hbm, ⟨7, _⟩ => ⟨S128x1024, .bf16⟩
  | .hbm, ⟨8, _⟩ => ⟨S128x1024, .f32⟩
  | .hbm, ⟨9, _⟩ => ⟨S3x128x1024, .f32⟩
  | .hbm, ⟨10, _⟩ => ⟨S_, .f32⟩
  | .hbm, ⟨11, _⟩ => ⟨S128x1024, .f32⟩
  | .hbm, ⟨12, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel19.lean ====
abbrev S1 : Shape := ⟨1, ![1]⟩
abbrev S4x128x256 : Shape := ⟨3, ![4, 128, 256]⟩
abbrev S3x128x256 : Shape := ⟨3, ![3, 128, 256]⟩
abbrev S128x256 : Shape := ⟨2, ![128, 256]⟩
abbrev S1x128x256 : Shape := ⟨3, ![1, 128, 256]⟩

abbrev nBuf : Space → Nat
  | .hbm => 3
  | .vmem => 3
  | .smem => 1
  | _ => 0

abbrev bufTy : (tb : Table) → Fin (tcTables nBuf tb) → BufTy
  | .hbm, ⟨0, _⟩ => ⟨S4x128x256, .bf16⟩
  | .hbm, ⟨1, _⟩ => ⟨S3x128x256, .bf16⟩
  | .hbm, ⟨2, _⟩ => ⟨S128x256, .f32⟩
  | .local _ .vmem, ⟨0, _⟩ => ⟨S1x128x256, .bf16⟩
  | .local _ .vmem, ⟨1, _⟩ => ⟨S3x128x256, .bf16⟩
  | .local _ .vmem, ⟨2, _⟩ => ⟨S128x256, .f32⟩
  | .local _ .smem, ⟨0, _⟩ => ⟨S1, .i32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S1 : Shape := ⟨1, ![1]⟩
abbrev S4x128x256 : Shape := ⟨3, ![4, 128, 256]⟩
abbrev S3x128x256 : Shape := ⟨3, ![3, 128, 256]⟩
abbrev S_ : Shape := ⟨0, ![]⟩
abbrev S1x128x256 : Shape := ⟨3, ![1, 128, 256]⟩
abbrev S128x256 : Shape := ⟨2, ![128, 256]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x128x256, .bf16⟩
  | .hbm, ⟨2, _⟩ => ⟨S3x128x256, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x128x256, .bf16⟩
  | .hbm, ⟨7, _⟩ => ⟨S128x256, .bf16⟩
  | .hbm, ⟨8, _⟩ => ⟨S128x256, .f32⟩
  | .hbm, ⟨9, _⟩ => ⟨S3x128x256, .f32⟩
  | .hbm, ⟨10, _⟩ => ⟨S_, .f32⟩
  | .hbm, ⟨11, _⟩ => ⟨S128x256, .f32⟩
  | .hbm, ⟨12, _⟩ => ⟨S128x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel20.lean ====
abbrev S1 : Shape := ⟨1, ![1]⟩
abbrev S1x1024x5760 : Shape := ⟨3, ![1, 1024, 5760]⟩
abbrev S1x512x5760 : Shape := ⟨3, ![1, 512, 5760]⟩
abbrev S1x256x5760 : Shape := ⟨3, ![1, 256, 5760]⟩

abbrev nBuf : Space → Nat
  | .hbm => 3
  | .vmem => 6
  | .smem => 1
  | _ => 0

abbrev bufTy : (tb : Table) → Fin (tcTables nBuf tb) → BufTy
  | .hbm, ⟨0, _⟩ => ⟨S1x1024x5760, .f32⟩
  | .hbm, ⟨1, _⟩ => ⟨S1x512x5760, .f32⟩
  | .hbm, ⟨2, _⟩ => ⟨S1x512x5760, .bf16⟩
  | .local _ .vmem, ⟨0, _⟩ => ⟨S1x256x5760, .f32⟩
  | .local _ .vmem, ⟨1, _⟩ => ⟨S1x256x5760, .f32⟩
  | .local _ .vmem, ⟨2, _⟩ => ⟨S1x256x5760, .f32⟩
  | .local _ .vmem, ⟨3, _⟩ => ⟨S1x256x5760, .f32⟩
  | .local _ .vmem, ⟨4, _⟩ => ⟨S1x256x5760, .bf16⟩
  | .local _ .vmem, ⟨5, _⟩ => ⟨S1x256x5760, .bf16⟩
  | .local _ .smem, ⟨0, _⟩ => ⟨S1, .i32⟩
  | _, _ => ⟨S1x1024x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x5760 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x5760 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x5760 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S1 : Shape := ⟨1, ![1]⟩
abbrev S1x1024x5760 : Shape := ⟨3, ![1, 1024, 5760]⟩
abbrev S1x512x5760 : Shape := ⟨3, ![1, 512, 5760]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x5760, .f32⟩
  | .hbm, ⟨2, _⟩ => ⟨S1x512x5760, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x512x5760, .f32⟩
  | .hbm, ⟨9, _⟩ => ⟨S1x512x5760, .f32⟩
  | .hbm, ⟨10, _⟩ => ⟨S1x512x5760, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel21.lean ====
abbrev S1 : Shape := ⟨1, ![1]⟩
abbrev S4x512x1024 : Shape := ⟨3, ![4, 512, 1024]⟩
abbrev S4x256x1024 : Shape := ⟨3, ![4, 256, 1024]⟩
abbrev S1x256x1024 : Shape := ⟨3, ![1, 256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x512x1024, .f32⟩
  | .hbm, ⟨1, _⟩ => ⟨S4x256x1024, .f32⟩
  | .hbm, ⟨2, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .smem, ⟨0, _⟩ => ⟨S1, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S1 : Shape := ⟨1, ![1]⟩
abbrev S4x512x1024 : Shape := ⟨3, ![4, 512, 1024]⟩
abbrev S4x256x1024 : Shape := ⟨3, ![4, 256, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x1024, .f32⟩
  | .hbm, ⟨2, _⟩ => ⟨S4x256x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x256x1024, .f32⟩
  | .hbm, ⟨9, _⟩ => ⟨S4x256x1024, .f32⟩
  | .hbm, ⟨10, _⟩ => ⟨S4x256x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel22.lean ====
abbrev S1 : Shape := ⟨1, ![1]⟩
abbrev S4x256x1024 : Shape := ⟨3, ![4, 256, 1024]⟩
abbrev S4x128x1024 : Shape := ⟨3, ![4, 128, 1024]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S1 : Shape := ⟨1, ![1]⟩
abbrev S4x256x1024 : Shape := ⟨3, ![4, 256, 1024]⟩
abbrev S4x128x1024 : Shape := ⟨3, ![4, 128, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x256x1024, .f32⟩
  | .hbm, ⟨2, _⟩ => ⟨S4x128x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x128x1024, .f32⟩
  | .hbm, ⟨9, _⟩ => ⟨S4x128x1024, .f32⟩
  | .hbm, ⟨10, _⟩ => ⟨S4x128x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel23.lean ====
abbrev S1 : Shape := ⟨1, ![1]⟩
abbrev S4x256x256 : Shape := ⟨3, ![4, 256, 256]⟩
abbrev S4x128x256 : Shape := ⟨3, ![4, 128, 256]⟩
abbrev S1x128x256 : Shape := ⟨3, ![1, 128, 256]⟩

abbrev nBuf : Space → Nat
  | .hbm => 3
  | .vmem => 6
  | .smem => 1
  | _ => 0

abbrev bufTy : (tb : Table) → Fin (tcTables nBuf tb) → BufTy
  | .hbm, ⟨0, _⟩ => ⟨S4x256x256, .f32⟩
  | .hbm, ⟨1, _⟩ => ⟨S4x128x256, .f32⟩
  | .hbm, ⟨2, _⟩ => ⟨S4x128x256, .bf16⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .bf16⟩
  | .local _ .vmem, ⟨5, _⟩ => ⟨S1x128x256, .bf16⟩
  | .local _ .smem, ⟨0, _⟩ => ⟨S1, .i32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S1 : Shape := ⟨1, ![1]⟩
abbrev S4x256x256 : Shape := ⟨3, ![4, 256, 256]⟩
abbrev S4x128x256 : Shape := ⟨3, ![4, 128, 256]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x256x256, .f32⟩
  | .hbm, ⟨2, _⟩ => ⟨S4x128x256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x128x256, .f32⟩
  | .hbm, ⟨9, _⟩ => ⟨S4x128x256, .f32⟩
  | .hbm, ⟨10, _⟩ => ⟨S4x128x256, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Sums.lean ====
/-
  Sums cut in equal runs.

  A kernel that adds one tile after the other ends with `∑ s, ∑ k, f (B * s + k)`, its reference with one sum over all
  positions. The two are the same sum.
-/
module

public import Mathlib.Algebra.BigOperators.Fin
public import Mathlib.Algebra.BigOperators.Intervals

@[expose] public section

namespace Cert.Sums

variable {M : Type*} [AddCommMonoid M]

/-- `J` runs of `B` terms each are the first `J * B` terms. -/
theorem sum_runs (B : ℕ) (f : ℕ → M) : ∀ J : ℕ,
    ∑ s ∈ Finset.range J, ∑ k : Fin B, f (B * s + k.val) = ∑ x ∈ Finset.range (B * J), f x
  | 0 => by simp
  | J + 1 => by
    rw [Finset.sum_range_succ, sum_runs B f J, Nat.mul_succ, Finset.sum_range_add]
    congr 1
    exact (Finset.sum_range (fun k => f (B * J + k))).symm

/-- The same with the whole sum over a finite index type, the summand given on that type. -/
theorem sum_runs_fin {B J N : ℕ} (hN : B * J = N) (g : Fin N → M) (r : ℕ → Fin B → M)
    (h : ∀ s (hs : s < J) (k : Fin B), r s k = g ⟨B * s + k.val, by
      have h1 : B * (s + 1) ≤ B * J := Nat.mul_le_mul_left _ hs
      rw [Nat.mul_succ, hN] at h1
      exact lt_of_lt_of_le (Nat.add_lt_add_left k.isLt _) h1⟩) :
    ∑ s ∈ Finset.range J, ∑ k : Fin B, r s k = ∑ x : Fin N, g x := by
  subst hN
  have e : ∀ x : Fin (B * J), g x = (fun n => if hx : n < B * J then g ⟨n, hx⟩ else 0) x.val := fun x => by simp
  rw [Finset.sum_congr rfl (fun x _ => e x),
    ← Finset.sum_range (fun n => if hx : n < B * J then g ⟨n, hx⟩ else 0), ← sum_runs]
  refine Finset.sum_congr rfl fun s hs => Finset.sum_congr rfl fun k _ => ?_
  have hs' := Finset.mem_range.mp hs
  rw [h s hs' k]
  split
  · rfl
  · rename_i hn
    refine absurd ?_ hn
    have h1 : B * (s + 1) ≤ B * J := Nat.mul_le_mul_left _ hs'
    rw [Nat.mul_succ] at h1
    exact lt_of_lt_of_le (Nat.add_lt_add_left k.isLt _) h1

/-- A sum over five consecutive ranges, range by range. -/
theorem sum_five {a b c d e N : ℕ} (hN : a + b + c + d + e = N) (f : ℕ → M) :
    ∑ x : Fin N, f x.val = ∑ k : Fin a, f k.val + ∑ k : Fin b, f (a + k.val) + ∑ k : Fin c, f (a + b + k.val)
      + ∑ k : Fin d, f (a + b + c + k.val) + ∑ k : Fin e, f (a + b + c + d + k.val) := by
  subst hN
  rw [← Finset.sum_range f, Finset.sum_range_add, Finset.sum_range_add, Finset.sum_range_add, Finset.sum_range_add,
    Finset.sum_range, Finset.sum_range (fun k => f (a + k)), Finset.sum_range (fun k => f (a + b + k)),
    Finset.sum_range (fun k => f (a + b + c + k)), Finset.sum_range (fun k => f (a + b + c + d + k))]

end Cert.Sums
-- ==== Proof.DwIn.lean ====
/-
  The gradient of the input projection's weight: the tiled product and the plain one are the same sum.

  The kernel walks a grid of 3 column strips by 8 row blocks and adds, into one strip of the result, the product of a
  512-row block of the activations (transposed) with the same rows of the cotangent. The reference contracts all 4096
  rows at once.
-/
module

public import proofs.«01_k».proof.Proof.Sums
public import proofs.«01_k».proof.Proof.Gen.Kernel2Ideal.Value
public import Idealize.ShloMosaic.Lib.Tactic.ValueTie
public import Idealize.ShloMosaic.Lib.Pipeline.ValueKit

@[expose] public section

noncomputable section

open Idealize.ShloMosaic Idealize.ShloMosaic.TcCoe Idealize.SL.Sem

namespace Cert.DwIn

open Cert.Kernel2Ideal Cert.Kernel2Ideal.Gen Cert.Kernel2Ideal.Value

variable (m : (ℓ : Loc nD τ sig) → Buf (Elt Ideal) ℓ) (c : Dev nD)

/-- One step's payload at an index: what was there plus the block's product. -/
theorem pay2_apply (acc : Vec Ideal S1024x1920 .f32) (a : Vec Ideal S512x1024 .bf16) (b : Vec Ideal S512x1920 .bf16)
    (i : S1024x1920.Idx) :
    k0_pay2 acc a b i = acc i + ∑ k : Fin 512, a (ix2 k (i 0)) * b (ix2 k (i 1)) := by
  unfold k0_pay2
  pointwise

theorem pay1_apply (i : S1024x1920.Idx) : k0_pay1 (F := Ideal) i = 0 := by
  unfold k0_pay1
  pointwise

/-- The two operands as arrays of extended reals, and their blocks at a point. -/
abbrev A : S4096x1024.Idx → EReal := m ((c : Thread nD τ).loc main_arg0)
abbrev B : S4096x5760.Idx → EReal := m ((c : Thread nD τ).loc main_arg1)
abbrev blkA (t : Fin cfg0.N) : S512x1024.Idx → EReal := iblk m c 0 t
abbrev blkB (t : Fin cfg0.N) : S512x1920.Idx → EReal := iblk m c 1 t

/-- Point `n`'s block product, at an index of the strip. -/
def term (n : ℕ) (i : S1024x1920.Idx) : EReal :=
  if h : n < cfg0.N then
    ∑ k : Fin 512, blkA m c ⟨n, h⟩ (ix2 k (i 0)) * blkB m c ⟨n, h⟩ (ix2 k (i 1))
  else 0

/-- The two input windows' block indices, over the grid. -/
theorem idx (t : Fin cfg0.N) : win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, win0_0.index t (0 : Fin 2) = t.val % 8 ∧ win0_0.index t (1 : Fin 2) = 0
    ∧ win0_1.index t (0 : Fin 2) = t.val % 8 ∧ win0_1.index t (1 : Fin 2) = t.val / 8) t

/-- The strip after its eight points is the product over all rows. -/
theorem G2_eq (i : S1024x5760.Idx) : (G2 m c i : EReal) = ∑ x : Fin 4096,
    A m c (ix2 x (i 0)) * B m c (ix2 x (i 1)) := by
  have h0 : (i 0).val < 1024 := (i 0).isLt
  have h1 : (i 1).val < 5760 := (i 1).isLt
  have hr : run2Of i = (i 1).val / 1920 := by unfold run2Of; omega
  have hN : cfg0.N = 24 := N_0
  unfold G2
  rw [dif_pos (by rw [hr]; omega)]
  rw [Pipeline.accAt_add_apply (reset2 m c) (step2 m c) (fun _ => 0) (term m c) (8 * run2Of i) 7
    (fun h j => by unfold reset2 term; rw [dif_pos h, pay2_apply, pay1_apply])
    (fun n h acc j _ _ => by unfold step2 term; rw [dif_pos h, pay2_apply]) 7 le_rfl, zero_add]
  change @Eq EReal _ _
  refine (Finset.sum_congr (M := EReal) rfl fun s hs => ?_).trans (Cert.Sums.sum_runs_fin (B := 512) (J := 8) (N := 4096) rfl _
    (fun s k => A m c (ix2 ⟨(512 * s + k.val) % 4096, Nat.mod_lt _ (by decide)⟩ (i 0)) *
      B m c (ix2 ⟨(512 * s + k.val) % 4096, Nat.mod_lt _ (by decide)⟩ (i 1))) ?_)
  · have hs' : s < 8 := Finset.mem_range.mp hs
    have hlt : 8 * run2Of i + s < cfg0.N := by rw [hr]; omega
    obtain ⟨e0, e1, e2, e3⟩ := idx ⟨8 * run2Of i + s, hlt⟩
    unfold term
    rw [dif_pos hlt]
    refine Finset.sum_congr (M := EReal) rfl fun k _ => ?_
    have hk := k.isLt
    simp only [hr] at e0 e1 e2 e3
    congr 1
    · blk_ext [iblk, V, e0, e1, hr]
    · blk_ext [iblk, V, e2, e3, hr]
  · intro s hs k
    have hk := k.isLt
    have e : (⟨(512 * s + k.val) % 4096, Nat.mod_lt _ (by decide)⟩ : Fin 4096) = ⟨512 * s + k.val, by omega⟩ :=
      Fin.ext (Nat.mod_eq_of_lt (by omega))
    rw [e]

end Cert.DwIn
-- ==== Proof.Reals.lean ====
/-
  Real numbers inside the extended reals, and the layer norm of a row.

  Where every input is finite both programs stay among the real numbers. This module carries the operations over (`↑`
  commutes with them), gives the printed constants their real values, and proves the one identity the two backward
  passes of a layer norm differ by.
-/
module

public import Idealize.ShloMosaic.PureOps.Ideal
public import Idealize.ShloMosaic.PureOps.Ideal.Laws
public import Mathlib.Tactic.Ring
public import Mathlib.Tactic.FieldSimp
public import Mathlib.Tactic.Positivity

@[expose] public section

noncomputable section

open Idealize.ShloMosaic

namespace Cert.Reals

/-! ## Operations on finite values -/

theorem coe_sum {ι : Type*} (s : Finset ι) (f : ι → ℝ) : ∑ i ∈ s, ((f i : ℝ) : EReal) = ((∑ i ∈ s, f i : ℝ) : EReal) := by
  classical
  refine Finset.induction_on s (by simp) fun a s ha h => ?_
  rw [Finset.sum_insert ha, Finset.sum_insert ha, h, EReal.coe_add]

theorem coe_div (a : ℝ) {b : ℝ} (hb : b ≠ 0) : Ideal.div (a : EReal) (b : EReal) = ((a / b : ℝ) : EReal) := by
  rw [Ideal.div_coe hb, ← EReal.coe_mul, mul_one_div]

theorem coe_rsqrt {a : ℝ} (h : 0 < a) : Ideal.rsqrt (a : EReal) = (((Real.sqrt a)⁻¹ : ℝ) : EReal) := by
  rw [Ideal.rsqrt_coe, if_neg (not_lt.mpr h.le), if_neg h.ne']

/-- A value below `⊤` in absolute value is a real number. -/
theorem eq_coe_of_abs_lt {x : EReal} (h : max x (-x) < ⊤) : x = ((x.toReal : ℝ) : EReal) := by
  refine (EReal.coe_toReal (fun hx => ?_) (fun hx => ?_)).symm
  · subst hx; simp at h
  · subst hx; simp at h

/-! ## The printed constants -/

/-- What the layer norms add under the root: the f32 nearest to `1e-5`. -/
def eps : ℝ := (Ideal.ofBits .f32 0x3727C5AC#32).toReal

theorem ofBits_eps : Ideal.ofBits .f32 0x3727C5AC#32 = ((eps : ℝ) : EReal) := by
  unfold eps
  simp [Ideal.ofBits, Ideal.ieee, -EReal.coe_mul]

theorem eps_pos : 0 < eps := by
  unfold eps
  simp [Ideal.ofBits, Ideal.ieee, -EReal.coe_mul]

/-- The residual branch's factor: the f32 nearest to the fourth root of two. -/
def alpha : ℝ := (Ideal.ofBits .f32 0x3F9837F0#32).toReal

theorem ofBits_alpha : Ideal.ofBits .f32 0x3F9837F0#32 = ((alpha : ℝ) : EReal) := by
  unfold alpha
  simp [Ideal.ofBits, Ideal.ieee, -EReal.coe_mul]

theorem ofBits_1024 : Ideal.ofBits .f32 0x44800000#32 = ((1024 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_zero : Ideal.ofBits .f32 0x00000000#32 = ((0 : ℝ) : EReal) := by
  simp

theorem ofBits_one : Ideal.ofBits .f32 0x3F800000#32 = ((1 : ℝ) : EReal) := by
  simp [Ideal.ofBits, Ideal.ieee, -EReal.coe_mul]
  norm_num

theorem ofBits_inf : Ideal.ofBits .f32 0x7F800000#32 = ⊤ := by
  simp [Ideal.ofBits, Ideal.ieee]

/-! ## The layer norm of one row of 1024 numbers -/

/-- The row's mean. -/
def mean (x : Fin 1024 → ℝ) : ℝ := (∑ j, x j) / 1024

/-- The row less its mean. -/
def cen (x : Fin 1024 → ℝ) (j : Fin 1024) : ℝ := x j - mean x

/-- The row's variance. -/
def var (x : Fin 1024 → ℝ) : ℝ := (∑ j, cen x j * cen x j) / 1024

theorem var_nonneg (x : Fin 1024 → ℝ) : 0 ≤ var x :=
  div_nonneg (Finset.sum_nonneg fun j _ => mul_self_nonneg _) (by norm_num)

theorem var_eps_pos (x : Fin 1024 → ℝ) : 0 < var x + eps := add_pos_of_nonneg_of_pos (var_nonneg x) eps_pos

/-- The reciprocal deviation. -/
def rstd (x : Fin 1024 → ℝ) : ℝ := (Real.sqrt (var x + eps))⁻¹

/-- The normalised row. -/
def xhat (x : Fin 1024 → ℝ) (j : Fin 1024) : ℝ := cen x j * rstd x

theorem sum_cen (x : Fin 1024 → ℝ) : ∑ j, cen x j = 0 := by
  unfold cen mean
  rw [Finset.sum_sub_distrib, Finset.sum_const, Finset.card_univ, Fintype.card_fin, nsmul_eq_mul]
  push_cast
  ring

theorem rstd_sq (x : Fin 1024 → ℝ) : rstd x * rstd x = 1 / (var x + eps) := by
  unfold rstd
  rw [← mul_inv, Real.mul_self_sqrt (var_eps_pos x).le, one_div]

/-- The gradient through the normalisation, in the closed form a kernel computes. -/
def lnBwd (d x : Fin 1024 → ℝ) (j : Fin 1024) : ℝ :=
  rstd x * (d j - (∑ k, d k) / 1024 - xhat x j * ((∑ k, d k * xhat x k) / 1024))

/-- The same gradient as the chain rule gives it, step by step: through the product with the reciprocal deviation,
    through the variance, and through the mean. -/
theorem lnBwd_chain (d x : Fin 1024 → ℝ) (j : Fin 1024) :
    d j * rstd x + (∑ k, cen x k * d k) * (-(1 / 2) * (rstd x / (var x + eps))) / 1024 * (2 * cen x j)
      + (∑ k, -(d k * rstd x)
          + ∑ k, -((∑ k, cen x k * d k) * (-(1 / 2) * (rstd x / (var x + eps))) / 1024 * (2 * cen x k))) / 1024
      = lnBwd d x j := by
  set S := ∑ k, cen x k * d k with hS
  have h1 : ∑ k, -(d k * rstd x) = -((∑ k, d k) * rstd x) := by
    rw [Finset.sum_neg_distrib, Finset.sum_mul]
  have h2 : ∑ k, -(S * (-(1 / 2) * (rstd x / (var x + eps))) / 1024 * (2 * cen x k)) = 0 := by
    rw [Finset.sum_neg_distrib, ← Finset.mul_sum, ← Finset.mul_sum, sum_cen]
    ring
  have h3 : ∑ k, d k * xhat x k = S * rstd x := by
    rw [hS, Finset.sum_mul]
    exact Finset.sum_congr rfl fun k _ => by unfold xhat; ring
  have h4 : rstd x / (var x + eps) = rstd x * (rstd x * rstd x) := by rw [rstd_sq, mul_one_div]
  unfold lnBwd
  rw [h1, h2, h3, h4]
  unfold xhat
  ring

end Cert.Reals
-- ==== Proof.InprojMath.lean ====
/-
  What the input projection's backward pass computes, in the mathematics' own terms.

  The gradient of the projection is the five streams' gradients side by side; the gradient of the norm's output is that
  row times the weight, plus the residual branch.
-/
module

public import proofs.«01_k».proof.Proof.Reals
public import proofs.«01_k».proof.Proof.Sums
public import Idealize.ShloMosaic.Lib.Tactic.ValueTie
public import Idealize.ShloMosaic.Lib.Pipeline.ValueKit

@[expose] public section

noncomputable section

open Idealize.ShloMosaic

namespace Cert.Inproj

open Cert.Reals

variable (x0 : (⟨2, ![4096, 1536]⟩ : Shape).Idx → EReal) (x1 : (⟨2, ![4096, 1024]⟩ : Shape).Idx → EReal)
  (x2 : (⟨2, ![4096, 2048]⟩ : Shape).Idx → EReal) (x3 : (⟨2, ![4096, 1024]⟩ : Shape).Idx → EReal)
  (x4 : (⟨2, ![4096, 128]⟩ : Shape).Idx → EReal) (x5 : (⟨2, ![4096, 1024]⟩ : Shape).Idx → EReal)
  (x9 : (⟨2, ![1024, 5760]⟩ : Shape).Idx → EReal)

/-- Column `e` of row `r` of the five streams' gradients side by side. -/
def proj (r : Fin 4096) (e : Fin 5760) : EReal :=
  if h : e.val < 1536 then x0 (ix2 r ⟨e.val, h⟩)
  else if h : e.val - 1536 < 1024 then x1 (ix2 r ⟨e.val - 1536, h⟩)
  else if h : e.val - 1536 - 1024 < 2048 then x2 (ix2 r ⟨e.val - 1536 - 1024, h⟩)
  else if h : e.val - 1536 - 1024 - 2048 < 1024 then x3 (ix2 r ⟨e.val - 1536 - 1024 - 2048, h⟩)
  else x4 (ix2 r ⟨e.val - 1536 - 1024 - 2048 - 1024, by omega⟩)

/-! The projection's gradient, stream by stream. -/

theorem proj_0 (r : Fin 4096) (e : Fin 5760) (k : Fin 1536) (h : e.val = 0 + k.val) : proj x0 x1 x2 x3 x4 r e = x0 (ix2 r k) := by
  have hk := k.isLt
  unfold proj
  rw [dif_pos (by omega)]
  exact congrArg (fun q => x0 (ix2 r q)) (Fin.ext (by dsimp only; omega))

theorem proj_1 (r : Fin 4096) (e : Fin 5760) (k : Fin 1024) (h : e.val = 1536 + k.val) : proj x0 x1 x2 x3 x4 r e = x1 (ix2 r k) := by
  have hk := k.isLt
  unfold proj
  rw [dif_neg (by omega), dif_pos (by omega)]
  exact congrArg (fun q => x1 (ix2 r q)) (Fin.ext (by dsimp only; omega))

theorem proj_2 (r : Fin 4096) (e : Fin 5760) (k : Fin 2048) (h : e.val = 2560 + k.val) : proj x0 x1 x2 x3 x4 r e = x2 (ix2 r k) := by
  have hk := k.isLt
  unfold proj
  rw [dif_neg (by omega), dif_neg (by omega), dif_pos (by omega)]
  exact congrArg (fun q => x2 (ix2 r q)) (Fin.ext (by dsimp only; omega))

theorem proj_3 (r : Fin 4096) (e : Fin 5760) (k : Fin 1024) (h : e.val = 4608 + k.val) : proj x0 x1 x2 x3 x4 r e = x3 (ix2 r k) := by
  have hk := k.isLt
  unfold proj
  rw [dif_neg (by omega), dif_neg (by omega), dif_neg (by omega), dif_pos (by omega)]
  exact congrArg (fun q => x3 (ix2 r q)) (Fin.ext (by dsimp only; omega))

theorem proj_4 (r : Fin 4096) (e : Fin 5760) (k : Fin 128) (h : e.val = 5632 + k.val) : proj x0 x1 x2 x3 x4 r e = x4 (ix2 r k) := by
  have hk := k.isLt
  unfold proj
  rw [dif_neg (by omega), dif_neg (by omega), dif_neg (by omega), dif_neg (by omega)]
  exact congrArg (fun q => x4 (ix2 r q)) (Fin.ext (by dsimp only; omega))

/-- The gradient of the norm's output. -/
def dh (r : Fin 4096) (j : Fin 1024) : EReal :=
  (alpha : EReal) * x5 (ix2 r j) + ∑ e : Fin 5760, proj x0 x1 x2 x3 x4 r e * x9 (ix2 j e)

/-- The product taken stream by stream. -/
theorem dh_split (r : Fin 4096) (j : Fin 1024) : dh x0 x1 x2 x3 x4 x5 x9 r j = (alpha : EReal) * x5 (ix2 r j)
    + ∑ k : Fin 1536, x0 (ix2 r k) * x9 (ix2 j ⟨k.val, by omega⟩)
    + ∑ k : Fin 1024, x1 (ix2 r k) * x9 (ix2 j ⟨1536 + k.val, by omega⟩)
    + ∑ k : Fin 2048, x2 (ix2 r k) * x9 (ix2 j ⟨2560 + k.val, by omega⟩)
    + ∑ k : Fin 1024, x3 (ix2 r k) * x9 (ix2 j ⟨4608 + k.val, by omega⟩)
    + ∑ k : Fin 128, x4 (ix2 r k) * x9 (ix2 j ⟨5632 + k.val, by omega⟩) := by
  have e := Cert.Sums.sum_five (a := 1536) (b := 1024) (c := 2048) (d := 1024) (e := 128) (N := 5760) rfl
    (fun n => if h : n < 5760 then proj x0 x1 x2 x3 x4 r ⟨n, h⟩ * x9 (ix2 j ⟨n, h⟩) else 0)
  unfold dh
  refine (congrArg ((alpha : EReal) * x5 (ix2 r j) + ·) ((Finset.sum_congr rfl fun x _ => ?_).trans e)).trans ?_
  · rw [dif_pos x.isLt]
  simp only [← add_assoc]
  refine congrArg₂ (· + ·) (congrArg₂ (· + ·) (congrArg₂ (· + ·) (congrArg₂ (· + ·) (congrArg₂ (· + ·) rfl ?_) ?_) ?_) ?_) ?_
  all_goals
    refine Finset.sum_congr rfl fun k _ => ?_
    have hk := k.isLt
    rw [dif_pos (by omega)]
    refine congrArg₂ (· * ·) ?_ rfl
  · exact proj_0 _ _ _ _ _ _ _ k (Nat.zero_add _).symm
  · exact proj_1 _ _ _ _ _ _ _ k rfl
  · exact proj_2 _ _ _ _ _ _ _ k rfl
  · exact proj_3 _ _ _ _ _ _ _ k rfl
  · exact proj_4 _ _ _ _ _ _ _ k rfl

/-- Where every input is a real number, so is the gradient. -/
theorem dh_real (h0 : ∀ i, x0 i = ↑(x0 i).toReal) (h1 : ∀ i, x1 i = ↑(x1 i).toReal) (h2 : ∀ i, x2 i = ↑(x2 i).toReal)
    (h3 : ∀ i, x3 i = ↑(x3 i).toReal) (h4 : ∀ i, x4 i = ↑(x4 i).toReal) (h5 : ∀ i, x5 i = ↑(x5 i).toReal)
    (h9 : ∀ i, x9 i = ↑(x9 i).toReal) (r : Fin 4096) (j : Fin 1024) :
    dh x0 x1 x2 x3 x4 x5 x9 r j = ↑(dh x0 x1 x2 x3 x4 x5 x9 r j).toReal := by
  have hp : ∀ e, proj x0 x1 x2 x3 x4 r e = ↑(proj x0 x1 x2 x3 x4 r e).toReal := fun e => by
    unfold proj
    split
    · exact h0 _
    · split
      · exact h1 _
      · split
        · exact h2 _
        · split
          · exact h3 _
          · exact h4 _
  have e : ∃ v : ℝ, dh x0 x1 x2 x3 x4 x5 x9 r j = ↑v := by
    unfold dh
    rw [h5, Finset.sum_congr rfl fun e _ => by rw [hp e, h9 (ix2 j e), ← EReal.coe_mul], coe_sum, ← EReal.coe_mul, ← EReal.coe_add]
    exact ⟨_, rfl⟩
  obtain ⟨v, hv⟩ := e
  rw [hv, EReal.toReal_coe]

end Cert.Inproj
-- ==== Proof.Pieces.lean ====
/-
  Reading back what several stores left in a buffer of two axes: the newest store that holds the index decides.
-/
module

public import Idealize.ShloMosaic.Lib.Pipeline.ValueKit
public import Idealize.ShloMosaic.Lib.Tactic.ValueTie

@[expose] public section

noncomputable section

open Idealize.ShloMosaic

namespace Cert.Pieces

variable {Val : EltTy → Type} {e : EltTy} {d : Fin 2 → ℕ} {o0 o1 n0 n1 : ℕ}

/-- Inside the newest store. -/
theorem canon_in [∀ e, Nonempty (Val e)] (inb : ∀ a : Fin 2, (![o0, o1] : Fin 2 → ℕ) a + (![n0, n1] : Fin 2 → ℕ) a ≤ d a)
    (w : (Rect.unit (s := ⟨2, d⟩) ![o0, o1] ![n0, n1] inb).shape.Idx → Val e) (L : List (View.Piece Val (⟨2, d⟩ : Shape) e))
    (y : (⟨2, d⟩ : Shape).Idx) (a : Fin n0) (b : Fin n1) (h0 : (y 0).val = o0 + a.val) (h1 : (y 1).val = o1 + b.val) :
    View.canon ((⟨Rect.unit (s := ⟨2, d⟩) ![o0, o1] ![n0, n1] inb, w⟩ : View.Piece Val (⟨2, d⟩ : Shape) e) :: L) y = w (ix2 a b) := by
  have e : (Rect.unit (s := ⟨2, d⟩) ![o0, o1] ![n0, n1] inb).emb (ix2 a b) = y := by
    funext q
    refine Fin.ext ((Rect.idx_unit_val (s := ⟨2, d⟩) ![o0, o1] ![n0, n1] inb (ix2 a b) q).trans ?_)
    fin_cases q
    · exact h0.symm
    · exact h1.symm
  rw [← e]
  exact View.canon_cons_emb _ w L _

/-- Outside the newest store. -/
theorem canon_out [∀ e, Nonempty (Val e)] (inb : ∀ a : Fin 2, (![o0, o1] : Fin 2 → ℕ) a + (![n0, n1] : Fin 2 → ℕ) a ≤ d a)
    (w : (Rect.unit (s := ⟨2, d⟩) ![o0, o1] ![n0, n1] inb).shape.Idx → Val e) (L : List (View.Piece Val (⟨2, d⟩ : Shape) e))
    (y : (⟨2, d⟩ : Shape).Idx) (h : (y 0).val < o0 ∨ o0 + n0 ≤ (y 0).val ∨ (y 1).val < o1 ∨ o1 + n1 ≤ (y 1).val) :
    View.canon ((⟨Rect.unit (s := ⟨2, d⟩) ![o0, o1] ![n0, n1] inb, w⟩ : View.Piece Val (⟨2, d⟩ : Shape) e) :: L) y = View.canon L y := by
  refine View.canon_cons_of_not_mem _ L fun hm => ?_
  have hm' : ∀ a : Fin 2, (![o0, o1] : Fin 2 → ℕ) a ≤ (y a).val ∧ (y a).val < (![o0, o1] : Fin 2 → ℕ) a + (![n0, n1] : Fin 2 → ℕ) a :=
    (Rect.mem_set_unit (inb := inb)).mp hm
  have a0 := hm' 0
  have a1 := hm' 1
  simp only [Matrix.cons_val_zero, Matrix.cons_val_one] at a0 a1
  omega

end Cert.Pieces
-- ==== Proof.InprojKernel.lean ====
/-
  The input projection's backward kernel: what one point of the grid computes, at an index, and how the points' parts
  come together.
-/
module

public import proofs.«01_k».proof.Proof.InprojMath
public import proofs.«01_k».proof.Proof.Pieces
public import Idealize.ShloMosaic.Lib.Pipeline.ReadBack
public import Idealize.ShloMosaic.Lib.WritesUnit
public import proofs.«01_k».proof.Proof.Gen.Kernel3Ideal.Value

@[expose] public section

noncomputable section

open Idealize.ShloMosaic Idealize.ShloMosaic.TcCoe Idealize.SL.Sem

namespace Cert.Inproj

open Cert.Kernel3Ideal Cert.Kernel3Ideal.Gen Cert.Kernel3Ideal.Value Cert.Reals

/-! ## The payloads at an index -/

/-- The gradient of the norm's output at row `a`, column `j` of a block. -/
theorem pay_dh (r : Vec Ideal S256x1024 .f32) (p0 : Vec Ideal S256x1536 .f32) (w0 : Vec Ideal S1024x1536 .bf16)
    (p1 : Vec Ideal S256x1024 .f32) (w1 : Vec Ideal S1024x1024 .bf16) (p2 : Vec Ideal S256x2048 .f32)
    (w2 : Vec Ideal S1024x2048 .bf16) (p3 : Vec Ideal S256x1024 .f32) (w3 : Vec Ideal S1024x1024 .bf16)
    (p4 : Vec Ideal S256x128 .f32) (w4 : Vec Ideal S1024x128 .bf16) (i : S256x1024.Idx) :
    k0_pay10 (k0_pay7 r p0 w0 p1 w1 p2 w2) (k0_pay8 p3) w3 p4 w4 i = (alpha : EReal) * r i
      + ∑ k : Fin 1536, p0 (ix2 (i 0) k) * w0 (ix2 (i 1) k) + ∑ k : Fin 1024, p1 (ix2 (i 0) k) * w1 (ix2 (i 1) k)
      + ∑ k : Fin 2048, p2 (ix2 (i 0) k) * w2 (ix2 (i 1) k) + ∑ k : Fin 1024, p3 (ix2 (i 0) k) * w3 (ix2 (i 1) k)
      + ∑ k : Fin 128, p4 (ix2 (i 0) k) * w4 (ix2 (i 1) k) := by
  unfold k0_pay10 k0_pay7 k0_pay8 k0_pay9 k0_pay4 k0_pay5 k0_pay6
  pointwise
  rw [ofBits_alpha]

theorem pay_cen (x : Vec Ideal S256x1024 .f32) (X : Fin 256 → Fin 1024 → ℝ) (hx : ∀ i, x i = ↑(X (i 0) (i 1)))
    (i : S256x1024.Idx) : k0_pay11 x i = ↑(cen (X (i 0)) (i 1)) := by
  unfold k0_pay11
  pointwise
  simp only [hx, ofBits_1024, coe_sum]
  rw [coe_div _ (by norm_num), ← EReal.coe_sub]
  rfl

theorem pay_rstd (x : Vec Ideal S256x1024 .f32) (X : Fin 256 → Fin 1024 → ℝ) (hx : ∀ i, x i = ↑(X (i 0) (i 1)))
    (i : S256x1.Idx) : k0_pay12 x i = ↑(rstd (X (i 0))) := by
  unfold k0_pay12
  pointwise
  simp only [pay_cen x X hx, ofBits_1024, ofBits_eps, ← EReal.coe_mul, coe_sum]
  rw [coe_div _ (by norm_num), ← EReal.coe_add]
  exact coe_rsqrt (var_eps_pos (X (i 0)))

theorem pay_xhat (x : Vec Ideal S256x1024 .f32) (X : Fin 256 → Fin 1024 → ℝ) (hx : ∀ i, x i = ↑(X (i 0) (i 1)))
    (i : S256x1024.Idx) : k0_pay13 x i = ↑(xhat (X (i 0)) (i 1)) := by
  unfold k0_pay13
  pointwise
  rw [pay_cen x X hx, pay_rstd x X hx, ← EReal.coe_mul]
  rfl

theorem pay_dx (d : FVec Ideal S256x1024 .f32) (x : Vec Ideal S256x1024 .f32) (g : Vec Ideal S1x1024 .f32)
    (X D : Fin 256 → Fin 1024 → ℝ) (G : Fin 1024 → ℝ) (hx : ∀ i, x i = ↑(X (i 0) (i 1))) (hd : ∀ i, d i = ↑(D (i 0) (i 1)))
    (hg : ∀ i, g i = ↑(G (i 1))) (i : S256x1024.Idx) :
    k0_pay2 d (k0_pay12 x) (k0_pay13 x) g i = ↑(lnBwd (fun j => D (i 0) j * G j) (X (i 0)) (i 1)) := by
  unfold k0_pay2
  pointwise
  simp only [pay_rstd x X hx, pay_xhat x X hx, hd, hg, ofBits_1024, ← EReal.coe_mul, coe_sum]
  rw [coe_div _ (by norm_num), coe_div _ (by norm_num), ← EReal.coe_sub, ← EReal.coe_mul, ← EReal.coe_sub, ← EReal.coe_mul]
  rfl

theorem pay_db (d : FVec Ideal S256x1024 .f32) (v : Vec Ideal S1x1024 .f32) (i : S1x1024.Idx) :
    k0_pay1 d v i = v i + ∑ a : Fin 256, d (ix2 a (i 1)) := by
  unfold k0_pay1
  pointwise

theorem pay_dg (v23 : FVec Ideal S256x1024 .f32) (v25 : FVec Ideal S256x1024 .bf16) (v27 : Vec Ideal S1024x1024 .bf16)
    (v30 : Vec Ideal S256x128 .f32) (v33 : Vec Ideal S1024x128 .bf16) (x : Vec Ideal S256x1024 .f32)
    (v : Vec Ideal S1x1024 .f32) (i : S1x1024.Idx) :
    k0_pay14 v23 v25 v27 v30 v33 x v i
      = v i + ∑ a : Fin 256, k0_pay10 v23 v25 v27 v30 v33 (ix2 a (i 1)) * k0_pay13 x (ix2 a (i 1)) := by
  unfold k0_pay14
  pointwise

theorem pay_zero (i : S8x1024.Idx) : k0_pay3 (F := Ideal) i = 0 := by
  unfold k0_pay3
  pointwise

/-! ## The blocks a point reads -/

variable (m : (ℓ : Loc nD τ sig) → Buf (Elt Ideal) ℓ) (c : Dev nD)

abbrev X0 : S4096x1536.Idx → EReal := m ((c : Thread nD τ).loc main_arg0)
abbrev X1 : S4096x1024.Idx → EReal := m ((c : Thread nD τ).loc main_arg1)
abbrev X2 : S4096x2048.Idx → EReal := m ((c : Thread nD τ).loc main_arg2)
abbrev X3 : S4096x1024.Idx → EReal := m ((c : Thread nD τ).loc main_arg3)
abbrev X4 : S4096x128.Idx → EReal := m ((c : Thread nD τ).loc main_arg4)
abbrev X5 : S4096x1024.Idx → EReal := m ((c : Thread nD τ).loc main_arg5)
abbrev X6 : S4096x1024.Idx → EReal := m ((c : Thread nD τ).loc main_arg6)
abbrev X7 : S1x1024.Idx → EReal := m ((c : Thread nD τ).loc main_arg7)
abbrev X9 : S1024x5760.Idx → EReal := m ((c : Thread nD τ).loc main_arg9)

/-- Row `a` of point `t`'s blocks is this row of the arrays. -/
def row (t : Fin cfg0.N) (a : Fin 256) : Fin 4096 := ⟨256 * t.val + a.val, by have := t.isLt; have h : cfg0.N = 16 := N_0; omega⟩

/-- Every streamed window's block index at point `t` is `(t, 0)`; the vectors' and the weight's is `(0, 0)`. -/
theorem idx (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (win0_9.index t 0 = 0 ∧ win0_9.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (win0_9.index t 0 = 0 ∧ win0_9.index t 1 = 0)) t

theorem blk0 (t : Fin cfg0.N) (i : S256x1536.Idx) : iblk m c 0 t i = X0 m c (ix2 (row t (i 0)) (i 1)) := by
  obtain ⟨⟨e0, e1⟩, -⟩ := idx t
  unfold row
  blk_ext [iblk, V, e0, e1]

theorem blk1 (t : Fin cfg0.N) (i : S256x1024.Idx) : iblk m c 1 t i = X1 m c (ix2 (row t (i 0)) (i 1)) := by
  obtain ⟨-, ⟨e0, e1⟩, -⟩ := idx t
  unfold row
  blk_ext [iblk, V, e0, e1]

theorem blk2 (t : Fin cfg0.N) (i : S256x2048.Idx) : iblk m c 2 t i = X2 m c (ix2 (row t (i 0)) (i 1)) := by
  obtain ⟨-, -, ⟨e0, e1⟩, -⟩ := idx t
  unfold row
  blk_ext [iblk, V, e0, e1]

theorem blk3 (t : Fin cfg0.N) (i : S256x1024.Idx) : iblk m c 3 t i = X3 m c (ix2 (row t (i 0)) (i 1)) := by
  obtain ⟨-, -, -, ⟨e0, e1⟩, -⟩ := idx t
  unfold row
  blk_ext [iblk, V, e0, e1]

theorem blk4 (t : Fin cfg0.N) (i : S256x128.Idx) : iblk m c 4 t i = X4 m c (ix2 (row t (i 0)) (i 1)) := by
  obtain ⟨-, -, -, -, ⟨e0, e1⟩, -⟩ := idx t
  unfold row
  blk_ext [iblk, V, e0, e1]

theorem blk5 (t : Fin cfg0.N) (i : S256x1024.Idx) : iblk m c 5 t i = X5 m c (ix2 (row t (i 0)) (i 1)) := by
  obtain ⟨-, -, -, -, -, ⟨e0, e1⟩, -⟩ := idx t
  unfold row
  blk_ext [iblk, V, e0, e1]

theorem blk6 (t : Fin cfg0.N) (i : S256x1024.Idx) : iblk m c 6 t i = X6 m c (ix2 (row t (i 0)) (i 1)) := by
  obtain ⟨-, -, -, -, -, -, ⟨e0, e1⟩, -⟩ := idx t
  unfold row
  blk_ext [iblk, V, e0, e1]

theorem blk7 (t : Fin cfg0.N) (i : S1x1024.Idx) : iblk m c 7 t i = X7 m c (ix2 (i 0) (i 1)) := by
  obtain ⟨-, -, -, -, -, -, -, ⟨e0, e1⟩, -⟩ := idx t
  blk_ext [iblk, V, e0, e1]

theorem blk9 (t : Fin cfg0.N) (i : S1024x5760.Idx) : iblk m c 9 t i = X9 m c (ix2 (i 0) (i 1)) := by
  obtain ⟨-, -, -, -, -, -, -, -, ⟨e0, e1⟩⟩ := idx t
  blk_ext [iblk, V, e0, e1]

/-- The gradient of the norm's output in point `t`'s block. -/
abbrev dhB (t : Fin cfg0.N) : FVec Ideal S256x1024 .f32 :=
  k0_pay10 (k0_pay7 (iblk m c 5 t) (iblk m c 0 t) (View.ld (iblk m c 9 t) (Rect.unit ![0, 0] ![1024, 1536] inb_S1024x5760_S1024x1536_0_0))
    (iblk m c 1 t) (View.ld (iblk m c 9 t) (Rect.unit ![0, 1536] ![1024, 1024] inb_S1024x5760_S1024x1024_0_1536))
    (iblk m c 2 t) (View.ld (iblk m c 9 t) (Rect.unit ![0, 2560] ![1024, 2048] inb_S1024x5760_S1024x2048_0_2560)))
    (k0_pay8 (iblk m c 3 t)) (View.ld (iblk m c 9 t) (Rect.unit ![0, 4608] ![1024, 1024] inb_S1024x5760_S1024x1024_0_4608))
    (iblk m c 4 t) (View.ld (iblk m c 9 t) (Rect.unit ![0, 5632] ![1024, 128] inb_S1024x5760_S1024x128_0_5632))

/-- A read of `n` columns of the weight from column `o` on. -/
theorem ld_w {o n : ℕ} (h : ∀ a : Fin 2, (![0, o] : Fin 2 → ℕ) a + (![1024, n] : Fin 2 → ℕ) a ≤ S1024x5760.size a)
    (t : Fin cfg0.N) (j : Fin 1024) (k : Fin n) (hk : o + k.val < 5760) :
    View.ld (iblk m c 9 t) (Rect.unit ![0, o] ![1024, n] h) (ix2 j k) = X9 m c (ix2 j ⟨o + k.val, hk⟩) := by
  refine (View.ld_unit_apply_of (S := S1024x5760) (iblk m c 9 t) ![0, o] ![1024, n] h (ix2 j k) (ix2 j ⟨o + k.val, hk⟩) ?_).trans (blk9 m c t _)
  intro a
  fin_cases a
  · exact (Nat.zero_add _).symm
  · rfl

theorem dhB_eq (t : Fin cfg0.N) (i : S256x1024.Idx) :
    dhB m c t i = dh (X0 m c) (X1 m c) (X2 m c) (X3 m c) (X4 m c) (X5 m c) (X9 m c) (row t (i 0)) (i 1) := by
  refine (pay_dh _ _ _ _ _ _ _ _ _ _ _ i).trans (Eq.trans ?_ (dh_split _ _ _ _ _ _ _ _ _).symm)
  refine congrArg₂ (· + ·) (congrArg₂ (· + ·) (congrArg₂ (· + ·) (congrArg₂ (· + ·) (congrArg₂ (· + ·)
    (congrArg (fun z : EReal => (alpha : EReal) * z) (blk5 m c t i)) ?_) ?_) ?_) ?_) ?_
  · exact Finset.sum_congr rfl fun k _ => congrArg₂ (· * ·) (blk0 m c t _) ((ld_w m c _ t _ k (by omega)).trans (by simp))
  · exact Finset.sum_congr rfl fun k _ => congrArg₂ (· * ·) (blk1 m c t _) (ld_w m c _ t _ k _)
  · exact Finset.sum_congr rfl fun k _ => congrArg₂ (· * ·) (blk2 m c t _) (ld_w m c _ t _ k _)
  · exact Finset.sum_congr rfl fun k _ => congrArg₂ (· * ·) (blk3 m c t _) (ld_w m c _ t _ k _)
  · exact Finset.sum_congr rfl fun k _ => congrArg₂ (· * ·) (blk4 m c t _) (ld_w m c _ t _ k _)

/-! ## What a point leaves in its output windows -/

theorem out10_apply (t : Fin cfg0.N) (y : S256x1024.Idx) : (outsAt0 m c t.val t.isLt).1 y
    = k0_pay2 (dhB m c t) (k0_pay12 (iblk m c 6 t)) (k0_pay13 (iblk m c 6 t)) (iblk m c 7 t) y := by
  by_cases h0 : t.val % 16 = 0
  · rw [outsAt0_A m c t h0]; frame_out; rfl
  · rw [outsAt0_B m c t h0]; frame_out; rfl

/-- The five casts side by side, as the point stores them. -/
theorem tiles_apply (t : Fin cfg0.N) (y : S256x5760.Idx) :
    View.canon (Val := Elt Ideal) (s := S256x5760) (e := .bf16)
      [⟨Rect.unit ![0, 5632] ![256, 128] inb_S256x5760_S256x128_0_5632, k0_pay9 (iblk m c 4 t)⟩,
        ⟨Rect.unit ![0, 4608] ![256, 1024] inb_S256x5760_S256x1024_0_4608, k0_pay8 (iblk m c 3 t)⟩,
        ⟨Rect.unit ![0, 2560] ![256, 2048] inb_S256x5760_S256x2048_0_2560, k0_pay6 (iblk m c 2 t)⟩,
        ⟨Rect.unit ![0, 1536] ![256, 1024] inb_S256x5760_S256x1024_0_1536, k0_pay5 (iblk m c 1 t)⟩,
        ⟨Rect.unit ![0, 0] ![256, 1536] inb_S256x5760_S256x1536_0_0, k0_pay4 (iblk m c 0 t)⟩] y
      = proj (X0 m c) (X1 m c) (X2 m c) (X3 m c) (X4 m c) (row t (y 0)) (y 1) := by
  have h1 : (y 1).val < 5760 := (y 1).isLt
  by_cases c4 : 5632 ≤ (y 1).val
  · refine (Cert.Pieces.canon_in _ _ _ y (y 0) ⟨(y 1).val - 5632, by omega⟩ (by simp) (by dsimp only; omega)).trans ?_
    exact (blk4 m c t _).trans (proj_4 _ _ _ _ _ _ _ _ (by change (y 1).val = _ + ((y 1).val - _); omega)).symm
  refine (Cert.Pieces.canon_out _ _ _ y (by omega)).trans ?_
  by_cases c3 : 4608 ≤ (y 1).val
  · refine (Cert.Pieces.canon_in _ _ _ y (y 0) ⟨(y 1).val - 4608, by omega⟩ (by simp) (by dsimp only; omega)).trans ?_
    exact (blk3 m c t _).trans (proj_3 _ _ _ _ _ _ _ _ (by change (y 1).val = _ + ((y 1).val - _); omega)).symm
  refine (Cert.Pieces.canon_out _ _ _ y (by omega)).trans ?_
  by_cases c2 : 2560 ≤ (y 1).val
  · refine (Cert.Pieces.canon_in _ _ _ y (y 0) ⟨(y 1).val - 2560, by omega⟩ (by simp) (by dsimp only; omega)).trans ?_
    exact (blk2 m c t _).trans (proj_2 _ _ _ _ _ _ _ _ (by change (y 1).val = _ + ((y 1).val - _); omega)).symm
  refine (Cert.Pieces.canon_out _ _ _ y (by omega)).trans ?_
  by_cases c1 : 1536 ≤ (y 1).val
  · refine (Cert.Pieces.canon_in _ _ _ y (y 0) ⟨(y 1).val - 1536, by omega⟩ (by simp) (by dsimp only; omega)).trans ?_
    exact (blk1 m c t _).trans (proj_1 _ _ _ _ _ _ _ _ (by change (y 1).val = _ + ((y 1).val - _); omega)).symm
  refine (Cert.Pieces.canon_out _ _ _ y (by omega)).trans ?_
  refine (Cert.Pieces.canon_in _ _ _ y (y 0) ⟨(y 1).val, by omega⟩ (by simp) (by dsimp only; omega)).trans ?_
  exact (blk0 m c t _).trans (proj_0 _ _ _ _ _ _ _ _ (Nat.zero_add _).symm).symm

theorem out11_apply (t : Fin cfg0.N) (y : S256x5760.Idx) : (outsAt0 m c t.val t.isLt).2.1 y
    = proj (X0 m c) (X1 m c) (X2 m c) (X3 m c) (X4 m c) (row t (y 0)) (y 1) := by
  by_cases h0 : t.val % 16 = 0
  · rw [outsAt0_A m c t h0]; frame_out
    exact tiles_apply m c t y
  · rw [outsAt0_B m c t h0]; frame_out
    exact tiles_apply m c t y

/-- What point `t` adds to row `i 0` of the small gradients. -/
def part (t : Fin cfg0.N) (i : S8x1024.Idx) : EReal :=
  if (i 0).val = 0 then ∑ a : Fin 256, dhB m c t (ix2 a (i 1)) * k0_pay13 (iblk m c 6 t) (ix2 a (i 1))
  else if (i 0).val = 1 then ∑ a : Fin 256, dhB m c t (ix2 a (i 1)) else 0

theorem out12_first (t : Fin cfg0.N) (h0 : t.val % 16 = 0) (y : S8x1024.Idx) :
    (outsAt0 m c t.val t.isLt).2.2 y = 0 + part m c t y := by
  rw [outsAt0_A m c t h0]; frame_out
  unfold part
  by_cases c1 : (y 0).val = 1
  · rw [if_neg (by omega), if_pos c1]
    refine (Cert.Pieces.canon_in _ _ _ y 0 (y 1) (by simpa using c1) (by simp)).trans ?_
    refine (pay_db _ _ _).trans (congrArg₂ (· + ·) ?_ rfl)
    rw [View.readCov_skip _ _ _ _ _ rfl, View.readCov_fill _ _ _ _ _ (by decide)]
    exact pay_zero _
  refine (Cert.Pieces.canon_out _ _ _ y (by omega)).trans ?_
  by_cases c0 : (y 0).val = 0
  · rw [if_pos c0]
    refine (Cert.Pieces.canon_in _ _ _ y 0 (y 1) (by simpa using c0) (by simp)).trans ?_
    refine (pay_dg _ _ _ _ _ _ _ _).trans (congrArg₂ (· + ·) ?_ rfl)
    rw [View.readCov_fill _ _ _ _ _ (by decide)]
    exact pay_zero _
  refine (Cert.Pieces.canon_out _ _ _ y (by omega)).trans ?_
  rw [if_neg c0, if_neg c1, add_zero]
  exact (Cert.Pieces.canon_in _ _ _ y (y 0) (y 1) (by simp) (by simp)).trans (pay_zero _)

theorem out12_next (t : Fin cfg0.N) (h0 : ¬ t.val % 16 = 0) (y : S8x1024.Idx) :
    (outsAt0 m c t.val t.isLt).2.2 y = (outsAt0 m c (t.val - 1) (Nat.lt_of_le_of_lt (Nat.sub_le _ _) t.isLt)).2.2 y + part m c t y := by
  rw [outsAt0_B m c t h0]; frame_out
  unfold part
  by_cases c1 : (y 0).val = 1
  · rw [if_neg (by omega), if_pos c1]
    refine (View.read_writes_cons_rows_of_mem _ _ _ _ _ y (ix2 (0 : Fin 1) (y 1)) rfl (by simpa using c1) rfl).trans ?_
    refine (pay_db _ _ _).trans (congrArg₂ (· + ·) ?_ rfl)
    refine View.ld_unit_apply_of (S := S8x1024) _ _ _ _ _ y ?_
    intro a
    fin_cases a
    · simpa using c1
    · exact (Nat.zero_add _).symm
  refine (View.read_writes_cons_rows_of_not_mem (W := 1) _ _ _ _ _ y rfl rfl (by omega)).trans ?_
  by_cases c0 : (y 0).val = 0
  · rw [if_pos c0]
    refine (View.read_writes_cons_rows_of_mem _ _ _ _ _ y (ix2 (0 : Fin 1) (y 1)) rfl (by simpa using c0) rfl).trans ?_
    refine (pay_dg _ _ _ _ _ _ _ _).trans (congrArg₂ (· + ·) ?_ rfl)
    refine View.ld_unit_apply_of (S := S8x1024) _ _ _ _ _ y ?_
    intro a
    fin_cases a
    · simpa using c0
    · exact (Nat.zero_add _).symm
  refine (View.read_writes_cons_rows_of_not_mem (W := 1) _ _ _ _ _ y rfl rfl (by omega)).trans ?_
  rw [if_neg c0, if_neg c1, add_zero]
  rw [View.writes_nil, Memref.IsWhole.read_unread]

/-- Point `n`'s addition, zero beyond the grid. -/
def term (n : ℕ) (i : S8x1024.Idx) : EReal := if h : n < cfg0.N then part m c ⟨n, h⟩ i else 0

theorem out12_apply (t : Fin cfg0.N) (i : S8x1024.Idx) :
    (outsAt0 m c t.val t.isLt).2.2 i = 0 + ∑ k ∈ Finset.range (t.val + 1), term m c k i := by
  have hN : cfg0.N = 16 := N_0
  refine Pipeline.eq_sum_of_reset_step_apply_single (M := EReal) (fun n h i => (outsAt0 m c n h).2.2 i) 16 (fun _ => 0) (term m c) ?_ ?_ (by omega) t i
  · intro t h i
    unfold term
    rw [dif_pos t.isLt]
    exact out12_first m c t h i
  · intro t h i
    unfold term
    rw [dif_pos t.isLt]
    exact out12_next m c t h i

/-! ## The three arrays after the call -/

section final

variable (hX : ∀ i, X6 m c i = ↑(X6 m c i).toReal)

/-- Row `r` of the inputs, as real numbers. -/
abbrev xr (r : Fin 4096) (j : Fin 1024) : ℝ := (X6 m c (ix2 r j)).toReal

/-- The gradient of the norm's output over the whole arrays. -/
abbrev dhA (r : Fin 4096) (j : Fin 1024) : EReal :=
  dh (X0 m c) (X1 m c) (X2 m c) (X3 m c) (X4 m c) (X5 m c) (X9 m c) r j

include hX in
theorem blk6_real (t : Fin cfg0.N) (i : S256x1024.Idx) : iblk m c 6 t i = ((xr m c (row t (i 0)) (i 1) : ℝ) : EReal) :=
  (blk6 m c t i).trans (hX _)

include hX in
theorem term_eq (n : ℕ) (h : n < cfg0.N) (i : S8x1024.Idx) : term m c n i
    = if (i 0).val = 0 then ∑ a : Fin 256, dhA m c (row ⟨n, h⟩ a) (i 1) * ↑(xhat (xr m c (row ⟨n, h⟩ a)) (i 1))
      else if (i 0).val = 1 then ∑ a : Fin 256, dhA m c (row ⟨n, h⟩ a) (i 1) else 0 := by
  unfold term part
  rw [dif_pos h]
  refine if_congr Iff.rfl (Finset.sum_congr (M := EReal) rfl fun a _ => congrArg₂ (· * ·) (dhB_eq m c _ _) ?_)
    (if_congr Iff.rfl (Finset.sum_congr (M := EReal) rfl fun a _ => dhB_eq m c _ _) rfl)
  exact pay_xhat (iblk m c 6 ⟨n, h⟩) (fun a j => xr m c (row ⟨n, h⟩ a) j) (blk6_real m c hX ⟨n, h⟩) _

/-- Sixteen runs of 256 rows are all the rows. -/
theorem sum_rows (g : Fin 4096 → EReal) (r : ℕ → EReal)
    (h : ∀ n (hn : n < cfg0.N), r n = ∑ a : Fin 256, g (row ⟨n, hn⟩ a)) :
    ∑ n ∈ Finset.range 16, r n = ∑ x : Fin 4096, g x := by
  have hN : cfg0.N = 16 := N_0
  refine Eq.trans (Finset.sum_congr (M := EReal) rfl fun n hn => ?_)
    (Cert.Sums.sum_runs_fin (B := 256) (J := 16) (N := 4096) rfl g
      (fun n k => if hn : n < cfg0.N then g (row ⟨n, hn⟩ k) else 0) fun n hn k => ?_)
  · have hn' : n < cfg0.N := by rw [hN]; exact Finset.mem_range.mp hn
    rw [h n hn']
    exact Finset.sum_congr (M := EReal) rfl fun a _ => by rw [dif_pos hn']
  · rw [dif_pos (by omega)]
    rfl

/-- The small gradients: row 0 the scale's, row 1 the bias's. -/
def small (i : S8x1024.Idx) : EReal :=
  if (i 0).val = 0 then ∑ r : Fin 4096, dhA m c r (i 1) * ↑(xhat (xr m c r) (i 1))
  else if (i 0).val = 1 then ∑ r : Fin 4096, dhA m c r (i 1) else 0

include hX in
theorem out12_last (t : Fin cfg0.N) (ht : t.val = 15) (y : S8x1024.Idx) : (outsAt0 m c t.val t.isLt).2.2 y = small m c y := by
  refine (out12_apply m c _ y).trans ?_
  unfold small
  rw [zero_add, ht]
  by_cases c0 : (y 0).val = 0
  · rw [if_pos c0]
    exact sum_rows (fun r => dhA m c r (y 1) * ↑(xhat (xr m c r) (y 1))) (fun n => term m c n y) fun n hn => by rw [term_eq m c hX n hn, if_pos c0]
  rw [if_neg c0]
  by_cases c1 : (y 0).val = 1
  · rw [if_pos c1]
    exact sum_rows (fun r => dhA m c r (y 1)) (fun n => term m c n y) fun n hn => by rw [term_eq m c hX n hn, if_neg c0, if_pos c1]
  rw [if_neg c1]
  refine Finset.sum_eq_zero (M := EReal) fun n hn => ?_
  rw [term_eq m c hX n (by have hN : cfg0.N = 16 := N_0; rw [hN]; exact Finset.mem_range.mp hn), if_neg c0, if_neg c1]

include hX in
theorem arr12 (i : S8x1024.Idx) : ((dats m 0 c).arrAt 12 cfg0.N i : EReal) = small m c i := by
  have e : (dats m 0 c).arrAt 12 cfg0.N = fun i : S8x1024.Idx => small m c i := by
    refine (dats m 0 c).arrAt_eq_of_covers 12 _ (by decide +kernel) fun t hf y => ?_
    have ht : t.val = 15 := (by decide +kernel : ∀ t : Fin cfg0.grid.N, (cfg0.win 12).flush t = true → t.val = 15) t hf
    have e0 : ∀ t : Fin cfg0.grid.N, win0_12.index t 0 = 0 ∧ win0_12.index t 1 = 0 := by decide +kernel
    have ey : (win0_12.blk t).view.emb y = y := by blk_ext [(e0 t).1, (e0 t).2]
    blk_simp
    rw [after0_12]
    exact (out12_last m c hX t ht y).trans (congrArg (small m c) ey.symm)
  exact congrFun e i

theorem arr11 (i : S4096x5760.Idx) : ((dats m 0 c).arrAt 11 cfg0.N i : EReal)
    = proj (X0 m c) (X1 m c) (X2 m c) (X3 m c) (X4 m c) (i 0) (i 1) := by
  have e : (dats m 0 c).arrAt 11 cfg0.N = fun i : S4096x5760.Idx => (proj (X0 m c) (X1 m c) (X2 m c) (X3 m c) (X4 m c) (i 0) (i 1) : EReal) := by
    refine (dats m 0 c).arrAt_eq_of_covers 11 _ (by decide +kernel) fun t hf y => ?_
    have e0 : ∀ t : Fin cfg0.grid.N, win0_11.index t 0 = t.val ∧ win0_11.index t 1 = 0 := by decide +kernel
    blk_simp
    rw [after0_11]
    refine (out11_apply m c _ y).trans ?_
    have ey : (win0_11.blk t).view.emb y = ix2 (row t (y 0)) (y 1) := by unfold row; blk_ext [(e0 t).1, (e0 t).2]
    exact congrArg (fun i : S4096x5760.Idx => proj (X0 m c) (X1 m c) (X2 m c) (X3 m c) (X4 m c) (i 0) (i 1)) ey.symm
  exact congrFun e i

include hX in
theorem arr10 (Dr : Fin 4096 → Fin 1024 → ℝ) (hD : ∀ r j, dhA m c r j = ↑(Dr r j)) (G : Fin 1024 → ℝ)
    (hG : ∀ i, X7 m c i = ↑(G (i 1))) (i : S4096x1024.Idx) : ((dats m 0 c).arrAt 10 cfg0.N i : EReal)
    = ((lnBwd (fun j => Dr (i 0) j * G j) (xr m c (i 0)) (i 1) : ℝ) : EReal) := by
  have e : (dats m 0 c).arrAt 10 cfg0.N = fun i : S4096x1024.Idx =>
      ((lnBwd (fun j => Dr (i 0) j * G j) (xr m c (i 0)) (i 1) : ℝ) : EReal) := by
    refine (dats m 0 c).arrAt_eq_of_covers 10 _ (by decide +kernel) fun t hf y => ?_
    have e0 : ∀ t : Fin cfg0.grid.N, win0_10.index t 0 = t.val ∧ win0_10.index t 1 = 0 := by decide +kernel
    blk_simp
    rw [after0_10]
    refine (out10_apply m c _ y).trans ?_
    have ey : (win0_10.blk t).view.emb y = ix2 (row t (y 0)) (y 1) := by unfold row; blk_ext [(e0 t).1, (e0 t).2]
    rw [ey]
    exact pay_dx (dhB m c t) (iblk m c 6 t) (iblk m c 7 t) (fun a j => xr m c (row t a) j) (fun a j => Dr (row t a) j) G
      (blk6_real m c hX t) (fun i => (dhB_eq m c t i).trans (hD _ _)) (fun i => (blk7 m c t i).trans (hG _)) y
  exact congrFun e i

end final

end Cert.Inproj
-- ==== Proof.InprojReference.lean ====
/-
  The input projection's backward pass as the chain rule gives it, stage by stage.
-/
module

public import proofs.«01_k».proof.Proof.InprojMath
public import proofs.«01_k».proof.Proof.Gen.Reference3Ideal.Run
public import proofs.«01_k».proof.Proof.Gen.Reference3Ideal.Read

@[expose] public section

noncomputable section

open Idealize.ShloMosaic Idealize.ShloMosaic.TcCoe Idealize.SL.Sem

namespace Cert.Inproj

open Cert.Reference3Ideal Cert.Reference3Ideal.Gen Cert.Reference3Ideal.Read Cert.Reals

variable (x0 : Vec Ideal S4096x1536 .f32) (x1 : Vec Ideal S4096x1024 .f32) (x2 : Vec Ideal S4096x2048 .f32)
  (x3 : Vec Ideal S4096x1024 .f32) (x4 : Vec Ideal S4096x128 .f32) (x5 x6 : Vec Ideal S4096x1024 .f32)
  (x7 : Vec Ideal S1x1024 .f32) (x9 : Vec Ideal S1024x5760 .bf16)

/-! ## What needs no real numbers -/

theorem ref_proj (i : S4096x5760.Idx) : val_main_v40 x0 x1 x2 x3 x4 i = proj x0 x1 x2 x3 x4 (i 0) (i 1) := by
  unfold val_main_v40
  pointwise
  rfl

theorem ref_dproj (i : S4096x5760.Idx) : val_main_v74 x0 x1 x2 x3 x4 i = proj x0 x1 x2 x3 x4 (i 0) (i 1) := by
  unfold val_main_v74
  pointwise
  exact ref_proj x0 x1 x2 x3 x4 i

theorem ref_dh (i : S4096x1024.Idx) : val_main_v42 x0 x1 x2 x3 x4 x5 x9 i = dh x0 x1 x2 x3 x4 x5 x9 (i 0) (i 1) := by
  unfold val_main_v42 val_main_v41 val_main_v39 val_main_v38 val_main_cst_8 val_main_v0
  pointwise
  simp only [ref_proj, ofBits_alpha]
  unfold dh
  congr 2
  exact congrArg x5 (by ext a; fin_cases a <;> rfl)

/-! ## The norm's own numbers -/

variable (X : Fin 4096 → Fin 1024 → ℝ) (hX : ∀ i, x6 i = ↑(X (i 0) (i 1)))
include hX

theorem ref_cen (i : S4096x1024.Idx) : val_main_v7 x6 i = ↑(cen (X (i 0)) (i 1)) := by
  unfold val_main_v7 val_main_v6 val_main_v5 val_main_v4 val_main_cst_1 val_main_v3 val_main_v2 val_main_cst_0
  pointwise
  simp only [hX, ofBits_1024, coe_sum]
  rw [coe_div _ (by norm_num), ← EReal.coe_sub]
  rfl

theorem ref_cen' (i : S4096x1024.Idx) : val_main_v16 x6 i = ↑(cen (X (i 0)) (i 1)) := ref_cen x6 X hX i

theorem ref_var (i : S4096x1.Idx) : val_main_v18 x6 i = ↑(var (X (i 0)) + eps) := by
  unfold val_main_v18 val_main_v17 val_main_cst_5 val_main_v14 val_main_v13 val_main_cst_4 val_main_v12 val_main_v11 val_main_cst_3
    val_main_v8
  pointwise
  simp only [ref_cen x6 X hX, ofBits_1024, ofBits_eps, ← EReal.coe_mul, coe_sum]
  rw [coe_div _ (by norm_num), ← EReal.coe_add]
  rfl

theorem ref_rstd (i : S4096x1.Idx) : val_main_v19 x6 i = ↑(rstd (X (i 0))) := by
  unfold val_main_v19
  pointwise
  rw [ref_var x6 X hX, coe_rsqrt (var_eps_pos _)]
  rfl

theorem ref_xhat (i : S4096x1024.Idx) : val_main_v24 x6 i = ↑(xhat (X (i 0)) (i 1)) := by
  unfold val_main_v24 val_main_v23
  pointwise
  rw [ref_cen' x6 X hX, ref_rstd x6 X hX, ← EReal.coe_mul]
  rfl

theorem ref_drstd (i : S4096x1.Idx) : val_main_v22 x6 i = ↑(-(1 / 2) * (rstd (X (i 0)) / (var (X (i 0)) + eps))) := by
  unfold val_main_v22 val_main_v21 val_main_cst_6 val_main_v20
  pointwise
  rw [ref_var x6 X hX, ref_rstd x6 X hX, coe_div _ (var_eps_pos _).ne', ofBits_neg_half, ← EReal.coe_mul]

/-! ## The gradient with respect to the normalised rows -/

variable (G : Fin 1024 → ℝ) (hG : ∀ i, x7 i = ↑(G (i 1)))
  (Dr : Fin 4096 → Fin 1024 → ℝ) (hD : ∀ r j, dh x0 x1 x2 x3 x4 x5 x9 r j = ↑(Dr r j))
include hG hD

omit hX in
theorem ref_dn (i : S4096x1024.Idx) : val_main_v49 x0 x1 x2 x3 x4 x5 x7 x9 i = ↑(Dr (i 0) (i 1) * G (i 1)) := by
  unfold val_main_v49 val_main_v48
  pointwise
  rw [ref_dh]
  exact (congrArg₂ (· * ·) (hD _ _) (hG _)).trans (EReal.coe_mul _ _).symm

theorem ref_inner (i : S4096x1.Idx) : val_main_v52 x0 x1 x2 x3 x4 x5 x6 x7 x9 i
    = ↑(∑ k, cen (X (i 0)) k * (Dr (i 0) k * G k)) := by
  unfold val_main_v52 val_main_v51 val_main_cst_11 val_main_v50
  pointwise
  simp only [ref_cen' x6 X hX, ref_dn x0 x1 x2 x3 x4 x5 x7 x9 G hG Dr hD, ← EReal.coe_mul, coe_sum]
  rfl

theorem ref_direct (i : S4096x1024.Idx) : val_main_v54 x0 x1 x2 x3 x4 x5 x6 x7 x9 i
    = ↑(Dr (i 0) (i 1) * G (i 1) * rstd (X (i 0))) := by
  unfold val_main_v54 val_main_v53
  pointwise
  rw [ref_dn x0 x1 x2 x3 x4 x5 x7 x9 G hG Dr hD, ref_rstd x6 X hX, ← EReal.coe_mul]
  rfl

theorem ref_square (i : S4096x1024.Idx) : val_main_v63 x0 x1 x2 x3 x4 x5 x6 x7 x9 i
    = ↑((∑ k, cen (X (i 0)) k * (Dr (i 0) k * G k)) * (-(1 / 2) * (rstd (X (i 0)) / (var (X (i 0)) + eps))) / 1024
        * (2 * cen (X (i 0)) (i 1))) := by
  unfold val_main_v63 val_main_v62 val_main_v61 val_main_cst_14 val_main_v60 val_main_v59 val_main_cst_13 val_main_v55
    val_main_v10 val_main_v9 val_main_cst_2
  pointwise
  simp only [ref_cen x6 X hX, ref_inner x0 x1 x2 x3 x4 x5 x6 x7 x9 X hX G hG Dr hD, ref_drstd x6 X hX, ofBits_1024, ofBits_two,
    Fin.sum_univ_one, ← EReal.coe_mul]
  rw [coe_div _ (by norm_num), ← EReal.coe_mul]
  rfl

theorem ref_dx (i : S4096x1024.Idx) : val_main_v73 x0 x1 x2 x3 x4 x5 x6 x7 x9 i
    = ↑(lnBwd (fun j => Dr (i 0) j * G j) (X (i 0)) (i 1)) := by
  unfold val_main_v73 val_main_v72 val_main_v71 val_main_cst_17 val_main_v70 val_main_v69 val_main_cst_16 val_main_v68 val_main_v67
    val_main_v66 val_main_v65 val_main_cst_15 val_main_v64 val_main_v58 val_main_v57 val_main_cst_12 val_main_v56
  pointwise
  simp only [ref_square x0 x1 x2 x3 x4 x5 x6 x7 x9 X hX G hG Dr hD, ref_direct x0 x1 x2 x3 x4 x5 x6 x7 x9 X hX G hG Dr hD,
    ofBits_1024, Fin.sum_univ_one, ← EReal.coe_neg, coe_sum, ← EReal.coe_add]
  rw [coe_div _ (by norm_num), ← EReal.coe_add]
  exact congrArg ((↑) : ℝ → EReal) (lnBwd_chain (fun j => Dr (i 0) j * G j) (X (i 0)) (i 1))

omit hG hD in
theorem ref_small (i : S8x1024.Idx) : val_main_v76 x0 x1 x2 x3 x4 x5 x6 x9 i =
    if (i 0).val = 0 then ∑ r : Fin 4096, dh x0 x1 x2 x3 x4 x5 x9 r (i 1) * ↑(xhat (X r) (i 1))
    else if (i 0).val = 1 then ∑ r : Fin 4096, dh x0 x1 x2 x3 x4 x5 x9 r (i 1) else 0 := by
  unfold val_main_v76 val_main_v47 val_main_v44 val_main_v43 val_main_v46 val_main_v45 val_main_cst_10 val_main_cst_9 val_main_v75
    val_main_cst_18
  pointwise
  simp only [ref_xhat x6 X hX, ref_dh]
  by_cases h0 : (i 0).val = 0
  · rw [dif_pos (by omega), if_pos h0]
    exact Finset.sum_congr rfl fun r _ => mul_comm _ _
  · rw [dif_neg (by omega), if_neg h0]
    by_cases h1 : (i 0).val = 1
    · rw [dif_pos (by omega), if_pos h1]
      rfl
    · rw [dif_neg (by omega), if_neg h1]

end Cert.Inproj
-- ==== Proof.Finite.lean ====
/-
  The precondition "below infinity in absolute value, element by element", read: every element is a real number.
-/
module

public import proofs.«01_k».proof.Proof.Reals
public import Idealize.ShloMosaic.Init
public import Idealize.ShloMosaic.Lib.Tactic.ValueTie

@[expose] public section

noncomputable section

open Idealize.ShloMosaic

namespace Cert.Finite

open Cert.Reals

theorem real_of_lt {S : Shape} (x b : FVec Ideal S .f32) (hb : ∀ i, b i = Ideal.ofBits .f32 0x7F800000#32)
    (h : cmpf .olt (Host.absf x) b = fun _ => 1#1) (i : S.Idx) : x i = (((x i).toReal : ℝ) : EReal) := by
  have h1 := congrFun h i
  refine eq_coe_of_abs_lt ?_
  have h2 : BitVec.ofBool (decide (max (x i) (-(x i)) < b i)) = 1#1 := by
    refine Eq.trans ?_ h1
    pointwise
    rfl
  rw [hb i, ofBits_inf] at h2
  by_contra hn
  rw [decide_eq_false hn] at h2
  exact absurd h2 (by decide)

end Cert.Finite
-- ==== Proof.InprojClaim.lean ====
/-
  The input projection's backward kernel against the plain gradient: the two programs end in the same three arrays.
-/
module

public import proofs.«01_k».proof.Defs
public import proofs.«01_k».proof.Proof.InprojKernel
public import proofs.«01_k».proof.Proof.InprojReference
public import proofs.«01_k».proof.Proof.Finite
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import Idealize.ShloMosaic.Init
public import Idealize.ShloMosaic.Lib.Quiescent

@[expose] public section

noncomputable section

namespace Cert.Inproj

open Idealize.ShloMosaic Idealize.ShloMosaic.TcCoe Idealize.SL.Sem Cert.Reals Cert.Reference3Ideal.Read

/-- The precondition in one device's memory: the arrays the gradients depend on hold real numbers. -/
theorem reals (m : (ℓ : Loc Cert.Kernel3Ideal.nD Cert.Kernel3Ideal.τ Cert.Kernel3Ideal.sig) → Buf (Elt Ideal) ℓ)
    (h : Pre_Kernel3Ideal_finite3 m) (c : Dev Cert.Kernel3Ideal.nD) :
    (∀ i, X0 m c i = ↑(X0 m c i).toReal) ∧ (∀ i, X1 m c i = ↑(X1 m c i).toReal) ∧ (∀ i, X2 m c i = ↑(X2 m c i).toReal)
    ∧ (∀ i, X3 m c i = ↑(X3 m c i).toReal) ∧ (∀ i, X4 m c i = ↑(X4 m c i).toReal) ∧ (∀ i, X5 m c i = ↑(X5 m c i).toReal)
    ∧ (∀ i, X6 m c i = ↑(X6 m c i).toReal) ∧ (∀ i, X7 m c i = ↑(X7 m c i).toReal) ∧ (∀ i, X9 m c i = ↑(X9 m c i).toReal) := by
  obtain ⟨h0, h1, h2, h3, h4, h5, h6, h7, h9⟩ := h c
  exact ⟨fun i => Cert.Finite.real_of_lt _ _ (fun _ => rfl) h0 i, fun i => Cert.Finite.real_of_lt _ _ (fun _ => rfl) h1 i,
    fun i => Cert.Finite.real_of_lt _ _ (fun _ => rfl) h2 i, fun i => Cert.Finite.real_of_lt _ _ (fun _ => rfl) h3 i,
    fun i => Cert.Finite.real_of_lt _ _ (fun _ => rfl) h4 i, fun i => Cert.Finite.real_of_lt _ _ (fun _ => rfl) h5 i,
    fun i => Cert.Finite.real_of_lt _ _ (fun _ => rfl) h6 i, fun i => Cert.Finite.real_of_lt _ _ (fun _ => rfl) h7 i,
    fun i => Cert.Finite.real_of_lt _ _ (fun _ => rfl) h9 i⟩

theorem row_real (m : (ℓ : Loc Cert.Kernel3Ideal.nD Cert.Kernel3Ideal.τ Cert.Kernel3Ideal.sig) → Buf (Elt Ideal) ℓ)
    (c : Dev Cert.Kernel3Ideal.nD) (h : ∀ i, X6 m c i = ↑(X6 m c i).toReal) (i : Cert.Kernel3Ideal.S4096x1024.Idx) :
    X6 m c i = ((xr m c (i 0) (i 1) : ℝ) : EReal) :=
  (h i).trans (congrArg (fun q => ((X6 m c q).toReal : EReal)) (funext fun a => by fin_cases a <;> rfl))

theorem reference_quiescent : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem reference_quiescent_pre : quiescent_Reference3Ideal_pre_finite3 := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic : algebraic_Kernel3Ideal_Reference3Ideal_pre_finite3 := by
  intro m ρ m' ρ' hpre hagree
  refine ⟨_, _, _, Cert.Kernel3Ideal.Value.run_blocks (F := Ideal) m ρ, ?_⟩
  refine (θ_run Cert.Reference3Ideal.defs _ _).mono (fun _ h c => ⟨?_, ?_, ?_, (h c).2.2.2⟩)
    (Cert.Reference3Ideal.Value.run (F := Ideal) m' ρ')
  · obtain ⟨h0, h1, h2, h3, h4, h5, h6, h7, h9⟩ := reals m hpre c
    rw [(h c).1, val_main_v73_eq]
    simp only [hagree c]
    funext i
    have hD := dh_real (X0 m c) (X1 m c) (X2 m c) (X3 m c) (X4 m c) (X5 m c) (X9 m c) h0 h1 h2 h3 h4 h5 h9
    refine (ref_dx _ _ _ _ _ _ _ _ _ (xr m c) (row_real m c h6) (fun j => (X7 m c (ix2 0 j)).toReal) (fun i => ?_) _ hD i).trans
      (arr10 m c h6 _ hD (fun j => (X7 m c (ix2 0 j)).toReal) (fun i => ?_) i).symm
    · refine (h7 i).trans (congrArg (fun q => ((X7 m c q).toReal : EReal)) ?_)
      funext a; fin_cases a <;> first | rfl | exact Fin.ext (Nat.lt_one_iff.mp (i 0).isLt)
    · refine (h7 i).trans (congrArg (fun q => ((X7 m c q).toReal : EReal)) ?_)
      funext a; fin_cases a <;> first | rfl | exact Fin.ext (Nat.lt_one_iff.mp (i 0).isLt)
  · rw [(h c).2.1, val_main_v74_eq]
    simp only [hagree c]
    funext i
    exact (ref_dproj _ _ _ _ _ i).trans (arr11 m c i).symm
  · obtain ⟨-, -, -, -, -, -, h6, -, -⟩ := reals m hpre c
    rw [(h c).2.2.1, val_main_v76_eq]
    simp only [hagree c]
    funext i
    exact (ref_small _ _ _ _ _ _ _ _ (xr m c) (row_real m c h6) i).trans (arr12 m c h6 i).symm

end Cert.Inproj
-- ==== Proof.TailMath.lean ====
/-
  The step's tail over the real numbers, one token at a time: the norm of the residual stream, the output projection with
  its residual norm, the gate with its residual norm, the loss, and the gradient of all of it.

  `Weights` holds what every token shares, `Token` what belongs to one row. Both programs are read in these terms.
-/
module

public import proofs.«01_k».proof.Proof.Reals
public import Mathlib.Algebra.BigOperators.Fin
public import Idealize.ShloMosaic.Init
public import Idealize.ShloMosaic.Lib.Tactic.ValueTie
public import Idealize.ShloMosaic.Lib.Pipeline.ValueKit

@[expose] public section

noncomputable section

namespace Cert.Tail

open Idealize.ShloMosaic Cert.Reals

/-- The weights: three norms' scales and biases (the last norm is the second residual one), the output projection with
    its bias, the gate's weight and the projection of the per-layer embedding. -/
structure Weights where
  g0 : Fin 1024 → ℝ
  b0 : Fin 1024 → ℝ
  bo : Fin 1024 → ℝ
  g1 : Fin 1024 → ℝ
  b1 : Fin 1024 → ℝ
  g2 : Fin 1024 → ℝ
  b2 : Fin 1024 → ℝ
  wo : Fin 2048 → Fin 1024 → ℝ
  wg : Fin 1024 → Fin 1024 → ℝ
  wp : Fin 256 → Fin 1024 → ℝ

/-- One token: its row of the stream, of the two mixers' outputs, of the per-layer embedding and of the target. -/
structure Token where
  x : Fin 1024 → ℝ
  ys : Fin 1024 → ℝ
  yc : Fin 1024 → ℝ
  p : Fin 256 → ℝ
  t : Fin 1024 → ℝ

/-- The logistic function. -/
def logi (z : ℝ) : ℝ := (1 + Real.exp (-z))⁻¹

theorem ofBits_one : Ideal.ofBits .f32 0x3F800000#32 = ((1 : ℝ) : EReal) := by
  simp [Ideal.ofBits, Ideal.ieee, -EReal.coe_mul]
  try norm_num

theorem ofBits_half : Ideal.ofBits .f32 0x3F000000#32 = (((1 : ℝ) / 2 : ℝ) : EReal) := by
  simp [Ideal.ofBits, Ideal.ieee, -EReal.coe_mul]
  try norm_num

theorem ofBits_inv1024 : Ideal.ofBits .f32 0x3A800000#32 = (((1 : ℝ) / 1024 : ℝ) : EReal) := by
  simp [Ideal.ofBits, Ideal.ieee, -EReal.coe_mul]
  try norm_num

theorem ofBits_inv2048 : Ideal.ofBits .f32 0x3A000000#32 = (((1 : ℝ) / 2048 : ℝ) : EReal) := by
  simp [Ideal.ofBits, Ideal.ieee, -EReal.coe_mul]
  try norm_num

theorem one_add_exp_pos (z : ℝ) : 0 < 1 + Real.exp (-z) := add_pos one_pos (Real.exp_pos _)

variable (w : Weights) (r : Token)

/-! ## Forward -/

/-- The normalised stream with scale and bias. -/
def h0 (j : Fin 1024) : ℝ := xhat r.x j * w.g0 j + w.b0 j

/-- The two mixers' outputs side by side. -/
def mix (e : Fin 2048) : ℝ := if h : e.val < 1024 then r.ys ⟨e.val, h⟩ else r.yc ⟨e.val - 1024, by omega⟩

/-- The output projection of the mixers' outputs. -/
def mixOut (j : Fin 1024) : ℝ := ∑ e, mix r e * w.wo e j

/-- The first residual sum. -/
def a1 (j : Fin 1024) : ℝ := alpha * h0 w r j + (mixOut w r j + w.bo j)

def h1 (j : Fin 1024) : ℝ := xhat (a1 w r) j * w.g1 j + w.b1 j

def gate (j : Fin 1024) : ℝ := logi (∑ k, h1 w r k * w.wg k j)

def ple (j : Fin 1024) : ℝ := ∑ k, r.p k * w.wp k j

/-- The second residual sum. -/
def a2 (j : Fin 1024) : ℝ := alpha * h1 w r j + gate w r j * ple w r j

/-- The tail's output less the target. -/
def diff (j : Fin 1024) : ℝ := xhat (a2 w r) j * w.g2 j + w.b2 j - r.t j

/-- The token's part of the loss, before the factor. -/
def sq : ℝ := ∑ j, diff w r j * diff w r j

/-! ## Backward -/

def dh2 (j : Fin 1024) : ℝ := diff w r j * (1 / 1024)

/-- The gradient at the second residual sum. -/
def dr2 (j : Fin 1024) : ℝ := lnBwd (fun k => dh2 w r k * w.g2 k) (a2 w r) j

def dple (j : Fin 1024) : ℝ := dr2 w r j * gate w r j

/-- The gradient before the gate's logistic function. -/
def dgate (j : Fin 1024) : ℝ := dr2 w r j * ple w r j * gate w r j * (1 - gate w r j)

def dh1 (j : Fin 1024) : ℝ := alpha * dr2 w r j + ∑ e, dgate w r e * w.wg j e

/-- The gradient at the first residual sum. -/
def dr1 (j : Fin 1024) : ℝ := lnBwd (fun k => dh1 w r k * w.g1 k) (a1 w r) j

/-- The gradient of the two mixers' outputs. -/
def dmix (e : Fin 2048) : ℝ := ∑ j, dr1 w r j * w.wo e j

/-- The gradient row of the small weights a token adds to: output bias, then scale and bias of each residual norm. -/
def small (i : ℕ) (j : Fin 1024) : ℝ :=
  if i = 0 then dr1 w r j
  else if i = 1 then dh1 w r j * xhat (a1 w r) j
  else if i = 2 then dh1 w r j
  else if i = 3 then dh2 w r j * xhat (a2 w r) j
  else if i = 4 then dh2 w r j
  else 0

/-- The projection of the mixers' outputs, mixer by mixer. -/
theorem mixOut_split (j : Fin 1024) : mixOut w r j = ∑ k : Fin 1024, r.ys k * w.wo ⟨k.val, by omega⟩ j
    + ∑ k : Fin 1024, r.yc k * w.wo ⟨1024 + k.val, by omega⟩ j := by
  unfold mixOut
  refine (Fin.sum_univ_add (a := 1024) (b := 1024) (fun e : Fin (1024 + 1024) => mix r e * w.wo e j)).trans ?_
  refine congrArg₂ (· + ·) (Finset.sum_congr rfl fun k _ => ?_) (Finset.sum_congr rfl fun k _ => ?_)
  · refine congrArg₂ (· * ·) ?_ rfl
    unfold mix
    rw [dif_pos (show (Fin.castAdd 1024 k).val < 1024 from k.isLt)]
    rfl
  · refine congrArg₂ (· * ·) ?_ rfl
    unfold mix
    rw [dif_neg (show ¬ (Fin.natAdd 1024 k).val < 1024 by simp)]
    exact congrArg r.yc (Fin.ext (Nat.add_sub_cancel_left _ _))

end Cert.Tail
-- ==== Proof.TailTile.lean ====
/-
  The tail's kernel, one tile of 512 tokens: what each of its values is, at an index, as a real number.
-/
module

public import proofs.«01_k».proof.Proof.TailMath
public import proofs.«01_k».proof.Proof.Gen.Kernel4Ideal.Skeleton

@[expose] public section

noncomputable section

open Idealize.ShloMosaic Idealize.ShloMosaic.TcCoe Idealize.SL.Sem

namespace Cert.Tail

open Cert.Kernel4Ideal Cert.Kernel4Ideal.Gen Cert.Reals

/-- The vectors a tile's body reads hold these real numbers. -/
structure Tile (vx : Vec Ideal S512x1024 .f32) (vys vyc : Vec Ideal S512x1024 .bf16) (vp : Vec Ideal S512x256 .f32)
    (vt : Vec Ideal S512x1024 .f32) (vg0 vb0 vbo vg1 vb1 vg2 vb2 : Vec Ideal S1x1024 .f32)
    (vwo1 vwo2 : Vec Ideal S1024x1024 .bf16) (vwo : Vec Ideal S2048x1024 .bf16) (vwg : Vec Ideal S1024x1024 .bf16)
    (vwp : Vec Ideal S256x1024 .bf16) (w : Weights) (R : Fin 512 → Token) : Prop where
  x : ∀ i, vx i = ↑((R (i 0)).x (i 1))
  ys : ∀ i, vys i = ↑((R (i 0)).ys (i 1))
  yc : ∀ i, vyc i = ↑((R (i 0)).yc (i 1))
  p : ∀ i, vp i = ↑((R (i 0)).p (i 1))
  t : ∀ i, vt i = ↑((R (i 0)).t (i 1))
  g0 : ∀ i, vg0 i = ↑(w.g0 (i 1))
  b0 : ∀ i, vb0 i = ↑(w.b0 (i 1))
  bo : ∀ i, vbo i = ↑(w.bo (i 1))
  g1 : ∀ i, vg1 i = ↑(w.g1 (i 1))
  b1 : ∀ i, vb1 i = ↑(w.b1 (i 1))
  g2 : ∀ i, vg2 i = ↑(w.g2 (i 1))
  b2 : ∀ i, vb2 i = ↑(w.b2 (i 1))
  wo1 : ∀ (k j : Fin 1024), vwo1 (ix2 k j) = ↑(w.wo ⟨k.val, by omega⟩ j)
  wo2 : ∀ (k j : Fin 1024), vwo2 (ix2 k j) = ↑(w.wo ⟨1024 + k.val, by omega⟩ j)
  wo : ∀ i, vwo i = ↑(w.wo (i 0) (i 1))
  wg : ∀ i, vwg i = ↑(w.wg (i 0) (i 1))
  wp : ∀ i, vwp i = ↑(w.wp (i 0) (i 1))

variable {vx : Vec Ideal S512x1024 .f32} {vys vyc : Vec Ideal S512x1024 .bf16} {vp : Vec Ideal S512x256 .f32}
  {vt : Vec Ideal S512x1024 .f32} {vg0 vb0 vbo vg1 vb1 vg2 vb2 : Vec Ideal S1x1024 .f32}
  {vwo1 vwo2 : Vec Ideal S1024x1024 .bf16} {vwo : Vec Ideal S2048x1024 .bf16} {vwg : Vec Ideal S1024x1024 .bf16}
  {vwp : Vec Ideal S256x1024 .bf16} {w : Weights} {R : Fin 512 → Token}
  (T : Tile vx vys vyc vp vt vg0 vb0 vbo vg1 vb1 vg2 vb2 vwo1 vwo2 vwo vwg vwp w R)
include T

/-! ## Forward -/

theorem t_h0 (i : S512x1024.Idx) : (k0_pay7 vx vg0 vb0) i = ↑(h0 w (R (i 0)) (i 1)) := by
  unfold k0_pay7
  pointwise
  simp only [T.x, T.g0, T.b0, ofBits_1024, ofBits_eps, coe_sum, coe_div _ (show (1024 : ℝ) ≠ 0 by norm_num), ← EReal.coe_sub, ← EReal.coe_mul, ← EReal.coe_add]
  refine (congrArg (fun z : EReal => ((cen (R (i 0)).x (i 1) : ℝ) : EReal) * z * ((w.g0 (i 1) : ℝ) : EReal) + ((w.b0 (i 1) : ℝ) : EReal))
    (coe_rsqrt (var_eps_pos (R (i 0)).x))).trans ?_
  simp only [← EReal.coe_mul, ← EReal.coe_add]
  rfl

theorem t_out (i : S512x1024.Idx) : (k0_pay8 vys vwo1 vyc vwo2) i = ↑(mixOut w (R (i 0)) (i 1)) := by
  unfold k0_pay8
  pointwise
  refine (congrArg₂ (· + ·) (Finset.sum_congr (M := EReal) rfl fun k _ => congrArg₂ (· * ·) (T.ys _) (T.wo1 k (i 1)))
    (Finset.sum_congr (M := EReal) rfl fun k _ => congrArg₂ (· * ·) (T.yc _) (T.wo2 k (i 1)))).trans ?_
  simp only [← EReal.coe_mul, coe_sum, ← EReal.coe_add]
  exact congrArg ((↑) : ℝ → EReal) (mixOut_split w _ _).symm

theorem t_cen1 (i : S512x1024.Idx) : k0_pay9 (k0_pay7 vx vg0 vb0) (k0_pay8 vys vwo1 vyc vwo2) vbo i = ↑(cen (a1 w (R (i 0)))
    (i 1)) := by
  unfold k0_pay9
  pointwise
  simp only [t_h0 T, t_out T, T.bo, ofBits_alpha, ofBits_1024, ← EReal.coe_mul, ← EReal.coe_add, coe_sum, coe_div _ (show (1024 : ℝ) ≠ 0 by norm_num), ← EReal.coe_sub]
  rfl

theorem t_rstd1 (i : S512x1.Idx) : (k0_pay10 (k0_pay7 vx vg0 vb0) (k0_pay8 vys vwo1 vyc vwo2) vbo) i = ↑(rstd (a1 w (R (i
    0)))) := by
  unfold k0_pay10
  pointwise
  simp only [t_cen1 T, ofBits_1024, ofBits_eps, ← EReal.coe_mul, coe_sum, coe_div _ (show (1024 : ℝ) ≠ 0 by norm_num), ← EReal.coe_add]
  exact coe_rsqrt (var_eps_pos (a1 w (R (i 0))))

theorem t_xhat1 (i : S512x1024.Idx) : (k0_pay11 (k0_pay7 vx vg0 vb0) (k0_pay8 vys vwo1 vyc vwo2) vbo) i = ↑(xhat (a1 w (R (i
    0))) (i 1)) := by
  unfold k0_pay11
  pointwise
  simp only [t_cen1 T, t_rstd1 T, ← EReal.coe_mul]
  rfl

theorem t_h1 (i : S512x1024.Idx) : (k0_pay12 (k0_pay7 vx vg0 vb0) (k0_pay8 vys vwo1 vyc vwo2) vbo vg1 vb1) i = ↑(h1 w (R (i
    0)) (i 1)) := by
  unfold k0_pay12
  pointwise
  simp only [t_xhat1 T, T.g1, T.b1, ← EReal.coe_mul, ← EReal.coe_add]
  rfl

theorem t_h1b (i : S512x1024.Idx) : (k0_pay13 (k0_pay7 vx vg0 vb0) (k0_pay8 vys vwo1 vyc vwo2) vbo vg1 vb1) i = ↑(h1 w (R (i
    0)) (i 1)) := by
  unfold k0_pay13
  pointwise
  exact t_h1 T i

theorem t_gate (i : S512x1024.Idx) : (k0_pay14 (k0_pay7 vx vg0 vb0) (k0_pay8 vys vwo1 vyc vwo2) vbo vg1 vb1 vwg) i = ↑(gate
    w (R (i 0)) (i 1)) := by
  unfold k0_pay14
  pointwise
  simp only [t_h1b T, T.wg, ← EReal.coe_mul, coe_sum, Ideal.logistic_coe]
  rfl

theorem t_ple (i : S512x1024.Idx) : (k0_pay16 (k0_pay15 vp) vwp) i = ↑(ple w (R (i 0)) (i 1)) := by
  unfold k0_pay16 k0_pay15
  pointwise
  simp only [T.p, T.wp, ← EReal.coe_mul, coe_sum]
  rfl

theorem t_cen2 (i : S512x1024.Idx) : k0_pay17 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp i = ↑(cen (a2 w (R (i 0)))
    (i 1)) := by
  unfold k0_pay17
  pointwise
  simp only [t_h1 T, t_gate T, t_ple T, ofBits_alpha, ofBits_1024, ← EReal.coe_mul, ← EReal.coe_add, coe_sum, coe_div _ (show (1024 : ℝ) ≠ 0 by norm_num), ← EReal.coe_sub]
  rfl

theorem t_rstd2 (i : S512x1.Idx) : (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) i = ↑(rstd (a2 w (R (i
    0)))) := by
  unfold k0_pay18
  pointwise
  simp only [t_cen2 T, ofBits_1024, ofBits_eps, ← EReal.coe_mul, coe_sum, coe_div _ (show (1024 : ℝ) ≠ 0 by norm_num), ← EReal.coe_add]
  exact coe_rsqrt (var_eps_pos (a2 w (R (i 0))))

theorem t_xhat2 (i : S512x1024.Idx) : (k0_pay19 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) i = ↑(xhat (a2 w (R (i
    0))) (i 1)) := by
  unfold k0_pay19
  pointwise
  simp only [t_cen2 T, t_rstd2 T, ← EReal.coe_mul]
  rfl

theorem t_diff (i : S512x1024.Idx) : (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) i = ↑(diff w
    (R (i 0)) (i 1)) := by
  unfold k0_pay20
  pointwise
  simp only [t_xhat2 T, T.g2, T.b2, T.t, ← EReal.coe_mul, ← EReal.coe_add, ← EReal.coe_sub]
  rfl

theorem t_loss (i : S1x1.Idx) : k0_pay22 (k0_pay12 (k0_pay7 vx vg0 vb0) (k0_pay8 vys vwo1 vyc vwo2) vbo vg1 vb1) (k0_pay14
    (k0_pay7 vx vg0 vb0) (k0_pay8 vys vwo1 vyc vwo2) vbo vg1 vb1 vwg) (k0_pay15 vp) vwp vg2 vb2 vt i = ↑(1 / 2048 * ∑ a, sq
    w (R a)) := by
  unfold k0_pay22
  pointwise
  simp only [t_diff T, ofBits_inv2048, ← EReal.coe_mul, coe_sum]
  exact congrArg ((↑) : ℝ → EReal) (mul_comm _ _)

/-! ## Backward -/

theorem t_dh2 (i : S512x1024.Idx) : k0_pay24 (k0_pay20 (k0_pay12 (k0_pay7 vx vg0 vb0) (k0_pay8 vys vwo1 vyc vwo2) vbo vg1
    vb1) (k0_pay14 (k0_pay7 vx vg0 vb0) (k0_pay8 vys vwo1 vyc vwo2) vbo vg1 vb1 vwg) (k0_pay15 vp) vwp vg2 vb2 vt) i = ↑(dh2
    w (R (i 0)) (i 1)) := by
  unfold k0_pay24
  pointwise
  simp only [t_diff T, ofBits_inv1024, ← EReal.coe_mul]
  rfl

theorem t_dr2 (i : S512x1024.Idx) : (k0_pay27 (k0_pay18 (k0_pay12 (k0_pay7 vx vg0 vb0) (k0_pay8 vys vwo1 vyc vwo2) vbo vg1
    vb1) (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) i = ↑(dr2
    w (R (i 0)) (i 1)) := by
  unfold k0_pay27
  pointwise
  simp only [t_dh2 T, t_rstd2 T, t_xhat2 T, T.g2, ofBits_1024, ← EReal.coe_mul, coe_sum, coe_div _ (show (1024 : ℝ) ≠ 0 by norm_num), ← EReal.coe_sub]
  rfl

theorem t_dgate (i : S512x1024.Idx) : k0_pay28 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) i =
    ↑(dgate w (R (i 0)) (i 1)) := by
  unfold k0_pay28
  pointwise
  simp only [t_gate T, t_ple T, t_dr2 T, ofBits_one, ← EReal.coe_sub, ← EReal.coe_mul]
  rfl

theorem t_dple (i : S512x1024.Idx) : k0_pay29 (k0_pay14 (k0_pay7 vx vg0 vb0) (k0_pay8 vys vwo1 vyc vwo2) vbo vg1 vb1 vwg)
    (k0_pay27 (k0_pay18 (k0_pay12 (k0_pay7 vx vg0 vb0) (k0_pay8 vys vwo1 vyc vwo2) vbo vg1 vb1) (k0_pay14 (k0_pay7 vx vg0
    vb0) (k0_pay8 vys vwo1 vyc vwo2) vbo vg1 vb1 vwg) (k0_pay15 vp) vwp) (k0_pay19 (k0_pay12 (k0_pay7 vx vg0 vb0) (k0_pay8
    vys vwo1 vyc vwo2) vbo vg1 vb1) (k0_pay14 (k0_pay7 vx vg0 vb0) (k0_pay8 vys vwo1 vyc vwo2) vbo vg1 vb1 vwg) (k0_pay15
    vp) vwp) (k0_pay20 (k0_pay12 (k0_pay7 vx vg0 vb0) (k0_pay8 vys vwo1 vyc vwo2) vbo vg1 vb1) (k0_pay14 (k0_pay7 vx vg0
    vb0) (k0_pay8 vys vwo1 vyc vwo2) vbo vg1 vb1 vwg) (k0_pay15 vp) vwp vg2 vb2 vt) vg2) i = ↑(dple w (R (i 0)) (i 1)) := by
  unfold k0_pay29
  pointwise
  simp only [t_gate T, t_dr2 T, ← EReal.coe_mul]
  rfl

theorem t_dh1 (i : S512x1024.Idx) : k0_pay30 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg i =
    ↑(dh1 w (R (i 0)) (i 1)) := by
  unfold k0_pay30
  pointwise
  simp only [t_dgate T, t_dr2 T, T.wg, ofBits_alpha, ← EReal.coe_mul, coe_sum, ← EReal.coe_add]
  rfl

theorem t_dn1 (i : S512x1024.Idx) : (k0_pay33 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg vg1)
    i = ↑(dh1 w (R (i 0)) (i 1) * w.g1 (i 1)) := by
  unfold k0_pay33
  pointwise
  simp only [t_dh1 T, T.g1, ← EReal.coe_mul]
  rfl

theorem t_sum1 (i : S512x1.Idx) : (k0_pay34 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg vg1)
    i = ↑(∑ j, dh1 w (R (i 0)) j * w.g1 j) := by
  unfold k0_pay34
  pointwise
  simp only [t_dn1 T, coe_sum]
  rfl

theorem t_dr1 (i : S512x1024.Idx) : k0_pay1 (k0_pay10 (k0_pay7 vx vg0 vb0) (k0_pay8 vys vwo1 vyc vwo2) vbo) (k0_pay11
    (k0_pay7 vx vg0 vb0) (k0_pay8 vys vwo1 vyc vwo2) vbo) (k0_pay33 (k0_pay14 (k0_pay7 vx vg0 vb0) (k0_pay8 vys vwo1 vyc
    vwo2) vbo vg1 vb1 vwg) (k0_pay16 (k0_pay15 vp) vwp) (k0_pay27 (k0_pay18 (k0_pay12 (k0_pay7 vx vg0 vb0) (k0_pay8 vys vwo1
    vyc vwo2) vbo vg1 vb1) (k0_pay14 (k0_pay7 vx vg0 vb0) (k0_pay8 vys vwo1 vyc vwo2) vbo vg1 vb1 vwg) (k0_pay15 vp) vwp)
    (k0_pay19 (k0_pay12 (k0_pay7 vx vg0 vb0) (k0_pay8 vys vwo1 vyc vwo2) vbo vg1 vb1) (k0_pay14 (k0_pay7 vx vg0 vb0)
    (k0_pay8 vys vwo1 vyc vwo2) vbo vg1 vb1 vwg) (k0_pay15 vp) vwp) (k0_pay20 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp vg2 vb2 vt) vg2) vwg vg1) (k0_pay34 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg vg1)
    i = ↑(dr1 w (R (i 0)) (i 1)) := by
  unfold k0_pay1
  pointwise
  simp only [t_rstd1 T, t_xhat1 T, t_dn1 T, t_sum1 T, ofBits_1024, ← EReal.coe_mul, coe_sum, coe_div _ (show (1024 : ℝ) ≠ 0 by norm_num), ← EReal.coe_sub]
  rfl

theorem t_dr1b (i : S512x1024.Idx) : k0_pay3 (k0_pay10 (k0_pay7 vx vg0 vb0) (k0_pay8 vys vwo1 vyc vwo2) vbo) (k0_pay11
    (k0_pay7 vx vg0 vb0) (k0_pay8 vys vwo1 vyc vwo2) vbo) (k0_pay33 (k0_pay14 (k0_pay7 vx vg0 vb0) (k0_pay8 vys vwo1 vyc
    vwo2) vbo vg1 vb1 vwg) (k0_pay16 (k0_pay15 vp) vwp) (k0_pay27 (k0_pay18 (k0_pay12 (k0_pay7 vx vg0 vb0) (k0_pay8 vys vwo1
    vyc vwo2) vbo vg1 vb1) (k0_pay14 (k0_pay7 vx vg0 vb0) (k0_pay8 vys vwo1 vyc vwo2) vbo vg1 vb1 vwg) (k0_pay15 vp) vwp)
    (k0_pay19 (k0_pay12 (k0_pay7 vx vg0 vb0) (k0_pay8 vys vwo1 vyc vwo2) vbo vg1 vb1) (k0_pay14 (k0_pay7 vx vg0 vb0)
    (k0_pay8 vys vwo1 vyc vwo2) vbo vg1 vb1 vwg) (k0_pay15 vp) vwp) (k0_pay20 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp vg2 vb2 vt) vg2) vwg vg1) (k0_pay34 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg vg1)
    i = ↑(dr1 w (R (i 0)) (i 1)) := by
  unfold k0_pay3
  pointwise
  exact t_dr1 T i

theorem t_dmix (i : S512x2048.Idx) : k0_pay4 (k0_pay10 (k0_pay7 vx vg0 vb0) (k0_pay8 vys vwo1 vyc vwo2) vbo) (k0_pay11
    (k0_pay7 vx vg0 vb0) (k0_pay8 vys vwo1 vyc vwo2) vbo) (k0_pay33 (k0_pay14 (k0_pay7 vx vg0 vb0) (k0_pay8 vys vwo1 vyc
    vwo2) vbo vg1 vb1 vwg) (k0_pay16 (k0_pay15 vp) vwp) (k0_pay27 (k0_pay18 (k0_pay12 (k0_pay7 vx vg0 vb0) (k0_pay8 vys vwo1
    vyc vwo2) vbo vg1 vb1) (k0_pay14 (k0_pay7 vx vg0 vb0) (k0_pay8 vys vwo1 vyc vwo2) vbo vg1 vb1 vwg) (k0_pay15 vp) vwp)
    (k0_pay19 (k0_pay12 (k0_pay7 vx vg0 vb0) (k0_pay8 vys vwo1 vyc vwo2) vbo vg1 vb1) (k0_pay14 (k0_pay7 vx vg0 vb0)
    (k0_pay8 vys vwo1 vyc vwo2) vbo vg1 vb1 vwg) (k0_pay15 vp) vwp) (k0_pay20 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp vg2 vb2 vt) vg2) vwg vg1) (k0_pay34 (k0_pay14 (k0_pay7 vx vg0 vb0) (k0_pay8 vys vwo1 vyc vwo2) vbo vg1 vb1 vwg)
    (k0_pay16 (k0_pay15 vp) vwp) (k0_pay27 (k0_pay18 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp) (k0_pay19 (k0_pay12
    (k0_pay7 vx vg0 vb0) (k0_pay8 vys vwo1 vyc vwo2) vbo vg1 vb1) (k0_pay14 (k0_pay7 vx vg0 vb0) (k0_pay8 vys vwo1 vyc vwo2)
    vbo vg1 vb1 vwg) (k0_pay15 vp) vwp) (k0_pay20 (k0_pay12 (k0_pay7 vx vg0 vb0) (k0_pay8 vys vwo1 vyc vwo2) vbo vg1 vb1)
    (k0_pay14 (k0_pay7 vx vg0 vb0) (k0_pay8 vys vwo1 vyc vwo2) vbo vg1 vb1 vwg) (k0_pay15 vp) vwp vg2 vb2 vt) vg2) vwg vg1)
    vwo i = ↑(dmix w (R (i 0)) (i 1)) := by
  unfold k0_pay4
  pointwise
  simp only [t_dr1b T, T.wo, ← EReal.coe_mul, coe_sum]
  rfl

/-! ## What a tile adds to the small gradients and to the loss -/

theorem t_row0 (v : Vec Ideal S1x1024 .f32) (i : S1x1024.Idx) : k0_pay2 (k0_pay10 (k0_pay7 vx vg0 vb0) (k0_pay8 vys vwo1 vyc
    vwo2) vbo) (k0_pay11 (k0_pay7 vx vg0 vb0) (k0_pay8 vys vwo1 vyc vwo2) vbo) (k0_pay33 (k0_pay14 (k0_pay7 vx vg0 vb0)
    (k0_pay8 vys vwo1 vyc vwo2) vbo vg1 vb1 vwg) (k0_pay16 (k0_pay15 vp) vwp) (k0_pay27 (k0_pay18 (k0_pay12 (k0_pay7 vx vg0
    vb0) (k0_pay8 vys vwo1 vyc vwo2) vbo vg1 vb1) (k0_pay14 (k0_pay7 vx vg0 vb0) (k0_pay8 vys vwo1 vyc vwo2) vbo vg1 vb1
    vwg) (k0_pay15 vp) vwp) (k0_pay19 (k0_pay12 (k0_pay7 vx vg0 vb0) (k0_pay8 vys vwo1 vyc vwo2) vbo vg1 vb1) (k0_pay14
    (k0_pay7 vx vg0 vb0) (k0_pay8 vys vwo1 vyc vwo2) vbo vg1 vb1 vwg) (k0_pay15 vp) vwp) (k0_pay20 (k0_pay12 (k0_pay7 vx vg0
    vb0) (k0_pay8 vys vwo1 vyc vwo2) vbo vg1 vb1) (k0_pay14 (k0_pay7 vx vg0 vb0) (k0_pay8 vys vwo1 vyc vwo2) vbo vg1 vb1
    vwg) (k0_pay15 vp) vwp vg2 vb2 vt) vg2) vwg vg1) (k0_pay34 (k0_pay14 (k0_pay7 vx vg0 vb0) (k0_pay8 vys vwo1 vyc vwo2)
    vbo vg1 vb1 vwg) (k0_pay16 (k0_pay15 vp) vwp) (k0_pay27 (k0_pay18 (k0_pay12 (k0_pay7 vx vg0 vb0) (k0_pay8 vys vwo1 vyc
    vwo2) vbo vg1 vb1) (k0_pay14 (k0_pay7 vx vg0 vb0) (k0_pay8 vys vwo1 vyc vwo2) vbo vg1 vb1 vwg) (k0_pay15 vp) vwp)
    (k0_pay19 (k0_pay12 (k0_pay7 vx vg0 vb0) (k0_pay8 vys vwo1 vyc vwo2) vbo vg1 vb1) (k0_pay14 (k0_pay7 vx vg0 vb0)
    (k0_pay8 vys vwo1 vyc vwo2) vbo vg1 vb1 vwg) (k0_pay15 vp) vwp) (k0_pay20 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp vg2 vb2 vt) vg2) vwg vg1) v i = v i + ↑(∑ a, small w (R a) 0 (i 1)) := by
  unfold k0_pay2
  pointwise
  simp only [t_dr1 T, ← EReal.coe_mul, coe_sum]
  rfl

theorem t_row1 (v : Vec Ideal S1x1024 .f32) (i : S1x1024.Idx) : k0_pay31 (k0_pay11 (k0_pay7 vx vg0 vb0) (k0_pay8 vys vwo1
    vyc vwo2) vbo) (k0_pay14 (k0_pay7 vx vg0 vb0) (k0_pay8 vys vwo1 vyc vwo2) vbo vg1 vb1 vwg) (k0_pay16 (k0_pay15 vp) vwp)
    (k0_pay27 (k0_pay18 (k0_pay12 (k0_pay7 vx vg0 vb0) (k0_pay8 vys vwo1 vyc vwo2) vbo vg1 vb1) (k0_pay14 (k0_pay7 vx vg0
    vb0) (k0_pay8 vys vwo1 vyc vwo2) vbo vg1 vb1 vwg) (k0_pay15 vp) vwp) (k0_pay19 (k0_pay12 (k0_pay7 vx vg0 vb0) (k0_pay8
    vys vwo1 vyc vwo2) vbo vg1 vb1) (k0_pay14 (k0_pay7 vx vg0 vb0) (k0_pay8 vys vwo1 vyc vwo2) vbo vg1 vb1 vwg) (k0_pay15
    vp) vwp) (k0_pay20 (k0_pay12 (k0_pay7 vx vg0 vb0) (k0_pay8 vys vwo1 vyc vwo2) vbo vg1 vb1) (k0_pay14 (k0_pay7 vx vg0
    vb0) (k0_pay8 vys vwo1 vyc vwo2) vbo vg1 vb1 vwg) (k0_pay15 vp) vwp vg2 vb2 vt) vg2) vwg v i = v i + ↑(∑ a, small w (R
    a) 1 (i 1)) := by
  unfold k0_pay31
  pointwise
  simp only [t_dh1 T, t_xhat1 T, ← EReal.coe_mul, coe_sum]
  rfl

theorem t_row2 (v : Vec Ideal S1x1024 .f32) (i : S1x1024.Idx) : k0_pay32 (k0_pay14 (k0_pay7 vx vg0 vb0) (k0_pay8 vys vwo1
    vyc vwo2) vbo vg1 vb1 vwg) (k0_pay16 (k0_pay15 vp) vwp) (k0_pay27 (k0_pay18 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp) (k0_pay19 (k0_pay12 (k0_pay7 vx vg0 vb0) (k0_pay8 vys vwo1 vyc vwo2) vbo vg1 vb1) (k0_pay14 (k0_pay7 vx vg0 vb0)
    (k0_pay8 vys vwo1 vyc vwo2) vbo vg1 vb1 vwg) (k0_pay15 vp) vwp) (k0_pay20 (k0_pay12 (k0_pay7 vx vg0 vb0) (k0_pay8 vys
    vwo1 vyc vwo2) vbo vg1 vb1) (k0_pay14 (k0_pay7 vx vg0 vb0) (k0_pay8 vys vwo1 vyc vwo2) vbo vg1 vb1 vwg) (k0_pay15 vp)
    vwp vg2 vb2 vt) vg2) vwg v i = v i + ↑(∑ a, small w (R a) 2 (i 1)) := by
  unfold k0_pay32
  pointwise
  simp only [t_dh1 T, ← EReal.coe_mul, coe_sum]
  rfl

theorem t_row3 (v : Vec Ideal S1x1024 .f32) (i : S1x1024.Idx) : k0_pay25 (k0_pay19 (k0_pay12 (k0_pay7 vx vg0 vb0) (k0_pay8
    vys vwo1 vyc vwo2) vbo vg1 vb1) (k0_pay14 (k0_pay7 vx vg0 vb0) (k0_pay8 vys vwo1 vyc vwo2) vbo vg1 vb1 vwg) (k0_pay15
    vp) vwp) (k0_pay20 (k0_pay12 (k0_pay7 vx vg0 vb0) (k0_pay8 vys vwo1 vyc vwo2) vbo vg1 vb1) (k0_pay14 (k0_pay7 vx vg0
    vb0) (k0_pay8 vys vwo1 vyc vwo2) vbo vg1 vb1 vwg) (k0_pay15 vp) vwp vg2 vb2 vt) v i = v i + ↑(∑ a, small w (R a) 3 (i
    1)) := by
  unfold k0_pay25
  pointwise
  simp only [t_dh2 T, t_xhat2 T, ← EReal.coe_mul, coe_sum]
  rfl

theorem t_row4 (v : Vec Ideal S1x1024 .f32) (i : S1x1024.Idx) : k0_pay26 (k0_pay20 (k0_pay12 (k0_pay7 vx vg0 vb0) (k0_pay8
    vys vwo1 vyc vwo2) vbo vg1 vb1) (k0_pay14 (k0_pay7 vx vg0 vb0) (k0_pay8 vys vwo1 vyc vwo2) vbo vg1 vb1 vwg) (k0_pay15
    vp) vwp vg2 vb2 vt) v i = v i + ↑(∑ a, small w (R a) 4 (i 1)) := by
  unfold k0_pay26
  pointwise
  simp only [t_dh2 T, ← EReal.coe_mul, coe_sum]
  rfl

theorem t_acc (v : Vec Ideal S8x128 .f32) (i : S8x128.Idx) : k0_pay23 (k0_pay21 v) (k0_pay22 (k0_pay12 (k0_pay7 vx vg0 vb0)
    (k0_pay8 vys vwo1 vyc vwo2) vbo vg1 vb1) (k0_pay14 (k0_pay7 vx vg0 vb0) (k0_pay8 vys vwo1 vyc vwo2) vbo vg1 vb1 vwg)
    (k0_pay15 vp) vwp vg2 vb2 vt) i = v i + ↑(1 / 2048 * ∑ a, sq w (R a)) := by
  unfold k0_pay23 k0_pay21
  pointwise
  rw [t_loss T]

omit T in
theorem pay5_apply (i : S8x1024.Idx) : k0_pay5 (F := Ideal) i = 0 := by
  unfold k0_pay5
  pointwise

omit T in
theorem pay6_apply (i : S8x128.Idx) : k0_pay6 (F := Ideal) i = 0 := by
  unfold k0_pay6
  pointwise

end Cert.Tail
-- ==== Proof.TailKernel.lean ====
/-
  The tail's kernel over its whole grid: the blocks a point reads, what it leaves in its output windows, and the arrays
  after the call.
-/
module

public import proofs.«01_k».proof.Proof.TailTile
public import proofs.«01_k».proof.Proof.Pieces
public import proofs.«01_k».proof.Proof.Sums
public import Idealize.ShloMosaic.Lib.Pipeline.ReadBack
public import Idealize.ShloMosaic.Lib.WritesUnit
public import Idealize.ShloMosaic.Lib.StableHlo.Run
public import proofs.«01_k».proof.Proof.Gen.Kernel4Ideal.Value

@[expose] public section

noncomputable section

open Idealize.ShloMosaic Idealize.ShloMosaic.TcCoe Idealize.SL.Sem

namespace Cert.Tail

open Cert.Kernel4Ideal Cert.Kernel4Ideal.Gen Cert.Kernel4Ideal.Value Cert.Reals

variable (m : (ℓ : Loc nD τ sig) → Buf (Elt Ideal) ℓ) (c : Dev nD)

abbrev X0 : S4096x1024.Idx → EReal := m ((c : Thread nD τ).loc main_arg0)
abbrev X1 : S4096x1024.Idx → EReal := m ((c : Thread nD τ).loc main_arg1)
abbrev X2 : S4096x1024.Idx → EReal := m ((c : Thread nD τ).loc main_arg2)
abbrev X3 : S4096x256.Idx → EReal := m ((c : Thread nD τ).loc main_arg3)
abbrev X4 : S4096x1024.Idx → EReal := m ((c : Thread nD τ).loc main_arg4)
abbrev X5 : S1x1024.Idx → EReal := m ((c : Thread nD τ).loc main_arg5)
abbrev X6 : S1x1024.Idx → EReal := m ((c : Thread nD τ).loc main_arg6)
abbrev X7 : S1x1024.Idx → EReal := m ((c : Thread nD τ).loc main_arg7)
abbrev X8 : S1x1024.Idx → EReal := m ((c : Thread nD τ).loc main_arg8)
abbrev X9 : S1x1024.Idx → EReal := m ((c : Thread nD τ).loc main_arg9)
abbrev X10 : S1x1024.Idx → EReal := m ((c : Thread nD τ).loc main_arg10)
abbrev X11 : S1x1024.Idx → EReal := m ((c : Thread nD τ).loc main_arg11)
abbrev X12 : S2048x1024.Idx → EReal := m ((c : Thread nD τ).loc main_arg12)
abbrev X13 : S1024x1024.Idx → EReal := m ((c : Thread nD τ).loc main_arg13)
abbrev X14 : S256x1024.Idx → EReal := m ((c : Thread nD τ).loc main_arg14)

/-- The arguments hold real numbers. -/
structure AllReal : Prop where
  f0 : ∀ i, X0 m c i = ↑(X0 m c i).toReal
  f1 : ∀ i, X1 m c i = ↑(X1 m c i).toReal
  f2 : ∀ i, X2 m c i = ↑(X2 m c i).toReal
  f3 : ∀ i, X3 m c i = ↑(X3 m c i).toReal
  f4 : ∀ i, X4 m c i = ↑(X4 m c i).toReal
  f5 : ∀ i, X5 m c i = ↑(X5 m c i).toReal
  f6 : ∀ i, X6 m c i = ↑(X6 m c i).toReal
  f7 : ∀ i, X7 m c i = ↑(X7 m c i).toReal
  f8 : ∀ i, X8 m c i = ↑(X8 m c i).toReal
  f9 : ∀ i, X9 m c i = ↑(X9 m c i).toReal
  f10 : ∀ i, X10 m c i = ↑(X10 m c i).toReal
  f11 : ∀ i, X11 m c i = ↑(X11 m c i).toReal
  f12 : ∀ i, X12 m c i = ↑(X12 m c i).toReal
  f13 : ∀ i, X13 m c i = ↑(X13 m c i).toReal
  f14 : ∀ i, X14 m c i = ↑(X14 m c i).toReal

/-- The weights and the tokens, as real numbers. -/
def wts : Weights where
  g0 j := (X5 m c (ix2 0 j)).toReal
  b0 j := (X6 m c (ix2 0 j)).toReal
  bo j := (X7 m c (ix2 0 j)).toReal
  g1 j := (X8 m c (ix2 0 j)).toReal
  b1 j := (X9 m c (ix2 0 j)).toReal
  g2 j := (X10 m c (ix2 0 j)).toReal
  b2 j := (X11 m c (ix2 0 j)).toReal
  wo e j := (X12 m c (ix2 e j)).toReal
  wg k j := (X13 m c (ix2 k j)).toReal
  wp k j := (X14 m c (ix2 k j)).toReal

def tok (r : Fin 4096) : Token where
  x j := (X0 m c (ix2 r j)).toReal
  ys j := (X1 m c (ix2 r j)).toReal
  yc j := (X2 m c (ix2 r j)).toReal
  p j := (X3 m c (ix2 r j)).toReal
  t j := (X4 m c (ix2 r j)).toReal

/-! ## The blocks a point reads -/

/-- Row `a` of point `t`'s blocks is this row of the arrays. -/
def row (t : Fin cfg0.N) (a : Fin 512) : Fin 4096 := ⟨512 * t.val + a.val, by have := t.isLt; have h : cfg0.N = 8 := N_0; omega⟩

/-- The streamed windows' block index at point `t` is `(t, 0)`. -/
theorem idxS (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)) t

/-- The vectors' and the weights' is `(0, 0)`. -/
theorem idxW (t : Fin cfg0.N) : (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0)) t

theorem blk0 (t : Fin cfg0.N) (i : S512x1024.Idx) : iblk m c 0 t i = X0 m c (ix2 (row t (i 0)) (i 1)) := by
  obtain ⟨⟨e0, e1⟩, -⟩ := idxS t
  unfold row
  blk_ext [iblk, V, e0, e1]

theorem blk1 (t : Fin cfg0.N) (i : S512x1024.Idx) : iblk m c 1 t i = X1 m c (ix2 (row t (i 0)) (i 1)) := by
  obtain ⟨-, ⟨e0, e1⟩, -⟩ := idxS t
  unfold row
  blk_ext [iblk, V, e0, e1]

theorem blk2 (t : Fin cfg0.N) (i : S512x1024.Idx) : iblk m c 2 t i = X2 m c (ix2 (row t (i 0)) (i 1)) := by
  obtain ⟨-, -, ⟨e0, e1⟩, -⟩ := idxS t
  unfold row
  blk_ext [iblk, V, e0, e1]

theorem blk3 (t : Fin cfg0.N) (i : S512x256.Idx) : iblk m c 3 t i = X3 m c (ix2 (row t (i 0)) (i 1)) := by
  obtain ⟨-, -, -, ⟨e0, e1⟩, -⟩ := idxS t
  unfold row
  blk_ext [iblk, V, e0, e1]

theorem blk4 (t : Fin cfg0.N) (i : S512x1024.Idx) : iblk m c 4 t i = X4 m c (ix2 (row t (i 0)) (i 1)) := by
  obtain ⟨-, -, -, -, ⟨e0, e1⟩⟩ := idxS t
  unfold row
  blk_ext [iblk, V, e0, e1]

/-- The seven vectors and a row of zeros, one under the other, as the host lines them up. -/
abbrev vecs : S8x1024.Idx → EReal := V m c main_v1

theorem blk5 (t : Fin cfg0.N) (i : S8x1024.Idx) : iblk m c 5 t i = vecs m c (ix2 (i 0) (i 1)) := by
  obtain ⟨⟨e0, e1⟩, -⟩ := idxW t
  blk_ext [iblk, e0, e1]

theorem blk6 (t : Fin cfg0.N) (i : S2048x1024.Idx) : iblk m c 6 t i = X12 m c (ix2 (i 0) (i 1)) := by
  obtain ⟨-, ⟨e0, e1⟩, -⟩ := idxW t
  blk_ext [iblk, V, e0, e1]

theorem blk7 (t : Fin cfg0.N) (i : S1024x1024.Idx) : iblk m c 7 t i = X13 m c (ix2 (i 0) (i 1)) := by
  obtain ⟨-, -, ⟨e0, e1⟩, -⟩ := idxW t
  blk_ext [iblk, V, e0, e1]

theorem blk8 (t : Fin cfg0.N) (i : S256x1024.Idx) : iblk m c 8 t i = X14 m c (ix2 (i 0) (i 1)) := by
  obtain ⟨-, -, -, ⟨e0, e1⟩⟩ := idxW t
  blk_ext [iblk, V, e0, e1]

theorem vecs0 (j : Fin 1024) : vecs m c (ix2 0 j) = X5 m c (ix2 0 j) := by
  unfold vecs
  unfold_abbrev_sides
  after_results
  pointwise
  rfl

theorem vecs1 (j : Fin 1024) : vecs m c (ix2 1 j) = X6 m c (ix2 0 j) := by
  unfold vecs
  unfold_abbrev_sides
  after_results
  pointwise
  rfl

theorem vecs2 (j : Fin 1024) : vecs m c (ix2 2 j) = X7 m c (ix2 0 j) := by
  unfold vecs
  unfold_abbrev_sides
  after_results
  pointwise
  rfl

theorem vecs3 (j : Fin 1024) : vecs m c (ix2 3 j) = X8 m c (ix2 0 j) := by
  unfold vecs
  unfold_abbrev_sides
  after_results
  pointwise
  rfl

theorem vecs4 (j : Fin 1024) : vecs m c (ix2 4 j) = X9 m c (ix2 0 j) := by
  unfold vecs
  unfold_abbrev_sides
  after_results
  pointwise
  rfl

theorem vecs5 (j : Fin 1024) : vecs m c (ix2 5 j) = X10 m c (ix2 0 j) := by
  unfold vecs
  unfold_abbrev_sides
  after_results
  pointwise
  rfl

theorem vecs6 (j : Fin 1024) : vecs m c (ix2 6 j) = X11 m c (ix2 0 j) := by
  unfold vecs
  unfold_abbrev_sides
  after_results
  pointwise
  rfl

/-- One row of the vectors, read out of the block. -/
theorem ld_vec (k : Fin 8) (h : ∀ a : Fin 2, (![k.val, 0] : Fin 2 → ℕ) a + (![1, 1024] : Fin 2 → ℕ) a ≤ S8x1024.size a)
    (t : Fin cfg0.N) (i : S1x1024.Idx) :
    View.ld (iblk m c 5 t) (Rect.unit ![k.val, 0] ![1, 1024] h) i = vecs m c (ix2 k (i 1)) := by
  have hi : (i 0).val = 0 := Nat.lt_one_iff.mp (i 0).isLt
  refine (View.ld_unit_apply_of (S := S8x1024) (iblk m c 5 t) ![k.val, 0] ![1, 1024] h i (ix2 k (i 1)) ?_).trans (blk5 m c t _)
  intro a
  fin_cases a
  · change k.val = k.val + (i 0).val
    omega
  · exact (Nat.zero_add _).symm

/-- 1024 rows of the output projection's weight from row `o` on. -/
theorem ld_wo {o : ℕ} (h : ∀ a : Fin 2, (![o, 0] : Fin 2 → ℕ) a + (![1024, 1024] : Fin 2 → ℕ) a ≤ S2048x1024.size a)
    (t : Fin cfg0.N) (k j : Fin 1024) (hk : o + k.val < 2048) :
    View.ld (iblk m c 6 t) (Rect.unit ![o, 0] ![1024, 1024] h) (ix2 k j) = X12 m c (ix2 ⟨o + k.val, hk⟩ j) := by
  refine (View.ld_unit_apply_of (S := S2048x1024) (iblk m c 6 t) ![o, 0] ![1024, 1024] h (ix2 k j) (ix2 ⟨o + k.val, hk⟩ j) ?_).trans
    (blk6 m c t _)
  intro a
  fin_cases a
  · rfl
  · exact (Nat.zero_add _).symm

abbrev ldv (k : Fin 8) (h : ∀ a : Fin 2, (![k.val, 0] : Fin 2 → ℕ) a + (![1, 1024] : Fin 2 → ℕ) a ≤ S8x1024.size a)
    (t : Fin cfg0.N) : Vec Ideal S1x1024 .f32 := View.ld (iblk m c 5 t) (Rect.unit ![k.val, 0] ![1, 1024] h)

variable {m c} (hr : AllReal m c)
include hr

/-- What point `t` reads, as real numbers. -/
theorem tile (t : Fin cfg0.N) : Tile (iblk m c 0 t) (iblk m c 1 t) (iblk m c 2 t) (iblk m c 3 t) (iblk m c 4 t)
    (View.ld (iblk m c 5 t) (Rect.unit ![0, 0] ![1, 1024] inb_S8x1024_S1x1024_0_0))
    (View.ld (iblk m c 5 t) (Rect.unit ![1, 0] ![1, 1024] inb_S8x1024_S1x1024_1_0))
    (View.ld (iblk m c 5 t) (Rect.unit ![2, 0] ![1, 1024] inb_S8x1024_S1x1024_2_0))
    (View.ld (iblk m c 5 t) (Rect.unit ![3, 0] ![1, 1024] inb_S8x1024_S1x1024_3_0))
    (View.ld (iblk m c 5 t) (Rect.unit ![4, 0] ![1, 1024] inb_S8x1024_S1x1024_4_0))
    (View.ld (iblk m c 5 t) (Rect.unit ![5, 0] ![1, 1024] inb_S8x1024_S1x1024_5_0))
    (View.ld (iblk m c 5 t) (Rect.unit ![6, 0] ![1, 1024] inb_S8x1024_S1x1024_6_0))
    (View.ld (iblk m c 6 t) (Rect.unit ![0, 0] ![1024, 1024] inb_S2048x1024_S1024x1024_0_0))
    (View.ld (iblk m c 6 t) (Rect.unit ![1024, 0] ![1024, 1024] inb_S2048x1024_S1024x1024_1024_0))
    (iblk m c 6 t) (iblk m c 7 t) (iblk m c 8 t) (wts m c) (fun a => tok m c (row t a)) where
  x i := (blk0 m c t i).trans (hr.f0 _)
  ys i := (blk1 m c t i).trans (hr.f1 _)
  yc i := (blk2 m c t i).trans (hr.f2 _)
  p i := (blk3 m c t i).trans (hr.f3 _)
  t i := (blk4 m c t i).trans (hr.f4 _)
  g0 i := (ld_vec m c 0 _ t i).trans ((vecs0 m c _).trans (hr.f5 _))
  b0 i := (ld_vec m c 1 _ t i).trans ((vecs1 m c _).trans (hr.f6 _))
  bo i := (ld_vec m c 2 _ t i).trans ((vecs2 m c _).trans (hr.f7 _))
  g1 i := (ld_vec m c 3 _ t i).trans ((vecs3 m c _).trans (hr.f8 _))
  b1 i := (ld_vec m c 4 _ t i).trans ((vecs4 m c _).trans (hr.f9 _))
  g2 i := (ld_vec m c 5 _ t i).trans ((vecs5 m c _).trans (hr.f10 _))
  b2 i := (ld_vec m c 6 _ t i).trans ((vecs6 m c _).trans (hr.f11 _))
  wo1 k j := (ld_wo m c _ t k j (by omega)).trans ((hr.f12 _).trans (by simp [wts]))
  wo2 k j := (ld_wo m c _ t k j (by omega)).trans (hr.f12 _)
  wo i := (blk6 m c t i).trans (hr.f12 _)
  wg i := (blk7 m c t i).trans (hr.f13 _)
  wp i := (blk8 m c t i).trans (hr.f14 _)

/-! ## The streamed outputs -/

theorem out9 (t : Fin cfg0.N) (y : S512x2048.Idx) : (outsAt0 m c t.val t.isLt).1 y
    = ↑(dmix (wts m c) (tok m c (row t (y 0))) (y 1)) := by
  by_cases h0 : t.val % 8 = 0
  · rw [outsAt0_A m c t h0]; frame_out; exact t_dmix (tile hr t) y
  · rw [outsAt0_B m c t h0]; frame_out; exact t_dmix (tile hr t) y

/-- The same over the whole array. -/
def all9 (i : S4096x2048.Idx) : EReal := ↑(dmix (wts m c) (tok m c (i 0)) (i 1))

theorem arr9 (i : S4096x2048.Idx) : ((dats m 0 c).arrAt 9 cfg0.N i : EReal) = all9 (m := m) (c := c) i := by
  have e : (dats m 0 c).arrAt 9 cfg0.N = fun i : S4096x2048.Idx => all9 (m := m) (c := c) i := by
    refine (dats m 0 c).arrAt_eq_of_covers 9 _ (by decide +kernel) fun t hf y => ?_
    have e0 : ∀ t : Fin cfg0.grid.N, win0_9.index t 0 = t.val ∧ win0_9.index t 1 = 0 := by decide +kernel
    have ey : (win0_9.blk t).view.emb y = ix2 (row t (y 0)) (y 1) := by unfold row; blk_ext [(e0 t).1, (e0 t).2]
    have h : (outsAt0 m c t.val t.isLt).1 y = all9 (m := m) (c := c) (ix2 (row t (y 0)) (y 1)) := out9 hr _ y
    blk_simp
    rw [after0_9]
    exact h.trans (congrArg (all9 (m := m) (c := c)) ey.symm)
  exact congrFun e i

theorem out10 (t : Fin cfg0.N) (y : S512x1024.Idx) : (outsAt0 m c t.val t.isLt).2.1 y
    = ↑(dr1 (wts m c) (tok m c (row t (y 0))) (y 1)) := by
  by_cases h0 : t.val % 8 = 0
  · rw [outsAt0_A m c t h0]; frame_out; exact t_dr1 (tile hr t) y
  · rw [outsAt0_B m c t h0]; frame_out; exact t_dr1 (tile hr t) y

/-- The same over the whole array. -/
def all10 (i : S4096x1024.Idx) : EReal := ↑(dr1 (wts m c) (tok m c (i 0)) (i 1))

theorem arr10 (i : S4096x1024.Idx) : ((dats m 0 c).arrAt 10 cfg0.N i : EReal) = all10 (m := m) (c := c) i := by
  have e : (dats m 0 c).arrAt 10 cfg0.N = fun i : S4096x1024.Idx => all10 (m := m) (c := c) i := by
    refine (dats m 0 c).arrAt_eq_of_covers 10 _ (by decide +kernel) fun t hf y => ?_
    have e0 : ∀ t : Fin cfg0.grid.N, win0_10.index t 0 = t.val ∧ win0_10.index t 1 = 0 := by decide +kernel
    have ey : (win0_10.blk t).view.emb y = ix2 (row t (y 0)) (y 1) := by unfold row; blk_ext [(e0 t).1, (e0 t).2]
    have h : (outsAt0 m c t.val t.isLt).2.1 y = all10 (m := m) (c := c) (ix2 (row t (y 0)) (y 1)) := out10 hr _ y
    blk_simp
    rw [after0_10]
    exact h.trans (congrArg (all10 (m := m) (c := c)) ey.symm)
  exact congrFun e i

theorem out11 (t : Fin cfg0.N) (y : S512x1024.Idx) : (outsAt0 m c t.val t.isLt).2.2.1 y
    = ↑(dr1 (wts m c) (tok m c (row t (y 0))) (y 1)) := by
  by_cases h0 : t.val % 8 = 0
  · rw [outsAt0_A m c t h0]; frame_out; exact t_dr1b (tile hr t) y
  · rw [outsAt0_B m c t h0]; frame_out; exact t_dr1b (tile hr t) y

/-- The same over the whole array. -/
def all11 (i : S4096x1024.Idx) : EReal := ↑(dr1 (wts m c) (tok m c (i 0)) (i 1))

theorem arr11 (i : S4096x1024.Idx) : ((dats m 0 c).arrAt 11 cfg0.N i : EReal) = all11 (m := m) (c := c) i := by
  have e : (dats m 0 c).arrAt 11 cfg0.N = fun i : S4096x1024.Idx => all11 (m := m) (c := c) i := by
    refine (dats m 0 c).arrAt_eq_of_covers 11 _ (by decide +kernel) fun t hf y => ?_
    have e0 : ∀ t : Fin cfg0.grid.N, win0_11.index t 0 = t.val ∧ win0_11.index t 1 = 0 := by decide +kernel
    have ey : (win0_11.blk t).view.emb y = ix2 (row t (y 0)) (y 1) := by unfold row; blk_ext [(e0 t).1, (e0 t).2]
    have h : (outsAt0 m c t.val t.isLt).2.2.1 y = all11 (m := m) (c := c) (ix2 (row t (y 0)) (y 1)) := out11 hr _ y
    blk_simp
    rw [after0_11]
    exact h.trans (congrArg (all11 (m := m) (c := c)) ey.symm)
  exact congrFun e i

theorem out12 (t : Fin cfg0.N) (y : S512x1024.Idx) : (outsAt0 m c t.val t.isLt).2.2.2.1 y
    = ↑(h1 (wts m c) (tok m c (row t (y 0))) (y 1)) := by
  by_cases h0 : t.val % 8 = 0
  · rw [outsAt0_A m c t h0]; frame_out; exact t_h1b (tile hr t) y
  · rw [outsAt0_B m c t h0]; frame_out; exact t_h1b (tile hr t) y

/-- The same over the whole array. -/
def all12 (i : S4096x1024.Idx) : EReal := ↑(h1 (wts m c) (tok m c (i 0)) (i 1))

theorem arr12 (i : S4096x1024.Idx) : ((dats m 0 c).arrAt 12 cfg0.N i : EReal) = all12 (m := m) (c := c) i := by
  have e : (dats m 0 c).arrAt 12 cfg0.N = fun i : S4096x1024.Idx => all12 (m := m) (c := c) i := by
    refine (dats m 0 c).arrAt_eq_of_covers 12 _ (by decide +kernel) fun t hf y => ?_
    have e0 : ∀ t : Fin cfg0.grid.N, win0_12.index t 0 = t.val ∧ win0_12.index t 1 = 0 := by decide +kernel
    have ey : (win0_12.blk t).view.emb y = ix2 (row t (y 0)) (y 1) := by unfold row; blk_ext [(e0 t).1, (e0 t).2]
    have h : (outsAt0 m c t.val t.isLt).2.2.2.1 y = all12 (m := m) (c := c) (ix2 (row t (y 0)) (y 1)) := out12 hr _ y
    blk_simp
    rw [after0_12]
    exact h.trans (congrArg (all12 (m := m) (c := c)) ey.symm)
  exact congrFun e i

theorem out13 (t : Fin cfg0.N) (y : S512x1024.Idx) : (outsAt0 m c t.val t.isLt).2.2.2.2.1 y
    = ↑(dgate (wts m c) (tok m c (row t (y 0))) (y 1)) := by
  by_cases h0 : t.val % 8 = 0
  · rw [outsAt0_A m c t h0]; frame_out; exact t_dgate (tile hr t) y
  · rw [outsAt0_B m c t h0]; frame_out; exact t_dgate (tile hr t) y

/-- The same over the whole array. -/
def all13 (i : S4096x1024.Idx) : EReal := ↑(dgate (wts m c) (tok m c (i 0)) (i 1))

theorem arr13 (i : S4096x1024.Idx) : ((dats m 0 c).arrAt 13 cfg0.N i : EReal) = all13 (m := m) (c := c) i := by
  have e : (dats m 0 c).arrAt 13 cfg0.N = fun i : S4096x1024.Idx => all13 (m := m) (c := c) i := by
    refine (dats m 0 c).arrAt_eq_of_covers 13 _ (by decide +kernel) fun t hf y => ?_
    have e0 : ∀ t : Fin cfg0.grid.N, win0_13.index t 0 = t.val ∧ win0_13.index t 1 = 0 := by decide +kernel
    have ey : (win0_13.blk t).view.emb y = ix2 (row t (y 0)) (y 1) := by unfold row; blk_ext [(e0 t).1, (e0 t).2]
    have h : (outsAt0 m c t.val t.isLt).2.2.2.2.1 y = all13 (m := m) (c := c) (ix2 (row t (y 0)) (y 1)) := out13 hr _ y
    blk_simp
    rw [after0_13]
    exact h.trans (congrArg (all13 (m := m) (c := c)) ey.symm)
  exact congrFun e i

theorem out14 (t : Fin cfg0.N) (y : S512x1024.Idx) : (outsAt0 m c t.val t.isLt).2.2.2.2.2.1 y
    = ↑(dple (wts m c) (tok m c (row t (y 0))) (y 1)) := by
  by_cases h0 : t.val % 8 = 0
  · rw [outsAt0_A m c t h0]; frame_out; exact t_dple (tile hr t) y
  · rw [outsAt0_B m c t h0]; frame_out; exact t_dple (tile hr t) y

/-- The same over the whole array. -/
def all14 (i : S4096x1024.Idx) : EReal := ↑(dple (wts m c) (tok m c (i 0)) (i 1))

theorem arr14 (i : S4096x1024.Idx) : ((dats m 0 c).arrAt 14 cfg0.N i : EReal) = all14 (m := m) (c := c) i := by
  have e : (dats m 0 c).arrAt 14 cfg0.N = fun i : S4096x1024.Idx => all14 (m := m) (c := c) i := by
    refine (dats m 0 c).arrAt_eq_of_covers 14 _ (by decide +kernel) fun t hf y => ?_
    have e0 : ∀ t : Fin cfg0.grid.N, win0_14.index t 0 = t.val ∧ win0_14.index t 1 = 0 := by decide +kernel
    have ey : (win0_14.blk t).view.emb y = ix2 (row t (y 0)) (y 1) := by unfold row; blk_ext [(e0 t).1, (e0 t).2]
    have h : (outsAt0 m c t.val t.isLt).2.2.2.2.2.1 y = all14 (m := m) (c := c) (ix2 (row t (y 0)) (y 1)) := out14 hr _ y
    blk_simp
    rw [after0_14]
    exact h.trans (congrArg (all14 (m := m) (c := c)) ey.symm)
  exact congrFun e i

/-! ## The accumulated outputs -/

omit hr in
/-- Eight runs of 512 rows are all the rows. -/
theorem sum_rows (g : Fin 4096 → ℝ) (r : ℕ → EReal)
    (h : ∀ n (hn : n < cfg0.N), r n = ↑(∑ a : Fin 512, g (row ⟨n, hn⟩ a))) :
    ∑ n ∈ Finset.range 8, r n = ↑(∑ x : Fin 4096, g x) := by
  have hN : cfg0.N = 8 := N_0
  refine Eq.trans (Finset.sum_congr (M := EReal) rfl fun n hn => ?_)
    ((Cert.Sums.sum_runs_fin (B := 512) (J := 8) (N := 4096) rfl (fun x => (g x : EReal))
      (fun n k => if hn : n < cfg0.N then (g (row ⟨n, hn⟩ k) : EReal) else 0) fun n hn k => ?_).trans (coe_sum _ _))
  · have hn' : n < cfg0.N := by rw [hN]; exact Finset.mem_range.mp hn
    rw [h n hn', ← coe_sum]
    exact Finset.sum_congr (M := EReal) rfl fun a _ => by rw [dif_pos hn']
  · rw [dif_pos (by omega)]
    rfl

omit hr in
theorem read5 (y : S1x1024.Idx) : k0_pay5 (F := Ideal) (ix2 0 (y 1)) = 0 := pay5_apply _

/-- What point `t` adds to the small gradients. -/
abbrev part (t : Fin cfg0.N) (i : S8x1024.Idx) : EReal :=
  ↑(∑ a, small (wts m c) (tok m c (row t a)) (i 0).val (i 1))

theorem out15_first (t : Fin cfg0.N) (h0 : t.val % 8 = 0) (y : S8x1024.Idx) :
    (outsAt0 m c t.val t.isLt).2.2.2.2.2.2.1 y = 0 + part (m := m) (c := c) t y := by
  rw [outsAt0_A m c t h0]; frame_out
  unfold part
  by_cases c0 : (y 0).val = 0
  · rw [c0]
    refine (Cert.Pieces.canon_in _ _ _ y 0 (y 1) (by simpa using c0) (by simp)).trans ?_
    refine (t_row0 (tile hr t) _ _).trans (congrArg₂ (· + ·) ?_ rfl)
    rw [View.readCov_skip _ _ _ _ _ rfl, View.readCov_skip _ _ _ _ _ rfl, View.readCov_skip _ _ _ _ _ rfl, View.readCov_skip _ _ _ _ _ rfl, View.readCov_fill _ _ _ _ _ (by decide)]
    exact pay5_apply _
  refine (Cert.Pieces.canon_out _ _ _ y (by omega)).trans ?_
  by_cases c2 : (y 0).val = 2
  · rw [c2]
    refine (Cert.Pieces.canon_in _ _ _ y 0 (y 1) (by simpa using c2) (by simp)).trans ?_
    refine (t_row2 (tile hr t) _ _).trans (congrArg₂ (· + ·) ?_ rfl)
    rw [View.readCov_skip _ _ _ _ _ rfl, View.readCov_skip _ _ _ _ _ rfl, View.readCov_skip _ _ _ _ _ rfl, View.readCov_fill _ _ _ _ _ (by decide)]
    exact pay5_apply _
  refine (Cert.Pieces.canon_out _ _ _ y (by omega)).trans ?_
  by_cases c1 : (y 0).val = 1
  · rw [c1]
    refine (Cert.Pieces.canon_in _ _ _ y 0 (y 1) (by simpa using c1) (by simp)).trans ?_
    refine (t_row1 (tile hr t) _ _).trans (congrArg₂ (· + ·) ?_ rfl)
    rw [View.readCov_skip _ _ _ _ _ rfl, View.readCov_skip _ _ _ _ _ rfl, View.readCov_fill _ _ _ _ _ (by decide)]
    exact pay5_apply _
  refine (Cert.Pieces.canon_out _ _ _ y (by omega)).trans ?_
  by_cases c4 : (y 0).val = 4
  · rw [c4]
    refine (Cert.Pieces.canon_in _ _ _ y 0 (y 1) (by simpa using c4) (by simp)).trans ?_
    refine (t_row4 (tile hr t) _ _).trans (congrArg₂ (· + ·) ?_ rfl)
    rw [View.readCov_skip _ _ _ _ _ rfl, View.readCov_fill _ _ _ _ _ (by decide)]
    exact pay5_apply _
  refine (Cert.Pieces.canon_out _ _ _ y (by omega)).trans ?_
  by_cases c3 : (y 0).val = 3
  · rw [c3]
    refine (Cert.Pieces.canon_in _ _ _ y 0 (y 1) (by simpa using c3) (by simp)).trans ?_
    refine (t_row3 (tile hr t) _ _).trans (congrArg₂ (· + ·) ?_ rfl)
    rw [View.readCov_fill _ _ _ _ _ (by decide)]
    exact pay5_apply _
  refine (Cert.Pieces.canon_out _ _ _ y (by omega)).trans ?_
  have hz : (∑ a, small (wts m c) (tok m c (row t a)) (y 0).val (y 1)) = 0 := Finset.sum_eq_zero fun a _ => by
    unfold small
    rw [if_neg c0, if_neg c1, if_neg c2, if_neg c3, if_neg c4]
  rw [hz, EReal.coe_zero, add_zero]
  exact (Cert.Pieces.canon_in _ _ _ y (y 0) (y 1) (by simp) (by simp)).trans (pay5_apply _)

theorem out15_next (t : Fin cfg0.N) (h0 : ¬ t.val % 8 = 0) (y : S8x1024.Idx) :
    (outsAt0 m c t.val t.isLt).2.2.2.2.2.2.1 y
      = (outsAt0 m c (t.val - 1) (Nat.lt_of_le_of_lt (Nat.sub_le _ _) t.isLt)).2.2.2.2.2.2.1 y + part (m := m) (c := c) t y := by
  rw [outsAt0_B m c t h0]; frame_out
  unfold part
  by_cases c0 : (y 0).val = 0
  · rw [c0]
    refine (View.read_writes_cons_rows_of_mem _ _ _ _ _ y (ix2 (0 : Fin 1) (y 1)) rfl (by simpa using c0) rfl).trans ?_
    refine (t_row0 (tile hr t) _ _).trans (congrArg₂ (· + ·) ?_ rfl)
    refine View.ld_unit_apply_of (S := S8x1024) _ _ _ _ _ y ?_
    intro a
    fin_cases a
    · simpa using c0
    · exact (Nat.zero_add _).symm
  refine (View.read_writes_cons_rows_of_not_mem (W := 1) _ _ _ _ _ y rfl rfl (by omega)).trans ?_
  by_cases c2 : (y 0).val = 2
  · rw [c2]
    refine (View.read_writes_cons_rows_of_mem _ _ _ _ _ y (ix2 (0 : Fin 1) (y 1)) rfl (by simpa using c2) rfl).trans ?_
    refine (t_row2 (tile hr t) _ _).trans (congrArg₂ (· + ·) ?_ rfl)
    refine View.ld_unit_apply_of (S := S8x1024) _ _ _ _ _ y ?_
    intro a
    fin_cases a
    · simpa using c2
    · exact (Nat.zero_add _).symm
  refine (View.read_writes_cons_rows_of_not_mem (W := 1) _ _ _ _ _ y rfl rfl (by omega)).trans ?_
  by_cases c1 : (y 0).val = 1
  · rw [c1]
    refine (View.read_writes_cons_rows_of_mem _ _ _ _ _ y (ix2 (0 : Fin 1) (y 1)) rfl (by simpa using c1) rfl).trans ?_
    refine (t_row1 (tile hr t) _ _).trans (congrArg₂ (· + ·) ?_ rfl)
    refine View.ld_unit_apply_of (S := S8x1024) _ _ _ _ _ y ?_
    intro a
    fin_cases a
    · simpa using c1
    · exact (Nat.zero_add _).symm
  refine (View.read_writes_cons_rows_of_not_mem (W := 1) _ _ _ _ _ y rfl rfl (by omega)).trans ?_
  by_cases c4 : (y 0).val = 4
  · rw [c4]
    refine (View.read_writes_cons_rows_of_mem _ _ _ _ _ y (ix2 (0 : Fin 1) (y 1)) rfl (by simpa using c4) rfl).trans ?_
    refine (t_row4 (tile hr t) _ _).trans (congrArg₂ (· + ·) ?_ rfl)
    refine View.ld_unit_apply_of (S := S8x1024) _ _ _ _ _ y ?_
    intro a
    fin_cases a
    · simpa using c4
    · exact (Nat.zero_add _).symm
  refine (View.read_writes_cons_rows_of_not_mem (W := 1) _ _ _ _ _ y rfl rfl (by omega)).trans ?_
  by_cases c3 : (y 0).val = 3
  · rw [c3]
    refine (View.read_writes_cons_rows_of_mem _ _ _ _ _ y (ix2 (0 : Fin 1) (y 1)) rfl (by simpa using c3) rfl).trans ?_
    refine (t_row3 (tile hr t) _ _).trans (congrArg₂ (· + ·) ?_ rfl)
    refine View.ld_unit_apply_of (S := S8x1024) _ _ _ _ _ y ?_
    intro a
    fin_cases a
    · simpa using c3
    · exact (Nat.zero_add _).symm
  refine (View.read_writes_cons_rows_of_not_mem (W := 1) _ _ _ _ _ y rfl rfl (by omega)).trans ?_
  have hz : (∑ a, small (wts m c) (tok m c (row t a)) (y 0).val (y 1)) = 0 := Finset.sum_eq_zero fun a _ => by
    unfold small
    rw [if_neg c0, if_neg c1, if_neg c2, if_neg c3, if_neg c4]
  rw [hz, EReal.coe_zero, add_zero]
  rw [View.writes_nil, Memref.IsWhole.read_unread]

theorem out16_first (t : Fin cfg0.N) (h0 : t.val % 8 = 0) (y : S8x128.Idx) :
    (outsAt0 m c t.val t.isLt).2.2.2.2.2.2.2 y = 0 + ↑(1 / 2048 * ∑ a, sq (wts m c) (tok m c (row t a))) := by
  rw [outsAt0_A m c t h0]; frame_out
  exact (t_acc (tile hr t) _ y).trans (congrArg₂ (· + ·) (pay6_apply _) rfl)

theorem out16_next (t : Fin cfg0.N) (h0 : ¬ t.val % 8 = 0) (y : S8x128.Idx) :
    (outsAt0 m c t.val t.isLt).2.2.2.2.2.2.2 y
      = (outsAt0 m c (t.val - 1) (Nat.lt_of_le_of_lt (Nat.sub_le _ _) t.isLt)).2.2.2.2.2.2.2 y
        + ↑(1 / 2048 * ∑ a, sq (wts m c) (tok m c (row t a))) := by
  rw [outsAt0_B m c t h0]; frame_out
  exact t_acc (tile hr t) _ y

omit hr in
/-- Point `n`'s additions, zero beyond the grid. -/
def term15 (n : ℕ) (i : S8x1024.Idx) : EReal := if h : n < cfg0.N then part (m := m) (c := c) ⟨n, h⟩ i else 0

omit hr in
def term16 (n : ℕ) (_ : S8x128.Idx) : EReal :=
  if h : n < cfg0.N then ↑(1 / 2048 * ∑ a, sq (wts m c) (tok m c (row ⟨n, h⟩ a))) else 0

/-- The small gradients over all tokens. -/
def smallAll (i : S8x1024.Idx) : EReal := ↑(∑ r, small (wts m c) (tok m c r) (i 0).val (i 1))

/-- The loss, the same number everywhere. -/
def lossAll (_ : S8x128.Idx) : EReal := ↑(1 / 2048 * ∑ r, sq (wts m c) (tok m c r))

theorem out15_last (t : Fin cfg0.N) (ht : t.val = 7) (y : S8x1024.Idx) :
    (outsAt0 m c t.val t.isLt).2.2.2.2.2.2.1 y = smallAll (m := m) (c := c) y := by
  have hN : cfg0.N = 8 := N_0
  refine (Pipeline.eq_sum_of_reset_step_apply_single (M := EReal) (fun n h i => (outsAt0 m c n h).2.2.2.2.2.2.1 i) 8 (fun _ => 0)
    (term15 (m := m) (c := c)) ?_ ?_ (by omega) t y).trans ?_
  · intro t h i
    unfold term15
    rw [dif_pos t.isLt]
    exact out15_first hr t h i
  · intro t h i
    unfold term15
    rw [dif_pos t.isLt]
    exact out15_next hr t h i
  unfold smallAll
  rw [zero_add, ht]
  exact sum_rows (fun r => small (wts m c) (tok m c r) (y 0).val (y 1)) (fun n => term15 (m := m) (c := c) n y) fun n hn => by
    unfold term15
    rw [dif_pos hn]

theorem arr15 (i : S8x1024.Idx) : ((dats m 0 c).arrAt 15 cfg0.N i : EReal) = smallAll (m := m) (c := c) i := by
  have e : (dats m 0 c).arrAt 15 cfg0.N = fun i : S8x1024.Idx => smallAll (m := m) (c := c) i := by
    refine (dats m 0 c).arrAt_eq_of_covers 15 _ (by decide +kernel) fun t hf y => ?_
    have ht : t.val = 7 := (by decide +kernel : ∀ t : Fin cfg0.grid.N, (cfg0.win 15).flush t = true → t.val = 7) t hf
    have e0 : ∀ t : Fin cfg0.grid.N, win0_15.index t 0 = 0 ∧ win0_15.index t 1 = 0 := by decide +kernel
    have ey : (win0_15.blk t).view.emb y = y := by blk_ext [(e0 t).1, (e0 t).2]
    blk_simp
    rw [after0_15]
    exact (out15_last hr t ht y).trans (congrArg (smallAll (m := m) (c := c)) ey.symm)
  exact congrFun e i

theorem out16_last (t : Fin cfg0.N) (ht : t.val = 7) (y : S8x128.Idx) :
    (outsAt0 m c t.val t.isLt).2.2.2.2.2.2.2 y = lossAll (m := m) (c := c) y := by
  have hN : cfg0.N = 8 := N_0
  refine (Pipeline.eq_sum_of_reset_step_apply_single (M := EReal) (fun n h i => (outsAt0 m c n h).2.2.2.2.2.2.2 i) 8 (fun _ => 0)
    (term16 (m := m) (c := c)) ?_ ?_ (by omega) t y).trans ?_
  · intro t h i
    unfold term16
    rw [dif_pos t.isLt]
    exact out16_first hr t h i
  · intro t h i
    unfold term16
    rw [dif_pos t.isLt]
    exact out16_next hr t h i
  unfold lossAll
  rw [zero_add, ht]
  rw [Finset.mul_sum]
  refine sum_rows (fun r => 1 / 2048 * sq (wts m c) (tok m c r)) (fun n => term16 (m := m) (c := c) n y) fun n hn => ?_
  unfold term16
  rw [dif_pos hn, Finset.mul_sum]

theorem arr16 (i : S8x128.Idx) : ((dats m 0 c).arrAt 16 cfg0.N i : EReal) = lossAll (m := m) (c := c) i := by
  have e : (dats m 0 c).arrAt 16 cfg0.N = fun i : S8x128.Idx => lossAll (m := m) (c := c) i := by
    refine (dats m 0 c).arrAt_eq_of_covers 16 _ (by decide +kernel) fun t hf y => ?_
    have ht : t.val = 7 := (by decide +kernel : ∀ t : Fin cfg0.grid.N, (cfg0.win 16).flush t = true → t.val = 7) t hf
    have e0 : ∀ t : Fin cfg0.grid.N, win0_16.index t 0 = 0 ∧ win0_16.index t 1 = 0 := by decide +kernel
    have ey : (win0_16.blk t).view.emb y = y := by blk_ext [(e0 t).1, (e0 t).2]
    blk_simp
    rw [after0_16]
    exact (out16_last hr t ht y).trans (congrArg (lossAll (m := m) (c := c)) ey.symm)
  exact congrFun e i

end Cert.Tail
-- ==== Proof.TailReference.lean ====
/-
  The step's tail as plain operations and the chain rule give it, stage by stage.
-/
module

public import proofs.«01_k».proof.Proof.TailMath
public import proofs.«01_k».proof.Proof.Gen.Reference4Ideal.Run
public import proofs.«01_k».proof.Proof.Gen.Reference4Ideal.Read

@[expose] public section

noncomputable section

open Idealize.ShloMosaic Idealize.ShloMosaic.TcCoe Idealize.SL.Sem

namespace Cert.Tail

open Cert.Reference4Ideal Cert.Reference4Ideal.Gen Cert.Reference4Ideal.Read Cert.Reals

/-- The fifteen arguments hold these real numbers. -/
structure Reads (x0 : Vec Ideal S4096x1024 .f32) (x1 x2 : Vec Ideal S4096x1024 .bf16) (x3 : Vec Ideal S4096x256 .f32)
    (x4 : Vec Ideal S4096x1024 .f32) (x5 x6 x7 x8 x9 x10 x11 : Vec Ideal S1x1024 .f32)
    (x12 : Vec Ideal S2048x1024 .bf16) (x13 : Vec Ideal S1024x1024 .bf16) (x14 : Vec Ideal S256x1024 .bf16)
    (w : Weights) (R : Fin 4096 → Token) : Prop where
  f0 : ∀ i, x0 i = ↑((R (i 0)).x (i 1))
  f1 : ∀ i, x1 i = ↑((R (i 0)).ys (i 1))
  f2 : ∀ i, x2 i = ↑((R (i 0)).yc (i 1))
  f3 : ∀ i, x3 i = ↑((R (i 0)).p (i 1))
  f4 : ∀ i, x4 i = ↑((R (i 0)).t (i 1))
  f5 : ∀ i, x5 i = ↑(w.g0 (i 1))
  f6 : ∀ i, x6 i = ↑(w.b0 (i 1))
  f7 : ∀ i, x7 i = ↑(w.bo (i 1))
  f8 : ∀ i, x8 i = ↑(w.g1 (i 1))
  f9 : ∀ i, x9 i = ↑(w.b1 (i 1))
  f10 : ∀ i, x10 i = ↑(w.g2 (i 1))
  f11 : ∀ i, x11 i = ↑(w.b2 (i 1))
  f12 : ∀ i, x12 i = ↑(w.wo (i 0) (i 1))
  f13 : ∀ i, x13 i = ↑(w.wg (i 0) (i 1))
  f14 : ∀ i, x14 i = ↑(w.wp (i 0) (i 1))

variable {x0 : Vec Ideal S4096x1024 .f32} {x1 x2 : Vec Ideal S4096x1024 .bf16} {x3 : Vec Ideal S4096x256 .f32}
  {x4 : Vec Ideal S4096x1024 .f32} {x5 x6 x7 x8 x9 x10 x11 : Vec Ideal S1x1024 .f32}
  {x12 : Vec Ideal S2048x1024 .bf16} {x13 : Vec Ideal S1024x1024 .bf16} {x14 : Vec Ideal S256x1024 .bf16}
  {w : Weights} {R : Fin 4096 → Token} (h : Reads x0 x1 x2 x3 x4 x5 x6 x7 x8 x9 x10 x11 x12 x13 x14 w R)
include h

/-! ## The norm of the stream -/

theorem ref_cen0 (i : S4096x1024.Idx) : val_main_v10 x0 i = ↑(cen (R (i 0)).x (i 1)) := by
  unfold val_main_v10 val_main_v9 val_main_v8 val_main_v7 val_main_cst_0 val_main_v6 val_main_v5 val_main_cst
  pointwise
  simp only [h.f0, ofBits_1024, coe_sum]
  rw [coe_div _ (by norm_num), ← EReal.coe_sub]
  rfl

theorem ref_var0 (i : S4096x1.Idx) : val_main_v19 x0 i = ↑(var (R (i 0)).x + eps) := by
  unfold val_main_v19 val_main_v18 val_main_cst_3 val_main_v15 val_main_v14 val_main_cst_2 val_main_v13 val_main_v12
    val_main_cst_1 val_main_v11
  pointwise
  simp only [ref_cen0 h, ofBits_1024, ofBits_eps, ← EReal.coe_mul, coe_sum]
  rw [coe_div _ (by norm_num), ← EReal.coe_add]
  rfl

theorem ref_rstd0 (i : S4096x1.Idx) : val_main_v20 x0 i = ↑(rstd (R (i 0)).x) := by
  unfold val_main_v20
  pointwise
  rw [ref_var0 h, coe_rsqrt (var_eps_pos _)]
  rfl

theorem ref_cenb0 (i : S4096x1024.Idx) : val_main_v17 x0 i = ↑(cen (R (i 0)).x (i 1)) := by
  unfold val_main_v17 val_main_v16 val_main_v8 val_main_v7 val_main_cst_0 val_main_v6 val_main_v5 val_main_cst
  pointwise
  simp only [h.f0, ofBits_1024, coe_sum]
  rw [coe_div _ (by norm_num), ← EReal.coe_sub]
  rfl

theorem ref_xhat0 (i : S4096x1024.Idx) : val_main_v22 x0 i = ↑(xhat (R (i 0)).x (i 1)) := by
  unfold val_main_v22 val_main_v21
  pointwise
  rw [ref_cenb0 h, ref_rstd0 h, ← EReal.coe_mul]
  rfl

theorem ref_h0 (i : S4096x1024.Idx) : val_main_v26 x0 x5 x6 i = ↑(h0 w (R (i 0)) (i 1)) := by
  unfold val_main_v26 val_main_v25 val_main_v24 val_main_v23
  pointwise
  simp only [ref_xhat0 h, h.f5, h.f6, ← EReal.coe_mul, ← EReal.coe_add]
  rfl

/-! ## The first residual norm -/

theorem ref_mix (i : S4096x2048.Idx) : val_main_v1 x1 x2 i = ↑(mix (R (i 0)) (i 1)) := by
  unfold val_main_v1 val_main_v0
  pointwise
  unfold mix
  simp only [h.f1, h.f2]
  split
  · rfl
  · rfl

theorem ref_out (i : S4096x1024.Idx) : val_main_v28 x1 x2 x12 i = ↑(mixOut w (R (i 0)) (i 1)) := by
  unfold val_main_v28 val_main_v2
  pointwise
  simp only [ref_mix h, h.f12, ← EReal.coe_mul, coe_sum]
  rfl

theorem ref_a1 (i : S4096x1024.Idx) : val_main_v34 x0 x1 x2 x5 x6 x7 x12 i = ↑(a1 w (R (i 0)) (i 1)) := by
  unfold val_main_v34 val_main_v33 val_main_v32 val_main_v31 val_main_cst_5 val_main_v30 val_main_v29 val_main_v27
    val_main_cst_4
  pointwise
  simp only [ref_h0 h, ref_out h, h.f7, ofBits_alpha, ← EReal.coe_mul, ← EReal.coe_add, add_zero]
  rfl

theorem ref_cen1 (i : S4096x1024.Idx) : val_main_v40 x0 x1 x2 x5 x6 x7 x12 i = ↑(cen (a1 w (R (i 0))) (i 1)) := by
  unfold val_main_v40 val_main_v39 val_main_v38 val_main_v37 val_main_cst_7 val_main_v36 val_main_v35 val_main_cst_6
  pointwise
  simp only [ref_a1 h, ofBits_1024, coe_sum]
  rw [coe_div _ (by norm_num), ← EReal.coe_sub]
  rfl

theorem ref_var1 (i : S4096x1.Idx) : val_main_v51 x0 x1 x2 x5 x6 x7 x12 i = ↑(var (a1 w (R (i 0))) + eps) := by
  unfold val_main_v51 val_main_v50 val_main_cst_11 val_main_v47 val_main_v46 val_main_cst_10 val_main_v45 val_main_v44
    val_main_cst_9 val_main_v41
  pointwise
  simp only [ref_cen1 h, ofBits_1024, ofBits_eps, ← EReal.coe_mul, coe_sum]
  rw [coe_div _ (by norm_num), ← EReal.coe_add]
  rfl

theorem ref_rstd1 (i : S4096x1.Idx) : val_main_v52 x0 x1 x2 x5 x6 x7 x12 i = ↑(rstd (a1 w (R (i 0)))) := by
  unfold val_main_v52
  pointwise
  rw [ref_var1 h, coe_rsqrt (var_eps_pos _)]
  rfl

theorem ref_cenb1 (i : S4096x1024.Idx) : val_main_v49 x0 x1 x2 x5 x6 x7 x12 i = ↑(cen (a1 w (R (i 0))) (i 1)) := by
  unfold val_main_v49 val_main_v48 val_main_v38 val_main_v37 val_main_cst_7 val_main_v36 val_main_v35 val_main_cst_6
  pointwise
  simp only [ref_a1 h, ofBits_1024, coe_sum]
  rw [coe_div _ (by norm_num), ← EReal.coe_sub]
  rfl

theorem ref_xhat1 (i : S4096x1024.Idx) : val_main_v57 x0 x1 x2 x5 x6 x7 x12 i = ↑(xhat (a1 w (R (i 0))) (i 1)) := by
  unfold val_main_v57 val_main_v56
  pointwise
  rw [ref_cenb1 h, ref_rstd1 h, ← EReal.coe_mul]
  rfl

theorem ref_h1 (i : S4096x1024.Idx) : val_main_v61 x0 x1 x2 x5 x6 x7 x8 x9 x12 i = ↑(h1 w (R (i 0)) (i 1)) := by
  unfold val_main_v61 val_main_v60 val_main_v59 val_main_v58
  pointwise
  simp only [ref_xhat1 h, h.f8, h.f9, ← EReal.coe_mul, ← EReal.coe_add]
  rfl

/-! ## The gate and the second residual norm -/

theorem ref_pre (i : S4096x1024.Idx) : val_main_v63 x0 x1 x2 x5 x6 x7 x8 x9 x12 x13 i = ↑(∑ k, h1 w (R (i 0)) k * w.wg k (i 1)) := by
  unfold val_main_v63 val_main_v62 val_main_v27 val_main_cst_4 val_main_v3
  pointwise
  simp only [ref_h1 h, h.f13, ← EReal.coe_mul, coe_sum, add_zero]
  rfl

theorem ref_gate (i : S4096x1024.Idx) : val_main_v69 x0 x1 x2 x5 x6 x7 x8 x9 x12 x13 i = ↑(gate w (R (i 0)) (i 1)) := by
  unfold val_main_v69 val_main_v68 val_main_cst_14 val_main_v67 val_main_v66 val_main_cst_13 val_main_v65 val_main_v64
  pointwise
  simp only [ref_pre h, ← EReal.coe_neg, Ideal.exp_coe, ofBits_one, ← EReal.coe_add]
  exact (coe_div (1 : ℝ) (one_add_exp_pos (∑ k, h1 w (R (i 0)) k * w.wg k (i 1))).ne').trans (congrArg ((↑) : ℝ → EReal) (one_div _))

theorem ref_ple (i : S4096x1024.Idx) : val_main_v74 x3 x14 i = ↑(ple w (R (i 0)) (i 1)) := by
  unfold val_main_v74 val_main_v73 val_main_v27 val_main_cst_4 val_main_v4
  pointwise
  simp only [h.f3, h.f14, ← EReal.coe_mul, coe_sum, add_zero]
  rfl

theorem ref_a2 (i : S4096x1024.Idx) : val_main_v78 x0 x1 x2 x3 x5 x6 x7 x8 x9 x12 x13 x14 i = ↑(a2 w (R (i 0)) (i 1)) := by
  unfold val_main_v78 val_main_v77 val_main_v76 val_main_v75 val_main_cst_16
  pointwise
  simp only [ref_h1 h, ref_gate h, ref_ple h, ofBits_alpha, ← EReal.coe_mul, ← EReal.coe_add]
  rfl

theorem ref_cen2 (i : S4096x1024.Idx) : val_main_v84 x0 x1 x2 x3 x5 x6 x7 x8 x9 x12 x13 x14 i = ↑(cen (a2 w (R (i 0))) (i 1)) := by
  unfold val_main_v84 val_main_v83 val_main_v82 val_main_v81 val_main_cst_18 val_main_v80 val_main_v79 val_main_cst_17
  pointwise
  simp only [ref_a2 h, ofBits_1024, coe_sum]
  rw [coe_div _ (by norm_num), ← EReal.coe_sub]
  rfl

theorem ref_var2 (i : S4096x1.Idx) : val_main_v95 x0 x1 x2 x3 x5 x6 x7 x8 x9 x12 x13 x14 i = ↑(var (a2 w (R (i 0))) + eps) := by
  unfold val_main_v95 val_main_v94 val_main_cst_22 val_main_v91 val_main_v90 val_main_cst_21 val_main_v89 val_main_v88
    val_main_cst_20 val_main_v85
  pointwise
  simp only [ref_cen2 h, ofBits_1024, ofBits_eps, ← EReal.coe_mul, coe_sum]
  rw [coe_div _ (by norm_num), ← EReal.coe_add]
  rfl

theorem ref_rstd2 (i : S4096x1.Idx) : val_main_v96 x0 x1 x2 x3 x5 x6 x7 x8 x9 x12 x13 x14 i = ↑(rstd (a2 w (R (i 0)))) := by
  unfold val_main_v96
  pointwise
  rw [ref_var2 h, coe_rsqrt (var_eps_pos _)]
  rfl

theorem ref_cenb2 (i : S4096x1024.Idx) : val_main_v93 x0 x1 x2 x3 x5 x6 x7 x8 x9 x12 x13 x14 i = ↑(cen (a2 w (R (i 0))) (i 1)) := by
  unfold val_main_v93 val_main_v92 val_main_v82 val_main_v81 val_main_cst_18 val_main_v80 val_main_v79 val_main_cst_17
  pointwise
  simp only [ref_a2 h, ofBits_1024, coe_sum]
  rw [coe_div _ (by norm_num), ← EReal.coe_sub]
  rfl

theorem ref_xhat2 (i : S4096x1024.Idx) : val_main_v101 x0 x1 x2 x3 x5 x6 x7 x8 x9 x12 x13 x14 i = ↑(xhat (a2 w (R (i 0))) (i 1)) := by
  unfold val_main_v101 val_main_v100
  pointwise
  rw [ref_cenb2 h, ref_rstd2 h, ← EReal.coe_mul]
  rfl

/-! ## The loss -/

theorem ref_diff (i : S4096x1024.Idx) : val_main_v106 x0 x1 x2 x3 x4 x5 x6 x7 x8 x9 x10 x11 x12 x13 x14 i = ↑(diff w (R (i 0)) (i 1)) := by
  unfold val_main_v106 val_main_v105 val_main_v104 val_main_v103 val_main_v102
  pointwise
  simp only [ref_xhat2 h, h.f10, h.f11, h.f4, ← EReal.coe_mul, ← EReal.coe_add, ← EReal.coe_sub]
  rfl

theorem ref_loss (i : S8x128.Idx) : val_main_v199 x0 x1 x2 x3 x4 x5 x6 x7 x8 x9 x10 x11 x12 x13 x14 i = ↑(1 / 2048 * ∑ r, sq w (R r)) := by
  unfold val_main_v199 val_main_v114 val_main_cst_28 val_main_v113 val_main_cst_27 val_main_v112 val_main_v111
    val_main_cst_26 val_main_v110 val_main_cst_25 val_main_v107
  pointwise
  simp only [ref_diff h, ofBits_1024, ofBits_half, ← EReal.coe_mul, coe_sum, coe_div _ (show (1024 : ℝ) ≠ 0 by norm_num)]
  refine congrArg ((↑) : ℝ → EReal) ?_
  rw [Finset.mul_sum, Finset.mul_sum]
  refine Finset.sum_congr rfl fun r _ => ?_
  unfold sq
  change 1 / 2 * ((∑ j, diff w (R r) j * diff w (R r) j) / 1024) = _
  ring

theorem ref_dh2 (i : S4096x1024.Idx) : val_main_v120 x0 x1 x2 x3 x4 x5 x6 x7 x8 x9 x10 x11 x12 x13 x14 i = ↑(dh2 w (R (i 0)) (i 1)) := by
  unfold val_main_v120 val_main_v119 val_main_v118 val_main_v117 val_main_cst_31 val_main_v116 val_main_v115
    val_main_cst_30 val_main_cst_29 val_main_v109 val_main_v108 val_main_cst_24
  pointwise
  simp only [ref_diff h, ofBits_1024, ofBits_half, ofBits_one, ofBits_two, ← EReal.coe_mul, coe_div _ (show (1024 : ℝ) ≠ 0 by norm_num)]
  refine congrArg ((↑) : ℝ → EReal) ?_
  unfold dh2
  ring

/-! ## The gradient through the second residual norm -/

theorem ref_dn2 (i : S4096x1024.Idx) : val_main_v127 x0 x1 x2 x3 x4 x5 x6 x7 x8 x9 x10 x11 x12 x13 x14 i = ↑(dh2 w (R (i 0)) (i 1) * w.g2 (i 1)) := by
  unfold val_main_v127 val_main_v126
  pointwise
  simp only [ref_dh2 h, h.f10, ← EReal.coe_mul]
  rfl

theorem ref_drstd2 (i : S4096x1.Idx) : val_main_v99 x0 x1 x2 x3 x5 x6 x7 x8 x9 x12 x13 x14 i = ↑(-(1 / 2) * (rstd (a2 w (R (i 0))) / (var (a2 w (R (i 0))) + eps))) := by
  unfold val_main_v99 val_main_v98 val_main_cst_23 val_main_v97
  pointwise
  rw [ref_var2 h, ref_rstd2 h, coe_div _ (var_eps_pos _).ne', ofBits_neg_half, ← EReal.coe_mul]

theorem ref_inner2 (i : S4096x1.Idx) : val_main_v130 x0 x1 x2 x3 x4 x5 x6 x7 x8 x9 x10 x11 x12 x13 x14 i = ↑(∑ k, cen (a2 w (R (i 0))) k * (dh2 w (R (i 0)) k * w.g2 k)) := by
  unfold val_main_v130 val_main_v129 val_main_cst_34 val_main_v128
  pointwise
  simp only [ref_cenb2 h, ref_dn2 h, ← EReal.coe_mul, coe_sum]
  rfl

theorem ref_direct2 (i : S4096x1024.Idx) : val_main_v132 x0 x1 x2 x3 x4 x5 x6 x7 x8 x9 x10 x11 x12 x13 x14 i = ↑(dh2 w (R (i 0)) (i 1) * w.g2 (i 1) * rstd (a2 w (R (i 0)))) := by
  unfold val_main_v132 val_main_v131
  pointwise
  rw [ref_dn2 h, ref_rstd2 h, ← EReal.coe_mul]
  rfl

theorem ref_square2 (i : S4096x1024.Idx) : val_main_v141 x0 x1 x2 x3 x4 x5 x6 x7 x8 x9 x10 x11 x12 x13 x14 i = ↑((∑ k, cen (a2 w (R (i 0))) k * (dh2 w (R (i 0)) k * w.g2 k)) * (-(1 / 2) * (rstd (a2 w (R (i 0))) / (var (a2 w (R (i 0))) + eps))) / 1024 * (2 * cen (a2 w (R (i 0))) (i 1))) := by
  unfold val_main_v141 val_main_v140 val_main_v139 val_main_cst_37 val_main_v138 val_main_v137 val_main_cst_36
    val_main_v133 val_main_v87 val_main_v86 val_main_cst_19
  pointwise
  simp only [ref_cen2 h, ref_inner2 h, ref_drstd2 h, ofBits_1024, ofBits_two, Fin.sum_univ_one, ← EReal.coe_mul]
  rw [coe_div _ (by norm_num), ← EReal.coe_mul]
  rfl

theorem ref_dr2 (i : S4096x1024.Idx) : val_main_v151 x0 x1 x2 x3 x4 x5 x6 x7 x8 x9 x10 x11 x12 x13 x14 i = ↑(dr2 w (R (i 0)) (i 1)) := by
  unfold val_main_v151 val_main_v150 val_main_v149 val_main_cst_40 val_main_v148 val_main_v147 val_main_cst_39
    val_main_v146 val_main_v145 val_main_v144 val_main_v143 val_main_cst_38 val_main_v142 val_main_v136 val_main_v135
    val_main_cst_35 val_main_v134
  pointwise
  simp only [ref_square2 h, ref_direct2 h, ofBits_1024, Fin.sum_univ_one, ← EReal.coe_neg, coe_sum, ← EReal.coe_add]
  rw [coe_div _ (by norm_num), ← EReal.coe_add]
  exact congrArg ((↑) : ℝ → EReal) (lnBwd_chain (fun j => dh2 w (R (i 0)) j * w.g2 j) (a2 w (R (i 0))) (i 1))

/-! ## The gradient through the gate -/

theorem ref_dple (i : S4096x1024.Idx) : val_main_v152 x0 x1 x2 x3 x4 x5 x6 x7 x8 x9 x10 x11 x12 x13 x14 i = ↑(dple w (R (i 0)) (i 1)) := by
  unfold val_main_v152
  pointwise
  rw [ref_gate h, ref_dr2 h, ← EReal.coe_mul]
  exact congrArg ((↑) : ℝ → EReal) (mul_comm _ _)

theorem ref_dgate (i : S4096x1024.Idx) : val_main_v156 x0 x1 x2 x3 x4 x5 x6 x7 x8 x9 x10 x11 x12 x13 x14 i = ↑(dgate w (R (i 0)) (i 1)) := by
  unfold val_main_v156 val_main_v153 val_main_v72 val_main_v71 val_main_v70 val_main_cst_15
  pointwise
  simp only [ref_gate h, ref_dr2 h, ref_ple h, ofBits_one, ← EReal.coe_sub, ← EReal.coe_mul]
  refine congrArg ((↑) : ℝ → EReal) ?_
  unfold dgate
  ring

theorem ref_dh1 (i : S4096x1024.Idx) : val_main_v158 x0 x1 x2 x3 x4 x5 x6 x7 x8 x9 x10 x11 x12 x13 x14 i = ↑(dh1 w (R (i 0)) (i 1)) := by
  unfold val_main_v158 val_main_v157 val_main_v155 val_main_v154 val_main_cst_41 val_main_v3
  pointwise
  simp only [ref_dgate h, ref_dr2 h, h.f13, ofBits_alpha, ← EReal.coe_mul, coe_sum, ← EReal.coe_add]
  rfl

/-! ## The gradient through the first residual norm -/

theorem ref_dn1 (i : S4096x1024.Idx) : val_main_v165 x0 x1 x2 x3 x4 x5 x6 x7 x8 x9 x10 x11 x12 x13 x14 i = ↑(dh1 w (R (i 0)) (i 1) * w.g1 (i 1)) := by
  unfold val_main_v165 val_main_v164
  pointwise
  simp only [ref_dh1 h, h.f8, ← EReal.coe_mul]
  rfl

theorem ref_drstd1 (i : S4096x1.Idx) : val_main_v55 x0 x1 x2 x5 x6 x7 x12 i = ↑(-(1 / 2) * (rstd (a1 w (R (i 0))) / (var (a1 w (R (i 0))) + eps))) := by
  unfold val_main_v55 val_main_v54 val_main_cst_12 val_main_v53
  pointwise
  rw [ref_var1 h, ref_rstd1 h, coe_div _ (var_eps_pos _).ne', ofBits_neg_half, ← EReal.coe_mul]

theorem ref_inner1 (i : S4096x1.Idx) : val_main_v168 x0 x1 x2 x3 x4 x5 x6 x7 x8 x9 x10 x11 x12 x13 x14 i = ↑(∑ k, cen (a1 w (R (i 0))) k * (dh1 w (R (i 0)) k * w.g1 k)) := by
  unfold val_main_v168 val_main_v167 val_main_cst_44 val_main_v166
  pointwise
  simp only [ref_cenb1 h, ref_dn1 h, ← EReal.coe_mul, coe_sum]
  rfl

theorem ref_direct1 (i : S4096x1024.Idx) : val_main_v170 x0 x1 x2 x3 x4 x5 x6 x7 x8 x9 x10 x11 x12 x13 x14 i = ↑(dh1 w (R (i 0)) (i 1) * w.g1 (i 1) * rstd (a1 w (R (i 0)))) := by
  unfold val_main_v170 val_main_v169
  pointwise
  rw [ref_dn1 h, ref_rstd1 h, ← EReal.coe_mul]
  rfl

theorem ref_square1 (i : S4096x1024.Idx) : val_main_v179 x0 x1 x2 x3 x4 x5 x6 x7 x8 x9 x10 x11 x12 x13 x14 i = ↑((∑ k, cen (a1 w (R (i 0))) k * (dh1 w (R (i 0)) k * w.g1 k)) * (-(1 / 2) * (rstd (a1 w (R (i 0))) / (var (a1 w (R (i 0))) + eps))) / 1024 * (2 * cen (a1 w (R (i 0))) (i 1))) := by
  unfold val_main_v179 val_main_v178 val_main_v177 val_main_cst_47 val_main_v176 val_main_v175 val_main_cst_46
    val_main_v171 val_main_v43 val_main_v42 val_main_cst_8
  pointwise
  simp only [ref_cen1 h, ref_inner1 h, ref_drstd1 h, ofBits_1024, ofBits_two, Fin.sum_univ_one, ← EReal.coe_mul]
  rw [coe_div _ (by norm_num), ← EReal.coe_mul]
  rfl

theorem ref_dr1 (i : S4096x1024.Idx) : val_main_v189 x0 x1 x2 x3 x4 x5 x6 x7 x8 x9 x10 x11 x12 x13 x14 i = ↑(dr1 w (R (i 0)) (i 1)) := by
  unfold val_main_v189 val_main_v188 val_main_v187 val_main_cst_50 val_main_v186 val_main_v185 val_main_cst_49
    val_main_v184 val_main_v183 val_main_v182 val_main_v181 val_main_cst_48 val_main_v180 val_main_v174 val_main_v173
    val_main_cst_45 val_main_v172
  pointwise
  simp only [ref_square1 h, ref_direct1 h, ofBits_1024, Fin.sum_univ_one, ← EReal.coe_neg, coe_sum, ← EReal.coe_add]
  rw [coe_div _ (by norm_num), ← EReal.coe_add]
  exact congrArg ((↑) : ℝ → EReal) (lnBwd_chain (fun j => dh1 w (R (i 0)) j * w.g1 j) (a1 w (R (i 0))) (i 1))

theorem ref_dmix (i : S4096x2048.Idx) : val_main_v192 x0 x1 x2 x3 x4 x5 x6 x7 x8 x9 x10 x11 x12 x13 x14 i = ↑(dmix w (R (i 0)) (i 1)) := by
  unfold val_main_v192 val_main_v2
  pointwise
  simp only [ref_dr1 h, h.f12, ← EReal.coe_mul, coe_sum]
  rfl

/-! ## The three that are stored once more, and the small gradients -/

theorem ref_dr1b (i : S4096x1024.Idx) : val_main_v195 x0 x1 x2 x3 x4 x5 x6 x7 x8 x9 x10 x11 x12 x13 x14 i = ↑(dr1 w (R (i 0)) (i 1)) := by
  unfold val_main_v195
  pointwise
  exact ref_dr1 h i

theorem ref_h1b (i : S4096x1024.Idx) : val_main_v196 x0 x1 x2 x5 x6 x7 x8 x9 x12 i = ↑(h1 w (R (i 0)) (i 1)) := by
  unfold val_main_v196
  pointwise
  exact ref_h1 h i

theorem ref_dgb (i : S4096x1024.Idx) : val_main_v197 x0 x1 x2 x3 x4 x5 x6 x7 x8 x9 x10 x11 x12 x13 x14 i = ↑(dgate w (R (i 0)) (i 1)) := by
  unfold val_main_v197
  pointwise
  exact ref_dgate h i

theorem ref_dpb (i : S4096x1024.Idx) : val_main_v198 x0 x1 x2 x3 x4 x5 x6 x7 x8 x9 x10 x11 x12 x13 x14 i = ↑(dple w (R (i 0)) (i 1)) := by
  unfold val_main_v198
  pointwise
  exact ref_dple h i

theorem ref_small (i : S8x1024.Idx) : val_main_v194 x0 x1 x2 x3 x4 x5 x6 x7 x8 x9 x10 x11 x12 x13 x14 i = ↑(∑ r, small w (R r) (i 0).val (i 1)) := by
  unfold val_main_v194 val_main_v193 val_main_cst_52 val_main_v191 val_main_v190 val_main_cst_51 val_main_v163
    val_main_v162 val_main_cst_43 val_main_v161 val_main_v160 val_main_v159 val_main_cst_42 val_main_v125 val_main_v124
    val_main_cst_33 val_main_v123 val_main_v122 val_main_v121 val_main_cst_32
  pointwise
  simp only [ref_dr1 h, ref_dh1 h, ref_dh2 h, ref_xhat1 h, ref_xhat2 h, ← EReal.coe_mul, coe_sum]
  by_cases c0 : (i 0).val = 0
  · rw [dif_pos (by omega)]
    refine congrArg ((↑) : ℝ → EReal) (Finset.sum_congr rfl fun r _ => ?_)
    unfold small
    rw [if_pos c0]
    rfl
  rw [dif_neg (by omega)]
  by_cases c1 : (i 0).val = 1
  · rw [dif_pos (by omega)]
    refine congrArg ((↑) : ℝ → EReal) (Finset.sum_congr rfl fun r _ => ?_)
    unfold small
    rw [if_neg c0, if_pos c1]
    exact mul_comm _ _
  rw [dif_neg (by omega)]
  by_cases c2 : (i 0).val = 2
  · rw [dif_pos (by omega)]
    refine congrArg ((↑) : ℝ → EReal) (Finset.sum_congr rfl fun r _ => ?_)
    unfold small
    rw [if_neg c0, if_neg c1, if_pos c2]
    rfl
  rw [dif_neg (by omega)]
  by_cases c3 : (i 0).val = 3
  · rw [dif_pos (by omega)]
    refine congrArg ((↑) : ℝ → EReal) (Finset.sum_congr rfl fun r _ => ?_)
    unfold small
    rw [if_neg c0, if_neg c1, if_neg c2, if_pos c3]
    exact mul_comm _ _
  rw [dif_neg (by omega)]
  by_cases c4 : (i 0).val = 4
  · rw [dif_pos (by omega)]
    refine congrArg ((↑) : ℝ → EReal) (Finset.sum_congr rfl fun r _ => ?_)
    unfold small
    rw [if_neg c0, if_neg c1, if_neg c2, if_neg c3, if_pos c4]
    rfl
  rw [dif_neg (by omega)]
  refine (congrArg ((↑) : ℝ → EReal) (Finset.sum_eq_zero fun r _ => ?_)).symm
  unfold small
  rw [if_neg c0, if_neg c1, if_neg c2, if_neg c3, if_neg c4]

end Cert.Tail
-- ==== Proof.TailClaim.lean ====
/-
  The tail's kernel against the plain training-step lines: the two programs end in the same eight arrays.
-/
module

public import proofs.«01_k».proof.Defs
public import proofs.«01_k».proof.Proof.TailKernel
public import proofs.«01_k».proof.Proof.TailReference
public import proofs.«01_k».proof.Proof.Finite
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import Idealize.ShloMosaic.Init
public import Idealize.ShloMosaic.Lib.Quiescent

@[expose] public section

noncomputable section

namespace Cert.Tail

open Idealize.ShloMosaic Idealize.ShloMosaic.TcCoe Idealize.SL.Sem Cert.Reals Cert.Reference4Ideal.Read

variable (m : (ℓ : Loc Cert.Kernel4Ideal.nD Cert.Kernel4Ideal.τ Cert.Kernel4Ideal.sig) → Buf (Elt Ideal) ℓ)
  (c : Dev Cert.Kernel4Ideal.nD)

/-- The precondition in one device's memory: every argument holds real numbers. -/
theorem reals (h : Pre_Kernel4Ideal_finite4 m) : AllReal m c := by
  obtain ⟨h0, h1, h2, h3, h4, h5, h6, h7, h8, h9, h10, h11, h12, h13, h14⟩ := h c
  exact ⟨fun i => Cert.Finite.real_of_lt _ _ (fun _ => rfl) h0 i,
    fun i => Cert.Finite.real_of_lt _ _ (fun _ => rfl) h1 i,
    fun i => Cert.Finite.real_of_lt _ _ (fun _ => rfl) h2 i,
    fun i => Cert.Finite.real_of_lt _ _ (fun _ => rfl) h3 i,
    fun i => Cert.Finite.real_of_lt _ _ (fun _ => rfl) h4 i,
    fun i => Cert.Finite.real_of_lt _ _ (fun _ => rfl) h5 i,
    fun i => Cert.Finite.real_of_lt _ _ (fun _ => rfl) h6 i,
    fun i => Cert.Finite.real_of_lt _ _ (fun _ => rfl) h7 i,
    fun i => Cert.Finite.real_of_lt _ _ (fun _ => rfl) h8 i,
    fun i => Cert.Finite.real_of_lt _ _ (fun _ => rfl) h9 i,
    fun i => Cert.Finite.real_of_lt _ _ (fun _ => rfl) h10 i,
    fun i => Cert.Finite.real_of_lt _ _ (fun _ => rfl) h11 i,
    fun i => Cert.Finite.real_of_lt _ _ (fun _ => rfl) h12 i,
    fun i => Cert.Finite.real_of_lt _ _ (fun _ => rfl) h13 i,
    fun i => Cert.Finite.real_of_lt _ _ (fun _ => rfl) h14 i⟩

theorem eq_row (i : Cert.Kernel4Ideal.S1x1024.Idx) : i = ix2 0 (i 1) := by
  funext q; fin_cases q <;> first | rfl | exact Fin.ext (Nat.lt_one_iff.mp (i 0).isLt)

/-- The arguments, read as the reference's mathematics takes them. -/
theorem reads (hr : AllReal m c) : Reads (X0 m c) (X1 m c) (X2 m c) (X3 m c) (X4 m c) (X5 m c) (X6 m c) (X7 m c) (X8 m c) (X9 m c) (X10 m c) (X11 m c) (X12 m c) (X13 m c) (X14 m c)
    (wts m c) (tok m c) where
  f0 i := (hr.f0 i).trans (congrArg (fun q => ((X0 m c q).toReal : EReal)) (funext fun a => by fin_cases a <;> rfl))
  f1 i := (hr.f1 i).trans (congrArg (fun q => ((X1 m c q).toReal : EReal)) (funext fun a => by fin_cases a <;> rfl))
  f2 i := (hr.f2 i).trans (congrArg (fun q => ((X2 m c q).toReal : EReal)) (funext fun a => by fin_cases a <;> rfl))
  f3 i := (hr.f3 i).trans (congrArg (fun q => ((X3 m c q).toReal : EReal)) (funext fun a => by fin_cases a <;> rfl))
  f4 i := (hr.f4 i).trans (congrArg (fun q => ((X4 m c q).toReal : EReal)) (funext fun a => by fin_cases a <;> rfl))
  f5 i := (hr.f5 i).trans (congrArg (fun q => ((X5 m c q).toReal : EReal)) (eq_row i))
  f6 i := (hr.f6 i).trans (congrArg (fun q => ((X6 m c q).toReal : EReal)) (eq_row i))
  f7 i := (hr.f7 i).trans (congrArg (fun q => ((X7 m c q).toReal : EReal)) (eq_row i))
  f8 i := (hr.f8 i).trans (congrArg (fun q => ((X8 m c q).toReal : EReal)) (eq_row i))
  f9 i := (hr.f9 i).trans (congrArg (fun q => ((X9 m c q).toReal : EReal)) (eq_row i))
  f10 i := (hr.f10 i).trans (congrArg (fun q => ((X10 m c q).toReal : EReal)) (eq_row i))
  f11 i := (hr.f11 i).trans (congrArg (fun q => ((X11 m c q).toReal : EReal)) (eq_row i))
  f12 i := (hr.f12 i).trans (congrArg (fun q => ((X12 m c q).toReal : EReal)) (funext fun a => by fin_cases a <;> rfl))
  f13 i := (hr.f13 i).trans (congrArg (fun q => ((X13 m c q).toReal : EReal)) (funext fun a => by fin_cases a <;> rfl))
  f14 i := (hr.f14 i).trans (congrArg (fun q => ((X14 m c q).toReal : EReal)) (funext fun a => by fin_cases a <;> rfl))

theorem reference_quiescent : quiescent_Reference4Ideal := fun m ρ _ =>
  (θ_run Cert.Reference4Ideal.defs _ _).mono
    (fun r h => ⟨fun c => (h c).2.2.2.2.2.2.2.2, sem_eq_zero_of_no_sems (by decide) r.2⟩)
    (Cert.Reference4Ideal.Value.run (F := Ideal) m ρ)

theorem reference_quiescent_pre : quiescent_Reference4Ideal_pre_finite4 := fun m ρ _ =>
  (θ_run Cert.Reference4Ideal.defs _ _).mono
    (fun r h => ⟨fun c => (h c).2.2.2.2.2.2.2.2, sem_eq_zero_of_no_sems (by decide) r.2⟩)
    (Cert.Reference4Ideal.Value.run (F := Ideal) m ρ)

theorem algebraic : algebraic_Kernel4Ideal_Reference4Ideal_pre_finite4 := by
  intro m ρ m' ρ' hpre hagree
  refine ⟨_, _, _, _, _, _, _, _, Cert.Kernel4Ideal.Value.run_blocks (F := Ideal) m ρ, ?_⟩
  refine (θ_run Cert.Reference4Ideal.defs _ _).mono
    (fun _ h c => ⟨?_, ?_, ?_, ?_, ?_, ?_, ?_, ?_, (h c).2.2.2.2.2.2.2.2⟩)
    (Cert.Reference4Ideal.Value.run (F := Ideal) m' ρ')
  · have hr := reals m c hpre
    rw [(h c).1, val_main_v192_eq]
    simp only [hagree c]
    funext i
    exact (ref_dmix (reads m c hr) i).trans (arr9 hr i).symm
  · have hr := reals m c hpre
    rw [(h c).2.1, val_main_v189_eq]
    simp only [hagree c]
    funext i
    exact (ref_dr1 (reads m c hr) i).trans (arr10 hr i).symm
  · have hr := reals m c hpre
    rw [(h c).2.2.1, val_main_v195_eq]
    simp only [hagree c]
    funext i
    exact (ref_dr1b (reads m c hr) i).trans (arr11 hr i).symm
  · have hr := reals m c hpre
    rw [(h c).2.2.2.1, val_main_v196_eq]
    simp only [hagree c]
    funext i
    exact (ref_h1b (reads m c hr) i).trans (arr12 hr i).symm
  · have hr := reals m c hpre
    rw [(h c).2.2.2.2.1, val_main_v197_eq]
    simp only [hagree c]
    funext i
    exact (ref_dgb (reads m c hr) i).trans (arr13 hr i).symm
  · have hr := reals m c hpre
    rw [(h c).2.2.2.2.2.1, val_main_v198_eq]
    simp only [hagree c]
    funext i
    exact (ref_dpb (reads m c hr) i).trans (arr14 hr i).symm
  · have hr := reals m c hpre
    rw [(h c).2.2.2.2.2.2.1, val_main_v194_eq]
    simp only [hagree c]
    funext i
    exact (ref_small (reads m c hr) i).trans (arr15 hr i).symm
  · have hr := reals m c hpre
    rw [(h c).2.2.2.2.2.2.2.1, val_main_v199_eq]
    simp only [hagree c]
    funext i
    exact (ref_loss (reads m c hr) i).trans (arr16 hr i).symm

end Cert.Tail
-- ==== Proof.DwOutSsm.lean ====
/-
  The gradient of the output projection's weight, the rows of the state-space mixer: eight row blocks added one after
  the other are the one sum over all rows.
-/
module

public import proofs.«01_k».proof.Proof.Sums
public import proofs.«01_k».proof.Proof.Gen.Kernel5Ideal.Value
public import Idealize.ShloMosaic.Lib.Tactic.ValueTie
public import Idealize.ShloMosaic.Lib.Pipeline.ValueKit

@[expose] public section

noncomputable section

open Idealize.ShloMosaic Idealize.ShloMosaic.TcCoe Idealize.SL.Sem

namespace Cert.DwOutSsm

open Cert.Kernel5Ideal Cert.Kernel5Ideal.Gen Cert.Kernel5Ideal.Value

variable (m : (ℓ : Loc nD τ sig) → Buf (Elt Ideal) ℓ) (c : Dev nD)

/-- One step's payload at an index: what was there plus the block's product. -/
theorem pay2_apply (acc : Vec Ideal S1024x1024 .f32) (a : Vec Ideal S512x1024 .bf16) (b : Vec Ideal S512x1024 .bf16)
    (i : S1024x1024.Idx) :
    k0_pay2 acc a b i = acc i + ∑ k : Fin 512, a (ix2 k (i 0)) * b (ix2 k (i 1)) := by
  unfold k0_pay2
  pointwise

theorem pay1_apply (i : S1024x1024.Idx) : k0_pay1 (F := Ideal) i = 0 := by
  unfold k0_pay1
  pointwise

/-- The two operands as arrays of extended reals, and their blocks at a point. -/
abbrev A : S4096x1024.Idx → EReal := m ((c : Thread nD τ).loc main_arg0)
abbrev B : S4096x1024.Idx → EReal := m ((c : Thread nD τ).loc main_arg1)
abbrev blkA (t : Fin cfg0.N) : S512x1024.Idx → EReal := iblk m c 0 t
abbrev blkB (t : Fin cfg0.N) : S512x1024.Idx → EReal := iblk m c 1 t

/-- Point `n`'s block product, at an index of the strip. -/
def term (n : ℕ) (i : S1024x1024.Idx) : EReal :=
  if h : n < cfg0.N then
    ∑ k : Fin 512, blkA m c ⟨n, h⟩ (ix2 k (i 0)) * blkB m c ⟨n, h⟩ (ix2 k (i 1))
  else 0

/-- The two input windows' block indices, over the grid. -/
theorem idx (t : Fin cfg0.N) : win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, win0_0.index t (0 : Fin 2) = t.val % 8 ∧ win0_0.index t (1 : Fin 2) = 0
    ∧ win0_1.index t (0 : Fin 2) = t.val % 8 ∧ win0_1.index t (1 : Fin 2) = t.val / 8) t

/-- The strip after its eight points is the product over all rows. -/
theorem G2_eq (i : S1024x1024.Idx) : (G2 m c i : EReal) = ∑ x : Fin 4096,
    A m c (ix2 x (i 0)) * B m c (ix2 x (i 1)) := by
  have h0 : (i 0).val < 1024 := (i 0).isLt
  have h1 : (i 1).val < 1024 := (i 1).isLt
  have hr : run2Of i = (i 1).val / 1024 := by unfold run2Of; omega
  have hN : cfg0.N = 8 := N_0
  unfold G2
  rw [dif_pos (by rw [hr]; omega)]
  rw [Pipeline.accAt_add_apply (reset2 m c) (step2 m c) (fun _ => 0) (term m c) (8 * run2Of i) 7
    (fun h j => by unfold reset2 term; rw [dif_pos h, pay2_apply, pay1_apply])
    (fun n h acc j _ _ => by unfold step2 term; rw [dif_pos h, pay2_apply]) 7 le_rfl, zero_add]
  change @Eq EReal _ _
  refine (Finset.sum_congr (M := EReal) rfl fun s hs => ?_).trans (Cert.Sums.sum_runs_fin (B := 512) (J := 8) (N := 4096) rfl _
    (fun s k => A m c (ix2 ⟨(512 * s + k.val) % 4096, Nat.mod_lt _ (by decide)⟩ (i 0)) *
      B m c (ix2 ⟨(512 * s + k.val) % 4096, Nat.mod_lt _ (by decide)⟩ (i 1))) ?_)
  · have hs' : s < 8 := Finset.mem_range.mp hs
    have hlt : 8 * run2Of i + s < cfg0.N := by rw [hr]; omega
    obtain ⟨e0, e1, e2, e3⟩ := idx ⟨8 * run2Of i + s, hlt⟩
    unfold term
    rw [dif_pos hlt]
    refine Finset.sum_congr (M := EReal) rfl fun k _ => ?_
    have hk := k.isLt
    simp only [hr] at e0 e1 e2 e3
    congr 1
    · blk_ext [iblk, V, e0, e1, hr]
    · blk_ext [iblk, V, e2, e3, hr]
  · intro s hs k
    have hk := k.isLt
    have e : (⟨(512 * s + k.val) % 4096, Nat.mod_lt _ (by decide)⟩ : Fin 4096) = ⟨512 * s + k.val, by omega⟩ :=
      Fin.ext (Nat.mod_eq_of_lt (by omega))
    rw [e]

end Cert.DwOutSsm
-- ==== Proof.DwOutConf.lean ====
/-
  The gradient of the output projection's weight, the rows of the convolution module: eight row blocks added one after
  the other are the one sum over all rows.
-/
module

public import proofs.«01_k».proof.Proof.Sums
public import proofs.«01_k».proof.Proof.Gen.Kernel6Ideal.Value
public import Idealize.ShloMosaic.Lib.Tactic.ValueTie
public import Idealize.ShloMosaic.Lib.Pipeline.ValueKit

@[expose] public section

noncomputable section

open Idealize.ShloMosaic Idealize.ShloMosaic.TcCoe Idealize.SL.Sem

namespace Cert.DwOutConf

open Cert.Kernel6Ideal Cert.Kernel6Ideal.Gen Cert.Kernel6Ideal.Value

variable (m : (ℓ : Loc nD τ sig) → Buf (Elt Ideal) ℓ) (c : Dev nD)

/-- One step's payload at an index: what was there plus the block's product. -/
theorem pay2_apply (acc : Vec Ideal S1024x1024 .f32) (a : Vec Ideal S512x1024 .bf16) (b : Vec Ideal S512x1024 .bf16)
    (i : S1024x1024.Idx) :
    k0_pay2 acc a b i = acc i + ∑ k : Fin 512, a (ix2 k (i 0)) * b (ix2 k (i 1)) := by
  unfold k0_pay2
  pointwise

theorem pay1_apply (i : S1024x1024.Idx) : k0_pay1 (F := Ideal) i = 0 := by
  unfold k0_pay1
  pointwise

/-- The two operands as arrays of extended reals, and their blocks at a point. -/
abbrev A : S4096x1024.Idx → EReal := m ((c : Thread nD τ).loc main_arg0)
abbrev B : S4096x1024.Idx → EReal := m ((c : Thread nD τ).loc main_arg1)
abbrev blkA (t : Fin cfg0.N) : S512x1024.Idx → EReal := iblk m c 0 t
abbrev blkB (t : Fin cfg0.N) : S512x1024.Idx → EReal := iblk m c 1 t

/-- Point `n`'s block product, at an index of the strip. -/
def term (n : ℕ) (i : S1024x1024.Idx) : EReal :=
  if h : n < cfg0.N then
    ∑ k : Fin 512, blkA m c ⟨n, h⟩ (ix2 k (i 0)) * blkB m c ⟨n, h⟩ (ix2 k (i 1))
  else 0

/-- The two input windows' block indices, over the grid. -/
theorem idx (t : Fin cfg0.N) : win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, win0_0.index t (0 : Fin 2) = t.val % 8 ∧ win0_0.index t (1 : Fin 2) = 0
    ∧ win0_1.index t (0 : Fin 2) = t.val % 8 ∧ win0_1.index t (1 : Fin 2) = t.val / 8) t

/-- The strip after its eight points is the product over all rows. -/
theorem G2_eq (i : S1024x1024.Idx) : (G2 m c i : EReal) = ∑ x : Fin 4096,
    A m c (ix2 x (i 0)) * B m c (ix2 x (i 1)) := by
  have h0 : (i 0).val < 1024 := (i 0).isLt
  have h1 : (i 1).val < 1024 := (i 1).isLt
  have hr : run2Of i = (i 1).val / 1024 := by unfold run2Of; omega
  have hN : cfg0.N = 8 := N_0
  unfold G2
  rw [dif_pos (by rw [hr]; omega)]
  rw [Pipeline.accAt_add_apply (reset2 m c) (step2 m c) (fun _ => 0) (term m c) (8 * run2Of i) 7
    (fun h j => by unfold reset2 term; rw [dif_pos h, pay2_apply, pay1_apply])
    (fun n h acc j _ _ => by unfold step2 term; rw [dif_pos h, pay2_apply]) 7 le_rfl, zero_add]
  change @Eq EReal _ _
  refine (Finset.sum_congr (M := EReal) rfl fun s hs => ?_).trans (Cert.Sums.sum_runs_fin (B := 512) (J := 8) (N := 4096) rfl _
    (fun s k => A m c (ix2 ⟨(512 * s + k.val) % 4096, Nat.mod_lt _ (by decide)⟩ (i 0)) *
      B m c (ix2 ⟨(512 * s + k.val) % 4096, Nat.mod_lt _ (by decide)⟩ (i 1))) ?_)
  · have hs' : s < 8 := Finset.mem_range.mp hs
    have hlt : 8 * run2Of i + s < cfg0.N := by rw [hr]; omega
    obtain ⟨e0, e1, e2, e3⟩ := idx ⟨8 * run2Of i + s, hlt⟩
    unfold term
    rw [dif_pos hlt]
    refine Finset.sum_congr (M := EReal) rfl fun k _ => ?_
    have hk := k.isLt
    simp only [hr] at e0 e1 e2 e3
    congr 1
    · blk_ext [iblk, V, e0, e1, hr]
    · blk_ext [iblk, V, e2, e3, hr]
  · intro s hs k
    have hk := k.isLt
    have e : (⟨(512 * s + k.val) % 4096, Nat.mod_lt _ (by decide)⟩ : Fin 4096) = ⟨512 * s + k.val, by omega⟩ :=
      Fin.ext (Nat.mod_eq_of_lt (by omega))
    rw [e]

end Cert.DwOutConf
-- ==== Proof.DwPleGate.lean ====
/-
  The gradient of the per-layer gate's weight: eight row blocks added one after the other are the one sum over all rows.
-/
module

public import proofs.«01_k».proof.Proof.Sums
public import proofs.«01_k».proof.Proof.Gen.Kernel7Ideal.Value
public import Idealize.ShloMosaic.Lib.Tactic.ValueTie
public import Idealize.ShloMosaic.Lib.Pipeline.ValueKit

@[expose] public section

noncomputable section

open Idealize.ShloMosaic Idealize.ShloMosaic.TcCoe Idealize.SL.Sem

namespace Cert.DwPleGate

open Cert.Kernel7Ideal Cert.Kernel7Ideal.Gen Cert.Kernel7Ideal.Value

variable (m : (ℓ : Loc nD τ sig) → Buf (Elt Ideal) ℓ) (c : Dev nD)

/-- One step's payload at an index: what was there plus the block's product. -/
theorem pay2_apply (acc : Vec Ideal S1024x1024 .f32) (a : Vec Ideal S512x1024 .bf16) (b : Vec Ideal S512x1024 .bf16)
    (i : S1024x1024.Idx) :
    k0_pay2 acc a b i = acc i + ∑ k : Fin 512, a (ix2 k (i 0)) * b (ix2 k (i 1)) := by
  unfold k0_pay2
  pointwise

theorem pay1_apply (i : S1024x1024.Idx) : k0_pay1 (F := Ideal) i = 0 := by
  unfold k0_pay1
  pointwise

/-- The two operands as arrays of extended reals, and their blocks at a point. -/
abbrev A : S4096x1024.Idx → EReal := m ((c : Thread nD τ).loc main_arg0)
abbrev B : S4096x1024.Idx → EReal := m ((c : Thread nD τ).loc main_arg1)
abbrev blkA (t : Fin cfg0.N) : S512x1024.Idx → EReal := iblk m c 0 t
abbrev blkB (t : Fin cfg0.N) : S512x1024.Idx → EReal := iblk m c 1 t

/-- Point `n`'s block product, at an index of the strip. -/
def term (n : ℕ) (i : S1024x1024.Idx) : EReal :=
  if h : n < cfg0.N then
    ∑ k : Fin 512, blkA m c ⟨n, h⟩ (ix2 k (i 0)) * blkB m c ⟨n, h⟩ (ix2 k (i 1))
  else 0

/-- The two input windows' block indices, over the grid. -/
theorem idx (t : Fin cfg0.N) : win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, win0_0.index t (0 : Fin 2) = t.val % 8 ∧ win0_0.index t (1 : Fin 2) = 0
    ∧ win0_1.index t (0 : Fin 2) = t.val % 8 ∧ win0_1.index t (1 : Fin 2) = t.val / 8) t

/-- The strip after its eight points is the product over all rows. -/
theorem G2_eq (i : S1024x1024.Idx) : (G2 m c i : EReal) = ∑ x : Fin 4096,
    A m c (ix2 x (i 0)) * B m c (ix2 x (i 1)) := by
  have h0 : (i 0).val < 1024 := (i 0).isLt
  have h1 : (i 1).val < 1024 := (i 1).isLt
  have hr : run2Of i = (i 1).val / 1024 := by unfold run2Of; omega
  have hN : cfg0.N = 8 := N_0
  unfold G2
  rw [dif_pos (by rw [hr]; omega)]
  rw [Pipeline.accAt_add_apply (reset2 m c) (step2 m c) (fun _ => 0) (term m c) (8 * run2Of i) 7
    (fun h j => by unfold reset2 term; rw [dif_pos h, pay2_apply, pay1_apply])
    (fun n h acc j _ _ => by unfold step2 term; rw [dif_pos h, pay2_apply]) 7 le_rfl, zero_add]
  change @Eq EReal _ _
  refine (Finset.sum_congr (M := EReal) rfl fun s hs => ?_).trans (Cert.Sums.sum_runs_fin (B := 512) (J := 8) (N := 4096) rfl _
    (fun s k => A m c (ix2 ⟨(512 * s + k.val) % 4096, Nat.mod_lt _ (by decide)⟩ (i 0)) *
      B m c (ix2 ⟨(512 * s + k.val) % 4096, Nat.mod_lt _ (by decide)⟩ (i 1))) ?_)
  · have hs' : s < 8 := Finset.mem_range.mp hs
    have hlt : 8 * run2Of i + s < cfg0.N := by rw [hr]; omega
    obtain ⟨e0, e1, e2, e3⟩ := idx ⟨8 * run2Of i + s, hlt⟩
    unfold term
    rw [dif_pos hlt]
    refine Finset.sum_congr (M := EReal) rfl fun k _ => ?_
    have hk := k.isLt
    simp only [hr] at e0 e1 e2 e3
    congr 1
    · blk_ext [iblk, V, e0, e1, hr]
    · blk_ext [iblk, V, e2, e3, hr]
  · intro s hs k
    have hk := k.isLt
    have e : (⟨(512 * s + k.val) % 4096, Nat.mod_lt _ (by decide)⟩ : Fin 4096) = ⟨512 * s + k.val, by omega⟩ :=
      Fin.ext (Nat.mod_eq_of_lt (by omega))
    rw [e]

end Cert.DwPleGate
-- ==== Proof.DwPleProj.lean ====
/-
  The gradient of the per-layer projection's weight: eight row blocks added one after the other are the one sum over
  all rows. The host rounds the first operand to bf16, which over the extended reals changes nothing.
-/
module

public import proofs.«01_k».proof.Proof.Sums
public import proofs.«01_k».proof.Proof.Gen.Kernel8Ideal.Value
public import Idealize.ShloMosaic.Lib.Tactic.ValueTie
public import Idealize.ShloMosaic.Lib.Pipeline.ValueKit

@[expose] public section

noncomputable section

open Idealize.ShloMosaic Idealize.ShloMosaic.TcCoe Idealize.SL.Sem

namespace Cert.DwPleProj

open Cert.Kernel8Ideal Cert.Kernel8Ideal.Gen Cert.Kernel8Ideal.Value

variable (m : (ℓ : Loc nD τ sig) → Buf (Elt Ideal) ℓ) (c : Dev nD)

/-- One step's payload at an index: what was there plus the block's product. -/
theorem pay2_apply (acc : Vec Ideal S256x1024 .f32) (a : Vec Ideal S512x256 .bf16) (b : Vec Ideal S512x1024 .bf16)
    (i : S256x1024.Idx) :
    k0_pay2 acc a b i = acc i + ∑ k : Fin 512, a (ix2 k (i 0)) * b (ix2 k (i 1)) := by
  unfold k0_pay2
  pointwise

theorem pay1_apply (i : S256x1024.Idx) : k0_pay1 (F := Ideal) i = 0 := by
  unfold k0_pay1
  pointwise

/-- The two operands as arrays of extended reals, and their blocks at a point. -/
abbrev A : S4096x256.Idx → EReal := m ((c : Thread nD τ).loc main_arg0)
abbrev B : S4096x1024.Idx → EReal := m ((c : Thread nD τ).loc main_arg1)
abbrev blkA (t : Fin cfg0.N) : S512x256.Idx → EReal := iblk m c 0 t
abbrev blkB (t : Fin cfg0.N) : S512x1024.Idx → EReal := iblk m c 1 t

/-- Point `n`'s block product, at an index of the strip. -/
def term (n : ℕ) (i : S256x1024.Idx) : EReal :=
  if h : n < cfg0.N then
    ∑ k : Fin 512, blkA m c ⟨n, h⟩ (ix2 k (i 0)) * blkB m c ⟨n, h⟩ (ix2 k (i 1))
  else 0

/-- The two input windows' block indices, over the grid. -/
theorem idx (t : Fin cfg0.N) : win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, win0_0.index t (0 : Fin 2) = t.val % 8 ∧ win0_0.index t (1 : Fin 2) = 0
    ∧ win0_1.index t (0 : Fin 2) = t.val % 8 ∧ win0_1.index t (1 : Fin 2) = t.val / 8) t

/-- The strip after its eight points is the product over all rows. -/
theorem G2_eq (i : S256x1024.Idx) : (G2 m c i : EReal) = ∑ x : Fin 4096,
    A m c (ix2 x (i 0)) * B m c (ix2 x (i 1)) := by
  have h0 : (i 0).val < 256 := (i 0).isLt
  have h1 : (i 1).val < 1024 := (i 1).isLt
  have hr : run2Of i = (i 1).val / 1024 := by unfold run2Of; omega
  have hN : cfg0.N = 8 := N_0
  unfold G2
  rw [dif_pos (by rw [hr]; omega)]
  rw [Pipeline.accAt_add_apply (reset2 m c) (step2 m c) (fun _ => 0) (term m c) (8 * run2Of i) 7
    (fun h j => by unfold reset2 term; rw [dif_pos h, pay2_apply, pay1_apply])
    (fun n h acc j _ _ => by unfold step2 term; rw [dif_pos h, pay2_apply]) 7 le_rfl, zero_add]
  change @Eq EReal _ _
  refine (Finset.sum_congr (M := EReal) rfl fun s hs => ?_).trans (Cert.Sums.sum_runs_fin (B := 512) (J := 8) (N := 4096) rfl _
    (fun s k => A m c (ix2 ⟨(512 * s + k.val) % 4096, Nat.mod_lt _ (by decide)⟩ (i 0)) *
      B m c (ix2 ⟨(512 * s + k.val) % 4096, Nat.mod_lt _ (by decide)⟩ (i 1))) ?_)
  · have hs' : s < 8 := Finset.mem_range.mp hs
    have hlt : 8 * run2Of i + s < cfg0.N := by rw [hr]; omega
    obtain ⟨e0, e1, e2, e3⟩ := idx ⟨8 * run2Of i + s, hlt⟩
    unfold term
    rw [dif_pos hlt]
    refine Finset.sum_congr (M := EReal) rfl fun k _ => ?_
    have hk := k.isLt
    simp only [hr] at e0 e1 e2 e3
    congr 1
    · blk_simp [iblk]
      entry_read
      pointwise
      blk_ext [e0, e1, hr]
    · blk_ext [iblk, V, e2, e3, hr]
  · intro s hs k
    have hk := k.isLt
    have e : (⟨(512 * s + k.val) % 4096, Nat.mod_lt _ (by decide)⟩ : Fin 4096) = ⟨512 * s + k.val, by omega⟩ :=
      Fin.ext (Nat.mod_eq_of_lt (by omega))
    rw [e]

end Cert.DwPleProj
-- ==== Proof.Adam.lean ====
/-
  The optimiser's six calls: one weight's share each, four arrays in, the update and the two new moments out. A call and its
  reference are the same expression at every index, whatever the grid.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import Idealize.ShloMosaic.Init
public import Idealize.ShloMosaic.Lib.Quiescent
public import Idealize.ShloMosaic.Lib.Tactic.ValueTie

@[expose] public section

noncomputable section

namespace Cert.Adam

open Idealize.ShloMosaic Idealize.ShloMosaic.TcCoe Idealize.SL.Sem

/-! ## The input projection -/

theorem reference_quiescent9 : quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem algebraic9 : algebraic_Kernel9Ideal_Reference9Ideal := by
  intro m ρ m' ρ' _ hagree
  refine ⟨_, _, _, Cert.Kernel9Ideal.Value.run (F := Ideal) m ρ, ?_⟩
  refine (θ_run Cert.Reference9Ideal.defs _ _).mono (fun _ h c => ⟨?_, ?_, ?_, (h c).2.2.2⟩)
    (Cert.Reference9Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

/-! ## The output projection -/

theorem reference_quiescent10 : quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem algebraic10 : algebraic_Kernel10Ideal_Reference10Ideal := by
  intro m ρ m' ρ' _ hagree
  refine ⟨_, _, _, Cert.Kernel10Ideal.Value.run (F := Ideal) m ρ, ?_⟩
  refine (θ_run Cert.Reference10Ideal.defs _ _).mono (fun _ h c => ⟨?_, ?_, ?_, (h c).2.2.2⟩)
    (Cert.Reference10Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

/-! ## The gate -/

theorem reference_quiescent11 : quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem algebraic11 : algebraic_Kernel11Ideal_Reference11Ideal := by
  intro m ρ m' ρ' _ hagree
  refine ⟨_, _, _, Cert.Kernel11Ideal.Value.run (F := Ideal) m ρ, ?_⟩
  refine (θ_run Cert.Reference11Ideal.defs _ _).mono (fun _ h c => ⟨?_, ?_, ?_, (h c).2.2.2⟩)
    (Cert.Reference11Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

/-! ## The per-layer input projection -/

theorem reference_quiescent12 : quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

theorem algebraic12 : algebraic_Kernel12Ideal_Reference12Ideal := by
  intro m ρ m' ρ' _ hagree
  refine ⟨_, _, _, Cert.Kernel12Ideal.Value.run (F := Ideal) m ρ, ?_⟩
  refine (θ_run Cert.Reference12Ideal.defs _ _).mono (fun _ h c => ⟨?_, ?_, ?_, (h c).2.2.2⟩)
    (Cert.Reference12Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

/-! ## The state-space branch's convolution -/

theorem reference_quiescent13 : quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic13 : algebraic_Kernel13Ideal_Reference13Ideal := by
  intro m ρ m' ρ' _ hagree
  refine ⟨_, _, _, Cert.Kernel13Ideal.Value.run (F := Ideal) m ρ, ?_⟩
  refine (θ_run Cert.Reference13Ideal.defs _ _).mono (fun _ h c => ⟨?_, ?_, ?_, (h c).2.2.2⟩)
    (Cert.Reference13Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

/-! ## The conformer's convolution -/

theorem reference_quiescent14 : quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem algebraic14 : algebraic_Kernel14Ideal_Reference14Ideal := by
  intro m ρ m' ρ' _ hagree
  refine ⟨_, _, _, Cert.Kernel14Ideal.Value.run (F := Ideal) m ρ, ?_⟩
  refine (θ_run Cert.Reference14Ideal.defs _ _).mono (fun _ h c => ⟨?_, ?_, ?_, (h c).2.2.2⟩)
    (Cert.Reference14Ideal.Value.run (F := Ideal) m' ρ')
  · rw [(h c).1]
    simp only [hagree c]
    funext i
    pointwise
  · rw [(h c).2.1]
    simp only [hagree c]
    funext i
    pointwise
  · rw [(h c).2.2.1]
    simp only [hagree c]
    funext i
    pointwise

end Cert.Adam
-- ==== Proof.ConfPoint.lean ====
/-
  One point of the convolution branch's backward: the values it leaves in the gate's gradient and in the running sums, named.
-/
module

public import proofs.«01_k».proof.Proof.Gen.Kernel15Ideal.Frame
public import proofs.«01_k».proof.Proof.Gen.Kernel15Ideal.Skeleton
public import proofs.«01_k».proof.Proof.Gen.Kernel15Ideal.Loops
public import Idealize.ShloMosaic.Lib.Pipeline.ReadBack
public import Idealize.ShloMosaic.Lib.WritesUnit
public import Idealize.ShloMosaic.Lib.Tactic.ValueTie
public import Idealize.ShloMosaic.Lib.Pipeline.ValueKit
public import proofs.«01_k».proof.Proof.Pieces

@[expose] public section

set_option maxRecDepth 16384

noncomputable section

namespace Cert.Conf

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What one grid point of the convolution branch's backward leaves: the contents of its two outputs that are named here (the gate's
    gradient, the running 8×1024 sums), as functions of the blocks the point reads; and when its two branches are taken. -/

/-- The branch that clears the running sums is taken. -/
def clears (i : grid0.Coords) : Prop :=
  (Scalar.cmpi .ne (Scalar.extui (Scalar.cmpi .eq (BitVec.ofNat 32 (i 0).val) 0#32)) 0#32) = 1#1

/-- The branch that writes the weights' gradient out is taken. -/
def writesOut (i : grid0.Coords) : Prop := k0_cond2 i = 1#1

/-- The gate's gradient. -/
def gateOf (x0 x2 x4 : Vec F S256x1024 .f32) (x7 x8 : Vec F S1x1024 .f32) : Vec F S256x1024 .f32 :=
  k0_pay408 (k0_pay406 x2 x7 x8 x0) (k0_pay407 x4)

/-- Row `r` of the running sums. -/
def rowOf (xs : Vec F S8x1024 .f32) (r : Fin 8) : Vec F S1x1024 .f32 := fun z => xs (ix2 r (z 1))

/-- Row 0 after the point. -/
def row0Next (x0 x2 x4 : Vec F S256x1024 .f32) (x7 x8 : Vec F S1x1024 .f32) (r : Vec F S1x1024 .f32) : Vec F S1x1024 .f32 :=
  k0_pay410 (k0_pay402 x2) (k0_pay403 x2 x7 x8) (k0_pay404 x2 x7 x8) x4 (k0_pay405 x4) x0 r

/-- Row 1 after the point. -/
def row1Next (x0 x2 x4 : Vec F S256x1024 .f32) (x7 x8 : Vec F S1x1024 .f32) (r : Vec F S1x1024 .f32) : Vec F S1x1024 .f32 :=
  k0_pay411 (k0_pay403 x2 x7 x8) (k0_pay404 x2 x7 x8) x4 (k0_pay405 x4) x0 r

/-- Row 2 after the point. -/
def row2Next (x0 x2 x4 : Vec F S256x1024 .f32) (x7 x8 : Vec F S1x1024 .f32) (r : Vec F S1x1024 .f32) : Vec F S1x1024 .f32 :=
  k0_pay416 (k0_pay401 x2) (k0_pay402 x2)
    (k0_pay412 (k0_pay403 x2 x7 x8) (k0_pay404 x2 x7 x8) x4 (k0_pay405 x4) x0 x7)
    (k0_pay413 (k0_pay402 x2) (k0_pay403 x2 x7 x8) (k0_pay404 x2 x7 x8) x4 (k0_pay405 x4) x0 x7)
    (k0_pay414 (k0_pay403 x2 x7 x8) (k0_pay404 x2 x7 x8) x4 (k0_pay405 x4) x0 x7) r

/-- The running sums after the point, from the running sums before it. -/
def smallNext (x0 x2 x4 : Vec F S256x1024 .f32) (x7 x8 : Vec F S1x1024 .f32) (xs : Vec F S8x1024 .f32) : Vec F S8x1024 .f32 := fun y =>
  if (y 0).val = 0 then row0Next x0 x2 x4 x7 x8 (rowOf xs 0) (ix2 0 (y 1))
  else if (y 0).val = 1 then row1Next x0 x2 x4 x7 x8 (rowOf xs 1) (ix2 0 (y 1))
  else if (y 0).val = 2 then row2Next x0 x2 x4 x7 x8 (rowOf xs 2) (ix2 0 (y 1))
  else xs y

theorem ld_row (xs : Vec F S8x1024 .f32) (n : ℕ) (hn : n < 8)
    (inb : ∀ a : Fin 2, (![n, 0] : Fin 2 → ℕ) a + S1x1024.size a ≤ S8x1024.size a) :
    View.ld xs (Rect.unit (s := S8x1024) ![n, 0] S1x1024.size inb) = rowOf xs ⟨n, hn⟩ := by
  funext z
  refine View.ld_unit_apply_of (S := S8x1024) _ _ _ _ _ (ix2 ⟨n, hn⟩ (z 1)) ?_
  intro a
  fin_cases a
  · have hz : (z 0).val < 1 := (z 0).isLt
    show n = n + (z 0).val
    omega
  · exact (Nat.zero_add _).symm

end Cert.Conf

end
-- ==== Proof.ConfRunFirst.lean ====
/-
  The body at the first point: the running sums are cleared, then gain the tile's part.
-/
module

public import proofs.«01_k».proof.Proof.ConfPoint

@[expose] public section

set_option maxRecDepth 16384

noncomputable section

namespace Cert.Conf

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x2048 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S32x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x2048 .f32) (harg10 : arg10.IsWhole)
  (arg11 : Memref sig .tc .vmem S256x1024 .f32) (harg11 : arg11.IsWhole)
  (arg12 : Memref sig .tc .vmem S32x1024 .f32) (harg12 : arg12.IsWhole)
  (arg13 : Memref sig .tc .vmem S1x2048 .f32) (harg13 : arg13.IsWhole)
  (arg14 : Memref sig .tc .vmem S8x1024 .f32) (harg14 : arg14.IsWhole)
  (arg15 : Memref sig .tc .vmem S288x1024 .f32) (harg15 : arg15.IsWhole)
  (arg16 : Memref sig .tc .vmem S7x280x1024 .f32) (harg16 : arg16.IsWhole)
  (arg17 : Memref sig .tc .vmem S256x1024 .f32) (harg17 : arg17.IsWhole)
  (arg18 : Memref sig .tc .vmem S256x1024 .f32) (harg18 : arg18.IsWhole)

set_option maxHeartbeats 0 in
/-- The first point: the running sums are cleared, then the point adds its part. -/
theorem run_first (hc0 : clears i) (hc1 : ¬writesOut i)
    (x0 x1 x2 : Vec F S256x1024 .f32) (x3 : Vec F S256x2048 .f32) (x4 : Vec F S256x1024 .f32) (x5 : Vec F S1x2048 .f32)
    (x6 : Vec F S32x1024 .f32) (x7 x8 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ owns (c : Thread nD τ) arg11 fullShare (gateOf x0 x2 x4 x7 x8) ∗ (∃ d, owns (c : Thread nD τ) arg12 fullShare d)
          ∗ (∃ d, owns (c : Thread nD τ) arg13 fullShare d) ∗ owns (c : Thread nD τ) arg14 fullShare (smallNext x0 x2 x4 x7 x8 (k0_pay398 (F := F))) ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)) -∗ K ⟨⟩))
      ⊢ wp frame (wpE (defs₀ (F := F)) Variants.none c none) E
          (cc0_conf_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_conf_bwd_eq_skeleton]
  unfold cc0_conf_bwd_skel
  simp only [k0_part75_eq_skeleton, k0_part76_eq_skeleton, k0_part77_eq_skeleton, k0_part78_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _; isplitr; swap; · iexact H11
    ipureintro; frame_out; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; frame_out
    funext y
    unfold smallNext
    by_cases c2 : (y 0).val = 2
    · rw [if_neg (by omega), if_neg (by omega), if_pos c2]
      refine (Cert.Pieces.canon_in _ _ _ y 0 (y 1) (by simpa using c2) (by simp)).trans ?_
      rw [View.readCov_skip _ _ _ _ _ rfl, View.readCov_skip _ _ _ _ _ rfl, View.readCov_fill _ _ _ _ _ (by decide)]
      exact congrArg (fun v => row2Next x0 x2 x4 x7 x8 v (ix2 0 (y 1))) (ld_row _ 2 (by decide) _)
    refine (Cert.Pieces.canon_out _ _ _ y (by omega)).trans ?_
    by_cases c1 : (y 0).val = 1
    · rw [if_neg (by omega), if_pos c1]
      refine (Cert.Pieces.canon_in _ _ _ y 0 (y 1) (by simpa using c1) (by simp)).trans ?_
      rw [View.readCov_skip _ _ _ _ _ rfl, View.readCov_fill _ _ _ _ _ (by decide)]
      exact congrArg (fun v => row1Next x0 x2 x4 x7 x8 v (ix2 0 (y 1))) (ld_row _ 1 (by decide) _)
    refine (Cert.Pieces.canon_out _ _ _ y (by omega)).trans ?_
    by_cases c0 : (y 0).val = 0
    · rw [if_pos c0]
      refine (Cert.Pieces.canon_in _ _ _ y 0 (y 1) (by simpa using c0) (by simp)).trans ?_
      rw [View.readCov_fill _ _ _ _ _ (by decide)]
      exact congrArg (fun v => row0Next x0 x2 x4 x7 x8 v (ix2 0 (y 1))) (ld_row _ 0 (by decide) _)
    refine (Cert.Pieces.canon_out _ _ _ y (by omega)).trans ?_
    rw [if_neg c0, if_neg c1, if_neg c2]
    exact Cert.Pieces.canon_in _ _ _ y (y 0) (y 1) (by simp) (by simp)
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Conf

end
-- ==== Proof.ConfRunMiddle.lean ====
/-
  The body at a point between the first and the last: the running sums gain the tile's part.
-/
module

public import proofs.«01_k».proof.Proof.ConfRunFirst

@[expose] public section

set_option maxRecDepth 16384

noncomputable section

namespace Cert.Conf

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x2048 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S32x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x2048 .f32) (harg10 : arg10.IsWhole)
  (arg11 : Memref sig .tc .vmem S256x1024 .f32) (harg11 : arg11.IsWhole)
  (arg12 : Memref sig .tc .vmem S32x1024 .f32) (harg12 : arg12.IsWhole)
  (arg13 : Memref sig .tc .vmem S1x2048 .f32) (harg13 : arg13.IsWhole)
  (arg14 : Memref sig .tc .vmem S8x1024 .f32) (harg14 : arg14.IsWhole)
  (arg15 : Memref sig .tc .vmem S288x1024 .f32) (harg15 : arg15.IsWhole)
  (arg16 : Memref sig .tc .vmem S7x280x1024 .f32) (harg16 : arg16.IsWhole)
  (arg17 : Memref sig .tc .vmem S256x1024 .f32) (harg17 : arg17.IsWhole)
  (arg18 : Memref sig .tc .vmem S256x1024 .f32) (harg18 : arg18.IsWhole)

set_option maxHeartbeats 0 in
/-- A point between the first and the last: the point adds its part to the running sums. -/
theorem run_middle (hc0 : ¬clears i) (hc1 : ¬writesOut i)
    (x0 x1 x2 : Vec F S256x1024 .f32) (x3 : Vec F S256x2048 .f32) (x4 : Vec F S256x1024 .f32) (x5 : Vec F S1x2048 .f32)
    (x6 : Vec F S32x1024 .f32) (x7 x8 : Vec F S1x1024 .f32) (xs : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d) ∗ owns (c : Thread nD τ) arg14 fullShare xs ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ owns (c : Thread nD τ) arg11 fullShare (gateOf x0 x2 x4 x7 x8) ∗ (∃ d, owns (c : Thread nD τ) arg12 fullShare d)
          ∗ (∃ d, owns (c : Thread nD τ) arg13 fullShare d) ∗ owns (c : Thread nD τ) arg14 fullShare (smallNext x0 x2 x4 x7 x8 xs) ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)) -∗ K ⟨⟩))
      ⊢ wp frame (wpE (defs₀ (F := F)) Variants.none c none) E
          (cc0_conf_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_conf_bwd_eq_skeleton]
  unfold cc0_conf_bwd_skel
  simp only [k0_part75_eq_skeleton, k0_part76_eq_skeleton, k0_part77_eq_skeleton, k0_part78_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg14.eq_unread hf14
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _; isplitr; swap; · iexact H11
    ipureintro; frame_out; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; frame_out
    funext y
    unfold smallNext
    by_cases c2 : (y 0).val = 2
    · rw [if_neg (by omega), if_neg (by omega), if_pos c2]
      refine (View.read_writes_cons_rows_of_mem _ _ _ _ _ y (ix2 (0 : Fin 1) (y 1)) rfl (by simpa using c2) rfl).trans ?_
      exact congrArg (fun v => row2Next x0 x2 x4 x7 x8 v (ix2 0 (y 1))) (ld_row xs 2 (by decide) _)
    refine (View.read_writes_cons_rows_of_not_mem (W := 1) _ _ _ _ _ y rfl rfl (by omega)).trans ?_
    by_cases c1 : (y 0).val = 1
    · rw [if_neg (by omega), if_pos c1]
      refine (View.read_writes_cons_rows_of_mem _ _ _ _ _ y (ix2 (0 : Fin 1) (y 1)) rfl (by simpa using c1) rfl).trans ?_
      exact congrArg (fun v => row1Next x0 x2 x4 x7 x8 v (ix2 0 (y 1))) (ld_row xs 1 (by decide) _)
    refine (View.read_writes_cons_rows_of_not_mem (W := 1) _ _ _ _ _ y rfl rfl (by omega)).trans ?_
    by_cases c0 : (y 0).val = 0
    · rw [if_pos c0]
      refine (View.read_writes_cons_rows_of_mem _ _ _ _ _ y (ix2 (0 : Fin 1) (y 1)) rfl (by simpa using c0) rfl).trans ?_
      exact congrArg (fun v => row0Next x0 x2 x4 x7 x8 v (ix2 0 (y 1))) (ld_row xs 0 (by decide) _)
    refine (View.read_writes_cons_rows_of_not_mem (W := 1) _ _ _ _ _ y rfl rfl (by omega)).trans ?_
    rw [if_neg c0, if_neg c1, if_neg c2, View.writes_nil, Memref.IsWhole.read_unread]
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Conf

end
-- ==== Proof.ConfRunLast.lean ====
/-
  The body at the last point: the running sums gain the tile's part, and the gradient of the weights is written out.
-/
module

public import proofs.«01_k».proof.Proof.ConfRunMiddle

@[expose] public section

set_option maxRecDepth 16384

noncomputable section

namespace Cert.Conf

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x2048 .f32) (harg4 : arg4.IsWhole)
  (arg5 : Memref sig .tc .vmem S256x1024 .f32) (harg5 : arg5.IsWhole)
  (arg6 : Memref sig .tc .vmem S1x2048 .f32) (harg6 : arg6.IsWhole)
  (arg7 : Memref sig .tc .vmem S32x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x2048 .f32) (harg10 : arg10.IsWhole)
  (arg11 : Memref sig .tc .vmem S256x1024 .f32) (harg11 : arg11.IsWhole)
  (arg12 : Memref sig .tc .vmem S32x1024 .f32) (harg12 : arg12.IsWhole)
  (arg13 : Memref sig .tc .vmem S1x2048 .f32) (harg13 : arg13.IsWhole)
  (arg14 : Memref sig .tc .vmem S8x1024 .f32) (harg14 : arg14.IsWhole)
  (arg15 : Memref sig .tc .vmem S288x1024 .f32) (harg15 : arg15.IsWhole)
  (arg16 : Memref sig .tc .vmem S7x280x1024 .f32) (harg16 : arg16.IsWhole)
  (arg17 : Memref sig .tc .vmem S256x1024 .f32) (harg17 : arg17.IsWhole)
  (arg18 : Memref sig .tc .vmem S256x1024 .f32) (harg18 : arg18.IsWhole)

set_option maxHeartbeats 0 in
/-- The last point: the same, and the weights' gradient is written out. -/
theorem run_last (hc0 : ¬clears i) (hc1 : writesOut i)
    (x0 x1 x2 : Vec F S256x1024 .f32) (x3 : Vec F S256x2048 .f32) (x4 : Vec F S256x1024 .f32) (x5 : Vec F S1x2048 .f32)
    (x6 : Vec F S32x1024 .f32) (x7 x8 : Vec F S1x1024 .f32) (xs : Vec F S8x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d) ∗ owns (c : Thread nD τ) arg14 fullShare xs ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare x8 ∗ (∃ d, owns (c : Thread nD τ) arg10 fullShare d) ∗ owns (c : Thread nD τ) arg11 fullShare (gateOf x0 x2 x4 x7 x8) ∗ (∃ d, owns (c : Thread nD τ) arg12 fullShare d)
          ∗ (∃ d, owns (c : Thread nD τ) arg13 fullShare d) ∗ owns (c : Thread nD τ) arg14 fullShare (smallNext x0 x2 x4 x7 x8 xs) ∗ (∃ d, owns (c : Thread nD τ) arg15 fullShare d) ∗ (∃ d, owns (c : Thread nD τ) arg16 fullShare d)
          ∗ (∃ d, owns (c : Thread nD τ) arg17 fullShare d) ∗ (∃ d, owns (c : Thread nD τ) arg18 fullShare d)) -∗ K ⟨⟩))
      ⊢ wp frame (wpE (defs₀ (F := F)) Variants.none c none) E
          (cc0_conf_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_conf_bwd_eq_skeleton]
  unfold cc0_conf_bwd_skel
  simp only [k0_part75_eq_skeleton, k0_part76_eq_skeleton, k0_part77_eq_skeleton, k0_part78_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg14.eq_unread hf14
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _, _; isplitr; swap; · iexact H10
    ipureintro; rfl
  isplitl [H11]
  · iexists _; isplitr; swap; · iexact H11
    ipureintro; frame_out; rfl
  isplitl [H12]
  · iexists _, _; isplitr; swap; · iexact H12
    ipureintro; rfl
  isplitl [H13]
  · iexists _, _; isplitr; swap; · iexact H13
    ipureintro; rfl
  isplitl [H14]
  · iexists _; isplitr; swap; · iexact H14
    ipureintro; frame_out
    funext y
    unfold smallNext
    by_cases c2 : (y 0).val = 2
    · rw [if_neg (by omega), if_neg (by omega), if_pos c2]
      refine (View.read_writes_cons_rows_of_mem _ _ _ _ _ y (ix2 (0 : Fin 1) (y 1)) rfl (by simpa using c2) rfl).trans ?_
      exact congrArg (fun v => row2Next x0 x2 x4 x7 x8 v (ix2 0 (y 1))) (ld_row xs 2 (by decide) _)
    refine (View.read_writes_cons_rows_of_not_mem (W := 1) _ _ _ _ _ y rfl rfl (by omega)).trans ?_
    by_cases c1 : (y 0).val = 1
    · rw [if_neg (by omega), if_pos c1]
      refine (View.read_writes_cons_rows_of_mem _ _ _ _ _ y (ix2 (0 : Fin 1) (y 1)) rfl (by simpa using c1) rfl).trans ?_
      exact congrArg (fun v => row1Next x0 x2 x4 x7 x8 v (ix2 0 (y 1))) (ld_row xs 1 (by decide) _)
    refine (View.read_writes_cons_rows_of_not_mem (W := 1) _ _ _ _ _ y rfl rfl (by omega)).trans ?_
    by_cases c0 : (y 0).val = 0
    · rw [if_pos c0]
      refine (View.read_writes_cons_rows_of_mem _ _ _ _ _ y (ix2 (0 : Fin 1) (y 1)) rfl (by simpa using c0) rfl).trans ?_
      exact congrArg (fun v => row0Next x0 x2 x4 x7 x8 v (ix2 0 (y 1))) (ld_row xs 0 (by decide) _)
    refine (View.read_writes_cons_rows_of_not_mem (W := 1) _ _ _ _ _ y rfl rfl (by omega)).trans ?_
    rw [if_neg c0, if_neg c1, if_neg c2, View.writes_nil, Memref.IsWhole.read_unread]
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  iexists _, _; isplitr; swap; · iexact H18
  ipureintro; rfl

end Cert.Conf

end
-- ==== Proof.ConfFrame.lean ====
/- The run of the convolution branch's backward, point after point: every point leaves its block of the gate's gradient and the running sums of
    the points up to it; of the other three outputs the run says only that they are written. At the end the arguments are as launched,
    every counter is zero, and the two named outputs hold what the points left. -/
module

public import proofs.«01_k».proof.Proof.ConfRunLast
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conf

open Cert.Kernel15Ideal Cert.Kernel15Ideal.Gen
open Idealize.ShloMosaic Idealize.ShloMosaic.TcCoe Idealize.ShloMosaic.Tactic
open Idealize.ShloMosaic.Pipeline (Cfg Window BodyObligation Dat RDat)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

local notation "𝕄" => MT nD τ sig Unit (Elt F) ℕ (UR sig nD τ) ℕ

theorem lt16 (t : Fin cfg0.N) : t.val < 16 := lt_of_lt_of_eq t.isLt (show cfg0.N = 16 from N_0)

/-- The sums are cleared at the first point, -/
theorem clears_iff (t : Fin cfg0.N) : clears (grid0.coords t) ↔ t.val = 0 := by
  have ht := lt16 t
  have e0 : (grid0.coords t 0).val = t.val / 1 % 16 := Pipeline.Grid.coords_val t 0 (by decide) rfl
  have h : clears (grid0.coords t) ↔ t.val % 16 = 0 := by
    simp only [clears, e0]
    word_cmp
  rw [h]; omega

/-- and the weights' gradient is written out at the last. -/
theorem writesOut_iff (t : Fin cfg0.N) : writesOut (grid0.coords t) ↔ t.val = 15 := by
  have ht := lt16 t
  have e0 : (grid0.coords t 0).val = t.val / 1 % 16 := Pipeline.Grid.coords_val t 0 (by decide) rfl
  have h : writesOut (grid0.coords t) ↔ t.val % 16 = 15 := by
    simp only [writesOut, k0_cond2, e0]
    word_cmp
  rw [h]; omega

/-! ## What the points leave -/

/-- The gate's gradient at point `t`. -/
def gateAt (c : Dev nD) (t : Fin cfg0.N) : Vec F S256x1024 .f32 :=
  gateOf (iblk m c 0 t) (iblk m c 2 t) (iblk m c 4 t) (iblk m c 7 t) (iblk m c 8 t)

/-- The running sums once point `t` has added its part to `xs`. -/
def sumsNext (c : Dev nD) (t : Fin cfg0.N) (xs : Vec F S8x1024 .f32) : Vec F S8x1024 .f32 :=
  smallNext (iblk m c 0 t) (iblk m c 2 t) (iblk m c 4 t) (iblk m c 7 t) (iblk m c 8 t) xs

/-- The running sums after point `n`. -/
def sumsAt (c : Dev nD) : (n : ℕ) → n < cfg0.N → Vec F S8x1024 .f32
  | 0, h => sumsNext m c ⟨0, h⟩ (k0_pay398 (F := F))
  | n + 1, h => sumsNext m c ⟨n + 1, h⟩ (sumsAt c n (Nat.lt_of_succ_lt h))

theorem sumsAt_first (c : Dev nD) (t : Fin cfg0.N) (h : t.val = 0) :
    sumsAt m c t.val t.isLt = sumsNext m c t (k0_pay398 (F := F)) := by
  obtain ⟨n, hn⟩ := t
  cases n with
  | zero => rfl
  | succ n => exact absurd h (Nat.succ_ne_zero n)

theorem sumsAt_later (c : Dev nD) (t : Fin cfg0.N) (h : ¬t.val = 0) :
    sumsAt m c t.val t.isLt = sumsNext m c t (sumsAt m c (t.val - 1) (lt_of_le_of_lt (Nat.sub_le _ _) t.isLt)) := by
  obtain ⟨n, hn⟩ := t
  cases n with
  | zero => exact absurd rfl h
  | succ n => rfl

/-! ## The proof data -/

/-- What each window's buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, _⟩ => gateAt m c t
    | ⟨11, h⟩ => Pipeline.Dat.unnamed (cfg := cfg0) ⟨11, h⟩ t
    | ⟨12, h⟩ => Pipeline.Dat.unnamed (cfg := cfg0) ⟨12, h⟩ t
    | ⟨13, _⟩ => sumsAt m c t.val t.isLt
  Φ _ := Pipeline.ΦA spec0 c
  q _ := fullShare
  owed _ := 0

/-- The outputs of which nothing is said: the gradients before the gate, of the convolution's weights and of the first bias. -/
def unsaid : Fin 14 → Bool := fun w => w.val == 9 || w.val == 11 || w.val == 12

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_10 (c : Dev nD) (t : Fin cfg0.N) : (dats m 0 c).after 10 t = gateAt m c t := by dsimp only [dats]
theorem after_13 (c : Dev nD) (t : Fin cfg0.N) : (dats m 0 c).after 13 t = sumsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- After the first point the sums' buffer holds what the point before left. -/
theorem before_13 (c : Dev nD) (t : Fin cfg0.N) (h : ¬t.val = 0) (d) :
    (dats m 0 c).before 13 t d = sumsAt m c (t.val - 1) (lt_of_le_of_lt (Nat.sub_le _ _) t.isLt) := by
  have ht := lt16 t
  rw [Dat.before_out_kept _ 13 rfl t (by omega)
    (Bool.eq_false_iff.mpr fun h => by have := (flush0_13 _).mp h; dsimp only at this; omega) (fun _ => rfl) (fun _ _ => rfl)]
  dsimp only [dats]

/-! ## The buffers a point runs on -/

abbrev sc_0 : Memref sig .tc .vmem S288x1024 .f32 := Memref.whole cc0_scratch0
abbrev sc_1 : Memref sig .tc .vmem S7x280x1024 .f32 := Memref.whole cc0_scratch1
abbrev sc_2 : Memref sig .tc .vmem S256x1024 .f32 := Memref.whole cc0_scratch2
abbrev sc_3 : Memref sig .tc .vmem S256x1024 .f32 := Memref.whole cc0_scratch3

/-- Between points the scratch buffers hold anything. -/
theorem inv_eq (c : Dev nD) : (Pipeline.ΦA spec0 c : sProp 𝕄)
    = iprop(iprop((∃ d, owns (c : Thread nD τ) sc_0 fullShare d) ∗ (∃ d, owns (c : Thread nD τ) sc_1 fullShare d)
      ∗ (∃ d, owns (c : Thread nD τ) sc_2 fullShare d) ∗ (∃ d, owns (c : Thread nD τ) sc_3 fullShare d))
      ∗ (∃ r, prngReg c r)) := by
  unfold Pipeline.ΦA
  rw [scopedRest0_eq]
  simp only [sc_0, sc_1, sc_2, sc_3, owns_whole]
  try rfl

abbrev bf_0 (t : Fin cfg0.N) := win0_0.stage (cfg0.slots t 0)
abbrev bf_1 (t : Fin cfg0.N) := win0_1.stage (cfg0.slots t 1)
abbrev bf_2 (t : Fin cfg0.N) := win0_2.stage (cfg0.slots t 2)
abbrev bf_3 (t : Fin cfg0.N) := win0_3.stage (cfg0.slots t 3)
abbrev bf_4 (t : Fin cfg0.N) := win0_4.stage (cfg0.slots t 4)
abbrev bf_5 (t : Fin cfg0.N) := win0_5.stage (cfg0.slots t 5)
abbrev bf_6 (t : Fin cfg0.N) := win0_6.stage (cfg0.slots t 6)
abbrev bf_7 (t : Fin cfg0.N) := win0_7.stage (cfg0.slots t 7)
abbrev bf_8 (t : Fin cfg0.N) := win0_8.stage (cfg0.slots t 8)
abbrev bf_9 (t : Fin cfg0.N) := win0_9.stage (cfg0.slots t 9)
abbrev bf_10 (t : Fin cfg0.N) := win0_10.stage (cfg0.slots t 10)
abbrev bf_11 (t : Fin cfg0.N) := win0_11.stage (cfg0.slots t 11)
abbrev bf_12 (t : Fin cfg0.N) := win0_12.stage (cfg0.slots t 12)
abbrev bf_13 (t : Fin cfg0.N) := win0_13.stage (cfg0.slots t 13)
theorem leaves_0 (c : Dev nD) (t : Fin cfg0.N) :
    ((dats m 0 c).leavesExact 0 t : sProp 𝕄) = owns (c : Thread nD τ) (bf_0 t) fullShare ((dats m 0 c).after 0 t) := by
  have h : cfg0.idle 0 (grid0.coords t) = false := rfl
  unfold Dat.leavesExact; rw [h]
theorem leaves_1 (c : Dev nD) (t : Fin cfg0.N) :
    ((dats m 0 c).leavesExact 1 t : sProp 𝕄) = owns (c : Thread nD τ) (bf_1 t) fullShare ((dats m 0 c).after 1 t) := by
  have h : cfg0.idle 1 (grid0.coords t) = false := rfl
  unfold Dat.leavesExact; rw [h]
theorem leaves_2 (c : Dev nD) (t : Fin cfg0.N) :
    ((dats m 0 c).leavesExact 2 t : sProp 𝕄) = owns (c : Thread nD τ) (bf_2 t) fullShare ((dats m 0 c).after 2 t) := by
  have h : cfg0.idle 2 (grid0.coords t) = false := rfl
  unfold Dat.leavesExact; rw [h]
theorem leaves_3 (c : Dev nD) (t : Fin cfg0.N) :
    ((dats m 0 c).leavesExact 3 t : sProp 𝕄) = owns (c : Thread nD τ) (bf_3 t) fullShare ((dats m 0 c).after 3 t) := by
  have h : cfg0.idle 3 (grid0.coords t) = false := rfl
  unfold Dat.leavesExact; rw [h]
theorem leaves_4 (c : Dev nD) (t : Fin cfg0.N) :
    ((dats m 0 c).leavesExact 4 t : sProp 𝕄) = owns (c : Thread nD τ) (bf_4 t) fullShare ((dats m 0 c).after 4 t) := by
  have h : cfg0.idle 4 (grid0.coords t) = false := rfl
  unfold Dat.leavesExact; rw [h]
theorem leaves_5 (c : Dev nD) (t : Fin cfg0.N) :
    ((dats m 0 c).leavesExact 5 t : sProp 𝕄) = owns (c : Thread nD τ) (bf_5 t) fullShare ((dats m 0 c).after 5 t) := by
  have h : cfg0.idle 5 (grid0.coords t) = false := rfl
  unfold Dat.leavesExact; rw [h]
theorem leaves_6 (c : Dev nD) (t : Fin cfg0.N) :
    ((dats m 0 c).leavesExact 6 t : sProp 𝕄) = owns (c : Thread nD τ) (bf_6 t) fullShare ((dats m 0 c).after 6 t) := by
  have h : cfg0.idle 6 (grid0.coords t) = false := rfl
  unfold Dat.leavesExact; rw [h]
theorem leaves_7 (c : Dev nD) (t : Fin cfg0.N) :
    ((dats m 0 c).leavesExact 7 t : sProp 𝕄) = owns (c : Thread nD τ) (bf_7 t) fullShare ((dats m 0 c).after 7 t) := by
  have h : cfg0.idle 7 (grid0.coords t) = false := rfl
  unfold Dat.leavesExact; rw [h]
theorem leaves_8 (c : Dev nD) (t : Fin cfg0.N) :
    ((dats m 0 c).leavesExact 8 t : sProp 𝕄) = owns (c : Thread nD τ) (bf_8 t) fullShare ((dats m 0 c).after 8 t) := by
  have h : cfg0.idle 8 (grid0.coords t) = false := rfl
  unfold Dat.leavesExact; rw [h]
theorem leaves_10 (c : Dev nD) (t : Fin cfg0.N) :
    ((dats m 0 c).leavesExact 10 t : sProp 𝕄) = owns (c : Thread nD τ) (bf_10 t) fullShare ((dats m 0 c).after 10 t) := by
  have h : cfg0.idle 10 (grid0.coords t) = false := rfl
  unfold Dat.leavesExact; rw [h]
theorem leaves_13 (c : Dev nD) (t : Fin cfg0.N) :
    ((dats m 0 c).leavesExact 13 t : sProp 𝕄) = owns (c : Thread nD τ) (bf_13 t) fullShare ((dats m 0 c).after 13 t) := by
  have h : cfg0.idle 13 (grid0.coords t) = false := rfl
  unfold Dat.leavesExact; rw [h]

/-! ## One point -/

/-- What a point finds, -/
def found (c : Dev nD) (t : Fin cfg0.N) : sProp 𝕄 :=
  iprop((dats m 0 c).Φ t.castSucc ∗ (dats m 0 c).owesAt () t.castSucc
    ∗ (∃ d, owns (c : Thread nD τ) (bf_0 t) fullShare ((dats m 0 c).before 0 t d))
    ∗ (∃ d, owns (c : Thread nD τ) (bf_1 t) fullShare ((dats m 0 c).before 1 t d))
    ∗ (∃ d, owns (c : Thread nD τ) (bf_2 t) fullShare ((dats m 0 c).before 2 t d))
    ∗ (∃ d, owns (c : Thread nD τ) (bf_3 t) fullShare ((dats m 0 c).before 3 t d))
    ∗ (∃ d, owns (c : Thread nD τ) (bf_4 t) fullShare ((dats m 0 c).before 4 t d))
    ∗ (∃ d, owns (c : Thread nD τ) (bf_5 t) fullShare ((dats m 0 c).before 5 t d))
    ∗ (∃ d, owns (c : Thread nD τ) (bf_6 t) fullShare ((dats m 0 c).before 6 t d))
    ∗ (∃ d, owns (c : Thread nD τ) (bf_7 t) fullShare ((dats m 0 c).before 7 t d))
    ∗ (∃ d, owns (c : Thread nD τ) (bf_8 t) fullShare ((dats m 0 c).before 8 t d))
    ∗ (∃ d, owns (c : Thread nD τ) (bf_9 t) fullShare d)
    ∗ (∃ d, owns (c : Thread nD τ) (bf_10 t) fullShare ((dats m 0 c).before 10 t d))
    ∗ (∃ d, owns (c : Thread nD τ) (bf_11 t) fullShare d)
    ∗ (∃ d, owns (c : Thread nD τ) (bf_12 t) fullShare d)
    ∗ (∃ d, owns (c : Thread nD τ) (bf_13 t) fullShare ((dats m 0 c).before 13 t d)))

/-- and what it leaves. -/
def left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (bf_9 t) fullShare d)
    ∗ (dats m 0 c).leavesExact 10 t
    ∗ (∃ d, owns (c : Thread nD τ) (bf_11 t) fullShare d)
    ∗ (∃ d, owns (c : Thread nD τ) (bf_12 t) fullShare d)
    ∗ (dats m 0 c).leavesExact 13 t)

set_option maxHeartbeats 19200000 in
/-- The body at a point: one of the three runs. -/
theorem point (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4, before_5, before_6, before_7, before_8]
  rw [leaves_0, leaves_1, leaves_2, leaves_3, leaves_4, leaves_5, leaves_6, leaves_7, leaves_8, leaves_10, leaves_13]
  rw [after_0, after_1, after_2, after_3, after_4, after_5, after_6, after_7, after_8, after_10, after_13]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq]
  by_cases h0 : t.val = 0
  · rw [sumsAt_first m c t h0]
    unfold gateAt sumsNext
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) _ _ _ _ _ _ _ _ _ _ _ _ _ _ _ _ _ _ _ _ _ _ _ _ _ _ _ _ _ _ _ _ _ _ _ _ ((clears_iff t).mpr h0) (fun h => by have := (writesOut_iff t).mp h; omega) (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitr [Hg]
      · isplitl [HS0]; · iexact HS0
        isplitl [HS1]; · iexact HS1
        isplitl [HS2]; · iexact HS2
        iexact HS3
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [sumsAt_later m c t h0]
    simp only [before_13 m c t h0]
    unfold gateAt sumsNext
    by_cases h1 : t.val = 15
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_last c (grid0.coords t) _ _ _ _ _ _ _ _ _ _ _ _ _ _ _ _ _ _ _ _ _ _ _ _ _ _ _ _ _ _ _ _ _ _ _ _ (fun h => h0 ((clears_iff t).mp h)) ((writesOut_iff t).mpr h1) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_middle c (grid0.coords t) _ _ _ _ _ _ _ _ _ _ _ _ _ _ _ _ _ _ _ _ _ _ _ _ _ _ _ _ _ _ _ _ _ _ _ _ (fun h => h0 ((clears_iff t).mp h)) (fun h => h1 ((writesOut_iff t).mp h)) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 Hg]
      · isplitr [Hg]
        · isplitl [HS0]; · iexact HS0
          isplitl [HS1]; · iexact HS1
          isplitl [HS2]; · iexact HS2
          iexact HS3
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-! ## The whole run -/

theorem defs_row (t : Fin cfg0.N) : defs₀ (F := F) .tc cfg0.body (cfg0.bodyArgs t (cfg0.slots t)) = bodyAt0 t := by
  unfold defs₀; rw [Defs.onTc_tc]

theorem body (c : Dev nD) : BodyObligation (dats m 0 c) (defs₀ (F := F)) Variants.none () Set.univ unsaid := fun t => by
  rw [bigSep_W0, bigSep_W0, defs_row]
  exact triple_restated (point m c t) rfl .rfl fun _ => .rfl

set_option backward.isDefEq.respectTransparency.types false in
/-- The run: every counter ends at zero, the inputs are as they were, and the named outputs hold what the points left. -/
theorem run : θ_run defs (onTc (τ := τ) (main (F := F))) (s₀ m ρ)
    (fun r => (RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body m c).loose) (hshare := fun c => (dats m 0 c).share_full fun _ => rfl)
    (howed := fun _ _ => rfl) (V := V m) (hmain := hmain m Variants.none) (hA := A_eq m) (hΦ := fun _ _ => rfl)

/-- The arguments are left as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(RDat.FramePost.arr_in h.1 c 0 rfl).trans ((A_eq m c 0).trans (V_main_arg0 m c)),
      (RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 3 rfl).trans ((A_eq m c 3).trans (V_main_arg4 m c)),
      (RDat.FramePost.arr_in h.1 c 4 rfl).trans ((A_eq m c 4).trans (V_main_arg5 m c)),
      (RDat.FramePost.arr_in h.1 c 5 rfl).trans ((A_eq m c 5).trans (V_main_arg6 m c)),
      ((h.1 c).2 main_arg7 (Pipeline.mem_restRefs_of main_arg7 (by decide) (by decide))).trans (V_main_arg7 m c),
      (RDat.FramePost.arr_in h.1 c 7 rfl).trans ((A_eq m c 7).trans (V_main_arg8 m c)),
      (RDat.FramePost.arr_in h.1 c 8 rfl).trans ((A_eq m c 8).trans (V_main_arg9 m c))⟩, h.2⟩) (run m ρ)

/-- The gate's gradient and the sums at the end, beside the arguments. -/
theorem named : θ_run defs (onTc (τ := τ) (main (F := F))) ⟨m, fun _ => 0, ρ⟩ (fun r => ∀ c : Dev nD,
      r.2.mem ((c.tc : Thread nD τ).loc main_v3_1) = (dats m 0 c).arrAt 10 cfg0.N
      ∧ r.2.mem ((c.tc : Thread nD τ).loc main_v3_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Dat.toRForget_arrAt_iff (dats m 0 c) (fgt := unsaid) (w := 10) rfl _ _).mp ((h.1 c).1 10),
      (Dat.toRForget_arrAt_iff (dats m 0 c) (fgt := unsaid) (w := 13) rfl _ _).mp ((h.1 c).1 13),
      (RDat.FramePost.arr_in h.1 c 0 rfl).trans ((A_eq m c 0).trans (V_main_arg0 m c)),
      (RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 3 rfl).trans ((A_eq m c 3).trans (V_main_arg4 m c)),
      (RDat.FramePost.arr_in h.1 c 4 rfl).trans ((A_eq m c 4).trans (V_main_arg5 m c)),
      (RDat.FramePost.arr_in h.1 c 5 rfl).trans ((A_eq m c 5).trans (V_main_arg6 m c)),
      ((h.1 c).2 main_arg7 (Pipeline.mem_restRefs_of main_arg7 (by decide) (by decide))).trans (V_main_arg7 m c),
      (RDat.FramePost.arr_in h.1 c 7 rfl).trans ((A_eq m c 7).trans (V_main_arg8 m c)),
      (RDat.FramePost.arr_in h.1 c 8 rfl).trans ((A_eq m c 8).trans (V_main_arg9 m c))⟩) (run m ρ)

end Cert.Conf

end
-- ==== Proof.ConfMath.lean ====
/-
  The convolution branch's norm and gate over the real numbers, one token at a time, and the gradient of both.

  `Row` holds one token's numbers: the convolution's output with its bias added, the gate before its nonlinearity and the
  gradient arriving at the branch's output. Both programs are read in these terms.
-/
module

public import proofs.«01_k».proof.Proof.TailMath

@[expose] public section

noncomputable section

namespace Cert.Conf

open Idealize.ShloMosaic Cert.Reals Cert.Tail

/-- One token: the norm's argument, the gate's argument, the gradient at the branch's output. -/
structure Row where
  x : Fin 1024 → ℝ
  cg : Fin 1024 → ℝ
  dy : Fin 1024 → ℝ

variable (g b : Fin 1024 → ℝ) (r : Row)

/-- The norm with its scale and bias. -/
def nrm (j : Fin 1024) : ℝ := xhat r.x j * g j + b j

/-- The derivative of `z ↦ z · logi z`. -/
def dsilu (z : ℝ) : ℝ := logi z * (1 + z * (1 - logi z))

/-- The gate's gradient. -/
def dcg (j : Fin 1024) : ℝ := r.dy j * (nrm g b r j * logi (nrm g b r j)) * dsilu (r.cg j)

/-- The gradient at the norm's output. -/
def dn (j : Fin 1024) : ℝ := r.dy j * (r.cg j * logi (r.cg j)) * dsilu (nrm g b r j)

/-- The gradient at the norm's argument. -/
def du (j : Fin 1024) : ℝ := lnBwd (fun k => dn g b r k * g k) r.x j

/-- What a token adds to row `i` of the small sums: the norm's scale, its bias, the convolution's bias. -/
def part (i : ℕ) (j : Fin 1024) : ℝ :=
  if i = 0 then dn g b r j * xhat r.x j else if i = 1 then dn g b r j else if i = 2 then du g b r j else 0

/-- The derivative of `z · logi z` as the chain rule through the product gives it. -/
theorem dsilu_chain (z : ℝ) : logi z + z * (logi z * (1 - logi z)) = dsilu z := by
  unfold dsilu
  ring

end Cert.Conf
-- ==== Proof.ConfTile.lean ====
/-
  One tile of 256 tokens of the convolution branch's backward: what each of its values is, at an index, as a real number.
-/
module

public import proofs.«01_k».proof.Proof.ConfMath
public import proofs.«01_k».proof.Proof.ConfPoint

@[expose] public section

noncomputable section

open Idealize.ShloMosaic Idealize.ShloMosaic.TcCoe Idealize.SL.Sem

namespace Cert.Conf

open Cert.Kernel15Ideal Cert.Kernel15Ideal.Gen Cert.Reals Cert.Tail

/-- The vectors a tile's body reads hold these real numbers. -/
structure Tile (x0 x2 x4 : Vec Ideal S256x1024 .f32) (x7 x8 : Vec Ideal S1x1024 .f32) (g b : Fin 1024 → ℝ) (R : Fin 256 → Row) :
    Prop where
  dy : ∀ i, x0 i = ↑((R (i 0)).dy (i 1))
  x : ∀ i, x2 i = ↑((R (i 0)).x (i 1))
  cg : ∀ i, x4 i = ↑((R (i 0)).cg (i 1))
  g : ∀ i, x7 i = ↑(g (i 1))
  b : ∀ i, x8 i = ↑(b (i 1))

variable {x0 x2 x4 : Vec Ideal S256x1024 .f32} {x7 x8 : Vec Ideal S1x1024 .f32} {g b : Fin 1024 → ℝ} {R : Fin 256 → Row}
  (T : Tile x0 x2 x4 x7 x8 g b R)
include T

theorem t_cen (i : S256x1024.Idx) : k0_pay400 x2 i = ↑(cen (R (i 0)).x (i 1)) := by
  unfold k0_pay400
  pointwise
  simp only [T.x, ofBits_1024, coe_sum, coe_div _ (show (1024 : ℝ) ≠ 0 by norm_num), ← EReal.coe_sub]
  rfl

theorem t_rstd (i : S256x1.Idx) : k0_pay401 x2 i = ↑(rstd (R (i 0)).x) := by
  unfold k0_pay401
  pointwise
  simp only [t_cen T, ofBits_1024, ofBits_eps, ← EReal.coe_mul, coe_sum, coe_div _ (show (1024 : ℝ) ≠ 0 by norm_num), ← EReal.coe_add]
  exact coe_rsqrt (var_eps_pos (R (i 0)).x)

theorem t_xhat (i : S256x1024.Idx) : k0_pay402 x2 i = ↑(xhat (R (i 0)).x (i 1)) := by
  unfold k0_pay402
  pointwise
  simp only [t_cen T, t_rstd T, ← EReal.coe_mul]
  rfl

theorem t_nrm (i : S256x1024.Idx) : k0_pay403 x2 x7 x8 i = ↑(nrm g b (R (i 0)) (i 1)) := by
  unfold k0_pay403
  pointwise
  simp only [t_xhat T, T.g, T.b, ← EReal.coe_mul, ← EReal.coe_add]
  rfl

theorem t_sn (i : S256x1024.Idx) : k0_pay404 x2 x7 x8 i = ↑(logi (nrm g b (R (i 0)) (i 1))) := by
  unfold k0_pay404
  pointwise
  simp only [t_nrm T, Ideal.logistic_coe]
  rfl

theorem t_sc (i : S256x1024.Idx) : k0_pay405 x4 i = ↑(logi ((R (i 0)).cg (i 1))) := by
  unfold k0_pay405
  pointwise
  simp only [T.cg, Ideal.logistic_coe]
  rfl

theorem t_gate (i : S256x1024.Idx) : gateOf x0 x2 x4 x7 x8 i = ↑(dcg g b (R (i 0)) (i 1)) := by
  unfold gateOf k0_pay408 k0_pay406 k0_pay407
  pointwise
  simp only [t_nrm T, t_sn T, t_sc T, T.dy, T.cg, Reals.ofBits_one, ← EReal.coe_mul, ← EReal.coe_add, ← EReal.coe_sub]
  rfl

theorem t_dn (i : S256x1024.Idx) : k0_pay409 (k0_pay403 x2 x7 x8) (k0_pay404 x2 x7 x8) x4 (k0_pay405 x4) x0 i
    = ↑(dn g b (R (i 0)) (i 1)) := by
  unfold k0_pay409
  pointwise
  simp only [t_nrm T, t_sn T, t_sc T, T.dy, T.cg, Reals.ofBits_one, ← EReal.coe_mul, ← EReal.coe_add, ← EReal.coe_sub]
  rfl

theorem t_dng (i : S256x1024.Idx) : k0_pay412 (k0_pay403 x2 x7 x8) (k0_pay404 x2 x7 x8) x4 (k0_pay405 x4) x0 x7 i
    = ↑(dn g b (R (i 0)) (i 1) * g (i 1)) := by
  unfold k0_pay412
  pointwise
  simp only [t_dn T, T.g, ← EReal.coe_mul]
  rfl

theorem t_du (i : S256x1024.Idx) : k0_pay415 (k0_pay401 x2) (k0_pay402 x2)
    (k0_pay412 (k0_pay403 x2 x7 x8) (k0_pay404 x2 x7 x8) x4 (k0_pay405 x4) x0 x7)
    (k0_pay413 (k0_pay402 x2) (k0_pay403 x2 x7 x8) (k0_pay404 x2 x7 x8) x4 (k0_pay405 x4) x0 x7)
    (k0_pay414 (k0_pay403 x2 x7 x8) (k0_pay404 x2 x7 x8) x4 (k0_pay405 x4) x0 x7) i = ↑(du g b (R (i 0)) (i 1)) := by
  unfold k0_pay415 k0_pay413 k0_pay414
  pointwise
  simp only [t_dng T, t_rstd T, t_xhat T, ofBits_1024, ← EReal.coe_mul, coe_sum, coe_div _ (show (1024 : ℝ) ≠ 0 by norm_num), ← EReal.coe_sub]
  rfl

theorem t_row0 (v : Vec Ideal S1x1024 .f32) (j : Fin 1024) : row0Next x0 x2 x4 x7 x8 v (ix2 0 j)
    = v (ix2 0 j) + ↑(∑ a, dn g b (R a) j * xhat (R a).x j) := by
  unfold row0Next k0_pay410
  pointwise
  simp only [t_dn T, t_xhat T, ← EReal.coe_mul, coe_sum]
  rfl

theorem t_row1 (v : Vec Ideal S1x1024 .f32) (j : Fin 1024) : row1Next x0 x2 x4 x7 x8 v (ix2 0 j)
    = v (ix2 0 j) + ↑(∑ a, dn g b (R a) j) := by
  unfold row1Next k0_pay411
  pointwise
  simp only [t_dn T, coe_sum]
  rfl

theorem t_row2 (v : Vec Ideal S1x1024 .f32) (j : Fin 1024) : row2Next x0 x2 x4 x7 x8 v (ix2 0 j)
    = v (ix2 0 j) + ↑(∑ a, du g b (R a) j) := by
  unfold row2Next k0_pay416
  pointwise
  simp only [t_du T, coe_sum]
  rfl

/-- The running sums after a tile: each entry has gained the tile's part. -/
theorem t_small (xs : Vec Ideal S8x1024 .f32) (y : S8x1024.Idx) : smallNext x0 x2 x4 x7 x8 xs y
    = xs y + ↑(∑ a, part g b (R a) (y 0).val (y 1)) := by
  unfold smallNext part
  by_cases c0 : (y 0).val = 0
  · simp only [if_pos c0]
    refine (t_row0 T _ _).trans (congrArg₂ (· + ·) (congrArg xs (funext fun a => ?_)) rfl)
    fin_cases a
    · exact Fin.ext c0.symm
    · rfl
  simp only [if_neg c0]
  by_cases c1 : (y 0).val = 1
  · simp only [if_pos c1]
    refine (t_row1 T _ _).trans (congrArg₂ (· + ·) (congrArg xs (funext fun a => ?_)) rfl)
    fin_cases a
    · exact Fin.ext c1.symm
    · rfl
  simp only [if_neg c1]
  by_cases c2 : (y 0).val = 2
  · simp only [if_pos c2]
    refine (t_row2 T _ _).trans (congrArg₂ (· + ·) (congrArg xs (funext fun a => ?_)) rfl)
    fin_cases a
    · exact Fin.ext c2.symm
    · rfl
  simp only [if_neg c2, Finset.sum_const_zero, EReal.coe_zero, add_zero]

omit T in
theorem cleared (y : S8x1024.Idx) : k0_pay398 (F := Ideal) y = 0 := by
  unfold k0_pay398
  pointwise

end Cert.Conf
-- ==== Proof.ConfKernel.lean ====
/-
  The convolution branch's backward over its whole grid: the blocks a point reads, and the gate's gradient and the sums over the
  tokens after the call. The points go through the token blocks from the last to the first.
-/
module

public import proofs.«01_k».proof.Proof.ConfTile
public import proofs.«01_k».proof.Proof.ConfFrame
public import proofs.«01_k».proof.Proof.Sums
public import Idealize.ShloMosaic.Lib.Pipeline.ReadBack
public import Idealize.ShloMosaic.Lib.WritesUnit
public import Idealize.ShloMosaic.Lib.StableHlo.Run

@[expose] public section

noncomputable section

open Idealize.ShloMosaic Idealize.ShloMosaic.TcCoe Idealize.SL.Sem

namespace Cert.Conf

open Cert.Kernel15Ideal Cert.Kernel15Ideal.Gen Cert.Reals Cert.Tail

variable (m : (ℓ : Loc nD τ sig) → Buf (Elt Ideal) ℓ) (c : Dev nD)

/-- The arguments that the two results depend on: the gradient of both branches side by side, the convolution's output and bias,
    the gate, the norm's scale and bias. -/
abbrev X0 : S4096x2048.Idx → EReal := m ((c : Thread nD τ).loc main_arg0)
abbrev X2 : S4096x1024.Idx → EReal := m ((c : Thread nD τ).loc main_arg2)
abbrev X3 : S1x1024.Idx → EReal := m ((c : Thread nD τ).loc main_arg3)
abbrev X5 : S4096x1024.Idx → EReal := m ((c : Thread nD τ).loc main_arg5)
abbrev X8 : S1x1024.Idx → EReal := m ((c : Thread nD τ).loc main_arg8)
abbrev X9 : S1x1024.Idx → EReal := m ((c : Thread nD τ).loc main_arg9)

/-- Column `j` of the convolution branch among the columns of both. -/
def col (j : Fin 1024) : Fin 2048 := ⟨1024 + j.val, by omega⟩

/-- They hold real numbers; of the gradient only the convolution branch's half need. -/
structure AllReal : Prop where
  f0 : ∀ r j, X0 m c (ix2 r (col j)) = ↑(X0 m c (ix2 r (col j))).toReal
  f2 : ∀ i, X2 m c i = ↑(X2 m c i).toReal
  f3 : ∀ i, X3 m c i = ↑(X3 m c i).toReal
  f5 : ∀ i, X5 m c i = ↑(X5 m c i).toReal
  f8 : ∀ i, X8 m c i = ↑(X8 m c i).toReal
  f9 : ∀ i, X9 m c i = ↑(X9 m c i).toReal

/-- The norm's scale and bias, and a token's numbers. -/
def scale (j : Fin 1024) : ℝ := (X8 m c (ix2 0 j)).toReal
def bias (j : Fin 1024) : ℝ := (X9 m c (ix2 0 j)).toReal
def tok (r : Fin 4096) : Row where
  x j := (X2 m c (ix2 r j)).toReal + (X3 m c (ix2 0 j)).toReal
  cg j := (X5 m c (ix2 r j)).toReal
  dy j := (X0 m c (ix2 r (col j))).toReal

/-! ## The blocks a point reads -/

/-- Row `a` of point `t`'s blocks is this row of the arrays. -/
def row (t : Fin cfg0.N) (a : Fin 256) : Fin 4096 := ⟨256 * (15 - t.val) + a.val, by have := lt16 t; omega⟩

theorem idxS (t : Fin cfg0.N) : (win0_0.index t 0 = 15 - t.val ∧ win0_0.index t 1 = 1)
    ∧ (win0_2.index t 0 = 15 - t.val ∧ win0_2.index t 1 = 0) ∧ (win0_4.index t 0 = 15 - t.val ∧ win0_4.index t 1 = 0) :=
  (by decide +kernel : ∀ t : Fin grid0.N, (win0_0.index t 0 = 15 - t.val ∧ win0_0.index t 1 = 1)
    ∧ (win0_2.index t 0 = 15 - t.val ∧ win0_2.index t 1 = 0) ∧ (win0_4.index t 0 = 15 - t.val ∧ win0_4.index t 1 = 0)) t

theorem idxW (t : Fin cfg0.N) : (win0_7.index t 0 = 0 ∧ win0_7.index t 1 = 0) ∧ (win0_8.index t 0 = 0 ∧ win0_8.index t 1 = 0) :=
  (by decide +kernel : ∀ t : Fin grid0.N, (win0_7.index t 0 = 0 ∧ win0_7.index t 1 = 0)
    ∧ (win0_8.index t 0 = 0 ∧ win0_8.index t 1 = 0)) t

theorem blk0 (t : Fin cfg0.N) (i : S256x1024.Idx) : iblk m c 0 t i = X0 m c (ix2 (row t (i 0)) (col (i 1))) := by
  obtain ⟨⟨e0, e1⟩, -⟩ := idxS t
  unfold row col
  blk_ext [iblk, V, e0, e1]

/-- The convolution's output with its bias, as the host adds it. -/
abbrev biased : S4096x1024.Idx → EReal := V m c main_v2

theorem biased_apply (r : Fin 4096) (j : Fin 1024) : biased m c (ix2 r j) = X2 m c (ix2 r j) + X3 m c (ix2 0 j) := by
  unfold biased V
  rw [show [hostOps0, hostOps0_1, hostOps0_2].flatten = hostOps0 (F := Ideal) ++ (hostOps0_1 ++ hostOps0_2) from rfl]
  simp only [hostOps0, hostOps0_1, hostOps0_2, List.cons_append, List.nil_append]
  after_results
  pointwise

theorem blk2 (t : Fin cfg0.N) (i : S256x1024.Idx) : iblk m c 2 t i = biased m c (ix2 (row t (i 0)) (i 1)) := by
  obtain ⟨-, ⟨e0, e1⟩, -⟩ := idxS t
  unfold row
  blk_ext [iblk, e0, e1]

theorem blk4 (t : Fin cfg0.N) (i : S256x1024.Idx) : iblk m c 4 t i = X5 m c (ix2 (row t (i 0)) (i 1)) := by
  obtain ⟨-, -, ⟨e0, e1⟩⟩ := idxS t
  unfold row
  blk_ext [iblk, V, e0, e1]

theorem blk7 (t : Fin cfg0.N) (i : S1x1024.Idx) : iblk m c 7 t i = X8 m c (ix2 0 (i 1)) := by
  obtain ⟨⟨e0, e1⟩, -⟩ := idxW t
  blk_ext [iblk, V, e0, e1]

theorem blk8 (t : Fin cfg0.N) (i : S1x1024.Idx) : iblk m c 8 t i = X9 m c (ix2 0 (i 1)) := by
  obtain ⟨-, ⟨e0, e1⟩⟩ := idxW t
  blk_ext [iblk, V, e0, e1]

variable {m c} (hr : AllReal m c)
include hr

/-- What point `t` reads, as real numbers. -/
theorem tile (t : Fin cfg0.N) : Tile (iblk m c 0 t) (iblk m c 2 t) (iblk m c 4 t) (iblk m c 7 t) (iblk m c 8 t)
    (scale m c) (bias m c) (fun a => tok m c (row t a)) where
  dy i := (blk0 m c t i).trans (hr.f0 _ _)
  x i := (blk2 m c t i).trans ((biased_apply m c _ _).trans
    ((congrArg₂ (· + ·) (hr.f2 _) (hr.f3 _)).trans (EReal.coe_add _ _).symm))
  cg i := (blk4 m c t i).trans (hr.f5 _)
  g i := (blk7 m c t i).trans (hr.f8 _)
  b i := (blk8 m c t i).trans (hr.f9 _)

/-! ## The gate's gradient -/

/-- The gate's gradient over the whole array. -/
def gateAll (i : S4096x1024.Idx) : EReal := ↑(dcg (scale m c) (bias m c) (tok m c (i 0)) (i 1))

theorem arr10 (i : S4096x1024.Idx) : ((dats m 0 c).arrAt 10 cfg0.N i : EReal) = gateAll (m := m) (c := c) i := by
  have e : (dats m 0 c).arrAt 10 cfg0.N = fun i : S4096x1024.Idx => gateAll (m := m) (c := c) i := by
    refine (dats m 0 c).arrAt_eq_of_covers 10 _ (by decide +kernel) fun t hf y => ?_
    have e0 : ∀ t : Fin cfg0.grid.N, win0_10.index t 0 = 15 - t.val ∧ win0_10.index t 1 = 0 := by decide +kernel
    have ey : (win0_10.blk t).view.emb y = ix2 (row t (y 0)) (y 1) := by unfold row; blk_ext [(e0 t).1, (e0 t).2]
    have h : gateAt m c t y = gateAll (m := m) (c := c) (ix2 (row t (y 0)) (y 1)) := t_gate (tile hr t) y
    blk_simp
    rw [after_10]
    exact h.trans (congrArg (gateAll (m := m) (c := c)) ey.symm)
  exact congrFun e i

/-! ## The sums over the tokens -/

omit hr in
/-- Sixteen runs of 256 rows, the last run first, are all the rows. -/
theorem sum_rows (g : Fin 4096 → ℝ) (r : ℕ → EReal)
    (h : ∀ n (hn : n < cfg0.N), r n = ↑(∑ a : Fin 256, g (row ⟨n, hn⟩ a))) :
    ∑ n ∈ Finset.range 16, r n = ↑(∑ x : Fin 4096, g x) := by
  have hN : cfg0.N = 16 := N_0
  have hlt : ∀ n, 16 - 1 - n < cfg0.N := fun n => by omega
  refine (Finset.sum_range_reflect r 16).symm.trans (Eq.trans (Finset.sum_congr (M := EReal) rfl fun n hn => ?_)
    ((Cert.Sums.sum_runs_fin (B := 256) (J := 16) (N := 4096) rfl (fun x => (g x : EReal))
      (fun n k => (g (row ⟨16 - 1 - n, hlt n⟩ k) : EReal)) fun n hn k => ?_).trans (coe_sum _ _)))
  · rw [h _ (hlt n), ← coe_sum]
  · refine congrArg (fun x => (g x : EReal)) (Fin.ext ?_)
    change 256 * (15 - (16 - 1 - n)) + k.val = _
    have hk : 15 - (16 - 1 - n) = n := by omega
    rw [hk]

/-- What point `t` adds to the sums. -/
abbrev adds (t : Fin cfg0.N) (i : S8x1024.Idx) : EReal :=
  ↑(∑ a, part (scale m c) (bias m c) (tok m c (row t a)) (i 0).val (i 1))

theorem sums_first (t : Fin cfg0.N) (h : t.val % 16 = 0) (y : S8x1024.Idx) :
    sumsAt m c t.val t.isLt y = 0 + adds (m := m) (c := c) t y := by
  rw [sumsAt_first m c t (by have := lt16 t; omega)]
  exact (t_small (tile hr t) _ y).trans (congrArg₂ (· + ·) (cleared y) rfl)

theorem sums_later (t : Fin cfg0.N) (h : ¬t.val % 16 = 0) (y : S8x1024.Idx) :
    sumsAt m c t.val t.isLt y
      = sumsAt m c (t.val - 1) (Nat.lt_of_le_of_lt (Nat.sub_le _ _) t.isLt) y + adds (m := m) (c := c) t y := by
  rw [sumsAt_later m c t (by omega)]
  exact t_small (tile hr t) _ y

omit hr in
/-- Point `n`'s addition, zero beyond the grid. -/
def term (n : ℕ) (i : S8x1024.Idx) : EReal := if h : n < cfg0.N then adds (m := m) (c := c) ⟨n, h⟩ i else 0

/-- The sums over all tokens. -/
def smallAll (i : S8x1024.Idx) : EReal := ↑(∑ r, part (scale m c) (bias m c) (tok m c r) (i 0).val (i 1))

theorem sums_last (t : Fin cfg0.N) (ht : t.val = 15) (y : S8x1024.Idx) :
    sumsAt m c t.val t.isLt y = smallAll (m := m) (c := c) y := by
  have hN : cfg0.N = 16 := N_0
  refine (Pipeline.eq_sum_of_reset_step_apply_single (M := EReal) (fun n h i => sumsAt m c n h i) 16 (fun _ => 0)
    (term (m := m) (c := c)) ?_ ?_ (by omega) t y).trans ?_
  · intro t h i
    unfold term
    rw [dif_pos t.isLt]
    exact sums_first hr t h i
  · intro t h i
    unfold term
    rw [dif_pos t.isLt]
    exact sums_later hr t h i
  unfold smallAll
  rw [zero_add, ht]
  exact sum_rows (fun r => part (scale m c) (bias m c) (tok m c r) (y 0).val (y 1)) (fun n => term (m := m) (c := c) n y)
    fun n hn => by
      unfold term
      rw [dif_pos hn]

theorem arr13 (i : S8x1024.Idx) : ((dats m 0 c).arrAt 13 cfg0.N i : EReal) = smallAll (m := m) (c := c) i := by
  have e : (dats m 0 c).arrAt 13 cfg0.N = fun i : S8x1024.Idx => smallAll (m := m) (c := c) i := by
    refine (dats m 0 c).arrAt_eq_of_covers 13 _ (by decide +kernel) fun t hf y => ?_
    have ht : t.val = 15 := (by decide +kernel : ∀ t : Fin cfg0.grid.N, (cfg0.win 13).flush t = true → t.val = 15) t hf
    have e0 : ∀ t : Fin cfg0.grid.N, win0_13.index t 0 = 0 ∧ win0_13.index t 1 = 0 := by decide +kernel
    have ey : (win0_13.blk t).view.emb y = y := by blk_ext [(e0 t).1, (e0 t).2]
    blk_simp
    rw [after_13]
    exact (sums_last hr t ht y).trans (congrArg (smallAll (m := m) (c := c)) ey.symm)
  exact congrFun e i

end Cert.Conf

end
-- ==== Proof.ConfReference.lean ====
/-
  The gradients of the gated norm as plain operations and the chain rule give them, stage by stage.
-/
module

public import proofs.«01_k».proof.Proof.ConfMath
public import proofs.«01_k».proof.Proof.Gen.Reference15Ideal.Run
public import proofs.«01_k».proof.Proof.Gen.Reference15Ideal.Read

@[expose] public section

noncomputable section

open Idealize.ShloMosaic Idealize.ShloMosaic.TcCoe Idealize.SL.Sem

namespace Cert.Conf

open Cert.Reference15Ideal Cert.Reference15Ideal.Gen Cert.Reference15Ideal.Read Cert.Reals Cert.Tail

/-- The six arguments that the gradients depend on hold these real numbers. -/
structure Reads (x0 : Vec Ideal S4096x2048 .f32) (x2 : Vec Ideal S4096x1024 .f32) (x3 : Vec Ideal S1x1024 .f32)
    (x5 : Vec Ideal S4096x1024 .f32) (x8 x9 : Vec Ideal S1x1024 .f32) (U : Fin 4096 → Fin 1024 → ℝ) (B g b : Fin 1024 → ℝ)
    (R : Fin 4096 → Row) : Prop where
  dy : ∀ (r : Fin 4096) (j : Fin 1024), x0 (ix2 r (⟨1024 + j.val, by omega⟩ : Fin 2048)) = ↑((R r).dy j)
  u : ∀ i, x2 i = ↑(U (i 0) (i 1))
  cb : ∀ i, x3 i = ↑(B (i 1))
  x : ∀ r j, U r j + B j = (R r).x j
  cg : ∀ i, x5 i = ↑((R (i 0)).cg (i 1))
  g : ∀ i, x8 i = ↑(g (i 1))
  b : ∀ i, x9 i = ↑(b (i 1))

variable {x0 : Vec Ideal S4096x2048 .f32} {x2 : Vec Ideal S4096x1024 .f32} {x3 : Vec Ideal S1x1024 .f32}
  {x5 : Vec Ideal S4096x1024 .f32} {x8 x9 : Vec Ideal S1x1024 .f32} {U : Fin 4096 → Fin 1024 → ℝ} {B g b : Fin 1024 → ℝ}
  {R : Fin 4096 → Row} (h : Reads x0 x2 x3 x5 x8 x9 U B g b R)
include h

/-! ## The norm -/

theorem ref_x (i : S4096x1024.Idx) : val_main_v1 x2 x3 i = ↑((R (i 0)).x (i 1)) := by
  unfold val_main_v1 val_main_v0
  pointwise
  simp only [h.u, h.cb, ← EReal.coe_add]
  exact congrArg ((↑) : ℝ → EReal) (h.x _ _)

theorem ref_cen (i : S4096x1024.Idx) : val_main_v7 x2 x3 i = ↑(cen (R (i 0)).x (i 1)) := by
  unfold val_main_v7 val_main_v6 val_main_v5 val_main_v4 val_main_cst_0 val_main_v3 val_main_v2 val_main_cst
  pointwise
  simp only [ref_x h, ofBits_1024, coe_sum]
  rw [coe_div _ (by norm_num), ← EReal.coe_sub]
  rfl

theorem ref_var (i : S4096x1.Idx) : val_main_v18 x2 x3 i = ↑(var (R (i 0)).x + eps) := by
  unfold val_main_v18 val_main_v17 val_main_cst_4 val_main_v14 val_main_v13 val_main_cst_3 val_main_v12 val_main_v11
    val_main_cst_2 val_main_v8
  pointwise
  simp only [ref_cen h, ofBits_1024, ofBits_eps, ← EReal.coe_mul, coe_sum]
  rw [coe_div _ (by norm_num), ← EReal.coe_add]
  rfl

theorem ref_rstd (i : S4096x1.Idx) : val_main_v19 x2 x3 i = ↑(rstd (R (i 0)).x) := by
  unfold val_main_v19
  pointwise
  rw [ref_var h, coe_rsqrt (var_eps_pos _)]
  rfl

theorem ref_cenb (i : S4096x1024.Idx) : val_main_v16 x2 x3 i = ↑(cen (R (i 0)).x (i 1)) := by
  unfold val_main_v16 val_main_v15 val_main_v5 val_main_v4 val_main_cst_0 val_main_v3 val_main_v2 val_main_cst
  pointwise
  simp only [ref_x h, ofBits_1024, coe_sum]
  rw [coe_div _ (by norm_num), ← EReal.coe_sub]
  rfl

theorem ref_xhat (i : S4096x1024.Idx) : val_main_v24 x2 x3 i = ↑(xhat (R (i 0)).x (i 1)) := by
  unfold val_main_v24 val_main_v23
  pointwise
  rw [ref_cenb h, ref_rstd h, ← EReal.coe_mul]
  rfl

theorem ref_nrm (i : S4096x1024.Idx) : val_main_v28 x2 x3 x8 x9 i = ↑(nrm g b (R (i 0)) (i 1)) := by
  unfold val_main_v28 val_main_v27 val_main_v26 val_main_v25
  pointwise
  simp only [ref_xhat h, h.g, h.b, ← EReal.coe_mul, ← EReal.coe_add]
  rfl

/-! ## The two gates -/

theorem ref_sn (i : S4096x1024.Idx) : val_main_v29_2 x2 x3 x8 x9 i = ↑(logi (nrm g b (R (i 0)) (i 1))) := by
  unfold val_main_v29_2 val_main_call0_v4 val_main_call0_cst_0 val_main_call0_v3 val_main_call0_v2 val_main_call0_cst
    val_main_call0_v1 val_main_call0_v0
  pointwise
  simp only [ref_nrm h, ← EReal.coe_neg, Ideal.exp_coe, Reals.ofBits_one, ← EReal.coe_add]
  exact (coe_div (1 : ℝ) (one_add_exp_pos (nrm g b (R (i 0)) (i 1))).ne').trans (congrArg ((↑) : ℝ → EReal) (one_div _))

theorem ref_sc (i : S4096x1024.Idx) : val_main_v30_2 x5 i = ↑(logi ((R (i 0)).cg (i 1))) := by
  unfold val_main_v30_2 val_main_call1_v4 val_main_call1_cst_0 val_main_call1_v3 val_main_call1_v2 val_main_call1_cst
    val_main_call1_v1 val_main_call1_v0
  pointwise
  simp only [h.cg, ← EReal.coe_neg, Ideal.exp_coe, Reals.ofBits_one, ← EReal.coe_add]
  exact (coe_div (1 : ℝ) (one_add_exp_pos ((R (i 0)).cg (i 1))).ne').trans (congrArg ((↑) : ℝ → EReal) (one_div _))

theorem ref_dy (i : S4096x1024.Idx) : val_main_v32 x0 i = ↑((R (i 0)).dy (i 1)) := by
  unfold val_main_v32
  pointwise
  exact h.dy _ _

theorem ref_dcg (i : S4096x1024.Idx) : val_main_v35 x0 x2 x3 x5 x8 x9 i = ↑(dcg g b (R (i 0)) (i 1)) := by
  unfold val_main_v35 val_main_call2_v2 val_main_call2_v1 val_main_call2_v0 val_main_v33 val_main_v30_1 val_main_call1_v7
    val_main_call1_v6 val_main_call1_cst_1 val_main_v29_0
  pointwise
  simp only [ref_nrm h, ref_sn h, ref_sc h, ref_dy h, h.cg, Reals.ofBits_one, ← EReal.coe_sub, ← EReal.coe_mul, ← EReal.coe_add]
  refine congrArg ((↑) : ℝ → EReal) ?_
  unfold dcg dsilu
  ring

theorem ref_dn (i : S4096x1024.Idx) : val_main_v36 x0 x2 x3 x5 x8 x9 i = ↑(dn g b (R (i 0)) (i 1)) := by
  unfold val_main_v36 val_main_call3_v2 val_main_call3_v1 val_main_call3_v0 val_main_v34 val_main_v29_1 val_main_call0_v7
    val_main_call0_v6 val_main_call0_cst_1 val_main_v30_0
  pointwise
  simp only [ref_nrm h, ref_sn h, ref_sc h, ref_dy h, h.cg, Reals.ofBits_one, ← EReal.coe_sub, ← EReal.coe_mul, ← EReal.coe_add]
  refine congrArg ((↑) : ℝ → EReal) ?_
  unfold dn dsilu
  ring

/-! ## The gradient through the norm -/

theorem ref_dng (i : S4096x1024.Idx) : val_main_v43 x0 x2 x3 x5 x8 x9 i = ↑(dn g b (R (i 0)) (i 1) * g (i 1)) := by
  unfold val_main_v43 val_main_v42
  pointwise
  simp only [ref_dn h, h.g, ← EReal.coe_mul]
  rfl

theorem ref_drstd (i : S4096x1.Idx) : val_main_v22 x2 x3 i = ↑(-(1 / 2) * (rstd (R (i 0)).x / (var (R (i 0)).x + eps))) := by
  unfold val_main_v22 val_main_v21 val_main_cst_5 val_main_v20
  pointwise
  rw [ref_var h, ref_rstd h, coe_div _ (var_eps_pos _).ne', ofBits_neg_half, ← EReal.coe_mul]

theorem ref_inner (i : S4096x1.Idx) : val_main_v46 x0 x2 x3 x5 x8 x9 i
    = ↑(∑ k, cen (R (i 0)).x k * (dn g b (R (i 0)) k * g k)) := by
  unfold val_main_v46 val_main_v45 val_main_cst_8 val_main_v44
  pointwise
  simp only [ref_cenb h, ref_dng h, ← EReal.coe_mul, coe_sum]
  rfl

theorem ref_direct (i : S4096x1024.Idx) : val_main_v48 x0 x2 x3 x5 x8 x9 i
    = ↑(dn g b (R (i 0)) (i 1) * g (i 1) * rstd (R (i 0)).x) := by
  unfold val_main_v48 val_main_v47
  pointwise
  rw [ref_dng h, ref_rstd h, ← EReal.coe_mul]
  rfl

theorem ref_square (i : S4096x1024.Idx) : val_main_v57 x0 x2 x3 x5 x8 x9 i
    = ↑((∑ k, cen (R (i 0)).x k * (dn g b (R (i 0)) k * g k)) * (-(1 / 2) * (rstd (R (i 0)).x / (var (R (i 0)).x + eps))) / 1024
        * (2 * cen (R (i 0)).x (i 1))) := by
  unfold val_main_v57 val_main_v56 val_main_v55 val_main_cst_11 val_main_v54 val_main_v53 val_main_cst_10 val_main_v49
    val_main_v10 val_main_v9 val_main_cst_1
  pointwise
  simp only [ref_cen h, ref_inner h, ref_drstd h, ofBits_1024, ofBits_two, Fin.sum_univ_one, ← EReal.coe_mul]
  rw [coe_div _ (by norm_num), ← EReal.coe_mul]
  rfl

theorem ref_du (i : S4096x1024.Idx) : val_main_v67 x0 x2 x3 x5 x8 x9 i = ↑(du g b (R (i 0)) (i 1)) := by
  unfold val_main_v67 val_main_v66 val_main_v65 val_main_cst_14 val_main_v64 val_main_v63 val_main_cst_13 val_main_v62
    val_main_v61 val_main_v60 val_main_v59 val_main_cst_12 val_main_v58 val_main_v52 val_main_v51 val_main_cst_9 val_main_v50
  pointwise
  simp only [ref_square h, ref_direct h, ofBits_1024, Fin.sum_univ_one, ← EReal.coe_neg, coe_sum, ← EReal.coe_add]
  rw [coe_div _ (by norm_num), ← EReal.coe_add]
  exact congrArg ((↑) : ℝ → EReal) (lnBwd_chain (fun j => dn g b (R (i 0)) j * g j) (R (i 0)).x (i 1))

/-! ## The sums over the tokens -/

theorem ref_small (i : S8x1024.Idx) : val_main_v71 x0 x2 x3 x5 x8 x9 i = ↑(∑ r, part g b (R r) (i 0).val (i 1)) := by
  unfold val_main_v71 val_main_v70 val_main_cst_16 val_main_v69 val_main_v68 val_main_cst_15 val_main_v41 val_main_v40
    val_main_cst_7 val_main_v39 val_main_v38 val_main_v37 val_main_cst_6
  pointwise
  simp only [ref_du h, ref_dn h, ref_xhat h, ← EReal.coe_mul, coe_sum]
  unfold part
  by_cases c0 : (i 0).val = 0
  · rw [dif_pos (by omega)]
    simp only [if_pos c0]
    exact congrArg ((↑) : ℝ → EReal) (Finset.sum_congr rfl fun r _ => mul_comm _ _)
  rw [dif_neg (by omega)]
  simp only [if_neg c0]
  by_cases c1 : (i 0).val = 1
  · rw [dif_pos (by omega)]
    simp only [if_pos c1]
    rfl
  rw [dif_neg (by omega)]
  simp only [if_neg c1]
  by_cases c2 : (i 0).val = 2
  · rw [dif_pos (by omega)]
    simp only [if_pos c2]
    rfl
  rw [dif_neg (by omega)]
  simp only [if_neg c2, Finset.sum_const_zero, EReal.coe_zero]

end Cert.Conf
-- ==== Proof.ConfClaim.lean ====
/-
  The convolution branch's norm and gate, backward: the kernel and the chain rule over the plain lines end in the same two arrays.
-/
module

public import proofs.«01_k».proof.Defs
public import proofs.«01_k».proof.Proof.ConfKernel
public import proofs.«01_k».proof.Proof.ConfReference
public import proofs.«01_k».proof.Proof.Finite
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite15
public import Idealize.ShloMosaic.Init
public import Idealize.ShloMosaic.Lib.Quiescent

@[expose] public section

noncomputable section

namespace Cert.Conf

open Idealize.ShloMosaic Idealize.ShloMosaic.TcCoe Idealize.SL.Sem Cert.Reals Cert.Reference15Ideal.Read

variable (m : (ℓ : Loc Cert.Kernel15Ideal.nD Cert.Kernel15Ideal.τ Cert.Kernel15Ideal.sig) → Buf (Elt Ideal) ℓ)
  (c : Dev Cert.Kernel15Ideal.nD)

/-- The convolution branch's half of the incoming gradient, as a slice. -/
abbrev half : Cert.Kernel15Ideal.S4096x1024.Idx → EReal := val_main_v32 (F := Ideal) (X0 m c)

theorem half_apply (r : Fin 4096) (j : Fin 1024) : half m c (ix2 r j) = X0 m c (ix2 r (col j)) := by
  unfold half val_main_v32 col
  pointwise

/-- The precondition in one device's memory: the arguments that the results depend on hold real numbers. -/
theorem reals (h : Pre_Kernel15Ideal_finite15 m) : AllReal m c := by
  obtain ⟨h0, h2, h3, h5, h8, h9⟩ := h c
  have hs : ∀ i, half m c i = ↑(half m c i).toReal := fun i => Cert.Finite.real_of_lt _ _ (fun _ => rfl) h0 i
  exact ⟨fun r j => half_apply m c r j ▸ hs (ix2 r j),
    fun i => Cert.Finite.real_of_lt _ _ (fun _ => rfl) h2 i,
    fun i => Cert.Finite.real_of_lt _ _ (fun _ => rfl) h3 i,
    fun i => Cert.Finite.real_of_lt _ _ (fun _ => rfl) h5 i,
    fun i => Cert.Finite.real_of_lt _ _ (fun _ => rfl) h8 i,
    fun i => Cert.Finite.real_of_lt _ _ (fun _ => rfl) h9 i⟩

theorem eq_row (i : Cert.Kernel15Ideal.S1x1024.Idx) : i = ix2 0 (i 1) := by
  funext q; fin_cases q <;> first | rfl | exact Fin.ext (Nat.lt_one_iff.mp (i 0).isLt)

/-- The arguments, read as the reference's mathematics takes them. -/
theorem reads (hr : AllReal m c) : Reads (X0 m c) (X2 m c) (X3 m c) (X5 m c) (X8 m c) (X9 m c)
    (fun r j => (X2 m c (ix2 r j)).toReal) (fun j => (X3 m c (ix2 0 j)).toReal) (scale m c) (bias m c) (tok m c) where
  dy r j := hr.f0 r j
  u i := (hr.f2 i).trans (congrArg (fun q => ((X2 m c q).toReal : EReal)) (funext fun a => by fin_cases a <;> rfl))
  cb i := (hr.f3 i).trans (congrArg (fun q => ((X3 m c q).toReal : EReal)) (eq_row i))
  x _ _ := rfl
  cg i := (hr.f5 i).trans (congrArg (fun q => ((X5 m c q).toReal : EReal)) (funext fun a => by fin_cases a <;> rfl))
  g i := (hr.f8 i).trans (congrArg (fun q => ((X8 m c q).toReal : EReal)) (eq_row i))
  b i := (hr.f9 i).trans (congrArg (fun q => ((X9 m c q).toReal : EReal)) (eq_row i))

theorem reference_quiescent : quiescent_Reference15Ideal := fun m ρ _ =>
  (θ_run Cert.Reference15Ideal.defs _ _).mono
    (fun r h => ⟨fun c => (h c).2.2, sem_eq_zero_of_no_sems (by decide) r.2⟩)
    (Cert.Reference15Ideal.Value.run (F := Ideal) m ρ)

theorem reference_quiescent_pre : quiescent_Reference15Ideal_pre_finite15 := fun m ρ _ =>
  (θ_run Cert.Reference15Ideal.defs _ _).mono
    (fun r h => ⟨fun c => (h c).2.2, sem_eq_zero_of_no_sems (by decide) r.2⟩)
    (Cert.Reference15Ideal.Value.run (F := Ideal) m ρ)

theorem algebraic : algebraic_Kernel15Ideal_Reference15Ideal_pre_finite15 := by
  intro m ρ m' ρ' hpre hagree
  refine ⟨_, _, named (F := Ideal) m ρ, ?_⟩
  refine (θ_run Cert.Reference15Ideal.defs _ _).mono (fun _ h c => ⟨?_, ?_, (h c).2.2⟩)
    (Cert.Reference15Ideal.Value.run (F := Ideal) m' ρ')
  · have hr := reals m c hpre
    rw [(h c).1, val_main_v35_eq]
    simp only [hagree c]
    funext i
    exact (ref_dcg (reads m c hr) i).trans (arr10 hr i).symm
  · have hr := reals m c hpre
    rw [(h c).2.1, val_main_v71_eq]
    simp only [hagree c]
    funext i
    exact (ref_small (reads m c hr) i).trans (arr13 hr i).symm

end Cert.Conf

end
-- ==== Proof.AddChips.lean ====
/-
  The sums over the four chips: what the four programs share. The number of a chip, read as the precondition states it, is below 4.
-/
module

public import proofs.«01_k».proof.Defs
public import Idealize.ShloMosaic.Lib.StableHlo.Predicate

@[expose] public section

namespace Cert.AddChips

open Idealize.ShloMosaic

/-- A word that compares as 0 or more and as less than 4, read signed, is a number below 4. -/
theorem lt_four (v : BitVec 32) (h0 : IntOp.cmpi .sge v 0#32 = 1#1) (h1 : IntOp.cmpi .slt v 4#32 = 1#1) : v.toNat < 4 := by
  simp only [IntOp.cmpi, StableHlo.Predicate.ofBool_eq_one_iff, BitVec.sle, BitVec.slt, decide_eq_true_eq, BitVec.toInt_eq_toNat_cond] at h0 h1
  have hv := v.isLt
  simp at h0 h1
  split at h0 <;> split at h1 <;> omega

/-- Of an array of one element there is one index. -/
theorem one_idx (i j : (⟨1, ![1]⟩ : Shape).Idx) : i = j := by
  funext a
  match a with
  | ⟨0, _⟩ => exact Subsingleton.elim (α := Fin 1) _ _

/-- The own share and the three that came, added one after the other, are the own share and their sum. -/
theorem chain (p : EReal) (g : Fin 3 → EReal) : p + g 0 + g 1 + g 2 = p + ∑ k, g k := by
  rw [Fin.sum_univ_three, add_assoc, add_assoc, add_assoc]

/-- Four terms with equals for equals. -/
theorem four {a a' b b' c c' d d' : EReal} (ha : a = a') (hb : b = b') (hc : c = c') (hd : d = d') :
    a + b + c + d = a' + b' + c' + d' := by
  rw [ha, hb, hc, hd]

end Cert.AddChips
-- ==== Proof.AddChipsRef16.lean ====
/-
  The reference of the sum over the four chips for the weights of the input projection: its ten operations in order, and the array it ends with.
-/
module

public import proofs.«01_k».proof.Defs
public import proofs.«01_k».proof.Proof.AddChips
public import proofs.«01_k».proof.Proof.Gen.Reference16Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddChips

open Cert.Reference16Ideal Cert.Reference16Ideal.Gen
open Idealize.ShloMosaic Idealize.ShloMosaic.TcCoe Idealize.SL.Sem Idealize.ShloMosaic.StableHlo

variable {F : FTy → Type} [FloatOps F]

/-- What the reference ends with: the row that the number names, and the sum of the three received ones. -/
def refOut16 (n : (⟨S1, .i32⟩ : BufTy).Contents (Elt F)) (x : (⟨S4x512x1412, .bf16⟩ : BufTy).Contents (Elt F))
    (g : (⟨S3x512x1412, .bf16⟩ : BufTy).Contents (Elt F)) : (⟨S512x1412, .f32⟩ : BufTy).Contents (Elt F) :=
  addf (extf (F := F) (φ := .bf16) .f32 (shapeCast S512x1412 (Host.dynamicSlice S1x512x1412 x
      (fun k => ((![shapeCast S_ n shapeCasts_S1_S_, constantI S_ 32 0#32, constantI S_ 32 0#32] : Fin 3 → (⟨S_, .i32⟩ : BufTy).Contents (Elt F)) k (Shape.Idx.first h_S_)).toInt)
      sliceFits_S4x512x1412_S1x512x1412) shapeCasts_S1x512x1412_S512x1412) bitsLt_bf16_f32)
    (Host.reduceAdd (F := F) (extf (F := F) (φ := .bf16) .f32 g bitsLt_bf16_f32) (constant (F := F) S_ .f32 0x00000000#32)
      reducesTo_S3x512x1412_S512x1412_d0 h_S_)

/-- The reference's operations, first the reading of the own row, then the sum. -/
def refOps16 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg1 ![main_v0, main_c, main_c_0] ⟨S_, .i32⟩ main_v1
      ((fun x i => Host.dynamicSlice S1x512x1412 x (fun k => (i k (Shape.Idx.first h_S_)).toInt) sliceFits_S4x512x1412_S1x512x1412) :
        (⟨S4x512x1412, .bf16⟩ : BufTy).Contents (Elt F) → (Fin 3 → (⟨S_, .i32⟩ : BufTy).Contents (Elt F)) → (⟨S1x512x1412, .bf16⟩ : BufTy).Contents (Elt F)),
    reshape main_v1 main_v2 (rfl : (.bf16 : EltTy) = .bf16) shapeCasts_S1x512x1412_S512x1412,
    unary main_v2 main_v3 ((extf .f32 · bitsLt_bf16_f32) : (⟨S512x1412, .bf16⟩ : BufTy).Contents (Elt F) → (⟨S512x1412, .f32⟩ : BufTy).Contents (Elt F)),
    unary main_arg2 main_v4 ((extf .f32 · bitsLt_bf16_f32) : (⟨S3x512x1412, .bf16⟩ : BufTy).Contents (Elt F) → (⟨S3x512x1412, .f32⟩ : BufTy).Contents (Elt F)),
    nullary main_cst (constant S_ .f32 0x00000000#32),
    binary main_v4 main_cst main_v5 ((fun x v => Host.reduceAdd x v reducesTo_S3x512x1412_S512x1412_d0 h_S_) :
      (⟨S3x512x1412, .f32⟩ : BufTy).Contents (Elt F) → (⟨S_, .f32⟩ : BufTy).Contents (Elt F) → (⟨S512x1412, .f32⟩ : BufTy).Contents (Elt F)),
    binary main_v3 main_v5 main_v6 (addf :
      (⟨S512x1412, .f32⟩ : BufTy).Contents (Elt F) → (⟨S512x1412, .f32⟩ : BufTy).Contents (Elt F) → (⟨S512x1412, .f32⟩ : BufTy).Contents (Elt F)) ]

theorem ref_main16 (c : Dev nD) : main (F := F) c = seq refOps16 := rfl

theorem ref_sub16 : (refOps16 : List (HloOp τ sig (Elt F))).Forall fun op => op.bufs ⊆ tcRefs τ sig :=
  ⟨reshape_bufs_sub .., nullary_bufs_sub .., nullary_bufs_sub .., unaryIndexed_bufs_sub .., reshape_bufs_sub ..,
    unary_bufs_sub .., unary_bufs_sub .., nullary_bufs_sub .., binary_bufs_sub .., binary_bufs_sub ..⟩

theorem ref_out16 (V : Valuation τ sig (Elt F)) : after refOps16 V (Proc.devRef .tc main_v6)
    = refOut16 (V (Proc.devRef .tc main_arg0)) (V (Proc.devRef .tc main_arg1)) (V (Proc.devRef .tc main_arg2)) := by
  unfold refOps16
  after_results_simp_entrywise
  all_goals rfl

theorem ref_arg016 (V : Valuation τ sig (Elt F)) : after refOps16 V (Proc.devRef .tc main_arg0) = V (Proc.devRef .tc main_arg0) := by
  unfold refOps16; after_results
theorem ref_arg116 (V : Valuation τ sig (Elt F)) : after refOps16 V (Proc.devRef .tc main_arg1) = V (Proc.devRef .tc main_arg1) := by
  unfold refOps16; after_results
theorem ref_arg216 (V : Valuation τ sig (Elt F)) : after refOps16 V (Proc.devRef .tc main_arg2) = V (Proc.devRef .tc main_arg2) := by
  unfold refOps16; after_results

/-- The reference's run: the array it ends with, and its arguments as they were. -/
theorem ref_run16 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refOut16 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (ref_out16 _), (h c main_arg0).trans (ref_arg016 _),
      (h c main_arg1).trans (ref_arg116 _), (h c main_arg2).trans (ref_arg216 _)⟩)
    (run_seq (by decide) (by decide) defs main (fun _ => refOps16) ref_main16 (fun _ => ref_sub16) m ρ)

end Cert.AddChips

end
-- ==== Proof.AddChipsWIn.lean ====
/-
  The sum over the four chips of one core's half of a chip's share of the gradient of the weights of the input projection: the chip's own row of the
  array of partial sums, which the table names, and the three that came from the other chips.
-/
module

public import proofs.«01_k».proof.Defs
public import proofs.«01_k».proof.Proof.AddChips
public import proofs.«01_k».proof.Proof.Gen.Kernel16.Frame
public import proofs.«01_k».proof.Proof.Gen.Kernel16Ideal.Frame
public import proofs.«01_k».proof.Proof.Gen.Pre_a_chip16
public import proofs.«01_k».proof.Proof.AddChipsRef16
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddChips

open Idealize.ShloMosaic Idealize.ShloMosaic.TcCoe Idealize.SL.Sem
open Idealize.ShloMosaic.Pipeline (Dat)

/-! ## The table names a block inside the array -/

section
open Cert.Kernel16 Cert.Kernel16.Gen

theorem ok16 (m : (ℓ : Loc nD τ sig) → Buf (Elt Bits) ℓ) (h : Cert.Pre_Kernel16 m) : Ok m := by
  intro i
  have hw : ∀ j : S1.Idx, BitVec.toNat (tbl m 0 j) < 4 := fun j => lt_four _ (congrFun (h 0).1 j) (congrFun (h 0).2 j)
  have hi : (i 0).val < 2 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 256 ≤ 512; omega
  | ⟨2, _⟩ => exact le_of_eq (show (0 + 1) * 1412 = 1412 from Nat.one_mul _)

end

section
open Cert.Kernel16Ideal Cert.Kernel16Ideal.Gen

/-- The chip's number, as the launch memory holds it. -/
abbrev chip16 (m : (ℓ : Loc nD τ sig) → Buf (Elt Ideal) ℓ) : ℕ := BitVec.toNat (tbl m 0 (ix1 (0 : Fin 1)))

theorem chip_lt16 (m : (ℓ : Loc nD τ sig) → Buf (Elt Ideal) ℓ) (h : Cert.Pre_Kernel16Ideal m) : chip16 m < 4 :=
  lt_four _ (congrFun (h 0).1 _) (congrFun (h 0).2 _)

theorem okIdeal16 (m : (ℓ : Loc nD τ sig) → Buf (Elt Ideal) ℓ) (h : Cert.Pre_Kernel16Ideal m) : Ok m := by
  intro i
  have hw : ∀ j : S1.Idx, BitVec.toNat (tbl m 0 j) < 4 := fun j => lt_four _ (congrFun (h 0).1 j) (congrFun (h 0).2 j)
  have hi : (i 0).val < 2 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 256 ≤ 512; omega
  | ⟨2, _⟩ => exact le_of_eq (show (0 + 1) * 1412 = 1412 from Nat.one_mul _)

/-! ## What the call leaves -/

variable (m : (ℓ : Loc nD τ sig) → Buf (Elt Ideal) ℓ)

theorem hz16 : (![0, 0] : Fin 2 → Nat) = fun _ => 0 := funext fun a => by fin_cases a <;> rfl
theorem hzz16 : (![0, 0, 0] : Fin 3 → Nat) = fun _ => 0 := funext fun a => by fin_cases a <;> rfl

/-- A point's block: the own row's element and the three that came, one after the other. -/
theorem out_apply16 (c : Dev nD) (i : grid0.Coords) (a2 : Memref sig .tc .vmem S1x256x1412 .bf16) (h2 : a2.IsWhole)
    (a3 : Memref sig .tc .vmem S3x256x1412 .bf16) (h3 : a3.IsWhole) (a4 : Memref sig .tc .vmem S256x1412 .f32) (h4 : a4.IsWhole)
    (x0 : Vec Ideal S1x256x1412 .bf16) (x1 : Vec Ideal S3x256x1412 .bf16) (xt : TbBuf0 (F := Ideal) c tbM0_0) (y : S256x1412.Idx) :
    out0_A_2 c i a2 h2 a3 h3 a4 h4 x0 x1 xt y
      = (x0 (ix3 (0 : Fin 1) (y 0) (y 1)) + x1 (ix3 (0 : Fin 3) (y 0) (y 1)) + x1 (ix3 (1 : Fin 3) (y 0) (y 1))
        + x1 (ix3 (2 : Fin 3) (y 0) (y 1)) : EReal) := by
  unfold out0_A_2
  rw [View.read_writes_eq_canon _ _ _ (cover0_A_2 c i a2 h2 a3 h3 a4 h4 x0 x1 xt)]
  unfold kernelRun0_A
  dsimp only
  rw [View.canon_unit_zero hz16]
  unfold k0_pay1
  simp only [View.readAt_eq_ld, h2.read_unread, h3.read_unread, View.ld_unit_zero (S := S1x256x1412) hzz16, View.ld_unit]
  pointwise

/-- The sums: the own row's element and the three that came, one after the other. -/
def G16 (n : ℕ) (p : S4x512x1412.Idx → EReal) (g : S3x512x1412.Idx → EReal) : S512x1412.Idx → EReal := fun i =>
  p (ix3 ⟨n % 4, Nat.mod_lt _ (by decide)⟩ (i 0) (i 1)) + g (ix3 (0 : Fin 3) (i 0) (i 1)) + g (ix3 (1 : Fin 3) (i 0) (i 1))
    + g (ix3 (2 : Fin 3) (i 0) (i 1))

/-- A point's row of blocks is the point's number. -/
theorem row16 (t : Fin grid0.N) : (BitVec.ofNat 32 (grid0.coords t 0).val).toNat = t.val := by
  revert t; decide +kernel

variable (hO : Ok m)

/-- Where a point's blocks lie. -/
def ownAt16 (t : Fin (cfgM m hO).N) (x : S1x256x1412.Idx) : S4x512x1412.Idx := (((cfgM m hO).win 0).blk t).view.emb x
def gotAt16 (t : Fin (cfgM m hO).N) (x : S3x256x1412.Idx) : S3x512x1412.Idx := (((cfgM m hO).win 1).blk t).view.emb x
def sumAt16 (t : Fin (cfgM m hO).N) (x : S256x1412.Idx) : S512x1412.Idx := (((cfgM m hO).win 2).blk t).view.emb x

theorem own_emb16 (hn : chip16 m < 4) (t : Fin (cfgM m hO).N) (r : Fin 256) (x : Fin 1412) (hr : t.val * 256 + r.val < 512) :
    ownAt16 m hO t (ix3 (0 : Fin 1) r x)
      = ix3 (⟨chip16 m % 4, Nat.mod_lt _ (by decide)⟩ : Fin 4) (⟨t.val * 256 + r.val, hr⟩ : Fin 512) x := by
  have hi := row16 t
  have hw : BitVec.toNat (tbl m 0 ((Rect.unit (s := S1) ![0] S1.size Cert.Kernel16Ideal.Facts₀.inb_S1_S1_0).emb (Shape.Idx.first (Cert.Kernel16Ideal.Facts₀.numel1_S1.symm ▸ Nat.one_pos)))) = chip16 m :=
    congrArg (fun j => BitVec.toNat (tbl m 0 j)) (one_idx _ _)
  funext a; apply Fin.ext
  match a with
  | ⟨0, _⟩ =>
    show BitVec.toNat (tbl m 0 ((Rect.unit (s := S1) ![0] S1.size Cert.Kernel16Ideal.Facts₀.inb_S1_S1_0).emb (Shape.Idx.first (Cert.Kernel16Ideal.Facts₀.numel1_S1.symm ▸ Nat.one_pos)))) * 1 + 1 * 0 = chip16 m % 4
    rw [hw]; omega
  | ⟨1, _⟩ => show (BitVec.ofNat 32 (grid0.coords t 0).val).toNat * 256 + 1 * r.val = t.val * 256 + r.val; omega
  | ⟨2, _⟩ => show 0 * 1412 + 1 * x.val = x.val; omega

theorem got_emb16 (t : Fin (cfgM m hO).N) (k : Fin 3) (r : Fin 256) (x : Fin 1412) (hr : t.val * 256 + r.val < 512) :
    gotAt16 m hO t (ix3 k r x) = ix3 k (⟨t.val * 256 + r.val, hr⟩ : Fin 512) x := by
  have hi := row16 t
  funext a; apply Fin.ext
  match a with
  | ⟨0, _⟩ => show 0 * 3 + 1 * k.val = k.val; omega
  | ⟨1, _⟩ => show (BitVec.ofNat 32 (grid0.coords t 0).val).toNat * 256 + 1 * r.val = t.val * 256 + r.val; omega
  | ⟨2, _⟩ => show 0 * 1412 + 1 * x.val = x.val; omega

theorem sum_emb16 (t : Fin (cfgM m hO).N) (y : S256x1412.Idx) (hr : t.val * 256 + (y 0).val < 512) :
    sumAt16 m hO t y = ix2 (⟨t.val * 256 + (y 0).val, hr⟩ : Fin 512) (y 1 : Fin 1412) := by
  have hi := row16 t
  funext a; apply Fin.ext
  match a with
  | ⟨0, _⟩ => show (BitVec.ofNat 32 (grid0.coords t 0).val).toNat * 256 + 1 * (y 0).val = t.val * 256 + (y 0).val; omega
  | ⟨1, _⟩ => show 0 * 1412 + 1 * (y 1).val = (y 1).val; omega

theorem row_lt16 (t : Fin (cfgM m hO).N) (r : Fin 256) : t.val * 256 + r.val < 512 := by
  have ht : t.val < 2 := lt_of_lt_of_eq t.isLt (show grid0.N = 2 from N_0)
  have := r.isLt
  omega

/-- A point writes back its block of the sums. -/
theorem flushed16 (hn : chip16 m < 4) (c : Dev nD) (t : Fin (cfgM m hO).N) :
    (dats m hO 0 c).flushed 2 t = (((cfgM m hO).win 2).blk t).view.read (Elt Ideal) (G16 (chip16 m) (V m c main_arg1) (V m c main_arg2)) := by
  show ((cfgM m hO).win 2).cut (grid0.coords t) ((dats m hO 0 c).after 2 t) = _
  rw [after0_2]
  unfold outsAt0
  refine funext fun (y : S256x1412.Idx) => ?_
  refine (out_apply16 c _ _ _ _ _ _ _ _ _ _ y).trans ?_
  have hr := row_lt16 m hO t (y 0)
  have e := sum_emb16 m hO t y hr
  have e0 := own_emb16 m hO hn t (y 0) (y 1) hr
  have e1 := fun k => got_emb16 m hO t k (y 0) (y 1) hr
  refine Eq.trans ?_ (congrArg (G16 (chip16 m) (V m c main_arg1) (V m c main_arg2)) e).symm
  exact four (congrArg (V m c main_arg1) e0) (congrArg (V m c main_arg2) (e1 0)) (congrArg (V m c main_arg2) (e1 1))
    (congrArg (V m c main_arg2) (e1 2))

/-- Every element is some point's. -/
theorem covered16 (i : S512x1412.Idx) : ∃ t : Fin (cfgM m hO).N, ((cfgM m hO).win 2).flush t = true ∧ i ∈ (((cfgM m hO).win 2).blk t).view.set := by
  have hi0 : (i 0).val < 512 := (i 0).isLt
  have hN : (cfgM m hO).N = 2 := N_0
  refine ⟨⟨(i 0).val / 256, by omega⟩, flush0_2 _ _, ?_⟩
  have hr : (i 0).val / 256 * 256 + (i 0).val % 256 < 512 := by omega
  have e := sum_emb16 m hO ⟨(i 0).val / 256, by omega⟩ (ix2 (⟨(i 0).val % 256, by omega⟩ : Fin 256) (i 1 : Fin 1412)) hr
  have ei : i = sumAt16 m hO ⟨(i 0).val / 256, by omega⟩ (ix2 (⟨(i 0).val % 256, by omega⟩ : Fin 256) (i 1 : Fin 1412)) := by
    rw [e]
    funext a; apply Fin.ext
    match a with
    | ⟨0, _⟩ => show (i 0).val = (i 0).val / 256 * 256 + (i 0).val % 256; omega
    | ⟨1, _⟩ => rfl
  exact Finset.mem_map.2 ⟨_, Finset.mem_univ _, ei.symm⟩

theorem final16 (hn : chip16 m < 4) (c : Dev nD) : (dats m hO 0 c).arrAt 2 (cfgM m hO).N
    = G16 (chip16 m) (m ((c : Thread nD τ).loc main_arg1)) (m ((c : Thread nD τ).loc main_arg2)) :=
  (dats m hO 0 c).arrAt_eq_of_cover 2 _ (fun t _ => flushed16 m hO hn c t) (covered16 m hO)

/-- The run, its result named. -/
theorem run16 (hO : Ok m) (hn : chip16 m < 4) (ρ : Dev nD → PrngReg) : θ_run defs (onTc (τ := τ) (main (F := Ideal))) ⟨m, fun _ => 0, ρ⟩ fun r => ∀ c : Dev nD,
    r.2.mem ((c : Thread nD τ).loc main_v0) = G16 (chip16 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final16 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent16 : quiescent_Reference16Ideal := fun m ρ _ =>
  (θ_run Cert.Reference16Ideal.defs _ _).mono (fun r h => ⟨fun c => (h c).2, sem_eq_zero_of_no_sems (by decide) r.2⟩)
    (ref_run16 (F := Ideal) m ρ)

theorem reference_quiescent16_pre : quiescent_Reference16Ideal_pre_a_chip16 := fun m ρ _ => reference_quiescent16 m ρ trivial

/-- What the reference ends with are the sums: the row it reads is the one the number names. -/
theorem ref_value16 (n : Cert.Kernel16Ideal.S1.Idx → BitVec 32) (p : Cert.Kernel16Ideal.S4x512x1412.Idx → EReal)
    (g : Cert.Kernel16Ideal.S3x512x1412.Idx → EReal) (k : ℕ) (hk : k < 4) (hs : ∀ j, (n j).toInt = (k : Int)) :
    refOut16 (F := Ideal) n p g = G16 k p g := by
  unfold refOut16
  rw [Host.dynamicSlice_eq_extractStridedSlice _ _ _ ![k, 0, 0]]
  · funext i
    pointwise
    refine Eq.trans ?_ (chain (p (ix3 ⟨k % 4, Nat.mod_lt _ (by decide)⟩ (i 0) (i 1))) fun j => g (ix3 j (i 0) (i 1))).symm
    refine congrArg (· + ∑ j : Fin 3, g (ix3 j (i 0) (i 1))) (congrArg p ?_)
    funext a; apply Fin.ext
    match a with
    | ⟨0, _⟩ => show k + 0 = k % 4; omega
    | ⟨1, _⟩ => exact Nat.zero_add _
    | ⟨2, _⟩ => exact Nat.zero_add _
  · refine ⟨rfl, fun a => ?_⟩
    match a with
    | ⟨0, _⟩ => show k + 1 ≤ 4; omega
    | ⟨1, _⟩ => show 0 + 512 ≤ 512; omega
    | ⟨2, _⟩ => show 0 + 1412 ≤ 1412; omega
  · intro a
    match a with
    | ⟨0, _⟩ => exact hs _
    | ⟨1, _⟩ => rfl
    | ⟨2, _⟩ => rfl

open Cert.Kernel16Ideal Cert.Kernel16Ideal.Gen in
theorem algebraic16 : algebraic_Kernel16Ideal_Reference16Ideal := by
  intro m ρ m' ρ' hpre hagree
  have hn := chip_lt16 m hpre
  refine ⟨_, run16 m (okIdeal16 m hpre) hn ρ, ?_⟩
  refine (θ_run Cert.Reference16Ideal.defs _ _).mono (fun _ h c => ⟨?_, (h c).2⟩) (ref_run16 (F := Ideal) m' ρ')
  rw [(h c).1]
  simp only [hagree c]
  obtain rfl : c = 0 := Subsingleton.elim _ _
  have hs : ∀ j : S1.Idx, BitVec.toInt (m (((0 : Dev nD).tc : Thread nD τ).loc main_arg0) j) = (chip16 m : Int) := by
    intro j
    rw [show j = ix1 (0 : Fin 1) from one_idx _ _]
    exact StableHlo.Predicate.toInt_eq_toNat_of_lt (lt_trans hn (by decide))
  exact ref_value16 _ _ _ _ hn hs

end Cert.AddChips

end
-- ==== Proof.AddChipsRef17.lean ====
/-
  The reference of the sum over the four chips for the weights of the output projection: its ten operations in order, and the array it ends with.
-/
module

public import proofs.«01_k».proof.Defs
public import proofs.«01_k».proof.Proof.AddChips
public import proofs.«01_k».proof.Proof.Gen.Reference17Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddChips

open Cert.Reference17Ideal Cert.Reference17Ideal.Gen
open Idealize.ShloMosaic Idealize.ShloMosaic.TcCoe Idealize.SL.Sem Idealize.ShloMosaic.StableHlo

variable {F : FTy → Type} [FloatOps F]

/-- What the reference ends with: the row that the number names, and the sum of the three received ones. -/
def refOut17 (n : (⟨S1, .i32⟩ : BufTy).Contents (Elt F)) (x : (⟨S4x256x1024, .bf16⟩ : BufTy).Contents (Elt F))
    (g : (⟨S3x256x1024, .bf16⟩ : BufTy).Contents (Elt F)) : (⟨S256x1024, .f32⟩ : BufTy).Contents (Elt F) :=
  addf (extf (F := F) (φ := .bf16) .f32 (shapeCast S256x1024 (Host.dynamicSlice S1x256x1024 x
      (fun k => ((![shapeCast S_ n shapeCasts_S1_S_, constantI S_ 32 0#32, constantI S_ 32 0#32] : Fin 3 → (⟨S_, .i32⟩ : BufTy).Contents (Elt F)) k (Shape.Idx.first h_S_)).toInt)
      sliceFits_S4x256x1024_S1x256x1024) shapeCasts_S1x256x1024_S256x1024) bitsLt_bf16_f32)
    (Host.reduceAdd (F := F) (extf (F := F) (φ := .bf16) .f32 g bitsLt_bf16_f32) (constant (F := F) S_ .f32 0x00000000#32)
      reducesTo_S3x256x1024_S256x1024_d0 h_S_)

/-- The reference's operations, first the reading of the own row, then the sum. -/
def refOps17 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg1 ![main_v0, main_c, main_c_0] ⟨S_, .i32⟩ main_v1
      ((fun x i => Host.dynamicSlice S1x256x1024 x (fun k => (i k (Shape.Idx.first h_S_)).toInt) sliceFits_S4x256x1024_S1x256x1024) :
        (⟨S4x256x1024, .bf16⟩ : BufTy).Contents (Elt F) → (Fin 3 → (⟨S_, .i32⟩ : BufTy).Contents (Elt F)) → (⟨S1x256x1024, .bf16⟩ : BufTy).Contents (Elt F)),
    reshape main_v1 main_v2 (rfl : (.bf16 : EltTy) = .bf16) shapeCasts_S1x256x1024_S256x1024,
    unary main_v2 main_v3 ((extf .f32 · bitsLt_bf16_f32) : (⟨S256x1024, .bf16⟩ : BufTy).Contents (Elt F) → (⟨S256x1024, .f32⟩ : BufTy).Contents (Elt F)),
    unary main_arg2 main_v4 ((extf .f32 · bitsLt_bf16_f32) : (⟨S3x256x1024, .bf16⟩ : BufTy).Contents (Elt F) → (⟨S3x256x1024, .f32⟩ : BufTy).Contents (Elt F)),
    nullary main_cst (constant S_ .f32 0x00000000#32),
    binary main_v4 main_cst main_v5 ((fun x v => Host.reduceAdd x v reducesTo_S3x256x1024_S256x1024_d0 h_S_) :
      (⟨S3x256x1024, .f32⟩ : BufTy).Contents (Elt F) → (⟨S_, .f32⟩ : BufTy).Contents (Elt F) → (⟨S256x1024, .f32⟩ : BufTy).Contents (Elt F)),
    binary main_v3 main_v5 main_v6 (addf :
      (⟨S256x1024, .f32⟩ : BufTy).Contents (Elt F) → (⟨S256x1024, .f32⟩ : BufTy).Contents (Elt F) → (⟨S256x1024, .f32⟩ : BufTy).Contents (Elt F)) ]

theorem ref_main17 (c : Dev nD) : main (F := F) c = seq refOps17 := rfl

theorem ref_sub17 : (refOps17 : List (HloOp τ sig (Elt F))).Forall fun op => op.bufs ⊆ tcRefs τ sig :=
  ⟨reshape_bufs_sub .., nullary_bufs_sub .., nullary_bufs_sub .., unaryIndexed_bufs_sub .., reshape_bufs_sub ..,
    unary_bufs_sub .., unary_bufs_sub .., nullary_bufs_sub .., binary_bufs_sub .., binary_bufs_sub ..⟩

theorem ref_out17 (V : Valuation τ sig (Elt F)) : after refOps17 V (Proc.devRef .tc main_v6)
    = refOut17 (V (Proc.devRef .tc main_arg0)) (V (Proc.devRef .tc main_arg1)) (V (Proc.devRef .tc main_arg2)) := by
  unfold refOps17
  after_results_simp_entrywise
  all_goals rfl

theorem ref_arg017 (V : Valuation τ sig (Elt F)) : after refOps17 V (Proc.devRef .tc main_arg0) = V (Proc.devRef .tc main_arg0) := by
  unfold refOps17; after_results
theorem ref_arg117 (V : Valuation τ sig (Elt F)) : after refOps17 V (Proc.devRef .tc main_arg1) = V (Proc.devRef .tc main_arg1) := by
  unfold refOps17; after_results
theorem ref_arg217 (V : Valuation τ sig (Elt F)) : after refOps17 V (Proc.devRef .tc main_arg2) = V (Proc.devRef .tc main_arg2) := by
  unfold refOps17; after_results

/-- The reference's run: the array it ends with, and its arguments as they were. -/
theorem ref_run17 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refOut17 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (ref_out17 _), (h c main_arg0).trans (ref_arg017 _),
      (h c main_arg1).trans (ref_arg117 _), (h c main_arg2).trans (ref_arg217 _)⟩)
    (run_seq (by decide) (by decide) defs main (fun _ => refOps17) ref_main17 (fun _ => ref_sub17) m ρ)

end Cert.AddChips

end
-- ==== Proof.AddChipsWOut.lean ====
/-
  The sum over the four chips of one core's half of a chip's share of the gradient of the weights of the output projection: the chip's own row of the
  array of partial sums, which the table names, and the three that came from the other chips.
-/
module

public import proofs.«01_k».proof.Defs
public import proofs.«01_k».proof.Proof.AddChips
public import proofs.«01_k».proof.Proof.Gen.Kernel17.Frame
public import proofs.«01_k».proof.Proof.Gen.Kernel17Ideal.Frame
public import proofs.«01_k».proof.Proof.Gen.Pre_a_chip17
public import proofs.«01_k».proof.Proof.AddChipsRef17
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddChips

open Idealize.ShloMosaic Idealize.ShloMosaic.TcCoe Idealize.SL.Sem
open Idealize.ShloMosaic.Pipeline (Dat)

/-! ## The table names a block inside the array -/

section
open Cert.Kernel17 Cert.Kernel17.Gen

theorem ok17 (m : (ℓ : Loc nD τ sig) → Buf (Elt Bits) ℓ) (h : Cert.Pre_Kernel17 m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 256 ≤ 256; omega
  | ⟨2, _⟩ => exact le_of_eq (show (0 + 1) * 1024 = 1024 from Nat.one_mul _)

end

section
open Cert.Kernel17Ideal Cert.Kernel17Ideal.Gen

/-- The chip's number, as the launch memory holds it. -/
abbrev chip17 (m : (ℓ : Loc nD τ sig) → Buf (Elt Ideal) ℓ) : ℕ := BitVec.toNat (tbl m 0 (ix1 (0 : Fin 1)))

theorem chip_lt17 (m : (ℓ : Loc nD τ sig) → Buf (Elt Ideal) ℓ) (h : Cert.Pre_Kernel17Ideal m) : chip17 m < 4 :=
  lt_four _ (congrFun (h 0).1 _) (congrFun (h 0).2 _)

theorem okIdeal17 (m : (ℓ : Loc nD τ sig) → Buf (Elt Ideal) ℓ) (h : Cert.Pre_Kernel17Ideal m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 256 ≤ 256; omega
  | ⟨2, _⟩ => exact le_of_eq (show (0 + 1) * 1024 = 1024 from Nat.one_mul _)

/-! ## What the call leaves -/

variable (m : (ℓ : Loc nD τ sig) → Buf (Elt Ideal) ℓ)

theorem hz17 : (![0, 0] : Fin 2 → Nat) = fun _ => 0 := funext fun a => by fin_cases a <;> rfl
theorem hzz17 : (![0, 0, 0] : Fin 3 → Nat) = fun _ => 0 := funext fun a => by fin_cases a <;> rfl

/-- A point's block: the own row's element and the three that came, one after the other. -/
theorem out_apply17 (c : Dev nD) (i : grid0.Coords) (a2 : Memref sig .tc .vmem S1x256x1024 .bf16) (h2 : a2.IsWhole)
    (a3 : Memref sig .tc .vmem S3x256x1024 .bf16) (h3 : a3.IsWhole) (a4 : Memref sig .tc .vmem S256x1024 .f32) (h4 : a4.IsWhole)
    (x0 : Vec Ideal S1x256x1024 .bf16) (x1 : Vec Ideal S3x256x1024 .bf16) (xt : TbBuf0 (F := Ideal) c tbM0_0) (y : S256x1024.Idx) :
    out0_A_2 c i a2 h2 a3 h3 a4 h4 x0 x1 xt y
      = (x0 (ix3 (0 : Fin 1) (y 0) (y 1)) + x1 (ix3 (0 : Fin 3) (y 0) (y 1)) + x1 (ix3 (1 : Fin 3) (y 0) (y 1))
        + x1 (ix3 (2 : Fin 3) (y 0) (y 1)) : EReal) := by
  unfold out0_A_2
  rw [View.read_writes_eq_canon _ _ _ (cover0_A_2 c i a2 h2 a3 h3 a4 h4 x0 x1 xt)]
  unfold kernelRun0_A
  dsimp only
  rw [View.canon_unit_zero hz17]
  unfold k0_pay1
  simp only [View.readAt_eq_ld, h2.read_unread, h3.read_unread, View.ld_unit_zero (S := S1x256x1024) hzz17, View.ld_unit]
  pointwise

/-- The sums: the own row's element and the three that came, one after the other. -/
def G17 (n : ℕ) (p : S4x256x1024.Idx → EReal) (g : S3x256x1024.Idx → EReal) : S256x1024.Idx → EReal := fun i =>
  p (ix3 ⟨n % 4, Nat.mod_lt _ (by decide)⟩ (i 0) (i 1)) + g (ix3 (0 : Fin 3) (i 0) (i 1)) + g (ix3 (1 : Fin 3) (i 0) (i 1))
    + g (ix3 (2 : Fin 3) (i 0) (i 1))

/-- A point's row of blocks is the point's number. -/
theorem row17 (t : Fin grid0.N) : (BitVec.ofNat 32 (grid0.coords t 0).val).toNat = t.val := by
  revert t; decide +kernel

variable (hO : Ok m)

/-- Where a point's blocks lie. -/
def ownAt17 (t : Fin (cfgM m hO).N) (x : S1x256x1024.Idx) : S4x256x1024.Idx := (((cfgM m hO).win 0).blk t).view.emb x
def gotAt17 (t : Fin (cfgM m hO).N) (x : S3x256x1024.Idx) : S3x256x1024.Idx := (((cfgM m hO).win 1).blk t).view.emb x
def sumAt17 (t : Fin (cfgM m hO).N) (x : S256x1024.Idx) : S256x1024.Idx := (((cfgM m hO).win 2).blk t).view.emb x

theorem own_emb17 (hn : chip17 m < 4) (t : Fin (cfgM m hO).N) (r : Fin 256) (x : Fin 1024) (hr : t.val * 256 + r.val < 256) :
    ownAt17 m hO t (ix3 (0 : Fin 1) r x)
      = ix3 (⟨chip17 m % 4, Nat.mod_lt _ (by decide)⟩ : Fin 4) (⟨t.val * 256 + r.val, hr⟩ : Fin 256) x := by
  have hi := row17 t
  have hw : BitVec.toNat (tbl m 0 ((Rect.unit (s := S1) ![0] S1.size Cert.Kernel17Ideal.Facts₀.inb_S1_S1_0).emb (Shape.Idx.first (Cert.Kernel17Ideal.Facts₀.numel1_S1.symm ▸ Nat.one_pos)))) = chip17 m :=
    congrArg (fun j => BitVec.toNat (tbl m 0 j)) (one_idx _ _)
  funext a; apply Fin.ext
  match a with
  | ⟨0, _⟩ =>
    show BitVec.toNat (tbl m 0 ((Rect.unit (s := S1) ![0] S1.size Cert.Kernel17Ideal.Facts₀.inb_S1_S1_0).emb (Shape.Idx.first (Cert.Kernel17Ideal.Facts₀.numel1_S1.symm ▸ Nat.one_pos)))) * 1 + 1 * 0 = chip17 m % 4
    rw [hw]; omega
  | ⟨1, _⟩ => show (BitVec.ofNat 32 (grid0.coords t 0).val).toNat * 256 + 1 * r.val = t.val * 256 + r.val; omega
  | ⟨2, _⟩ => show 0 * 1024 + 1 * x.val = x.val; omega

theorem got_emb17 (t : Fin (cfgM m hO).N) (k : Fin 3) (r : Fin 256) (x : Fin 1024) (hr : t.val * 256 + r.val < 256) :
    gotAt17 m hO t (ix3 k r x) = ix3 k (⟨t.val * 256 + r.val, hr⟩ : Fin 256) x := by
  have hi := row17 t
  funext a; apply Fin.ext
  match a with
  | ⟨0, _⟩ => show 0 * 3 + 1 * k.val = k.val; omega
  | ⟨1, _⟩ => show (BitVec.ofNat 32 (grid0.coords t 0).val).toNat * 256 + 1 * r.val = t.val * 256 + r.val; omega
  | ⟨2, _⟩ => show 0 * 1024 + 1 * x.val = x.val; omega

theorem sum_emb17 (t : Fin (cfgM m hO).N) (y : S256x1024.Idx) (hr : t.val * 256 + (y 0).val < 256) :
    sumAt17 m hO t y = ix2 (⟨t.val * 256 + (y 0).val, hr⟩ : Fin 256) (y 1 : Fin 1024) := by
  have hi := row17 t
  funext a; apply Fin.ext
  match a with
  | ⟨0, _⟩ => show (BitVec.ofNat 32 (grid0.coords t 0).val).toNat * 256 + 1 * (y 0).val = t.val * 256 + (y 0).val; omega
  | ⟨1, _⟩ => show 0 * 1024 + 1 * (y 1).val = (y 1).val; omega

theorem row_lt17 (t : Fin (cfgM m hO).N) (r : Fin 256) : t.val * 256 + r.val < 256 := by
  have ht : t.val < 1 := lt_of_lt_of_eq t.isLt (show grid0.N = 1 from N_0)
  have := r.isLt
  omega

/-- A point writes back its block of the sums. -/
theorem flushed17 (hn : chip17 m < 4) (c : Dev nD) (t : Fin (cfgM m hO).N) :
    (dats m hO 0 c).flushed 2 t = (((cfgM m hO).win 2).blk t).view.read (Elt Ideal) (G17 (chip17 m) (V m c main_arg1) (V m c main_arg2)) := by
  show ((cfgM m hO).win 2).cut (grid0.coords t) ((dats m hO 0 c).after 2 t) = _
  rw [after0_2]
  unfold outsAt0
  refine funext fun (y : S256x1024.Idx) => ?_
  refine (out_apply17 c _ _ _ _ _ _ _ _ _ _ y).trans ?_
  have hr := row_lt17 m hO t (y 0)
  have e := sum_emb17 m hO t y hr
  have e0 := own_emb17 m hO hn t (y 0) (y 1) hr
  have e1 := fun k => got_emb17 m hO t k (y 0) (y 1) hr
  refine Eq.trans ?_ (congrArg (G17 (chip17 m) (V m c main_arg1) (V m c main_arg2)) e).symm
  exact four (congrArg (V m c main_arg1) e0) (congrArg (V m c main_arg2) (e1 0)) (congrArg (V m c main_arg2) (e1 1))
    (congrArg (V m c main_arg2) (e1 2))

/-- Every element is some point's. -/
theorem covered17 (i : S256x1024.Idx) : ∃ t : Fin (cfgM m hO).N, ((cfgM m hO).win 2).flush t = true ∧ i ∈ (((cfgM m hO).win 2).blk t).view.set := by
  have hi0 : (i 0).val < 256 := (i 0).isLt
  have hN : (cfgM m hO).N = 1 := N_0
  refine ⟨⟨(i 0).val / 256, by omega⟩, flush0_2 _ _, ?_⟩
  have hr : (i 0).val / 256 * 256 + (i 0).val % 256 < 256 := by omega
  have e := sum_emb17 m hO ⟨(i 0).val / 256, by omega⟩ (ix2 (⟨(i 0).val % 256, by omega⟩ : Fin 256) (i 1 : Fin 1024)) hr
  have ei : i = sumAt17 m hO ⟨(i 0).val / 256, by omega⟩ (ix2 (⟨(i 0).val % 256, by omega⟩ : Fin 256) (i 1 : Fin 1024)) := by
    rw [e]
    funext a; apply Fin.ext
    match a with
    | ⟨0, _⟩ => show (i 0).val = (i 0).val / 256 * 256 + (i 0).val % 256; omega
    | ⟨1, _⟩ => rfl
  exact Finset.mem_map.2 ⟨_, Finset.mem_univ _, ei.symm⟩

theorem final17 (hn : chip17 m < 4) (c : Dev nD) : (dats m hO 0 c).arrAt 2 (cfgM m hO).N
    = G17 (chip17 m) (m ((c : Thread nD τ).loc main_arg1)) (m ((c : Thread nD τ).loc main_arg2)) :=
  (dats m hO 0 c).arrAt_eq_of_cover 2 _ (fun t _ => flushed17 m hO hn c t) (covered17 m hO)

/-- The run, its result named. -/
theorem run17 (hO : Ok m) (hn : chip17 m < 4) (ρ : Dev nD → PrngReg) : θ_run defs (onTc (τ := τ) (main (F := Ideal))) ⟨m, fun _ => 0, ρ⟩ fun r => ∀ c : Dev nD,
    r.2.mem ((c : Thread nD τ).loc main_v0) = G17 (chip17 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final17 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent17 : quiescent_Reference17Ideal := fun m ρ _ =>
  (θ_run Cert.Reference17Ideal.defs _ _).mono (fun r h => ⟨fun c => (h c).2, sem_eq_zero_of_no_sems (by decide) r.2⟩)
    (ref_run17 (F := Ideal) m ρ)

theorem reference_quiescent17_pre : quiescent_Reference17Ideal_pre_a_chip17 := fun m ρ _ => reference_quiescent17 m ρ trivial

/-- What the reference ends with are the sums: the row it reads is the one the number names. -/
theorem ref_value17 (n : Cert.Kernel17Ideal.S1.Idx → BitVec 32) (p : Cert.Kernel17Ideal.S4x256x1024.Idx → EReal)
    (g : Cert.Kernel17Ideal.S3x256x1024.Idx → EReal) (k : ℕ) (hk : k < 4) (hs : ∀ j, (n j).toInt = (k : Int)) :
    refOut17 (F := Ideal) n p g = G17 k p g := by
  unfold refOut17
  rw [Host.dynamicSlice_eq_extractStridedSlice _ _ _ ![k, 0, 0]]
  · funext i
    pointwise
    refine Eq.trans ?_ (chain (p (ix3 ⟨k % 4, Nat.mod_lt _ (by decide)⟩ (i 0) (i 1))) fun j => g (ix3 j (i 0) (i 1))).symm
    refine congrArg (· + ∑ j : Fin 3, g (ix3 j (i 0) (i 1))) (congrArg p ?_)
    funext a; apply Fin.ext
    match a with
    | ⟨0, _⟩ => show k + 0 = k % 4; omega
    | ⟨1, _⟩ => exact Nat.zero_add _
    | ⟨2, _⟩ => exact Nat.zero_add _
  · refine ⟨rfl, fun a => ?_⟩
    match a with
    | ⟨0, _⟩ => show k + 1 ≤ 4; omega
    | ⟨1, _⟩ => show 0 + 256 ≤ 256; omega
    | ⟨2, _⟩ => show 0 + 1024 ≤ 1024; omega
  · intro a
    match a with
    | ⟨0, _⟩ => exact hs _
    | ⟨1, _⟩ => rfl
    | ⟨2, _⟩ => rfl

open Cert.Kernel17Ideal Cert.Kernel17Ideal.Gen in
theorem algebraic17 : algebraic_Kernel17Ideal_Reference17Ideal := by
  intro m ρ m' ρ' hpre hagree
  have hn := chip_lt17 m hpre
  refine ⟨_, run17 m (okIdeal17 m hpre) hn ρ, ?_⟩
  refine (θ_run Cert.Reference17Ideal.defs _ _).mono (fun _ h c => ⟨?_, (h c).2⟩) (ref_run17 (F := Ideal) m' ρ')
  rw [(h c).1]
  simp only [hagree c]
  obtain rfl : c = 0 := Subsingleton.elim _ _
  have hs : ∀ j : S1.Idx, BitVec.toInt (m (((0 : Dev nD).tc : Thread nD τ).loc main_arg0) j) = (chip17 m : Int) := by
    intro j
    rw [show j = ix1 (0 : Fin 1) from one_idx _ _]
    exact StableHlo.Predicate.toInt_eq_toNat_of_lt (lt_trans hn (by decide))
  exact ref_value17 _ _ _ _ hn hs

end Cert.AddChips

end
-- ==== Proof.AddChipsRef18.lean ====
/-
  The reference of the sum over the four chips for the weights of the gate: its ten operations in order, and the array it ends with.
-/
module

public import proofs.«01_k».proof.Defs
public import proofs.«01_k».proof.Proof.AddChips
public import proofs.«01_k».proof.Proof.Gen.Reference18Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddChips

open Cert.Reference18Ideal Cert.Reference18Ideal.Gen
open Idealize.ShloMosaic Idealize.ShloMosaic.TcCoe Idealize.SL.Sem Idealize.ShloMosaic.StableHlo

variable {F : FTy → Type} [FloatOps F]

/-- What the reference ends with: the row that the number names, and the sum of the three received ones. -/
def refOut18 (n : (⟨S1, .i32⟩ : BufTy).Contents (Elt F)) (x : (⟨S4x128x1024, .bf16⟩ : BufTy).Contents (Elt F))
    (g : (⟨S3x128x1024, .bf16⟩ : BufTy).Contents (Elt F)) : (⟨S128x1024, .f32⟩ : BufTy).Contents (Elt F) :=
  addf (extf (F := F) (φ := .bf16) .f32 (shapeCast S128x1024 (Host.dynamicSlice S1x128x1024 x
      (fun k => ((![shapeCast S_ n shapeCasts_S1_S_, constantI S_ 32 0#32, constantI S_ 32 0#32] : Fin 3 → (⟨S_, .i32⟩ : BufTy).Contents (Elt F)) k (Shape.Idx.first h_S_)).toInt)
      sliceFits_S4x128x1024_S1x128x1024) shapeCasts_S1x128x1024_S128x1024) bitsLt_bf16_f32)
    (Host.reduceAdd (F := F) (extf (F := F) (φ := .bf16) .f32 g bitsLt_bf16_f32) (constant (F := F) S_ .f32 0x00000000#32)
      reducesTo_S3x128x1024_S128x1024_d0 h_S_)

/-- The reference's operations, first the reading of the own row, then the sum. -/
def refOps18 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg1 ![main_v0, main_c, main_c_0] ⟨S_, .i32⟩ main_v1
      ((fun x i => Host.dynamicSlice S1x128x1024 x (fun k => (i k (Shape.Idx.first h_S_)).toInt) sliceFits_S4x128x1024_S1x128x1024) :
        (⟨S4x128x1024, .bf16⟩ : BufTy).Contents (Elt F) → (Fin 3 → (⟨S_, .i32⟩ : BufTy).Contents (Elt F)) → (⟨S1x128x1024, .bf16⟩ : BufTy).Contents (Elt F)),
    reshape main_v1 main_v2 (rfl : (.bf16 : EltTy) = .bf16) shapeCasts_S1x128x1024_S128x1024,
    unary main_v2 main_v3 ((extf .f32 · bitsLt_bf16_f32) : (⟨S128x1024, .bf16⟩ : BufTy).Contents (Elt F) → (⟨S128x1024, .f32⟩ : BufTy).Contents (Elt F)),
    unary main_arg2 main_v4 ((extf .f32 · bitsLt_bf16_f32) : (⟨S3x128x1024, .bf16⟩ : BufTy).Contents (Elt F) → (⟨S3x128x1024, .f32⟩ : BufTy).Contents (Elt F)),
    nullary main_cst (constant S_ .f32 0x00000000#32),
    binary main_v4 main_cst main_v5 ((fun x v => Host.reduceAdd x v reducesTo_S3x128x1024_S128x1024_d0 h_S_) :
      (⟨S3x128x1024, .f32⟩ : BufTy).Contents (Elt F) → (⟨S_, .f32⟩ : BufTy).Contents (Elt F) → (⟨S128x1024, .f32⟩ : BufTy).Contents (Elt F)),
    binary main_v3 main_v5 main_v6 (addf :
      (⟨S128x1024, .f32⟩ : BufTy).Contents (Elt F) → (⟨S128x1024, .f32⟩ : BufTy).Contents (Elt F) → (⟨S128x1024, .f32⟩ : BufTy).Contents (Elt F)) ]

theorem ref_main18 (c : Dev nD) : main (F := F) c = seq refOps18 := rfl

theorem ref_sub18 : (refOps18 : List (HloOp τ sig (Elt F))).Forall fun op => op.bufs ⊆ tcRefs τ sig :=
  ⟨reshape_bufs_sub .., nullary_bufs_sub .., nullary_bufs_sub .., unaryIndexed_bufs_sub .., reshape_bufs_sub ..,
    unary_bufs_sub .., unary_bufs_sub .., nullary_bufs_sub .., binary_bufs_sub .., binary_bufs_sub ..⟩

theorem ref_out18 (V : Valuation τ sig (Elt F)) : after refOps18 V (Proc.devRef .tc main_v6)
    = refOut18 (V (Proc.devRef .tc main_arg0)) (V (Proc.devRef .tc main_arg1)) (V (Proc.devRef .tc main_arg2)) := by
  unfold refOps18
  after_results_simp_entrywise
  all_goals rfl

theorem ref_arg018 (V : Valuation τ sig (Elt F)) : after refOps18 V (Proc.devRef .tc main_arg0) = V (Proc.devRef .tc main_arg0) := by
  unfold refOps18; after_results
theorem ref_arg118 (V : Valuation τ sig (Elt F)) : after refOps18 V (Proc.devRef .tc main_arg1) = V (Proc.devRef .tc main_arg1) := by
  unfold refOps18; after_results
theorem ref_arg218 (V : Valuation τ sig (Elt F)) : after refOps18 V (Proc.devRef .tc main_arg2) = V (Proc.devRef .tc main_arg2) := by
  unfold refOps18; after_results

/-- The reference's run: the array it ends with, and its arguments as they were. -/
theorem ref_run18 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refOut18 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (ref_out18 _), (h c main_arg0).trans (ref_arg018 _),
      (h c main_arg1).trans (ref_arg118 _), (h c main_arg2).trans (ref_arg218 _)⟩)
    (run_seq (by decide) (by decide) defs main (fun _ => refOps18) ref_main18 (fun _ => ref_sub18) m ρ)

end Cert.AddChips

end
-- ==== Proof.AddChipsGate.lean ====
/-
  The sum over the four chips of one core's half of a chip's share of the gradient of the weights of the gate: the chip's own row of the
  array of partial sums, which the table names, and the three that came from the other chips.
-/
module

public import proofs.«01_k».proof.Defs
public import proofs.«01_k».proof.Proof.AddChips
public import proofs.«01_k».proof.Proof.Gen.Kernel18.Frame
public import proofs.«01_k».proof.Proof.Gen.Kernel18Ideal.Frame
public import proofs.«01_k».proof.Proof.Gen.Pre_a_chip18
public import proofs.«01_k».proof.Proof.AddChipsRef18
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddChips

open Idealize.ShloMosaic Idealize.ShloMosaic.TcCoe Idealize.SL.Sem
open Idealize.ShloMosaic.Pipeline (Dat)

/-! ## The table names a block inside the array -/

section
open Cert.Kernel18 Cert.Kernel18.Gen

theorem ok18 (m : (ℓ : Loc nD τ sig) → Buf (Elt Bits) ℓ) (h : Cert.Pre_Kernel18 m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 128 ≤ 128; omega
  | ⟨2, _⟩ => exact le_of_eq (show (0 + 1) * 1024 = 1024 from Nat.one_mul _)

end

section
open Cert.Kernel18Ideal Cert.Kernel18Ideal.Gen

/-- The chip's number, as the launch memory holds it. -/
abbrev chip18 (m : (ℓ : Loc nD τ sig) → Buf (Elt Ideal) ℓ) : ℕ := BitVec.toNat (tbl m 0 (ix1 (0 : Fin 1)))

theorem chip_lt18 (m : (ℓ : Loc nD τ sig) → Buf (Elt Ideal) ℓ) (h : Cert.Pre_Kernel18Ideal m) : chip18 m < 4 :=
  lt_four _ (congrFun (h 0).1 _) (congrFun (h 0).2 _)

theorem okIdeal18 (m : (ℓ : Loc nD τ sig) → Buf (Elt Ideal) ℓ) (h : Cert.Pre_Kernel18Ideal m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 128 ≤ 128; omega
  | ⟨2, _⟩ => exact le_of_eq (show (0 + 1) * 1024 = 1024 from Nat.one_mul _)

/-! ## What the call leaves -/

variable (m : (ℓ : Loc nD τ sig) → Buf (Elt Ideal) ℓ)

theorem hz18 : (![0, 0] : Fin 2 → Nat) = fun _ => 0 := funext fun a => by fin_cases a <;> rfl
theorem hzz18 : (![0, 0, 0] : Fin 3 → Nat) = fun _ => 0 := funext fun a => by fin_cases a <;> rfl

/-- A point's block: the own row's element and the three that came, one after the other. -/
theorem out_apply18 (c : Dev nD) (i : grid0.Coords) (a2 : Memref sig .tc .vmem S1x128x1024 .bf16) (h2 : a2.IsWhole)
    (a3 : Memref sig .tc .vmem S3x128x1024 .bf16) (h3 : a3.IsWhole) (a4 : Memref sig .tc .vmem S128x1024 .f32) (h4 : a4.IsWhole)
    (x0 : Vec Ideal S1x128x1024 .bf16) (x1 : Vec Ideal S3x128x1024 .bf16) (xt : TbBuf0 (F := Ideal) c tbM0_0) (y : S128x1024.Idx) :
    out0_A_2 c i a2 h2 a3 h3 a4 h4 x0 x1 xt y
      = (x0 (ix3 (0 : Fin 1) (y 0) (y 1)) + x1 (ix3 (0 : Fin 3) (y 0) (y 1)) + x1 (ix3 (1 : Fin 3) (y 0) (y 1))
        + x1 (ix3 (2 : Fin 3) (y 0) (y 1)) : EReal) := by
  unfold out0_A_2
  rw [View.read_writes_eq_canon _ _ _ (cover0_A_2 c i a2 h2 a3 h3 a4 h4 x0 x1 xt)]
  unfold kernelRun0_A
  dsimp only
  rw [View.canon_unit_zero hz18]
  unfold k0_pay1
  simp only [View.readAt_eq_ld, h2.read_unread, h3.read_unread, View.ld_unit_zero (S := S1x128x1024) hzz18, View.ld_unit]
  pointwise

/-- The sums: the own row's element and the three that came, one after the other. -/
def G18 (n : ℕ) (p : S4x128x1024.Idx → EReal) (g : S3x128x1024.Idx → EReal) : S128x1024.Idx → EReal := fun i =>
  p (ix3 ⟨n % 4, Nat.mod_lt _ (by decide)⟩ (i 0) (i 1)) + g (ix3 (0 : Fin 3) (i 0) (i 1)) + g (ix3 (1 : Fin 3) (i 0) (i 1))
    + g (ix3 (2 : Fin 3) (i 0) (i 1))

/-- A point's row of blocks is the point's number. -/
theorem row18 (t : Fin grid0.N) : (BitVec.ofNat 32 (grid0.coords t 0).val).toNat = t.val := by
  revert t; decide +kernel

variable (hO : Ok m)

/-- Where a point's blocks lie. -/
def ownAt18 (t : Fin (cfgM m hO).N) (x : S1x128x1024.Idx) : S4x128x1024.Idx := (((cfgM m hO).win 0).blk t).view.emb x
def gotAt18 (t : Fin (cfgM m hO).N) (x : S3x128x1024.Idx) : S3x128x1024.Idx := (((cfgM m hO).win 1).blk t).view.emb x
def sumAt18 (t : Fin (cfgM m hO).N) (x : S128x1024.Idx) : S128x1024.Idx := (((cfgM m hO).win 2).blk t).view.emb x

theorem own_emb18 (hn : chip18 m < 4) (t : Fin (cfgM m hO).N) (r : Fin 128) (x : Fin 1024) (hr : t.val * 128 + r.val < 128) :
    ownAt18 m hO t (ix3 (0 : Fin 1) r x)
      = ix3 (⟨chip18 m % 4, Nat.mod_lt _ (by decide)⟩ : Fin 4) (⟨t.val * 128 + r.val, hr⟩ : Fin 128) x := by
  have hi := row18 t
  have hw : BitVec.toNat (tbl m 0 ((Rect.unit (s := S1) ![0] S1.size Cert.Kernel18Ideal.Facts₀.inb_S1_S1_0).emb (Shape.Idx.first (Cert.Kernel18Ideal.Facts₀.numel1_S1.symm ▸ Nat.one_pos)))) = chip18 m :=
    congrArg (fun j => BitVec.toNat (tbl m 0 j)) (one_idx _ _)
  funext a; apply Fin.ext
  match a with
  | ⟨0, _⟩ =>
    show BitVec.toNat (tbl m 0 ((Rect.unit (s := S1) ![0] S1.size Cert.Kernel18Ideal.Facts₀.inb_S1_S1_0).emb (Shape.Idx.first (Cert.Kernel18Ideal.Facts₀.numel1_S1.symm ▸ Nat.one_pos)))) * 1 + 1 * 0 = chip18 m % 4
    rw [hw]; omega
  | ⟨1, _⟩ => show (BitVec.ofNat 32 (grid0.coords t 0).val).toNat * 128 + 1 * r.val = t.val * 128 + r.val; omega
  | ⟨2, _⟩ => show 0 * 1024 + 1 * x.val = x.val; omega

theorem got_emb18 (t : Fin (cfgM m hO).N) (k : Fin 3) (r : Fin 128) (x : Fin 1024) (hr : t.val * 128 + r.val < 128) :
    gotAt18 m hO t (ix3 k r x) = ix3 k (⟨t.val * 128 + r.val, hr⟩ : Fin 128) x := by
  have hi := row18 t
  funext a; apply Fin.ext
  match a with
  | ⟨0, _⟩ => show 0 * 3 + 1 * k.val = k.val; omega
  | ⟨1, _⟩ => show (BitVec.ofNat 32 (grid0.coords t 0).val).toNat * 128 + 1 * r.val = t.val * 128 + r.val; omega
  | ⟨2, _⟩ => show 0 * 1024 + 1 * x.val = x.val; omega

theorem sum_emb18 (t : Fin (cfgM m hO).N) (y : S128x1024.Idx) (hr : t.val * 128 + (y 0).val < 128) :
    sumAt18 m hO t y = ix2 (⟨t.val * 128 + (y 0).val, hr⟩ : Fin 128) (y 1 : Fin 1024) := by
  have hi := row18 t
  funext a; apply Fin.ext
  match a with
  | ⟨0, _⟩ => show (BitVec.ofNat 32 (grid0.coords t 0).val).toNat * 128 + 1 * (y 0).val = t.val * 128 + (y 0).val; omega
  | ⟨1, _⟩ => show 0 * 1024 + 1 * (y 1).val = (y 1).val; omega

theorem row_lt18 (t : Fin (cfgM m hO).N) (r : Fin 128) : t.val * 128 + r.val < 128 := by
  have ht : t.val < 1 := lt_of_lt_of_eq t.isLt (show grid0.N = 1 from N_0)
  have := r.isLt
  omega

/-- A point writes back its block of the sums. -/
theorem flushed18 (hn : chip18 m < 4) (c : Dev nD) (t : Fin (cfgM m hO).N) :
    (dats m hO 0 c).flushed 2 t = (((cfgM m hO).win 2).blk t).view.read (Elt Ideal) (G18 (chip18 m) (V m c main_arg1) (V m c main_arg2)) := by
  show ((cfgM m hO).win 2).cut (grid0.coords t) ((dats m hO 0 c).after 2 t) = _
  rw [after0_2]
  unfold outsAt0
  refine funext fun (y : S128x1024.Idx) => ?_
  refine (out_apply18 c _ _ _ _ _ _ _ _ _ _ y).trans ?_
  have hr := row_lt18 m hO t (y 0)
  have e := sum_emb18 m hO t y hr
  have e0 := own_emb18 m hO hn t (y 0) (y 1) hr
  have e1 := fun k => got_emb18 m hO t k (y 0) (y 1) hr
  refine Eq.trans ?_ (congrArg (G18 (chip18 m) (V m c main_arg1) (V m c main_arg2)) e).symm
  exact four (congrArg (V m c main_arg1) e0) (congrArg (V m c main_arg2) (e1 0)) (congrArg (V m c main_arg2) (e1 1))
    (congrArg (V m c main_arg2) (e1 2))

/-- Every element is some point's. -/
theorem covered18 (i : S128x1024.Idx) : ∃ t : Fin (cfgM m hO).N, ((cfgM m hO).win 2).flush t = true ∧ i ∈ (((cfgM m hO).win 2).blk t).view.set := by
  have hi0 : (i 0).val < 128 := (i 0).isLt
  have hN : (cfgM m hO).N = 1 := N_0
  refine ⟨⟨(i 0).val / 128, by omega⟩, flush0_2 _ _, ?_⟩
  have hr : (i 0).val / 128 * 128 + (i 0).val % 128 < 128 := by omega
  have e := sum_emb18 m hO ⟨(i 0).val / 128, by omega⟩ (ix2 (⟨(i 0).val % 128, by omega⟩ : Fin 128) (i 1 : Fin 1024)) hr
  have ei : i = sumAt18 m hO ⟨(i 0).val / 128, by omega⟩ (ix2 (⟨(i 0).val % 128, by omega⟩ : Fin 128) (i 1 : Fin 1024)) := by
    rw [e]
    funext a; apply Fin.ext
    match a with
    | ⟨0, _⟩ => show (i 0).val = (i 0).val / 128 * 128 + (i 0).val % 128; omega
    | ⟨1, _⟩ => rfl
  exact Finset.mem_map.2 ⟨_, Finset.mem_univ _, ei.symm⟩

theorem final18 (hn : chip18 m < 4) (c : Dev nD) : (dats m hO 0 c).arrAt 2 (cfgM m hO).N
    = G18 (chip18 m) (m ((c : Thread nD τ).loc main_arg1)) (m ((c : Thread nD τ).loc main_arg2)) :=
  (dats m hO 0 c).arrAt_eq_of_cover 2 _ (fun t _ => flushed18 m hO hn c t) (covered18 m hO)

/-- The run, its result named. -/
theorem run18 (hO : Ok m) (hn : chip18 m < 4) (ρ : Dev nD → PrngReg) : θ_run defs (onTc (τ := τ) (main (F := Ideal))) ⟨m, fun _ => 0, ρ⟩ fun r => ∀ c : Dev nD,
    r.2.mem ((c : Thread nD τ).loc main_v0) = G18 (chip18 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final18 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent18 : quiescent_Reference18Ideal := fun m ρ _ =>
  (θ_run Cert.Reference18Ideal.defs _ _).mono (fun r h => ⟨fun c => (h c).2, sem_eq_zero_of_no_sems (by decide) r.2⟩)
    (ref_run18 (F := Ideal) m ρ)

theorem reference_quiescent18_pre : quiescent_Reference18Ideal_pre_a_chip18 := fun m ρ _ => reference_quiescent18 m ρ trivial

/-- What the reference ends with are the sums: the row it reads is the one the number names. -/
theorem ref_value18 (n : Cert.Kernel18Ideal.S1.Idx → BitVec 32) (p : Cert.Kernel18Ideal.S4x128x1024.Idx → EReal)
    (g : Cert.Kernel18Ideal.S3x128x1024.Idx → EReal) (k : ℕ) (hk : k < 4) (hs : ∀ j, (n j).toInt = (k : Int)) :
    refOut18 (F := Ideal) n p g = G18 k p g := by
  unfold refOut18
  rw [Host.dynamicSlice_eq_extractStridedSlice _ _ _ ![k, 0, 0]]
  · funext i
    pointwise
    refine Eq.trans ?_ (chain (p (ix3 ⟨k % 4, Nat.mod_lt _ (by decide)⟩ (i 0) (i 1))) fun j => g (ix3 j (i 0) (i 1))).symm
    refine congrArg (· + ∑ j : Fin 3, g (ix3 j (i 0) (i 1))) (congrArg p ?_)
    funext a; apply Fin.ext
    match a with
    | ⟨0, _⟩ => show k + 0 = k % 4; omega
    | ⟨1, _⟩ => exact Nat.zero_add _
    | ⟨2, _⟩ => exact Nat.zero_add _
  · refine ⟨rfl, fun a => ?_⟩
    match a with
    | ⟨0, _⟩ => show k + 1 ≤ 4; omega
    | ⟨1, _⟩ => show 0 + 128 ≤ 128; omega
    | ⟨2, _⟩ => show 0 + 1024 ≤ 1024; omega
  · intro a
    match a with
    | ⟨0, _⟩ => exact hs _
    | ⟨1, _⟩ => rfl
    | ⟨2, _⟩ => rfl

open Cert.Kernel18Ideal Cert.Kernel18Ideal.Gen in
theorem algebraic18 : algebraic_Kernel18Ideal_Reference18Ideal := by
  intro m ρ m' ρ' hpre hagree
  have hn := chip_lt18 m hpre
  refine ⟨_, run18 m (okIdeal18 m hpre) hn ρ, ?_⟩
  refine (θ_run Cert.Reference18Ideal.defs _ _).mono (fun _ h c => ⟨?_, (h c).2⟩) (ref_run18 (F := Ideal) m' ρ')
  rw [(h c).1]
  simp only [hagree c]
  obtain rfl : c = 0 := Subsingleton.elim _ _
  have hs : ∀ j : S1.Idx, BitVec.toInt (m (((0 : Dev nD).tc : Thread nD τ).loc main_arg0) j) = (chip18 m : Int) := by
    intro j
    rw [show j = ix1 (0 : Fin 1) from one_idx _ _]
    exact StableHlo.Predicate.toInt_eq_toNat_of_lt (lt_trans hn (by decide))
  exact ref_value18 _ _ _ _ hn hs

end Cert.AddChips

end
-- ==== Proof.AddChipsRef19.lean ====
/-
  The reference of the sum over the four chips for the weights of the per-layer input projection: its ten operations in order, and the array it ends with.
-/
module

public import proofs.«01_k».proof.Defs
public import proofs.«01_k».proof.Proof.AddChips
public import proofs.«01_k».proof.Proof.Gen.Reference19Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddChips

open Cert.Reference19Ideal Cert.Reference19Ideal.Gen
open Idealize.ShloMosaic Idealize.ShloMosaic.TcCoe Idealize.SL.Sem Idealize.ShloMosaic.StableHlo

variable {F : FTy → Type} [FloatOps F]

/-- What the reference ends with: the row that the number names, and the sum of the three received ones. -/
def refOut19 (n : (⟨S1, .i32⟩ : BufTy).Contents (Elt F)) (x : (⟨S4x128x256, .bf16⟩ : BufTy).Contents (Elt F))
    (g : (⟨S3x128x256, .bf16⟩ : BufTy).Contents (Elt F)) : (⟨S128x256, .f32⟩ : BufTy).Contents (Elt F) :=
  addf (extf (F := F) (φ := .bf16) .f32 (shapeCast S128x256 (Host.dynamicSlice S1x128x256 x
      (fun k => ((![shapeCast S_ n shapeCasts_S1_S_, constantI S_ 32 0#32, constantI S_ 32 0#32] : Fin 3 → (⟨S_, .i32⟩ : BufTy).Contents (Elt F)) k (Shape.Idx.first h_S_)).toInt)
      sliceFits_S4x128x256_S1x128x256) shapeCasts_S1x128x256_S128x256) bitsLt_bf16_f32)
    (Host.reduceAdd (F := F) (extf (F := F) (φ := .bf16) .f32 g bitsLt_bf16_f32) (constant (F := F) S_ .f32 0x00000000#32)
      reducesTo_S3x128x256_S128x256_d0 h_S_)

/-- The reference's operations, first the reading of the own row, then the sum. -/
def refOps19 : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg1 ![main_v0, main_c, main_c_0] ⟨S_, .i32⟩ main_v1
      ((fun x i => Host.dynamicSlice S1x128x256 x (fun k => (i k (Shape.Idx.first h_S_)).toInt) sliceFits_S4x128x256_S1x128x256) :
        (⟨S4x128x256, .bf16⟩ : BufTy).Contents (Elt F) → (Fin 3 → (⟨S_, .i32⟩ : BufTy).Contents (Elt F)) → (⟨S1x128x256, .bf16⟩ : BufTy).Contents (Elt F)),
    reshape main_v1 main_v2 (rfl : (.bf16 : EltTy) = .bf16) shapeCasts_S1x128x256_S128x256,
    unary main_v2 main_v3 ((extf .f32 · bitsLt_bf16_f32) : (⟨S128x256, .bf16⟩ : BufTy).Contents (Elt F) → (⟨S128x256, .f32⟩ : BufTy).Contents (Elt F)),
    unary main_arg2 main_v4 ((extf .f32 · bitsLt_bf16_f32) : (⟨S3x128x256, .bf16⟩ : BufTy).Contents (Elt F) → (⟨S3x128x256, .f32⟩ : BufTy).Contents (Elt F)),
    nullary main_cst (constant S_ .f32 0x00000000#32),
    binary main_v4 main_cst main_v5 ((fun x v => Host.reduceAdd x v reducesTo_S3x128x256_S128x256_d0 h_S_) :
      (⟨S3x128x256, .f32⟩ : BufTy).Contents (Elt F) → (⟨S_, .f32⟩ : BufTy).Contents (Elt F) → (⟨S128x256, .f32⟩ : BufTy).Contents (Elt F)),
    binary main_v3 main_v5 main_v6 (addf :
      (⟨S128x256, .f32⟩ : BufTy).Contents (Elt F) → (⟨S128x256, .f32⟩ : BufTy).Contents (Elt F) → (⟨S128x256, .f32⟩ : BufTy).Contents (Elt F)) ]

theorem ref_main19 (c : Dev nD) : main (F := F) c = seq refOps19 := rfl

theorem ref_sub19 : (refOps19 : List (HloOp τ sig (Elt F))).Forall fun op => op.bufs ⊆ tcRefs τ sig :=
  ⟨reshape_bufs_sub .., nullary_bufs_sub .., nullary_bufs_sub .., unaryIndexed_bufs_sub .., reshape_bufs_sub ..,
    unary_bufs_sub .., unary_bufs_sub .., nullary_bufs_sub .., binary_bufs_sub .., binary_bufs_sub ..⟩

theorem ref_out19 (V : Valuation τ sig (Elt F)) : after refOps19 V (Proc.devRef .tc main_v6)
    = refOut19 (V (Proc.devRef .tc main_arg0)) (V (Proc.devRef .tc main_arg1)) (V (Proc.devRef .tc main_arg2)) := by
  unfold refOps19
  after_results_simp_entrywise
  all_goals rfl

theorem ref_arg019 (V : Valuation τ sig (Elt F)) : after refOps19 V (Proc.devRef .tc main_arg0) = V (Proc.devRef .tc main_arg0) := by
  unfold refOps19; after_results
theorem ref_arg119 (V : Valuation τ sig (Elt F)) : after refOps19 V (Proc.devRef .tc main_arg1) = V (Proc.devRef .tc main_arg1) := by
  unfold refOps19; after_results
theorem ref_arg219 (V : Valuation τ sig (Elt F)) : after refOps19 V (Proc.devRef .tc main_arg2) = V (Proc.devRef .tc main_arg2) := by
  unfold refOps19; after_results

/-- The reference's run: the array it ends with, and its arguments as they were. -/
theorem ref_run19 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refOut19 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (ref_out19 _), (h c main_arg0).trans (ref_arg019 _),
      (h c main_arg1).trans (ref_arg119 _), (h c main_arg2).trans (ref_arg219 _)⟩)
    (run_seq (by decide) (by decide) defs main (fun _ => refOps19) ref_main19 (fun _ => ref_sub19) m ρ)

end Cert.AddChips

end
-- ==== Proof.AddChipsProj.lean ====
/-
  The sum over the four chips of one core's half of a chip's share of the gradient of the weights of the per-layer input projection: the chip's own row of the
  array of partial sums, which the table names, and the three that came from the other chips.
-/
module

public import proofs.«01_k».proof.Defs
public import proofs.«01_k».proof.Proof.AddChips
public import proofs.«01_k».proof.Proof.Gen.Kernel19.Frame
public import proofs.«01_k».proof.Proof.Gen.Kernel19Ideal.Frame
public import proofs.«01_k».proof.Proof.Gen.Pre_a_chip19
public import proofs.«01_k».proof.Proof.AddChipsRef19
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddChips

open Idealize.ShloMosaic Idealize.ShloMosaic.TcCoe Idealize.SL.Sem
open Idealize.ShloMosaic.Pipeline (Dat)

/-! ## The table names a block inside the array -/

section
open Cert.Kernel19 Cert.Kernel19.Gen

theorem ok19 (m : (ℓ : Loc nD τ sig) → Buf (Elt Bits) ℓ) (h : Cert.Pre_Kernel19 m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 128 ≤ 128; omega
  | ⟨2, _⟩ => exact le_of_eq (show (0 + 1) * 256 = 256 from Nat.one_mul _)

end

section
open Cert.Kernel19Ideal Cert.Kernel19Ideal.Gen

/-- The chip's number, as the launch memory holds it. -/
abbrev chip19 (m : (ℓ : Loc nD τ sig) → Buf (Elt Ideal) ℓ) : ℕ := BitVec.toNat (tbl m 0 (ix1 (0 : Fin 1)))

theorem chip_lt19 (m : (ℓ : Loc nD τ sig) → Buf (Elt Ideal) ℓ) (h : Cert.Pre_Kernel19Ideal m) : chip19 m < 4 :=
  lt_four _ (congrFun (h 0).1 _) (congrFun (h 0).2 _)

theorem okIdeal19 (m : (ℓ : Loc nD τ sig) → Buf (Elt Ideal) ℓ) (h : Cert.Pre_Kernel19Ideal m) : Ok m := by
  intro i
  have hw : ∀ j : S1.Idx, BitVec.toNat (tbl m 0 j) < 4 := fun j => lt_four _ (congrFun (h 0).1 j) (congrFun (h 0).2 j)
  have hi : (i 0).val < 1 := (i 0).isLt
  have hi' : (BitVec.ofNat 32 (i 0).val).toNat = (i 0).val := by rw [BitVec.toNat_ofNat]; omega
  refine ⟨fun a => ?_, .inr (Affine.block_words_dvd (of_decide_eq_true rfl) (by decide))⟩
  match a with
  | ⟨0, _⟩ => exact (Nat.mul_one _).le.trans (hw _)
  | ⟨1, _⟩ => show ((BitVec.ofNat 32 (i 0).val).toNat + 1) * 128 ≤ 128; omega
  | ⟨2, _⟩ => exact le_of_eq (show (0 + 1) * 256 = 256 from Nat.one_mul _)

/-! ## What the call leaves -/

variable (m : (ℓ : Loc nD τ sig) → Buf (Elt Ideal) ℓ)

theorem hz19 : (![0, 0] : Fin 2 → Nat) = fun _ => 0 := funext fun a => by fin_cases a <;> rfl
theorem hzz19 : (![0, 0, 0] : Fin 3 → Nat) = fun _ => 0 := funext fun a => by fin_cases a <;> rfl

/-- A point's block: the own row's element and the three that came, one after the other. -/
theorem out_apply19 (c : Dev nD) (i : grid0.Coords) (a2 : Memref sig .tc .vmem S1x128x256 .bf16) (h2 : a2.IsWhole)
    (a3 : Memref sig .tc .vmem S3x128x256 .bf16) (h3 : a3.IsWhole) (a4 : Memref sig .tc .vmem S128x256 .f32) (h4 : a4.IsWhole)
    (x0 : Vec Ideal S1x128x256 .bf16) (x1 : Vec Ideal S3x128x256 .bf16) (xt : TbBuf0 (F := Ideal) c tbM0_0) (y : S128x256.Idx) :
    out0_A_2 c i a2 h2 a3 h3 a4 h4 x0 x1 xt y
      = (x0 (ix3 (0 : Fin 1) (y 0) (y 1)) + x1 (ix3 (0 : Fin 3) (y 0) (y 1)) + x1 (ix3 (1 : Fin 3) (y 0) (y 1))
        + x1 (ix3 (2 : Fin 3) (y 0) (y 1)) : EReal) := by
  unfold out0_A_2
  rw [View.read_writes_eq_canon _ _ _ (cover0_A_2 c i a2 h2 a3 h3 a4 h4 x0 x1 xt)]
  unfold kernelRun0_A
  dsimp only
  rw [View.canon_unit_zero hz19]
  unfold k0_pay1
  simp only [View.readAt_eq_ld, h2.read_unread, h3.read_unread, View.ld_unit_zero (S := S1x128x256) hzz19, View.ld_unit]
  pointwise

/-- The sums: the own row's element and the three that came, one after the other. -/
def G19 (n : ℕ) (p : S4x128x256.Idx → EReal) (g : S3x128x256.Idx → EReal) : S128x256.Idx → EReal := fun i =>
  p (ix3 ⟨n % 4, Nat.mod_lt _ (by decide)⟩ (i 0) (i 1)) + g (ix3 (0 : Fin 3) (i 0) (i 1)) + g (ix3 (1 : Fin 3) (i 0) (i 1))
    + g (ix3 (2 : Fin 3) (i 0) (i 1))

/-- A point's row of blocks is the point's number. -/
theorem row19 (t : Fin grid0.N) : (BitVec.ofNat 32 (grid0.coords t 0).val).toNat = t.val := by
  revert t; decide +kernel

variable (hO : Ok m)

/-- Where a point's blocks lie. -/
def ownAt19 (t : Fin (cfgM m hO).N) (x : S1x128x256.Idx) : S4x128x256.Idx := (((cfgM m hO).win 0).blk t).view.emb x
def gotAt19 (t : Fin (cfgM m hO).N) (x : S3x128x256.Idx) : S3x128x256.Idx := (((cfgM m hO).win 1).blk t).view.emb x
def sumAt19 (t : Fin (cfgM m hO).N) (x : S128x256.Idx) : S128x256.Idx := (((cfgM m hO).win 2).blk t).view.emb x

theorem own_emb19 (hn : chip19 m < 4) (t : Fin (cfgM m hO).N) (r : Fin 128) (x : Fin 256) (hr : t.val * 128 + r.val < 128) :
    ownAt19 m hO t (ix3 (0 : Fin 1) r x)
      = ix3 (⟨chip19 m % 4, Nat.mod_lt _ (by decide)⟩ : Fin 4) (⟨t.val * 128 + r.val, hr⟩ : Fin 128) x := by
  have hi := row19 t
  have hw : BitVec.toNat (tbl m 0 ((Rect.unit (s := S1) ![0] S1.size Cert.Kernel19Ideal.Facts₀.inb_S1_S1_0).emb (Shape.Idx.first (Cert.Kernel19Ideal.Facts₀.numel1_S1.symm ▸ Nat.one_pos)))) = chip19 m :=
    congrArg (fun j => BitVec.toNat (tbl m 0 j)) (one_idx _ _)
  funext a; apply Fin.ext
  match a with
  | ⟨0, _⟩ =>
    show BitVec.toNat (tbl m 0 ((Rect.unit (s := S1) ![0] S1.size Cert.Kernel19Ideal.Facts₀.inb_S1_S1_0).emb (Shape.Idx.first (Cert.Kernel19Ideal.Facts₀.numel1_S1.symm ▸ Nat.one_pos)))) * 1 + 1 * 0 = chip19 m % 4
    rw [hw]; omega
  | ⟨1, _⟩ => show (BitVec.ofNat 32 (grid0.coords t 0).val).toNat * 128 + 1 * r.val = t.val * 128 + r.val; omega
  | ⟨2, _⟩ => show 0 * 256 + 1 * x.val = x.val; omega

theorem got_emb19 (t : Fin (cfgM m hO).N) (k : Fin 3) (r : Fin 128) (x : Fin 256) (hr : t.val * 128 + r.val < 128) :
    gotAt19 m hO t (ix3 k r x) = ix3 k (⟨t.val * 128 + r.val, hr⟩ : Fin 128) x := by
  have hi := row19 t
  funext a; apply Fin.ext
  match a with
  | ⟨0, _⟩ => show 0 * 3 + 1 * k.val = k.val; omega
  | ⟨1, _⟩ => show (BitVec.ofNat 32 (grid0.coords t 0).val).toNat * 128 + 1 * r.val = t.val * 128 + r.val; omega
  | ⟨2, _⟩ => show 0 * 256 + 1 * x.val = x.val; omega

theorem sum_emb19 (t : Fin (cfgM m hO).N) (y : S128x256.Idx) (hr : t.val * 128 + (y 0).val < 128) :
    sumAt19 m hO t y = ix2 (⟨t.val * 128 + (y 0).val, hr⟩ : Fin 128) (y 1 : Fin 256) := by
  have hi := row19 t
  funext a; apply Fin.ext
  match a with
  | ⟨0, _⟩ => show (BitVec.ofNat 32 (grid0.coords t 0).val).toNat * 128 + 1 * (y 0).val = t.val * 128 + (y 0).val; omega
  | ⟨1, _⟩ => show 0 * 256 + 1 * (y 1).val = (y 1).val; omega

theorem row_lt19 (t : Fin (cfgM m hO).N) (r : Fin 128) : t.val * 128 + r.val < 128 := by
  have ht : t.val < 1 := lt_of_lt_of_eq t.isLt (show grid0.N = 1 from N_0)
  have := r.isLt
  omega

/-- A point writes back its block of the sums. -/
theorem flushed19 (hn : chip19 m < 4) (c : Dev nD) (t : Fin (cfgM m hO).N) :
    (dats m hO 0 c).flushed 2 t = (((cfgM m hO).win 2).blk t).view.read (Elt Ideal) (G19 (chip19 m) (V m c main_arg1) (V m c main_arg2)) := by
  show ((cfgM m hO).win 2).cut (grid0.coords t) ((dats m hO 0 c).after 2 t) = _
  rw [after0_2]
  unfold outsAt0
  refine funext fun (y : S128x256.Idx) => ?_
  refine (out_apply19 c _ _ _ _ _ _ _ _ _ _ y).trans ?_
  have hr := row_lt19 m hO t (y 0)
  have e := sum_emb19 m hO t y hr
  have e0 := own_emb19 m hO hn t (y 0) (y 1) hr
  have e1 := fun k => got_emb19 m hO t k (y 0) (y 1) hr
  refine Eq.trans ?_ (congrArg (G19 (chip19 m) (V m c main_arg1) (V m c main_arg2)) e).symm
  exact four (congrArg (V m c main_arg1) e0) (congrArg (V m c main_arg2) (e1 0)) (congrArg (V m c main_arg2) (e1 1))
    (congrArg (V m c main_arg2) (e1 2))

/-- Every element is some point's. -/
theorem covered19 (i : S128x256.Idx) : ∃ t : Fin (cfgM m hO).N, ((cfgM m hO).win 2).flush t = true ∧ i ∈ (((cfgM m hO).win 2).blk t).view.set := by
  have hi0 : (i 0).val < 128 := (i 0).isLt
  have hN : (cfgM m hO).N = 1 := N_0
  refine ⟨⟨(i 0).val / 128, by omega⟩, flush0_2 _ _, ?_⟩
  have hr : (i 0).val / 128 * 128 + (i 0).val % 128 < 128 := by omega
  have e := sum_emb19 m hO ⟨(i 0).val / 128, by omega⟩ (ix2 (⟨(i 0).val % 128, by omega⟩ : Fin 128) (i 1 : Fin 256)) hr
  have ei : i = sumAt19 m hO ⟨(i 0).val / 128, by omega⟩ (ix2 (⟨(i 0).val % 128, by omega⟩ : Fin 128) (i 1 : Fin 256)) := by
    rw [e]
    funext a; apply Fin.ext
    match a with
    | ⟨0, _⟩ => show (i 0).val = (i 0).val / 128 * 128 + (i 0).val % 128; omega
    | ⟨1, _⟩ => rfl
  exact Finset.mem_map.2 ⟨_, Finset.mem_univ _, ei.symm⟩

theorem final19 (hn : chip19 m < 4) (c : Dev nD) : (dats m hO 0 c).arrAt 2 (cfgM m hO).N
    = G19 (chip19 m) (m ((c : Thread nD τ).loc main_arg1)) (m ((c : Thread nD τ).loc main_arg2)) :=
  (dats m hO 0 c).arrAt_eq_of_cover 2 _ (fun t _ => flushed19 m hO hn c t) (covered19 m hO)

/-- The run, its result named. -/
theorem run19 (hO : Ok m) (hn : chip19 m < 4) (ρ : Dev nD → PrngReg) : θ_run defs (onTc (τ := τ) (main (F := Ideal))) ⟨m, fun _ => 0, ρ⟩ fun r => ∀ c : Dev nD,
    r.2.mem ((c : Thread nD τ).loc main_v0) = G19 (chip19 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final19 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent19 : quiescent_Reference19Ideal := fun m ρ _ =>
  (θ_run Cert.Reference19Ideal.defs _ _).mono (fun r h => ⟨fun c => (h c).2, sem_eq_zero_of_no_sems (by decide) r.2⟩)
    (ref_run19 (F := Ideal) m ρ)

theorem reference_quiescent19_pre : quiescent_Reference19Ideal_pre_a_chip19 := fun m ρ _ => reference_quiescent19 m ρ trivial

/-- What the reference ends with are the sums: the row it reads is the one the number names. -/
theorem ref_value19 (n : Cert.Kernel19Ideal.S1.Idx → BitVec 32) (p : Cert.Kernel19Ideal.S4x128x256.Idx → EReal)
    (g : Cert.Kernel19Ideal.S3x128x256.Idx → EReal) (k : ℕ) (hk : k < 4) (hs : ∀ j, (n j).toInt = (k : Int)) :
    refOut19 (F := Ideal) n p g = G19 k p g := by
  unfold refOut19
  rw [Host.dynamicSlice_eq_extractStridedSlice _ _ _ ![k, 0, 0]]
  · funext i
    pointwise
    refine Eq.trans ?_ (chain (p (ix3 ⟨k % 4, Nat.mod_lt _ (by decide)⟩ (i 0) (i 1))) fun j => g (ix3 j (i 0) (i 1))).symm
    refine congrArg (· + ∑ j : Fin 3, g (ix3 j (i 0) (i 1))) (congrArg p ?_)
    funext a; apply Fin.ext
    match a with
    | ⟨0, _⟩ => show k + 0 = k % 4; omega
    | ⟨1, _⟩ => exact Nat.zero_add _
    | ⟨2, _⟩ => exact Nat.zero_add _
  · refine ⟨rfl, fun a => ?_⟩
    match a with
    | ⟨0, _⟩ => show k + 1 ≤ 4; omega
    | ⟨1, _⟩ => show 0 + 128 ≤ 128; omega
    | ⟨2, _⟩ => show 0 + 256 ≤ 256; omega
  · intro a
    match a with
    | ⟨0, _⟩ => exact hs _
    | ⟨1, _⟩ => rfl
    | ⟨2, _⟩ => rfl

open Cert.Kernel19Ideal Cert.Kernel19Ideal.Gen in
theorem algebraic19 : algebraic_Kernel19Ideal_Reference19Ideal := by
  intro m ρ m' ρ' hpre hagree
  have hn := chip_lt19 m hpre
  refine ⟨_, run19 m (okIdeal19 m hpre) hn ρ, ?_⟩
  refine (θ_run Cert.Reference19Ideal.defs _ _).mono (fun _ h c => ⟨?_, (h c).2⟩) (ref_run19 (F := Ideal) m' ρ')
  rw [(h c).1]
  simp only [hagree c]
  obtain rfl : c = 0 := Subsingleton.elim _ _
  have hs : ∀ j : S1.Idx, BitVec.toInt (m (((0 : Dev nD).tc : Thread nD τ).loc main_arg0) j) = (chip19 m : Int) := by
    intro j
    rw [show j = ix1 (0 : Fin 1) from one_idx _ _]
    exact StableHlo.Predicate.toInt_eq_toNat_of_lt (lt_trans hn (by decide))
  exact ref_value19 _ _ _ _ hn hs

end Cert.AddChips

end
-- ==== Proof.AddCores.lean ====
/-
  The sums over the two cores of a chip: what the four programs share. The number of a core, read as the precondition states it, is 0 or 1;
  from it the block that a point reads and the row where the own half begins.
-/
module

public import proofs.«01_k».proof.Defs
public import Idealize.ShloMosaic.Lib.StableHlo.Predicate

@[expose] public section

namespace Cert.AddCores

open Idealize.ShloMosaic

/-- A word that compares as 0 or more and as less than 2, read signed, is a number below 2. -/
theorem lt_two (v : BitVec 32) (h0 : IntOp.cmpi .sge v 0#32 = 1#1) (h1 : IntOp.cmpi .slt v 2#32 = 1#1) : v.toNat < 2 := by
  simp only [IntOp.cmpi, StableHlo.Predicate.ofBool_eq_one_iff, BitVec.sle, BitVec.slt, decide_eq_true_eq, BitVec.toInt_eq_toNat_cond] at h0 h1
  have hv := v.isLt
  simp at h0 h1
  split at h0 <;> split at h1 <;> omega

/-- The block of rows that a point reads: the core's number times the blocks of a half, and the point's own. -/
abbrev block (w : BitVec 32) (k i : ℕ) : ℕ := BitVec.toNat (Scalar.addi (Scalar.muli w (BitVec.ofNat 32 k)) (BitVec.ofNat 32 i))

theorem at_block (w : BitVec 32) (k i : ℕ) (hw : w.toNat < 2) (hk : k ≤ 2) (hi : i < 2) : block w k i = w.toNat * k + i := by
  show (w * BitVec.ofNat 32 k + BitVec.ofNat 32 i).toNat = w.toNat * k + i
  have h : w.toNat = 0 ∨ w.toNat = 1 := by omega
  rcases h with e | e <;> simp only [BitVec.toNat_add, BitVec.toNat_mul, BitVec.toNat_ofNat, e] <;> omega

/-- The row where the own half begins, read signed. -/
theorem half_int (w : BitVec 32) (k h : ℕ) (hw : w.toNat = k) (hk : k < 2) (hh : h < 2 ^ 20) :
    (w * BitVec.ofNat 32 h).toInt = ((k * h : ℕ) : Int) := by
  have e : (w * BitVec.ofNat 32 h).toNat = k * h := by
    have hc : k = 0 ∨ k = 1 := by omega
    rcases hc with e | e <;> simp only [BitVec.toNat_mul, BitVec.toNat_ofNat, hw, e] <;> omega
  have hb : k * h < 2 ^ 20 := by
    have hc : k = 0 ∨ k = 1 := by omega
    rcases hc with e | e <;> rw [e] <;> omega
  rw [BitVec.toInt_eq_toNat_of_lt (by rw [e]; omega), e]

/-- A row of a half, counted from the first row of the array. -/
theorem half_lt {n h r : ℕ} (hr : r < h) : n % 2 * h + r < 2 * h := by
  have hn : n % 2 ≤ 1 := by omega
  have := Nat.mul_le_mul_right h hn
  omega

/-- Of an array of one element there is one index. -/
theorem one_idx (i j : (⟨1, ![1]⟩ : Shape).Idx) : i = j := by
  funext a
  match a with
  | ⟨0, _⟩ => exact Subsingleton.elim (α := Fin 1) _ _

/-- Two terms with equals for equals. -/
theorem two {a a' b b' : EReal} (ha : a = a') (hb : b = b') : a + b = a' + b' := by
  rw [ha, hb]

end Cert.AddCores
-- ==== Proof.AddCoresRef20.lean ====
/-
  The reference of the sum over the two cores for the weights of the input projection: its eight operations in order, and the array it ends with.
-/
module

public import proofs.«01_k».proof.Defs
public import proofs.«01_k».proof.Proof.AddCores
public import proofs.«01_k».proof.Proof.Gen.Reference20Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddCores

open Cert.Reference20Ideal Cert.Reference20Ideal.Gen
open Idealize.ShloMosaic Idealize.ShloMosaic.TcCoe Idealize.SL.Sem Idealize.ShloMosaic.StableHlo

variable {F : FTy → Type} [FloatOps F]

/-- What the reference ends with: the half of the rows that the number names, and the other core's half added. -/
def refOut20 (n : (⟨S1, .i32⟩ : BufTy).Contents (Elt F)) (x : (⟨S1x1024x5760, .f32⟩ : BufTy).Contents (Elt F))
    (g : (⟨S1x512x5760, .f32⟩ : BufTy).Contents (Elt F)) : (⟨S1x512x5760, .bf16⟩ : BufTy).Contents (Elt F) :=
  truncf (F := F) (φ := .f32) .bf16 (addf (Host.dynamicSlice S1x512x5760 x
      (fun k => ((![constantI S_ 32 0#32, muli (shapeCast S_ n shapeCasts_S1_S_) (constantI S_ 32 512#32), constantI S_ 32 0#32] : Fin 3 → (⟨S_, .i32⟩ : BufTy).Contents (Elt F)) k (Shape.Idx.first h_S_)).toInt)
      sliceFits_S1x1024x5760_S1x512x5760) g) bitsLt_bf16_f32

/-- The reference's operations, first the reading of the own half, then the sum. -/
def refOps20 : List (HloOp τ sig (Elt F)) :=
  [ reshape main_arg0 main_v0 (rfl : (.i32 : EltTy) = .i32) shapeCasts_S1_S_,
    nullary main_c (constantI S_ 32 512#32),
    binary main_v0 main_c main_v1 (muli : (⟨S_, .i32⟩ : BufTy).Contents (Elt F) → (⟨S_, .i32⟩ : BufTy).Contents (Elt F) → (⟨S_, .i32⟩ : BufTy).Contents (Elt F)),
    nullary main_c_0 (constantI S_ 32 0#32),
    nullary main_c_1 (constantI S_ 32 0#32),
    unaryIndexed main_arg1 ![main_c_0, main_v1, main_c_1] ⟨S_, .i32⟩ main_v2
      ((fun x i => Host.dynamicSlice S1x512x5760 x (fun k => (i k (Shape.Idx.first h_S_)).toInt) sliceFits_S1x1024x5760_S1x512x5760) :
        (⟨S1x1024x5760, .f32⟩ : BufTy).Contents (Elt F) → (Fin 3 → (⟨S_, .i32⟩ : BufTy).Contents (Elt F)) → (⟨S1x512x5760, .f32⟩ : BufTy).Contents (Elt F)),
    binary main_v2 main_arg2 main_v3 (addf :
      (⟨S1x512x5760, .f32⟩ : BufTy).Contents (Elt F) → (⟨S1x512x5760, .f32⟩ : BufTy).Contents (Elt F) → (⟨S1x512x5760, .f32⟩ : BufTy).Contents (Elt F)),
    unary main_v3 main_v4 ((truncf .bf16 · bitsLt_bf16_f32) : (⟨S1x512x5760, .f32⟩ : BufTy).Contents (Elt F) → (⟨S1x512x5760, .bf16⟩ : BufTy).Contents (Elt F)) ]

theorem ref_main20 (c : Dev nD) : main (F := F) c = seq refOps20 := rfl

theorem ref_sub20 : (refOps20 : List (HloOp τ sig (Elt F))).Forall fun op => op.bufs ⊆ tcRefs τ sig :=
  ⟨reshape_bufs_sub .., nullary_bufs_sub .., binary_bufs_sub .., nullary_bufs_sub .., nullary_bufs_sub .., unaryIndexed_bufs_sub ..,
    binary_bufs_sub .., unary_bufs_sub ..⟩

theorem ref_out20 (V : Valuation τ sig (Elt F)) : after refOps20 V (Proc.devRef .tc main_v4)
    = refOut20 (V (Proc.devRef .tc main_arg0)) (V (Proc.devRef .tc main_arg1)) (V (Proc.devRef .tc main_arg2)) := by
  unfold refOps20
  after_results_simp_entrywise
  all_goals rfl

theorem ref_arg020 (V : Valuation τ sig (Elt F)) : after refOps20 V (Proc.devRef .tc main_arg0) = V (Proc.devRef .tc main_arg0) := by
  unfold refOps20; after_results
theorem ref_arg120 (V : Valuation τ sig (Elt F)) : after refOps20 V (Proc.devRef .tc main_arg1) = V (Proc.devRef .tc main_arg1) := by
  unfold refOps20; after_results
theorem ref_arg220 (V : Valuation τ sig (Elt F)) : after refOps20 V (Proc.devRef .tc main_arg2) = V (Proc.devRef .tc main_arg2) := by
  unfold refOps20; after_results

/-- The reference's run: the array it ends with, and its arguments as they were. -/
theorem ref_run20 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut20 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (ref_out20 _), (h c main_arg0).trans (ref_arg020 _),
      (h c main_arg1).trans (ref_arg120 _), (h c main_arg2).trans (ref_arg220 _)⟩)
    (run_seq (by decide) (by decide) defs main (fun _ => refOps20) ref_main20 (fun _ => ref_sub20) m ρ)

end Cert.AddCores

end
-- ==== Proof.AddCoresWIn.lean ====
/-
  The sum over a chip's two cores of one core's half of the gradient of the weights of the input projection: the core's own half of the rows, which the
  table names, and the half that came from the other core.
-/
module

public import proofs.«01_k».proof.Defs
public import proofs.«01_k».proof.Proof.AddCores
public import proofs.«01_k».proof.Proof.Gen.Kernel20.Frame
public import proofs.«01_k».proof.Proof.Gen.Kernel20Ideal.Frame
public import proofs.«01_k».proof.Proof.Gen.Pre_a_core20
public import proofs.«01_k».proof.Proof.AddCoresRef20
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddCores

open Idealize.ShloMosaic Idealize.ShloMosaic.TcCoe Idealize.SL.Sem
open Idealize.ShloMosaic.Pipeline (Dat)

/-! ## The table names a block inside the array -/

section
open Cert.Kernel20 Cert.Kernel20.Gen

theorem ok20 (m : (ℓ : Loc nD τ sig) → Buf (Elt Bits) ℓ) (h : Cert.Pre_Kernel20 m) : Ok m := by
  intro i
  have hi : (i 0).val < 1 := (i 0).isLt
  have hj : (i 1).val < 2 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 2 (i 1).val < 2 * 2 := fun j => by
    rw [at_block _ 2 _ (hw j) (by omega) (by omega)]
    have := hw j
    omega
  refine ⟨fun a => ?_, .inl rfl⟩
  match a with
  | ⟨0, _⟩ => show ((BitVec.ofNat 32 (i 0).val).toNat + 1) * 1 ≤ 1; omega
  | ⟨1, _⟩ =>
    refine le_trans (?_ : _ ≤ 2 * 2 * 256) (show 2 * 2 * 256 ≤ 1024 by decide)
    exact Nat.mul_le_mul_right 256 (hp ((Rect.unit (s := S1) ![0] S1.size Facts₀.inb_S1_S1_0).emb (Shape.Idx.first (Facts₀.numel1_S1.symm ▸ Nat.one_pos))))
  | ⟨2, _⟩ => exact le_of_eq (show (0 + 1) * 5760 = 5760 from Nat.one_mul _)

end

section
open Cert.Kernel20Ideal Cert.Kernel20Ideal.Gen

/-- The core's number, as the launch memory holds it. -/
abbrev core20 (m : (ℓ : Loc nD τ sig) → Buf (Elt Ideal) ℓ) : ℕ := BitVec.toNat (tbl m 0 (ix1 (0 : Fin 1)))

theorem core_lt20 (m : (ℓ : Loc nD τ sig) → Buf (Elt Ideal) ℓ) (h : Cert.Pre_Kernel20Ideal m) : core20 m < 2 :=
  lt_two _ (congrFun (h 0).1 _) (congrFun (h 0).2 _)

theorem okIdeal20 (m : (ℓ : Loc nD τ sig) → Buf (Elt Ideal) ℓ) (h : Cert.Pre_Kernel20Ideal m) : Ok m := by
  intro i
  have hi : (i 0).val < 1 := (i 0).isLt
  have hj : (i 1).val < 2 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 2 (i 1).val < 2 * 2 := fun j => by
    rw [at_block _ 2 _ (hw j) (by omega) (by omega)]
    have := hw j
    omega
  refine ⟨fun a => ?_, .inl rfl⟩
  match a with
  | ⟨0, _⟩ => show ((BitVec.ofNat 32 (i 0).val).toNat + 1) * 1 ≤ 1; omega
  | ⟨1, _⟩ =>
    refine le_trans (?_ : _ ≤ 2 * 2 * 256) (show 2 * 2 * 256 ≤ 1024 by decide)
    exact Nat.mul_le_mul_right 256 (hp ((Rect.unit (s := S1) ![0] S1.size Facts₀.inb_S1_S1_0).emb (Shape.Idx.first (Facts₀.numel1_S1.symm ▸ Nat.one_pos))))
  | ⟨2, _⟩ => exact le_of_eq (show (0 + 1) * 5760 = 5760 from Nat.one_mul _)

/-! ## What the call leaves -/

variable (m : (ℓ : Loc nD τ sig) → Buf (Elt Ideal) ℓ)

theorem hzz20 : (![0, 0, 0] : Fin 3 → Nat) = fun _ => 0 := funext fun a => by fin_cases a <;> rfl

/-- A point's block: the own element and the one that came. -/
theorem out_apply20 (c : Dev nD) (i : grid0.Coords) (a2 : Memref sig .tc .vmem S1x256x5760 .f32) (h2 : a2.IsWhole)
    (a3 : Memref sig .tc .vmem S1x256x5760 .f32) (h3 : a3.IsWhole) (a4 : Memref sig .tc .vmem S1x256x5760 .bf16) (h4 : a4.IsWhole)
    (x0 : Vec Ideal S1x256x5760 .f32) (x1 : Vec Ideal S1x256x5760 .f32) (xt : TbBuf0 (F := Ideal) c tbM0_0) (y : S1x256x5760.Idx) :
    out0_A_2 c i a2 h2 a3 h3 a4 h4 x0 x1 xt y = (x0 y + x1 y : EReal) := by
  unfold out0_A_2
  rw [View.read_writes_eq_canon _ _ _ (cover0_A_2 c i a2 h2 a3 h3 a4 h4 x0 x1 xt)]
  unfold kernelRun0_A
  dsimp only
  rw [View.canon_unit_zero hzz20]
  unfold k0_pay1
  simp only [View.readAt_eq_ld, h2.read_unread, h3.read_unread, View.ld_unit_zero (S := S1x256x5760) hzz20]
  rfl

/-- The sums: the element of the own half of the rows and the one that came. -/
def G20 (n : ℕ) (p : S1x1024x5760.Idx → EReal) (g : S1x512x5760.Idx → EReal) : S1x512x5760.Idx → EReal := fun i =>
  p (ix3 (i 0 : Fin 1) (⟨n % 2 * 512 + (i 1).val, half_lt (show (i 1).val < 512 from (i 1).isLt)⟩ : Fin (2 * 512)) (i 2 : Fin 5760)) + g i

/-- A point's slab and its row of blocks, from the point's number. -/
theorem row20 (t : Fin grid0.N) : (BitVec.ofNat 32 (grid0.coords t 0).val).toNat = t.val / 2
    ∧ (BitVec.ofNat 32 (grid0.coords t 1).val).toNat = t.val % 2 ∧ (grid0.coords t 1).val = t.val % 2 := by
  revert t; decide +kernel

variable (hO : Ok m)

/-- Where a point's blocks lie. -/
def ownAt20 (t : Fin (cfgM m hO).N) (x : S1x256x5760.Idx) : S1x1024x5760.Idx := (((cfgM m hO).win 0).blk t).view.emb x
def gotAt20 (t : Fin (cfgM m hO).N) (x : S1x256x5760.Idx) : S1x512x5760.Idx := (((cfgM m hO).win 1).blk t).view.emb x
def sumAt20 (t : Fin (cfgM m hO).N) (x : S1x256x5760.Idx) : S1x512x5760.Idx := (((cfgM m hO).win 2).blk t).view.emb x

/-- The element of the sums that a point's block has at a place. -/
def place20 (t : Fin (cfgM m hO).N) (y : S1x256x5760.Idx) : S1x512x5760.Idx :=
  ix3 (⟨t.val / 2, by have ht : t.val < 1 * 2 := lt_of_lt_of_eq t.isLt (show grid0.N = 1 * 2 from N_0); omega⟩ : Fin 1)
    (⟨t.val % 2 * 256 + (y 1).val, by have hy : (y 1).val < 256 := (y 1).isLt; omega⟩ : Fin 512) (y 2 : Fin 5760)

theorem own_emb20 (hn : core20 m < 2) (t : Fin (cfgM m hO).N) (y : S1x256x5760.Idx) : ownAt20 m hO t y
      = ix3 (place20 m hO t y 0 : Fin 1) (⟨core20 m % 2 * 512 + (place20 m hO t y 1).val,
        half_lt (show (place20 m hO t y 1).val < 512 from (place20 m hO t y 1).isLt)⟩ : Fin (2 * 512)) (place20 m hO t y 2 : Fin 5760) := by
  obtain ⟨hi, hj, hj'⟩ := row20 t
  have hy : (y 0).val < 1 := (y 0).isLt
  have hw : BitVec.toNat (tbl m 0 ((Rect.unit (s := S1) ![0] S1.size Cert.Kernel20Ideal.Facts₀.inb_S1_S1_0).emb (Shape.Idx.first (Cert.Kernel20Ideal.Facts₀.numel1_S1.symm ▸ Nat.one_pos)))) = core20 m :=
    congrArg (fun j => BitVec.toNat (tbl m 0 j)) (one_idx _ _)
  have hp := at_block (tbl m 0 ((Rect.unit (s := S1) ![0] S1.size Cert.Kernel20Ideal.Facts₀.inb_S1_S1_0).emb (Shape.Idx.first (Cert.Kernel20Ideal.Facts₀.numel1_S1.symm ▸ Nat.one_pos))))
    2 (grid0.coords t 1).val (by rw [hw]; exact hn) (by omega) (by omega)
  rw [hw] at hp
  funext a; apply Fin.ext
  match a with
  | ⟨0, _⟩ => show (BitVec.ofNat 32 (grid0.coords t 0).val).toNat * 1 + 1 * (y 0).val = t.val / 2; omega
  | ⟨1, _⟩ =>
    show block (tbl m 0 ((Rect.unit (s := S1) ![0] S1.size Cert.Kernel20Ideal.Facts₀.inb_S1_S1_0).emb (Shape.Idx.first (Cert.Kernel20Ideal.Facts₀.numel1_S1.symm ▸ Nat.one_pos))))
      2 (grid0.coords t 1).val * 256 + 1 * (y 1).val = core20 m % 2 * 512 + (t.val % 2 * 256 + (y 1).val)
    rw [hp]; omega
  | ⟨2, _⟩ => show 0 * 5760 + 1 * (y 2).val = (y 2).val; omega

theorem got_emb20 (t : Fin (cfgM m hO).N) (y : S1x256x5760.Idx) : gotAt20 m hO t y = place20 m hO t y := by
  obtain ⟨hi, hj, _⟩ := row20 t
  have hy : (y 0).val < 1 := (y 0).isLt
  funext a; apply Fin.ext
  match a with
  | ⟨0, _⟩ => show (BitVec.ofNat 32 (grid0.coords t 0).val).toNat * 1 + 1 * (y 0).val = t.val / 2; omega
  | ⟨1, _⟩ => show (BitVec.ofNat 32 (grid0.coords t 1).val).toNat * 256 + 1 * (y 1).val = t.val % 2 * 256 + (y 1).val; omega
  | ⟨2, _⟩ => show 0 * 5760 + 1 * (y 2).val = (y 2).val; omega

theorem sum_emb20 (t : Fin (cfgM m hO).N) (y : S1x256x5760.Idx) : sumAt20 m hO t y = place20 m hO t y := got_emb20 m hO t y

/-- A point writes back its block of the sums. -/
theorem flushed20 (hn : core20 m < 2) (c : Dev nD) (t : Fin (cfgM m hO).N) :
    (dats m hO 0 c).flushed 2 t = (((cfgM m hO).win 2).blk t).view.read (Elt Ideal) (G20 (core20 m) (V m c main_arg1) (V m c main_arg2)) := by
  show ((cfgM m hO).win 2).cut (grid0.coords t) ((dats m hO 0 c).after 2 t) = _
  rw [after0_2]
  unfold outsAt0
  refine funext fun (y : S1x256x5760.Idx) => ?_
  refine (out_apply20 c _ _ _ _ _ _ _ _ _ _ y).trans ?_
  refine Eq.trans ?_ (congrArg (G20 (core20 m) (V m c main_arg1) (V m c main_arg2)) (sum_emb20 m hO t y)).symm
  exact two (congrArg (V m c main_arg1) (own_emb20 m hO hn t y)) (congrArg (V m c main_arg2) (got_emb20 m hO t y))

/-- Every element is some point's. -/
theorem covered20 (i : S1x512x5760.Idx) : ∃ t : Fin (cfgM m hO).N, ((cfgM m hO).win 2).flush t = true ∧ i ∈ (((cfgM m hO).win 2).blk t).view.set := by
  have hi0 : (i 0).val < 1 := (i 0).isLt
  have hi1 : (i 1).val < 512 := (i 1).isLt
  have hN : (cfgM m hO).N = 1 * 2 := N_0
  refine ⟨⟨(i 0).val * 2 + (i 1).val / 256, by omega⟩, flush0_2 _ _, ?_⟩
  have ei : i = sumAt20 m hO ⟨(i 0).val * 2 + (i 1).val / 256, by omega⟩
      (ix3 (0 : Fin 1) (⟨(i 1).val % 256, by omega⟩ : Fin 256) (i 2 : Fin 5760)) := by
    rw [sum_emb20]
    funext a; apply Fin.ext
    match a with
    | ⟨0, _⟩ => show (i 0).val = ((i 0).val * 2 + (i 1).val / 256) / 2; omega
    | ⟨1, _⟩ => show (i 1).val = ((i 0).val * 2 + (i 1).val / 256) % 2 * 256 + (i 1).val % 256; omega
    | ⟨2, _⟩ => rfl
  exact Finset.mem_map.2 ⟨_, Finset.mem_univ _, ei.symm⟩

theorem final20 (hn : core20 m < 2) (c : Dev nD) : (dats m hO 0 c).arrAt 2 (cfgM m hO).N
    = G20 (core20 m) (m ((c : Thread nD τ).loc main_arg1)) (m ((c : Thread nD τ).loc main_arg2)) :=
  (dats m hO 0 c).arrAt_eq_of_cover 2 _ (fun t _ => flushed20 m hO hn c t) (covered20 m hO)

/-- The run, its result named. -/
theorem run20 (hO : Ok m) (hn : core20 m < 2) (ρ : Dev nD → PrngReg) : θ_run defs (onTc (τ := τ) (main (F := Ideal))) ⟨m, fun _ => 0, ρ⟩ fun r => ∀ c : Dev nD,
    r.2.mem ((c : Thread nD τ).loc main_v0) = G20 (core20 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final20 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent20 : quiescent_Reference20Ideal := fun m ρ _ =>
  (θ_run Cert.Reference20Ideal.defs _ _).mono (fun r h => ⟨fun c => (h c).2, sem_eq_zero_of_no_sems (by decide) r.2⟩)
    (ref_run20 (F := Ideal) m ρ)

theorem reference_quiescent20_pre : quiescent_Reference20Ideal_pre_a_core20 := fun m ρ _ => reference_quiescent20 m ρ trivial

/-- What the reference ends with are the sums: the half it reads is the one the number names. -/
theorem ref_value20 (n : Cert.Kernel20Ideal.S1.Idx → BitVec 32) (p : Cert.Kernel20Ideal.S1x1024x5760.Idx → EReal)
    (g : Cert.Kernel20Ideal.S1x512x5760.Idx → EReal) (k : ℕ) (hk : k < 2) (hs : ∀ j, (n j).toNat = k) :
    refOut20 (F := Ideal) n p g = G20 k p g := by
  unfold refOut20
  rw [Host.dynamicSlice_eq_extractStridedSlice _ _ _ ![0, k * 512, 0]]
  · funext i
    refine two (congrArg p ?_) rfl
    funext a; apply Fin.ext
    match a with
    | ⟨0, _⟩ => exact Nat.zero_add _
    | ⟨1, _⟩ => show k * 512 + (i 1).val = k % 2 * 512 + (i 1).val; rw [Nat.mod_eq_of_lt hk]
    | ⟨2, _⟩ => exact Nat.zero_add _
  · refine ⟨rfl, fun a => ?_⟩
    match a with
    | ⟨0, _⟩ => show 0 + 1 ≤ 1; omega
    | ⟨1, _⟩ => show k * 512 + 512 ≤ 1024; omega
    | ⟨2, _⟩ => show 0 + 5760 ≤ 5760; omega
  · intro a
    match a with
    | ⟨0, _⟩ => rfl
    | ⟨1, _⟩ => exact half_int _ k 512 (hs _) hk (by decide)
    | ⟨2, _⟩ => rfl

open Cert.Kernel20Ideal Cert.Kernel20Ideal.Gen in
theorem algebraic20 : algebraic_Kernel20Ideal_Reference20Ideal := by
  intro m ρ m' ρ' hpre hagree
  have hn := core_lt20 m hpre
  refine ⟨_, run20 m (okIdeal20 m hpre) hn ρ, ?_⟩
  refine (θ_run Cert.Reference20Ideal.defs _ _).mono (fun _ h c => ⟨?_, (h c).2⟩) (ref_run20 (F := Ideal) m' ρ')
  rw [(h c).1]
  simp only [hagree c]
  obtain rfl : c = 0 := Subsingleton.elim _ _
  have hs : ∀ j : S1.Idx, BitVec.toNat (m (((0 : Dev nD).tc : Thread nD τ).loc main_arg0) j) = core20 m := fun j =>
    congrArg (fun j => BitVec.toNat (tbl m 0 j)) (one_idx _ _)
  exact ref_value20 _ _ _ _ hn hs

end Cert.AddCores

end
-- ==== Proof.AddCoresRef21.lean ====
/-
  The reference of the sum over the two cores for the weights of the output projection: its eight operations in order, and the array it ends with.
-/
module

public import proofs.«01_k».proof.Defs
public import proofs.«01_k».proof.Proof.AddCores
public import proofs.«01_k».proof.Proof.Gen.Reference21Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddCores

open Cert.Reference21Ideal Cert.Reference21Ideal.Gen
open Idealize.ShloMosaic Idealize.ShloMosaic.TcCoe Idealize.SL.Sem Idealize.ShloMosaic.StableHlo

variable {F : FTy → Type} [FloatOps F]

/-- What the reference ends with: the half of the rows that the number names, and the other core's half added. -/
def refOut21 (n : (⟨S1, .i32⟩ : BufTy).Contents (Elt F)) (x : (⟨S4x512x1024, .f32⟩ : BufTy).Contents (Elt F))
    (g : (⟨S4x256x1024, .f32⟩ : BufTy).Contents (Elt F)) : (⟨S4x256x1024, .bf16⟩ : BufTy).Contents (Elt F) :=
  truncf (F := F) (φ := .f32) .bf16 (addf (Host.dynamicSlice S4x256x1024 x
      (fun k => ((![constantI S_ 32 0#32, muli (shapeCast S_ n shapeCasts_S1_S_) (constantI S_ 32 256#32), constantI S_ 32 0#32] : Fin 3 → (⟨S_, .i32⟩ : BufTy).Contents (Elt F)) k (Shape.Idx.first h_S_)).toInt)
      sliceFits_S4x512x1024_S4x256x1024) g) bitsLt_bf16_f32

/-- The reference's operations, first the reading of the own half, then the sum. -/
def refOps21 : List (HloOp τ sig (Elt F)) :=
  [ reshape main_arg0 main_v0 (rfl : (.i32 : EltTy) = .i32) shapeCasts_S1_S_,
    nullary main_c (constantI S_ 32 256#32),
    binary main_v0 main_c main_v1 (muli : (⟨S_, .i32⟩ : BufTy).Contents (Elt F) → (⟨S_, .i32⟩ : BufTy).Contents (Elt F) → (⟨S_, .i32⟩ : BufTy).Contents (Elt F)),
    nullary main_c_0 (constantI S_ 32 0#32),
    nullary main_c_1 (constantI S_ 32 0#32),
    unaryIndexed main_arg1 ![main_c_0, main_v1, main_c_1] ⟨S_, .i32⟩ main_v2
      ((fun x i => Host.dynamicSlice S4x256x1024 x (fun k => (i k (Shape.Idx.first h_S_)).toInt) sliceFits_S4x512x1024_S4x256x1024) :
        (⟨S4x512x1024, .f32⟩ : BufTy).Contents (Elt F) → (Fin 3 → (⟨S_, .i32⟩ : BufTy).Contents (Elt F)) → (⟨S4x256x1024, .f32⟩ : BufTy).Contents (Elt F)),
    binary main_v2 main_arg2 main_v3 (addf :
      (⟨S4x256x1024, .f32⟩ : BufTy).Contents (Elt F) → (⟨S4x256x1024, .f32⟩ : BufTy).Contents (Elt F) → (⟨S4x256x1024, .f32⟩ : BufTy).Contents (Elt F)),
    unary main_v3 main_v4 ((truncf .bf16 · bitsLt_bf16_f32) : (⟨S4x256x1024, .f32⟩ : BufTy).Contents (Elt F) → (⟨S4x256x1024, .bf16⟩ : BufTy).Contents (Elt F)) ]

theorem ref_main21 (c : Dev nD) : main (F := F) c = seq refOps21 := rfl

theorem ref_sub21 : (refOps21 : List (HloOp τ sig (Elt F))).Forall fun op => op.bufs ⊆ tcRefs τ sig :=
  ⟨reshape_bufs_sub .., nullary_bufs_sub .., binary_bufs_sub .., nullary_bufs_sub .., nullary_bufs_sub .., unaryIndexed_bufs_sub ..,
    binary_bufs_sub .., unary_bufs_sub ..⟩

theorem ref_out21 (V : Valuation τ sig (Elt F)) : after refOps21 V (Proc.devRef .tc main_v4)
    = refOut21 (V (Proc.devRef .tc main_arg0)) (V (Proc.devRef .tc main_arg1)) (V (Proc.devRef .tc main_arg2)) := by
  unfold refOps21
  after_results_simp_entrywise
  all_goals rfl

theorem ref_arg021 (V : Valuation τ sig (Elt F)) : after refOps21 V (Proc.devRef .tc main_arg0) = V (Proc.devRef .tc main_arg0) := by
  unfold refOps21; after_results
theorem ref_arg121 (V : Valuation τ sig (Elt F)) : after refOps21 V (Proc.devRef .tc main_arg1) = V (Proc.devRef .tc main_arg1) := by
  unfold refOps21; after_results
theorem ref_arg221 (V : Valuation τ sig (Elt F)) : after refOps21 V (Proc.devRef .tc main_arg2) = V (Proc.devRef .tc main_arg2) := by
  unfold refOps21; after_results

/-- The reference's run: the array it ends with, and its arguments as they were. -/
theorem ref_run21 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut21 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (ref_out21 _), (h c main_arg0).trans (ref_arg021 _),
      (h c main_arg1).trans (ref_arg121 _), (h c main_arg2).trans (ref_arg221 _)⟩)
    (run_seq (by decide) (by decide) defs main (fun _ => refOps21) ref_main21 (fun _ => ref_sub21) m ρ)

end Cert.AddCores

end
-- ==== Proof.AddCoresWOut.lean ====
/-
  The sum over a chip's two cores of one core's half of the gradient of the weights of the output projection: the core's own half of the rows, which the
  table names, and the half that came from the other core.
-/
module

public import proofs.«01_k».proof.Defs
public import proofs.«01_k».proof.Proof.AddCores
public import proofs.«01_k».proof.Proof.Gen.Kernel21.Frame
public import proofs.«01_k».proof.Proof.Gen.Kernel21Ideal.Frame
public import proofs.«01_k».proof.Proof.Gen.Pre_a_core21
public import proofs.«01_k».proof.Proof.AddCoresRef21
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddCores

open Idealize.ShloMosaic Idealize.ShloMosaic.TcCoe Idealize.SL.Sem
open Idealize.ShloMosaic.Pipeline (Dat)

/-! ## The table names a block inside the array -/

section
open Cert.Kernel21 Cert.Kernel21.Gen

theorem ok21 (m : (ℓ : Loc nD τ sig) → Buf (Elt Bits) ℓ) (h : Cert.Pre_Kernel21 m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 256) (show 2 * 1 * 256 ≤ 512 by decide)
    exact Nat.mul_le_mul_right 256 (hp ((Rect.unit (s := S1) ![0] S1.size Facts₀.inb_S1_S1_0).emb (Shape.Idx.first (Facts₀.numel1_S1.symm ▸ Nat.one_pos))))
  | ⟨2, _⟩ => exact le_of_eq (show (0 + 1) * 1024 = 1024 from Nat.one_mul _)

end

section
open Cert.Kernel21Ideal Cert.Kernel21Ideal.Gen

/-- The core's number, as the launch memory holds it. -/
abbrev core21 (m : (ℓ : Loc nD τ sig) → Buf (Elt Ideal) ℓ) : ℕ := BitVec.toNat (tbl m 0 (ix1 (0 : Fin 1)))

theorem core_lt21 (m : (ℓ : Loc nD τ sig) → Buf (Elt Ideal) ℓ) (h : Cert.Pre_Kernel21Ideal m) : core21 m < 2 :=
  lt_two _ (congrFun (h 0).1 _) (congrFun (h 0).2 _)

theorem okIdeal21 (m : (ℓ : Loc nD τ sig) → Buf (Elt Ideal) ℓ) (h : Cert.Pre_Kernel21Ideal m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 256) (show 2 * 1 * 256 ≤ 512 by decide)
    exact Nat.mul_le_mul_right 256 (hp ((Rect.unit (s := S1) ![0] S1.size Facts₀.inb_S1_S1_0).emb (Shape.Idx.first (Facts₀.numel1_S1.symm ▸ Nat.one_pos))))
  | ⟨2, _⟩ => exact le_of_eq (show (0 + 1) * 1024 = 1024 from Nat.one_mul _)

/-! ## What the call leaves -/

variable (m : (ℓ : Loc nD τ sig) → Buf (Elt Ideal) ℓ)

theorem hzz21 : (![0, 0, 0] : Fin 3 → Nat) = fun _ => 0 := funext fun a => by fin_cases a <;> rfl

/-- A point's block: the own element and the one that came. -/
theorem out_apply21 (c : Dev nD) (i : grid0.Coords) (a2 : Memref sig .tc .vmem S1x256x1024 .f32) (h2 : a2.IsWhole)
    (a3 : Memref sig .tc .vmem S1x256x1024 .f32) (h3 : a3.IsWhole) (a4 : Memref sig .tc .vmem S1x256x1024 .bf16) (h4 : a4.IsWhole)
    (x0 : Vec Ideal S1x256x1024 .f32) (x1 : Vec Ideal S1x256x1024 .f32) (xt : TbBuf0 (F := Ideal) c tbM0_0) (y : S1x256x1024.Idx) :
    out0_A_2 c i a2 h2 a3 h3 a4 h4 x0 x1 xt y = (x0 y + x1 y : EReal) := by
  unfold out0_A_2
  rw [View.read_writes_eq_canon _ _ _ (cover0_A_2 c i a2 h2 a3 h3 a4 h4 x0 x1 xt)]
  unfold kernelRun0_A
  dsimp only
  rw [View.canon_unit_zero hzz21]
  unfold k0_pay1
  simp only [View.readAt_eq_ld, h2.read_unread, h3.read_unread, View.ld_unit_zero (S := S1x256x1024) hzz21]
  rfl

/-- The sums: the element of the own half of the rows and the one that came. -/
def G21 (n : ℕ) (p : S4x512x1024.Idx → EReal) (g : S4x256x1024.Idx → EReal) : S4x256x1024.Idx → EReal := fun i =>
  p (ix3 (i 0 : Fin 4) (⟨n % 2 * 256 + (i 1).val, half_lt (show (i 1).val < 256 from (i 1).isLt)⟩ : Fin (2 * 256)) (i 2 : Fin 1024)) + g i

/-- A point's slab and its row of blocks, from the point's number. -/
theorem row21 (t : Fin grid0.N) : (BitVec.ofNat 32 (grid0.coords t 0).val).toNat = t.val / 1
    ∧ (BitVec.ofNat 32 (grid0.coords t 1).val).toNat = t.val % 1 ∧ (grid0.coords t 1).val = t.val % 1 := by
  revert t; decide +kernel

variable (hO : Ok m)

/-- Where a point's blocks lie. -/
def ownAt21 (t : Fin (cfgM m hO).N) (x : S1x256x1024.Idx) : S4x512x1024.Idx := (((cfgM m hO).win 0).blk t).view.emb x
def gotAt21 (t : Fin (cfgM m hO).N) (x : S1x256x1024.Idx) : S4x256x1024.Idx := (((cfgM m hO).win 1).blk t).view.emb x
def sumAt21 (t : Fin (cfgM m hO).N) (x : S1x256x1024.Idx) : S4x256x1024.Idx := (((cfgM m hO).win 2).blk t).view.emb x

/-- The element of the sums that a point's block has at a place. -/
def place21 (t : Fin (cfgM m hO).N) (y : S1x256x1024.Idx) : S4x256x1024.Idx :=
  ix3 (⟨t.val / 1, by have ht : t.val < 4 * 1 := lt_of_lt_of_eq t.isLt (show grid0.N = 4 * 1 from N_0); omega⟩ : Fin 4)
    (⟨t.val % 1 * 256 + (y 1).val, by have hy : (y 1).val < 256 := (y 1).isLt; omega⟩ : Fin 256) (y 2 : Fin 1024)

theorem own_emb21 (hn : core21 m < 2) (t : Fin (cfgM m hO).N) (y : S1x256x1024.Idx) : ownAt21 m hO t y
      = ix3 (place21 m hO t y 0 : Fin 4) (⟨core21 m % 2 * 256 + (place21 m hO t y 1).val,
        half_lt (show (place21 m hO t y 1).val < 256 from (place21 m hO t y 1).isLt)⟩ : Fin (2 * 256)) (place21 m hO t y 2 : Fin 1024) := by
  obtain ⟨hi, hj, hj'⟩ := row21 t
  have hy : (y 0).val < 1 := (y 0).isLt
  have hw : BitVec.toNat (tbl m 0 ((Rect.unit (s := S1) ![0] S1.size Cert.Kernel21Ideal.Facts₀.inb_S1_S1_0).emb (Shape.Idx.first (Cert.Kernel21Ideal.Facts₀.numel1_S1.symm ▸ Nat.one_pos)))) = core21 m :=
    congrArg (fun j => BitVec.toNat (tbl m 0 j)) (one_idx _ _)
  have hp := at_block (tbl m 0 ((Rect.unit (s := S1) ![0] S1.size Cert.Kernel21Ideal.Facts₀.inb_S1_S1_0).emb (Shape.Idx.first (Cert.Kernel21Ideal.Facts₀.numel1_S1.symm ▸ Nat.one_pos))))
    1 (grid0.coords t 1).val (by rw [hw]; exact hn) (by omega) (by omega)
  rw [hw] at hp
  funext a; apply Fin.ext
  match a with
  | ⟨0, _⟩ => show (BitVec.ofNat 32 (grid0.coords t 0).val).toNat * 1 + 1 * (y 0).val = t.val / 1; omega
  | ⟨1, _⟩ =>
    show block (tbl m 0 ((Rect.unit (s := S1) ![0] S1.size Cert.Kernel21Ideal.Facts₀.inb_S1_S1_0).emb (Shape.Idx.first (Cert.Kernel21Ideal.Facts₀.numel1_S1.symm ▸ Nat.one_pos))))
      1 (grid0.coords t 1).val * 256 + 1 * (y 1).val = core21 m % 2 * 256 + (t.val % 1 * 256 + (y 1).val)
    rw [hp]; omega
  | ⟨2, _⟩ => show 0 * 1024 + 1 * (y 2).val = (y 2).val; omega

theorem got_emb21 (t : Fin (cfgM m hO).N) (y : S1x256x1024.Idx) : gotAt21 m hO t y = place21 m hO t y := by
  obtain ⟨hi, hj, _⟩ := row21 t
  have hy : (y 0).val < 1 := (y 0).isLt
  funext a; apply Fin.ext
  match a with
  | ⟨0, _⟩ => show (BitVec.ofNat 32 (grid0.coords t 0).val).toNat * 1 + 1 * (y 0).val = t.val / 1; omega
  | ⟨1, _⟩ => show (BitVec.ofNat 32 (grid0.coords t 1).val).toNat * 256 + 1 * (y 1).val = t.val % 1 * 256 + (y 1).val; omega
  | ⟨2, _⟩ => show 0 * 1024 + 1 * (y 2).val = (y 2).val; omega

theorem sum_emb21 (t : Fin (cfgM m hO).N) (y : S1x256x1024.Idx) : sumAt21 m hO t y = place21 m hO t y := got_emb21 m hO t y

/-- A point writes back its block of the sums. -/
theorem flushed21 (hn : core21 m < 2) (c : Dev nD) (t : Fin (cfgM m hO).N) :
    (dats m hO 0 c).flushed 2 t = (((cfgM m hO).win 2).blk t).view.read (Elt Ideal) (G21 (core21 m) (V m c main_arg1) (V m c main_arg2)) := by
  show ((cfgM m hO).win 2).cut (grid0.coords t) ((dats m hO 0 c).after 2 t) = _
  rw [after0_2]
  unfold outsAt0
  refine funext fun (y : S1x256x1024.Idx) => ?_
  refine (out_apply21 c _ _ _ _ _ _ _ _ _ _ y).trans ?_
  refine Eq.trans ?_ (congrArg (G21 (core21 m) (V m c main_arg1) (V m c main_arg2)) (sum_emb21 m hO t y)).symm
  exact two (congrArg (V m c main_arg1) (own_emb21 m hO hn t y)) (congrArg (V m c main_arg2) (got_emb21 m hO t y))

/-- Every element is some point's. -/
theorem covered21 (i : S4x256x1024.Idx) : ∃ t : Fin (cfgM m hO).N, ((cfgM m hO).win 2).flush t = true ∧ i ∈ (((cfgM m hO).win 2).blk t).view.set := by
  have hi0 : (i 0).val < 4 := (i 0).isLt
  have hi1 : (i 1).val < 256 := (i 1).isLt
  have hN : (cfgM m hO).N = 4 * 1 := N_0
  refine ⟨⟨(i 0).val * 1 + (i 1).val / 256, by omega⟩, flush0_2 _ _, ?_⟩
  have ei : i = sumAt21 m hO ⟨(i 0).val * 1 + (i 1).val / 256, by omega⟩
      (ix3 (0 : Fin 1) (⟨(i 1).val % 256, by omega⟩ : Fin 256) (i 2 : Fin 1024)) := by
    rw [sum_emb21]
    funext a; apply Fin.ext
    match a with
    | ⟨0, _⟩ => show (i 0).val = ((i 0).val * 1 + (i 1).val / 256) / 1; omega
    | ⟨1, _⟩ => show (i 1).val = ((i 0).val * 1 + (i 1).val / 256) % 1 * 256 + (i 1).val % 256; omega
    | ⟨2, _⟩ => rfl
  exact Finset.mem_map.2 ⟨_, Finset.mem_univ _, ei.symm⟩

theorem final21 (hn : core21 m < 2) (c : Dev nD) : (dats m hO 0 c).arrAt 2 (cfgM m hO).N
    = G21 (core21 m) (m ((c : Thread nD τ).loc main_arg1)) (m ((c : Thread nD τ).loc main_arg2)) :=
  (dats m hO 0 c).arrAt_eq_of_cover 2 _ (fun t _ => flushed21 m hO hn c t) (covered21 m hO)

/-- The run, its result named. -/
theorem run21 (hO : Ok m) (hn : core21 m < 2) (ρ : Dev nD → PrngReg) : θ_run defs (onTc (τ := τ) (main (F := Ideal))) ⟨m, fun _ => 0, ρ⟩ fun r => ∀ c : Dev nD,
    r.2.mem ((c : Thread nD τ).loc main_v0) = G21 (core21 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final21 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent21 : quiescent_Reference21Ideal := fun m ρ _ =>
  (θ_run Cert.Reference21Ideal.defs _ _).mono (fun r h => ⟨fun c => (h c).2, sem_eq_zero_of_no_sems (by decide) r.2⟩)
    (ref_run21 (F := Ideal) m ρ)

theorem reference_quiescent21_pre : quiescent_Reference21Ideal_pre_a_core21 := fun m ρ _ => reference_quiescent21 m ρ trivial

/-- What the reference ends with are the sums: the half it reads is the one the number names. -/
theorem ref_value21 (n : Cert.Kernel21Ideal.S1.Idx → BitVec 32) (p : Cert.Kernel21Ideal.S4x512x1024.Idx → EReal)
    (g : Cert.Kernel21Ideal.S4x256x1024.Idx → EReal) (k : ℕ) (hk : k < 2) (hs : ∀ j, (n j).toNat = k) :
    refOut21 (F := Ideal) n p g = G21 k p g := by
  unfold refOut21
  rw [Host.dynamicSlice_eq_extractStridedSlice _ _ _ ![0, k * 256, 0]]
  · funext i
    refine two (congrArg p ?_) rfl
    funext a; apply Fin.ext
    match a with
    | ⟨0, _⟩ => exact Nat.zero_add _
    | ⟨1, _⟩ => show k * 256 + (i 1).val = k % 2 * 256 + (i 1).val; rw [Nat.mod_eq_of_lt hk]
    | ⟨2, _⟩ => exact Nat.zero_add _
  · refine ⟨rfl, fun a => ?_⟩
    match a with
    | ⟨0, _⟩ => show 0 + 4 ≤ 4; omega
    | ⟨1, _⟩ => show k * 256 + 256 ≤ 512; omega
    | ⟨2, _⟩ => show 0 + 1024 ≤ 1024; omega
  · intro a
    match a with
    | ⟨0, _⟩ => rfl
    | ⟨1, _⟩ => exact half_int _ k 256 (hs _) hk (by decide)
    | ⟨2, _⟩ => rfl

open Cert.Kernel21Ideal Cert.Kernel21Ideal.Gen in
theorem algebraic21 : algebraic_Kernel21Ideal_Reference21Ideal := by
  intro m ρ m' ρ' hpre hagree
  have hn := core_lt21 m hpre
  refine ⟨_, run21 m (okIdeal21 m hpre) hn ρ, ?_⟩
  refine (θ_run Cert.Reference21Ideal.defs _ _).mono (fun _ h c => ⟨?_, (h c).2⟩) (ref_run21 (F := Ideal) m' ρ')
  rw [(h c).1]
  simp only [hagree c]
  obtain rfl : c = 0 := Subsingleton.elim _ _
  have hs : ∀ j : S1.Idx, BitVec.toNat (m (((0 : Dev nD).tc : Thread nD τ).loc main_arg0) j) = core21 m := fun j =>
    congrArg (fun j => BitVec.toNat (tbl m 0 j)) (one_idx _ _)
  exact ref_value21 _ _ _ _ hn hs

end Cert.AddCores

end
-- ==== Proof.AddCoresRef22.lean ====
/-
  The reference of the sum over the two cores for the weights of the gate: its eight operations in order, and the array it ends with.
-/
module

public import proofs.«01_k».proof.Defs
public import proofs.«01_k».proof.Proof.AddCores
public import proofs.«01_k».proof.Proof.Gen.Reference22Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddCores

open Cert.Reference22Ideal Cert.Reference22Ideal.Gen
open Idealize.ShloMosaic Idealize.ShloMosaic.TcCoe Idealize.SL.Sem Idealize.ShloMosaic.StableHlo

variable {F : FTy → Type} [FloatOps F]

/-- What the reference ends with: the half of the rows that the number names, and the other core's half added. -/
def refOut22 (n : (⟨S1, .i32⟩ : BufTy).Contents (Elt F)) (x : (⟨S4x256x1024, .f32⟩ : BufTy).Contents (Elt F))
    (g : (⟨S4x128x1024, .f32⟩ : BufTy).Contents (Elt F)) : (⟨S4x128x1024, .bf16⟩ : BufTy).Contents (Elt F) :=
  truncf (F := F) (φ := .f32) .bf16 (addf (Host.dynamicSlice S4x128x1024 x
      (fun k => ((![constantI S_ 32 0#32, muli (shapeCast S_ n shapeCasts_S1_S_) (constantI S_ 32 128#32), constantI S_ 32 0#32] : Fin 3 → (⟨S_, .i32⟩ : BufTy).Contents (Elt F)) k (Shape.Idx.first h_S_)).toInt)
      sliceFits_S4x256x1024_S4x128x1024) g) bitsLt_bf16_f32

/-- The reference's operations, first the reading of the own half, then the sum. -/
def refOps22 : List (HloOp τ sig (Elt F)) :=
  [ reshape main_arg0 main_v0 (rfl : (.i32 : EltTy) = .i32) shapeCasts_S1_S_,
    nullary main_c (constantI S_ 32 128#32),
    binary main_v0 main_c main_v1 (muli : (⟨S_, .i32⟩ : BufTy).Contents (Elt F) → (⟨S_, .i32⟩ : BufTy).Contents (Elt F) → (⟨S_, .i32⟩ : BufTy).Contents (Elt F)),
    nullary main_c_0 (constantI S_ 32 0#32),
    nullary main_c_1 (constantI S_ 32 0#32),
    unaryIndexed main_arg1 ![main_c_0, main_v1, main_c_1] ⟨S_, .i32⟩ main_v2
      ((fun x i => Host.dynamicSlice S4x128x1024 x (fun k => (i k (Shape.Idx.first h_S_)).toInt) sliceFits_S4x256x1024_S4x128x1024) :
        (⟨S4x256x1024, .f32⟩ : BufTy).Contents (Elt F) → (Fin 3 → (⟨S_, .i32⟩ : BufTy).Contents (Elt F)) → (⟨S4x128x1024, .f32⟩ : BufTy).Contents (Elt F)),
    binary main_v2 main_arg2 main_v3 (addf :
      (⟨S4x128x1024, .f32⟩ : BufTy).Contents (Elt F) → (⟨S4x128x1024, .f32⟩ : BufTy).Contents (Elt F) → (⟨S4x128x1024, .f32⟩ : BufTy).Contents (Elt F)),
    unary main_v3 main_v4 ((truncf .bf16 · bitsLt_bf16_f32) : (⟨S4x128x1024, .f32⟩ : BufTy).Contents (Elt F) → (⟨S4x128x1024, .bf16⟩ : BufTy).Contents (Elt F)) ]

theorem ref_main22 (c : Dev nD) : main (F := F) c = seq refOps22 := rfl

theorem ref_sub22 : (refOps22 : List (HloOp τ sig (Elt F))).Forall fun op => op.bufs ⊆ tcRefs τ sig :=
  ⟨reshape_bufs_sub .., nullary_bufs_sub .., binary_bufs_sub .., nullary_bufs_sub .., nullary_bufs_sub .., unaryIndexed_bufs_sub ..,
    binary_bufs_sub .., unary_bufs_sub ..⟩

theorem ref_out22 (V : Valuation τ sig (Elt F)) : after refOps22 V (Proc.devRef .tc main_v4)
    = refOut22 (V (Proc.devRef .tc main_arg0)) (V (Proc.devRef .tc main_arg1)) (V (Proc.devRef .tc main_arg2)) := by
  unfold refOps22
  after_results_simp_entrywise
  all_goals rfl

theorem ref_arg022 (V : Valuation τ sig (Elt F)) : after refOps22 V (Proc.devRef .tc main_arg0) = V (Proc.devRef .tc main_arg0) := by
  unfold refOps22; after_results
theorem ref_arg122 (V : Valuation τ sig (Elt F)) : after refOps22 V (Proc.devRef .tc main_arg1) = V (Proc.devRef .tc main_arg1) := by
  unfold refOps22; after_results
theorem ref_arg222 (V : Valuation τ sig (Elt F)) : after refOps22 V (Proc.devRef .tc main_arg2) = V (Proc.devRef .tc main_arg2) := by
  unfold refOps22; after_results

/-- The reference's run: the array it ends with, and its arguments as they were. -/
theorem ref_run22 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut22 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (ref_out22 _), (h c main_arg0).trans (ref_arg022 _),
      (h c main_arg1).trans (ref_arg122 _), (h c main_arg2).trans (ref_arg222 _)⟩)
    (run_seq (by decide) (by decide) defs main (fun _ => refOps22) ref_main22 (fun _ => ref_sub22) m ρ)

end Cert.AddCores

end
-- ==== Proof.AddCoresGate.lean ====
/-
  The sum over a chip's two cores of one core's half of the gradient of the weights of the gate: the core's own half of the rows, which the
  table names, and the half that came from the other core.
-/
module

public import proofs.«01_k».proof.Defs
public import proofs.«01_k».proof.Proof.AddCores
public import proofs.«01_k».proof.Proof.Gen.Kernel22.Frame
public import proofs.«01_k».proof.Proof.Gen.Kernel22Ideal.Frame
public import proofs.«01_k».proof.Proof.Gen.Pre_a_core22
public import proofs.«01_k».proof.Proof.AddCoresRef22
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddCores

open Idealize.ShloMosaic Idealize.ShloMosaic.TcCoe Idealize.SL.Sem
open Idealize.ShloMosaic.Pipeline (Dat)

/-! ## The table names a block inside the array -/

section
open Cert.Kernel22 Cert.Kernel22.Gen

theorem ok22 (m : (ℓ : Loc nD τ sig) → Buf (Elt Bits) ℓ) (h : Cert.Pre_Kernel22 m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 128) (show 2 * 1 * 128 ≤ 256 by decide)
    exact Nat.mul_le_mul_right 128 (hp ((Rect.unit (s := S1) ![0] S1.size Facts₀.inb_S1_S1_0).emb (Shape.Idx.first (Facts₀.numel1_S1.symm ▸ Nat.one_pos))))
  | ⟨2, _⟩ => exact le_of_eq (show (0 + 1) * 1024 = 1024 from Nat.one_mul _)

end

section
open Cert.Kernel22Ideal Cert.Kernel22Ideal.Gen

/-- The core's number, as the launch memory holds it. -/
abbrev core22 (m : (ℓ : Loc nD τ sig) → Buf (Elt Ideal) ℓ) : ℕ := BitVec.toNat (tbl m 0 (ix1 (0 : Fin 1)))

theorem core_lt22 (m : (ℓ : Loc nD τ sig) → Buf (Elt Ideal) ℓ) (h : Cert.Pre_Kernel22Ideal m) : core22 m < 2 :=
  lt_two _ (congrFun (h 0).1 _) (congrFun (h 0).2 _)

theorem okIdeal22 (m : (ℓ : Loc nD τ sig) → Buf (Elt Ideal) ℓ) (h : Cert.Pre_Kernel22Ideal m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 128) (show 2 * 1 * 128 ≤ 256 by decide)
    exact Nat.mul_le_mul_right 128 (hp ((Rect.unit (s := S1) ![0] S1.size Facts₀.inb_S1_S1_0).emb (Shape.Idx.first (Facts₀.numel1_S1.symm ▸ Nat.one_pos))))
  | ⟨2, _⟩ => exact le_of_eq (show (0 + 1) * 1024 = 1024 from Nat.one_mul _)

/-! ## What the call leaves -/

variable (m : (ℓ : Loc nD τ sig) → Buf (Elt Ideal) ℓ)

theorem hzz22 : (![0, 0, 0] : Fin 3 → Nat) = fun _ => 0 := funext fun a => by fin_cases a <;> rfl

/-- A point's block: the own element and the one that came. -/
theorem out_apply22 (c : Dev nD) (i : grid0.Coords) (a2 : Memref sig .tc .vmem S1x128x1024 .f32) (h2 : a2.IsWhole)
    (a3 : Memref sig .tc .vmem S1x128x1024 .f32) (h3 : a3.IsWhole) (a4 : Memref sig .tc .vmem S1x128x1024 .bf16) (h4 : a4.IsWhole)
    (x0 : Vec Ideal S1x128x1024 .f32) (x1 : Vec Ideal S1x128x1024 .f32) (xt : TbBuf0 (F := Ideal) c tbM0_0) (y : S1x128x1024.Idx) :
    out0_A_2 c i a2 h2 a3 h3 a4 h4 x0 x1 xt y = (x0 y + x1 y : EReal) := by
  unfold out0_A_2
  rw [View.read_writes_eq_canon _ _ _ (cover0_A_2 c i a2 h2 a3 h3 a4 h4 x0 x1 xt)]
  unfold kernelRun0_A
  dsimp only
  rw [View.canon_unit_zero hzz22]
  unfold k0_pay1
  simp only [View.readAt_eq_ld, h2.read_unread, h3.read_unread, View.ld_unit_zero (S := S1x128x1024) hzz22]
  rfl

/-- The sums: the element of the own half of the rows and the one that came. -/
def G22 (n : ℕ) (p : S4x256x1024.Idx → EReal) (g : S4x128x1024.Idx → EReal) : S4x128x1024.Idx → EReal := fun i =>
  p (ix3 (i 0 : Fin 4) (⟨n % 2 * 128 + (i 1).val, half_lt (show (i 1).val < 128 from (i 1).isLt)⟩ : Fin (2 * 128)) (i 2 : Fin 1024)) + g i

/-- A point's slab and its row of blocks, from the point's number. -/
theorem row22 (t : Fin grid0.N) : (BitVec.ofNat 32 (grid0.coords t 0).val).toNat = t.val / 1
    ∧ (BitVec.ofNat 32 (grid0.coords t 1).val).toNat = t.val % 1 ∧ (grid0.coords t 1).val = t.val % 1 := by
  revert t; decide +kernel

variable (hO : Ok m)

/-- Where a point's blocks lie. -/
def ownAt22 (t : Fin (cfgM m hO).N) (x : S1x128x1024.Idx) : S4x256x1024.Idx := (((cfgM m hO).win 0).blk t).view.emb x
def gotAt22 (t : Fin (cfgM m hO).N) (x : S1x128x1024.Idx) : S4x128x1024.Idx := (((cfgM m hO).win 1).blk t).view.emb x
def sumAt22 (t : Fin (cfgM m hO).N) (x : S1x128x1024.Idx) : S4x128x1024.Idx := (((cfgM m hO).win 2).blk t).view.emb x

/-- The element of the sums that a point's block has at a place. -/
def place22 (t : Fin (cfgM m hO).N) (y : S1x128x1024.Idx) : S4x128x1024.Idx :=
  ix3 (⟨t.val / 1, by have ht : t.val < 4 * 1 := lt_of_lt_of_eq t.isLt (show grid0.N = 4 * 1 from N_0); omega⟩ : Fin 4)
    (⟨t.val % 1 * 128 + (y 1).val, by have hy : (y 1).val < 128 := (y 1).isLt; omega⟩ : Fin 128) (y 2 : Fin 1024)

theorem own_emb22 (hn : core22 m < 2) (t : Fin (cfgM m hO).N) (y : S1x128x1024.Idx) : ownAt22 m hO t y
      = ix3 (place22 m hO t y 0 : Fin 4) (⟨core22 m % 2 * 128 + (place22 m hO t y 1).val,
        half_lt (show (place22 m hO t y 1).val < 128 from (place22 m hO t y 1).isLt)⟩ : Fin (2 * 128)) (place22 m hO t y 2 : Fin 1024) := by
  obtain ⟨hi, hj, hj'⟩ := row22 t
  have hy : (y 0).val < 1 := (y 0).isLt
  have hw : BitVec.toNat (tbl m 0 ((Rect.unit (s := S1) ![0] S1.size Cert.Kernel22Ideal.Facts₀.inb_S1_S1_0).emb (Shape.Idx.first (Cert.Kernel22Ideal.Facts₀.numel1_S1.symm ▸ Nat.one_pos)))) = core22 m :=
    congrArg (fun j => BitVec.toNat (tbl m 0 j)) (one_idx _ _)
  have hp := at_block (tbl m 0 ((Rect.unit (s := S1) ![0] S1.size Cert.Kernel22Ideal.Facts₀.inb_S1_S1_0).emb (Shape.Idx.first (Cert.Kernel22Ideal.Facts₀.numel1_S1.symm ▸ Nat.one_pos))))
    1 (grid0.coords t 1).val (by rw [hw]; exact hn) (by omega) (by omega)
  rw [hw] at hp
  funext a; apply Fin.ext
  match a with
  | ⟨0, _⟩ => show (BitVec.ofNat 32 (grid0.coords t 0).val).toNat * 1 + 1 * (y 0).val = t.val / 1; omega
  | ⟨1, _⟩ =>
    show block (tbl m 0 ((Rect.unit (s := S1) ![0] S1.size Cert.Kernel22Ideal.Facts₀.inb_S1_S1_0).emb (Shape.Idx.first (Cert.Kernel22Ideal.Facts₀.numel1_S1.symm ▸ Nat.one_pos))))
      1 (grid0.coords t 1).val * 128 + 1 * (y 1).val = core22 m % 2 * 128 + (t.val % 1 * 128 + (y 1).val)
    rw [hp]; omega
  | ⟨2, _⟩ => show 0 * 1024 + 1 * (y 2).val = (y 2).val; omega

theorem got_emb22 (t : Fin (cfgM m hO).N) (y : S1x128x1024.Idx) : gotAt22 m hO t y = place22 m hO t y := by
  obtain ⟨hi, hj, _⟩ := row22 t
  have hy : (y 0).val < 1 := (y 0).isLt
  funext a; apply Fin.ext
  match a with
  | ⟨0, _⟩ => show (BitVec.ofNat 32 (grid0.coords t 0).val).toNat * 1 + 1 * (y 0).val = t.val / 1; omega
  | ⟨1, _⟩ => show (BitVec.ofNat 32 (grid0.coords t 1).val).toNat * 128 + 1 * (y 1).val = t.val % 1 * 128 + (y 1).val; omega
  | ⟨2, _⟩ => show 0 * 1024 + 1 * (y 2).val = (y 2).val; omega

theorem sum_emb22 (t : Fin (cfgM m hO).N) (y : S1x128x1024.Idx) : sumAt22 m hO t y = place22 m hO t y := got_emb22 m hO t y

/-- A point writes back its block of the sums. -/
theorem flushed22 (hn : core22 m < 2) (c : Dev nD) (t : Fin (cfgM m hO).N) :
    (dats m hO 0 c).flushed 2 t = (((cfgM m hO).win 2).blk t).view.read (Elt Ideal) (G22 (core22 m) (V m c main_arg1) (V m c main_arg2)) := by
  show ((cfgM m hO).win 2).cut (grid0.coords t) ((dats m hO 0 c).after 2 t) = _
  rw [after0_2]
  unfold outsAt0
  refine funext fun (y : S1x128x1024.Idx) => ?_
  refine (out_apply22 c _ _ _ _ _ _ _ _ _ _ y).trans ?_
  refine Eq.trans ?_ (congrArg (G22 (core22 m) (V m c main_arg1) (V m c main_arg2)) (sum_emb22 m hO t y)).symm
  exact two (congrArg (V m c main_arg1) (own_emb22 m hO hn t y)) (congrArg (V m c main_arg2) (got_emb22 m hO t y))

/-- Every element is some point's. -/
theorem covered22 (i : S4x128x1024.Idx) : ∃ t : Fin (cfgM m hO).N, ((cfgM m hO).win 2).flush t = true ∧ i ∈ (((cfgM m hO).win 2).blk t).view.set := by
  have hi0 : (i 0).val < 4 := (i 0).isLt
  have hi1 : (i 1).val < 128 := (i 1).isLt
  have hN : (cfgM m hO).N = 4 * 1 := N_0
  refine ⟨⟨(i 0).val * 1 + (i 1).val / 128, by omega⟩, flush0_2 _ _, ?_⟩
  have ei : i = sumAt22 m hO ⟨(i 0).val * 1 + (i 1).val / 128, by omega⟩
      (ix3 (0 : Fin 1) (⟨(i 1).val % 128, by omega⟩ : Fin 128) (i 2 : Fin 1024)) := by
    rw [sum_emb22]
    funext a; apply Fin.ext
    match a with
    | ⟨0, _⟩ => show (i 0).val = ((i 0).val * 1 + (i 1).val / 128) / 1; omega
    | ⟨1, _⟩ => show (i 1).val = ((i 0).val * 1 + (i 1).val / 128) % 1 * 128 + (i 1).val % 128; omega
    | ⟨2, _⟩ => rfl
  exact Finset.mem_map.2 ⟨_, Finset.mem_univ _, ei.symm⟩

theorem final22 (hn : core22 m < 2) (c : Dev nD) : (dats m hO 0 c).arrAt 2 (cfgM m hO).N
    = G22 (core22 m) (m ((c : Thread nD τ).loc main_arg1)) (m ((c : Thread nD τ).loc main_arg2)) :=
  (dats m hO 0 c).arrAt_eq_of_cover 2 _ (fun t _ => flushed22 m hO hn c t) (covered22 m hO)

/-- The run, its result named. -/
theorem run22 (hO : Ok m) (hn : core22 m < 2) (ρ : Dev nD → PrngReg) : θ_run defs (onTc (τ := τ) (main (F := Ideal))) ⟨m, fun _ => 0, ρ⟩ fun r => ∀ c : Dev nD,
    r.2.mem ((c : Thread nD τ).loc main_v0) = G22 (core22 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final22 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent22 : quiescent_Reference22Ideal := fun m ρ _ =>
  (θ_run Cert.Reference22Ideal.defs _ _).mono (fun r h => ⟨fun c => (h c).2, sem_eq_zero_of_no_sems (by decide) r.2⟩)
    (ref_run22 (F := Ideal) m ρ)

theorem reference_quiescent22_pre : quiescent_Reference22Ideal_pre_a_core22 := fun m ρ _ => reference_quiescent22 m ρ trivial

/-- What the reference ends with are the sums: the half it reads is the one the number names. -/
theorem ref_value22 (n : Cert.Kernel22Ideal.S1.Idx → BitVec 32) (p : Cert.Kernel22Ideal.S4x256x1024.Idx → EReal)
    (g : Cert.Kernel22Ideal.S4x128x1024.Idx → EReal) (k : ℕ) (hk : k < 2) (hs : ∀ j, (n j).toNat = k) :
    refOut22 (F := Ideal) n p g = G22 k p g := by
  unfold refOut22
  rw [Host.dynamicSlice_eq_extractStridedSlice _ _ _ ![0, k * 128, 0]]
  · funext i
    refine two (congrArg p ?_) rfl
    funext a; apply Fin.ext
    match a with
    | ⟨0, _⟩ => exact Nat.zero_add _
    | ⟨1, _⟩ => show k * 128 + (i 1).val = k % 2 * 128 + (i 1).val; rw [Nat.mod_eq_of_lt hk]
    | ⟨2, _⟩ => exact Nat.zero_add _
  · refine ⟨rfl, fun a => ?_⟩
    match a with
    | ⟨0, _⟩ => show 0 + 4 ≤ 4; omega
    | ⟨1, _⟩ => show k * 128 + 128 ≤ 256; omega
    | ⟨2, _⟩ => show 0 + 1024 ≤ 1024; omega
  · intro a
    match a with
    | ⟨0, _⟩ => rfl
    | ⟨1, _⟩ => exact half_int _ k 128 (hs _) hk (by decide)
    | ⟨2, _⟩ => rfl

open Cert.Kernel22Ideal Cert.Kernel22Ideal.Gen in
theorem algebraic22 : algebraic_Kernel22Ideal_Reference22Ideal := by
  intro m ρ m' ρ' hpre hagree
  have hn := core_lt22 m hpre
  refine ⟨_, run22 m (okIdeal22 m hpre) hn ρ, ?_⟩
  refine (θ_run Cert.Reference22Ideal.defs _ _).mono (fun _ h c => ⟨?_, (h c).2⟩) (ref_run22 (F := Ideal) m' ρ')
  rw [(h c).1]
  simp only [hagree c]
  obtain rfl : c = 0 := Subsingleton.elim _ _
  have hs : ∀ j : S1.Idx, BitVec.toNat (m (((0 : Dev nD).tc : Thread nD τ).loc main_arg0) j) = core22 m := fun j =>
    congrArg (fun j => BitVec.toNat (tbl m 0 j)) (one_idx _ _)
  exact ref_value22 _ _ _ _ hn hs

end Cert.AddCores

end
-- ==== Proof.AddCoresRef23.lean ====
/-
  The reference of the sum over the two cores for the weights of the per-layer input projection: its eight operations in order, and the array it ends with.
-/
module

public import proofs.«01_k».proof.Defs
public import proofs.«01_k».proof.Proof.AddCores
public import proofs.«01_k».proof.Proof.Gen.Reference23Ideal
public import Idealize.ShloMosaic.Lib.StableHlo.Run
public import Idealize.ShloMosaic.Lib.StableHlo.RunClose
public import Idealize.ShloMosaic.Lib.DynamicIndex
public import Idealize.ShloMosaic.Lib.Pointwise

@[expose] public section

noncomputable section

namespace Cert.AddCores

open Cert.Reference23Ideal Cert.Reference23Ideal.Gen
open Idealize.ShloMosaic Idealize.ShloMosaic.TcCoe Idealize.SL.Sem Idealize.ShloMosaic.StableHlo

variable {F : FTy → Type} [FloatOps F]

/-- What the reference ends with: the half of the rows that the number names, and the other core's half added. -/
def refOut23 (n : (⟨S1, .i32⟩ : BufTy).Contents (Elt F)) (x : (⟨S4x256x256, .f32⟩ : BufTy).Contents (Elt F))
    (g : (⟨S4x128x256, .f32⟩ : BufTy).Contents (Elt F)) : (⟨S4x128x256, .bf16⟩ : BufTy).Contents (Elt F) :=
  truncf (F := F) (φ := .f32) .bf16 (addf (Host.dynamicSlice S4x128x256 x
      (fun k => ((![constantI S_ 32 0#32, muli (shapeCast S_ n shapeCasts_S1_S_) (constantI S_ 32 128#32), constantI S_ 32 0#32] : Fin 3 → (⟨S_, .i32⟩ : BufTy).Contents (Elt F)) k (Shape.Idx.first h_S_)).toInt)
      sliceFits_S4x256x256_S4x128x256) g) bitsLt_bf16_f32

/-- The reference's operations, first the reading of the own half, then the sum. -/
def refOps23 : List (HloOp τ sig (Elt F)) :=
  [ reshape main_arg0 main_v0 (rfl : (.i32 : EltTy) = .i32) shapeCasts_S1_S_,
    nullary main_c (constantI S_ 32 128#32),
    binary main_v0 main_c main_v1 (muli : (⟨S_, .i32⟩ : BufTy).Contents (Elt F) → (⟨S_, .i32⟩ : BufTy).Contents (Elt F) → (⟨S_, .i32⟩ : BufTy).Contents (Elt F)),
    nullary main_c_0 (constantI S_ 32 0#32),
    nullary main_c_1 (constantI S_ 32 0#32),
    unaryIndexed main_arg1 ![main_c_0, main_v1, main_c_1] ⟨S_, .i32⟩ main_v2
      ((fun x i => Host.dynamicSlice S4x128x256 x (fun k => (i k (Shape.Idx.first h_S_)).toInt) sliceFits_S4x256x256_S4x128x256) :
        (⟨S4x256x256, .f32⟩ : BufTy).Contents (Elt F) → (Fin 3 → (⟨S_, .i32⟩ : BufTy).Contents (Elt F)) → (⟨S4x128x256, .f32⟩ : BufTy).Contents (Elt F)),
    binary main_v2 main_arg2 main_v3 (addf :
      (⟨S4x128x256, .f32⟩ : BufTy).Contents (Elt F) → (⟨S4x128x256, .f32⟩ : BufTy).Contents (Elt F) → (⟨S4x128x256, .f32⟩ : BufTy).Contents (Elt F)),
    unary main_v3 main_v4 ((truncf .bf16 · bitsLt_bf16_f32) : (⟨S4x128x256, .f32⟩ : BufTy).Contents (Elt F) → (⟨S4x128x256, .bf16⟩ : BufTy).Contents (Elt F)) ]

theorem ref_main23 (c : Dev nD) : main (F := F) c = seq refOps23 := rfl

theorem ref_sub23 : (refOps23 : List (HloOp τ sig (Elt F))).Forall fun op => op.bufs ⊆ tcRefs τ sig :=
  ⟨reshape_bufs_sub .., nullary_bufs_sub .., binary_bufs_sub .., nullary_bufs_sub .., nullary_bufs_sub .., unaryIndexed_bufs_sub ..,
    binary_bufs_sub .., unary_bufs_sub ..⟩

theorem ref_out23 (V : Valuation τ sig (Elt F)) : after refOps23 V (Proc.devRef .tc main_v4)
    = refOut23 (V (Proc.devRef .tc main_arg0)) (V (Proc.devRef .tc main_arg1)) (V (Proc.devRef .tc main_arg2)) := by
  unfold refOps23
  after_results_simp_entrywise
  all_goals rfl

theorem ref_arg023 (V : Valuation τ sig (Elt F)) : after refOps23 V (Proc.devRef .tc main_arg0) = V (Proc.devRef .tc main_arg0) := by
  unfold refOps23; after_results
theorem ref_arg123 (V : Valuation τ sig (Elt F)) : after refOps23 V (Proc.devRef .tc main_arg1) = V (Proc.devRef .tc main_arg1) := by
  unfold refOps23; after_results
theorem ref_arg223 (V : Valuation τ sig (Elt F)) : after refOps23 V (Proc.devRef .tc main_arg2) = V (Proc.devRef .tc main_arg2) := by
  unfold refOps23; after_results

/-- The reference's run: the array it ends with, and its arguments as they were. -/
theorem ref_run23 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refOut23 (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (ref_out23 _), (h c main_arg0).trans (ref_arg023 _),
      (h c main_arg1).trans (ref_arg123 _), (h c main_arg2).trans (ref_arg223 _)⟩)
    (run_seq (by decide) (by decide) defs main (fun _ => refOps23) ref_main23 (fun _ => ref_sub23) m ρ)

end Cert.AddCores

end
-- ==== Proof.AddCoresProj.lean ====
/-
  The sum over a chip's two cores of one core's half of the gradient of the weights of the per-layer input projection: the core's own half of the rows, which the
  table names, and the half that came from the other core.
-/
module

public import proofs.«01_k».proof.Defs
public import proofs.«01_k».proof.Proof.AddCores
public import proofs.«01_k».proof.Proof.Gen.Kernel23.Frame
public import proofs.«01_k».proof.Proof.Gen.Kernel23Ideal.Frame
public import proofs.«01_k».proof.Proof.Gen.Pre_a_core23
public import proofs.«01_k».proof.Proof.AddCoresRef23
public import Idealize.ShloMosaic.Lib.DynamicIndex
public import Idealize.ShloMosaic.Init
public import Idealize.ShloMosaic.Lib.Quiescent
public import Idealize.ShloMosaic.Lib.Tactic.ValueTie
public import Idealize.ShloMosaic.Lib.Pointwise
public import Idealize.ShloMosaic.Lib.Affine

@[expose] public section

set_option maxRecDepth 16384

noncomputable section

namespace Cert.AddCores

open Idealize.ShloMosaic Idealize.ShloMosaic.TcCoe Idealize.SL.Sem
open Idealize.ShloMosaic.Pipeline (Dat)

/-! ## The table names a block inside the array -/

section
open Cert.Kernel23 Cert.Kernel23.Gen

theorem ok23 (m : (ℓ : Loc nD τ sig) → Buf (Elt Bits) ℓ) (h : Cert.Pre_Kernel23 m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 128) (show 2 * 1 * 128 ≤ 256 by decide)
    exact Nat.mul_le_mul_right 128 (hp ((Rect.unit (s := S1) ![0] S1.size Facts₀.inb_S1_S1_0).emb (Shape.Idx.first (Facts₀.numel1_S1.symm ▸ Nat.one_pos))))
  | ⟨2, _⟩ => exact le_of_eq (show (0 + 1) * 256 = 256 from Nat.one_mul _)

end

section
open Cert.Kernel23Ideal Cert.Kernel23Ideal.Gen

/-- The core's number, as the launch memory holds it. -/
abbrev core23 (m : (ℓ : Loc nD τ sig) → Buf (Elt Ideal) ℓ) : ℕ := BitVec.toNat (tbl m 0 (ix1 (0 : Fin 1)))

theorem core_lt23 (m : (ℓ : Loc nD τ sig) → Buf (Elt Ideal) ℓ) (h : Cert.Pre_Kernel23Ideal m) : core23 m < 2 :=
  lt_two _ (congrFun (h 0).1 _) (congrFun (h 0).2 _)

theorem okIdeal23 (m : (ℓ : Loc nD τ sig) → Buf (Elt Ideal) ℓ) (h : Cert.Pre_Kernel23Ideal m) : Ok m := by
  intro i
  have hi : (i 0).val < 4 := (i 0).isLt
  have hj : (i 1).val < 1 := (i 1).isLt
  have hi' : (BitVec.ofNat 32 (i 0).val).toNat = (i 0).val := by rw [BitVec.toNat_ofNat]; omega
  have hw : ∀ j : S1.Idx, BitVec.toNat (tbl m 0 j) < 2 := fun j => lt_two _ (congrFun (h 0).1 j) (congrFun (h 0).2 j)
  have hp : ∀ j : S1.Idx, block (tbl m 0 j) 1 (i 1).val < 2 * 1 := fun j => by
    rw [at_block _ 1 _ (hw j) (by omega) (by omega)]
    have := hw j
    omega
  refine ⟨fun a => ?_, .inl rfl⟩
  match a with
  | ⟨0, _⟩ => show ((BitVec.ofNat 32 (i 0).val).toNat + 1) * 1 ≤ 4; omega
  | ⟨1, _⟩ =>
    refine le_trans (?_ : _ ≤ 2 * 1 * 128) (show 2 * 1 * 128 ≤ 256 by decide)
    exact Nat.mul_le_mul_right 128 (hp ((Rect.unit (s := S1) ![0] S1.size Facts₀.inb_S1_S1_0).emb (Shape.Idx.first (Facts₀.numel1_S1.symm ▸ Nat.one_pos))))
  | ⟨2, _⟩ => exact le_of_eq (show (0 + 1) * 256 = 256 from Nat.one_mul _)

/-! ## What the call leaves -/

variable (m : (ℓ : Loc nD τ sig) → Buf (Elt Ideal) ℓ)

theorem hzz23 : (![0, 0, 0] : Fin 3 → Nat) = fun _ => 0 := funext fun a => by fin_cases a <;> rfl

/-- A point's block: the own element and the one that came. -/
theorem out_apply23 (c : Dev nD) (i : grid0.Coords) (a2 : Memref sig .tc .vmem S1x128x256 .f32) (h2 : a2.IsWhole)
    (a3 : Memref sig .tc .vmem S1x128x256 .f32) (h3 : a3.IsWhole) (a4 : Memref sig .tc .vmem S1x128x256 .bf16) (h4 : a4.IsWhole)
    (x0 : Vec Ideal S1x128x256 .f32) (x1 : Vec Ideal S1x128x256 .f32) (xt : TbBuf0 (F := Ideal) c tbM0_0) (y : S1x128x256.Idx) :
    out0_A_2 c i a2 h2 a3 h3 a4 h4 x0 x1 xt y = (x0 y + x1 y : EReal) := by
  unfold out0_A_2
  rw [View.read_writes_eq_canon _ _ _ (cover0_A_2 c i a2 h2 a3 h3 a4 h4 x0 x1 xt)]
  unfold kernelRun0_A
  dsimp only
  rw [View.canon_unit_zero hzz23]
  unfold k0_pay1
  simp only [View.readAt_eq_ld, h2.read_unread, h3.read_unread, View.ld_unit_zero (S := S1x128x256) hzz23]
  rfl

/-- The sums: the element of the own half of the rows and the one that came. -/
def G23 (n : ℕ) (p : S4x256x256.Idx → EReal) (g : S4x128x256.Idx → EReal) : S4x128x256.Idx → EReal := fun i =>
  p (ix3 (i 0 : Fin 4) (⟨n % 2 * 128 + (i 1).val, half_lt (show (i 1).val < 128 from (i 1).isLt)⟩ : Fin (2 * 128)) (i 2 : Fin 256)) + g i

/-- A point's slab and its row of blocks, from the point's number. -/
theorem row23 (t : Fin grid0.N) : (BitVec.ofNat 32 (grid0.coords t 0).val).toNat = t.val / 1
    ∧ (BitVec.ofNat 32 (grid0.coords t 1).val).toNat = t.val % 1 ∧ (grid0.coords t 1).val = t.val % 1 := by
  revert t; decide +kernel

variable (hO : Ok m)

/-- Where a point's blocks lie. -/
def ownAt23 (t : Fin (cfgM m hO).N) (x : S1x128x256.Idx) : S4x256x256.Idx := (((cfgM m hO).win 0).blk t).view.emb x
def gotAt23 (t : Fin (cfgM m hO).N) (x : S1x128x256.Idx) : S4x128x256.Idx := (((cfgM m hO).win 1).blk t).view.emb x
def sumAt23 (t : Fin (cfgM m hO).N) (x : S1x128x256.Idx) : S4x128x256.Idx := (((cfgM m hO).win 2).blk t).view.emb x

/-- The element of the sums that a point's block has at a place. -/
def place23 (t : Fin (cfgM m hO).N) (y : S1x128x256.Idx) : S4x128x256.Idx :=
  ix3 (⟨t.val / 1, by have ht : t.val < 4 * 1 := lt_of_lt_of_eq t.isLt (show grid0.N = 4 * 1 from N_0); omega⟩ : Fin 4)
    (⟨t.val % 1 * 128 + (y 1).val, by have hy : (y 1).val < 128 := (y 1).isLt; omega⟩ : Fin 128) (y 2 : Fin 256)

theorem own_emb23 (hn : core23 m < 2) (t : Fin (cfgM m hO).N) (y : S1x128x256.Idx) : ownAt23 m hO t y
      = ix3 (place23 m hO t y 0 : Fin 4) (⟨core23 m % 2 * 128 + (place23 m hO t y 1).val,
        half_lt (show (place23 m hO t y 1).val < 128 from (place23 m hO t y 1).isLt)⟩ : Fin (2 * 128)) (place23 m hO t y 2 : Fin 256) := by
  obtain ⟨hi, hj, hj'⟩ := row23 t
  have hy : (y 0).val < 1 := (y 0).isLt
  have hw : BitVec.toNat (tbl m 0 ((Rect.unit (s := S1) ![0] S1.size Cert.Kernel23Ideal.Facts₀.inb_S1_S1_0).emb (Shape.Idx.first (Cert.Kernel23Ideal.Facts₀.numel1_S1.symm ▸ Nat.one_pos)))) = core23 m :=
    congrArg (fun j => BitVec.toNat (tbl m 0 j)) (one_idx _ _)
  have hp := at_block (tbl m 0 ((Rect.unit (s := S1) ![0] S1.size Cert.Kernel23Ideal.Facts₀.inb_S1_S1_0).emb (Shape.Idx.first (Cert.Kernel23Ideal.Facts₀.numel1_S1.symm ▸ Nat.one_pos))))
    1 (grid0.coords t 1).val (by rw [hw]; exact hn) (by omega) (by omega)
  rw [hw] at hp
  funext a; apply Fin.ext
  match a with
  | ⟨0, _⟩ => show (BitVec.ofNat 32 (grid0.coords t 0).val).toNat * 1 + 1 * (y 0).val = t.val / 1; omega
  | ⟨1, _⟩ =>
    show block (tbl m 0 ((Rect.unit (s := S1) ![0] S1.size Cert.Kernel23Ideal.Facts₀.inb_S1_S1_0).emb (Shape.Idx.first (Cert.Kernel23Ideal.Facts₀.numel1_S1.symm ▸ Nat.one_pos))))
      1 (grid0.coords t 1).val * 128 + 1 * (y 1).val = core23 m % 2 * 128 + (t.val % 1 * 128 + (y 1).val)
    rw [hp]; omega
  | ⟨2, _⟩ => show 0 * 256 + 1 * (y 2).val = (y 2).val; omega

theorem got_emb23 (t : Fin (cfgM m hO).N) (y : S1x128x256.Idx) : gotAt23 m hO t y = place23 m hO t y := by
  obtain ⟨hi, hj, _⟩ := row23 t
  have hy : (y 0).val < 1 := (y 0).isLt
  funext a; apply Fin.ext
  match a with
  | ⟨0, _⟩ => show (BitVec.ofNat 32 (grid0.coords t 0).val).toNat * 1 + 1 * (y 0).val = t.val / 1; omega
  | ⟨1, _⟩ => show (BitVec.ofNat 32 (grid0.coords t 1).val).toNat * 128 + 1 * (y 1).val = t.val % 1 * 128 + (y 1).val; omega
  | ⟨2, _⟩ => show 0 * 256 + 1 * (y 2).val = (y 2).val; omega

theorem sum_emb23 (t : Fin (cfgM m hO).N) (y : S1x128x256.Idx) : sumAt23 m hO t y = place23 m hO t y := got_emb23 m hO t y

/-- A point writes back its block of the sums. -/
theorem flushed23 (hn : core23 m < 2) (c : Dev nD) (t : Fin (cfgM m hO).N) :
    (dats m hO 0 c).flushed 2 t = (((cfgM m hO).win 2).blk t).view.read (Elt Ideal) (G23 (core23 m) (V m c main_arg1) (V m c main_arg2)) := by
  show ((cfgM m hO).win 2).cut (grid0.coords t) ((dats m hO 0 c).after 2 t) = _
  rw [after0_2]
  unfold outsAt0
  refine funext fun (y : S1x128x256.Idx) => ?_
  refine (out_apply23 c _ _ _ _ _ _ _ _ _ _ y).trans ?_
  refine Eq.trans ?_ (congrArg (G23 (core23 m) (V m c main_arg1) (V m c main_arg2)) (sum_emb23 m hO t y)).symm
  exact two (congrArg (V m c main_arg1) (own_emb23 m hO hn t y)) (congrArg (V m c main_arg2) (got_emb23 m hO t y))

/-- Every element is some point's. -/
theorem covered23 (i : S4x128x256.Idx) : ∃ t : Fin (cfgM m hO).N, ((cfgM m hO).win 2).flush t = true ∧ i ∈ (((cfgM m hO).win 2).blk t).view.set := by
  have hi0 : (i 0).val < 4 := (i 0).isLt
  have hi1 : (i 1).val < 128 := (i 1).isLt
  have hN : (cfgM m hO).N = 4 * 1 := N_0
  refine ⟨⟨(i 0).val * 1 + (i 1).val / 128, by omega⟩, flush0_2 _ _, ?_⟩
  have ei : i = sumAt23 m hO ⟨(i 0).val * 1 + (i 1).val / 128, by omega⟩
      (ix3 (0 : Fin 1) (⟨(i 1).val % 128, by omega⟩ : Fin 128) (i 2 : Fin 256)) := by
    rw [sum_emb23]
    funext a; apply Fin.ext
    match a with
    | ⟨0, _⟩ => show (i 0).val = ((i 0).val * 1 + (i 1).val / 128) / 1; omega
    | ⟨1, _⟩ => show (i 1).val = ((i 0).val * 1 + (i 1).val / 128) % 1 * 128 + (i 1).val % 128; omega
    | ⟨2, _⟩ => rfl
  exact Finset.mem_map.2 ⟨_, Finset.mem_univ _, ei.symm⟩

theorem final23 (hn : core23 m < 2) (c : Dev nD) : (dats m hO 0 c).arrAt 2 (cfgM m hO).N
    = G23 (core23 m) (m ((c : Thread nD τ).loc main_arg1)) (m ((c : Thread nD τ).loc main_arg2)) :=
  (dats m hO 0 c).arrAt_eq_of_cover 2 _ (fun t _ => flushed23 m hO hn c t) (covered23 m hO)

/-- The run, its result named. -/
theorem run23 (hO : Ok m) (hn : core23 m < 2) (ρ : Dev nD → PrngReg) : θ_run defs (onTc (τ := τ) (main (F := Ideal))) ⟨m, fun _ => 0, ρ⟩ fun r => ∀ c : Dev nD,
    r.2.mem ((c : Thread nD τ).loc main_v0) = G23 (core23 m) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final23 m hO hn c),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c)))⟩) (run_main m ρ hO)

end

/-! ## The reference -/

theorem reference_quiescent23 : quiescent_Reference23Ideal := fun m ρ _ =>
  (θ_run Cert.Reference23Ideal.defs _ _).mono (fun r h => ⟨fun c => (h c).2, sem_eq_zero_of_no_sems (by decide) r.2⟩)
    (ref_run23 (F := Ideal) m ρ)

theorem reference_quiescent23_pre : quiescent_Reference23Ideal_pre_a_core23 := fun m ρ _ => reference_quiescent23 m ρ trivial

/-- What the reference ends with are the sums: the half it reads is the one the number names. -/
theorem ref_value23 (n : Cert.Kernel23Ideal.S1.Idx → BitVec 32) (p : Cert.Kernel23Ideal.S4x256x256.Idx → EReal)
    (g : Cert.Kernel23Ideal.S4x128x256.Idx → EReal) (k : ℕ) (hk : k < 2) (hs : ∀ j, (n j).toNat = k) :
    refOut23 (F := Ideal) n p g = G23 k p g := by
  unfold refOut23
  rw [Host.dynamicSlice_eq_extractStridedSlice _ _ _ ![0, k * 128, 0]]
  · funext i
    refine two (congrArg p ?_) rfl
    funext a; apply Fin.ext
    match a with
    | ⟨0, _⟩ => exact Nat.zero_add _
    | ⟨1, _⟩ => show k * 128 + (i 1).val = k % 2 * 128 + (i 1).val; rw [Nat.mod_eq_of_lt hk]
    | ⟨2, _⟩ => exact Nat.zero_add _
  · refine ⟨rfl, fun a => ?_⟩
    match a with
    | ⟨0, _⟩ => show 0 + 4 ≤ 4; omega
    | ⟨1, _⟩ => show k * 128 + 128 ≤ 256; omega
    | ⟨2, _⟩ => show 0 + 256 ≤ 256; omega
  · intro a
    match a with
    | ⟨0, _⟩ => rfl
    | ⟨1, _⟩ => exact half_int _ k 128 (hs _) hk (by decide)
    | ⟨2, _⟩ => rfl

open Cert.Kernel23Ideal Cert.Kernel23Ideal.Gen in
theorem algebraic23 : algebraic_Kernel23Ideal_Reference23Ideal := by
  intro m ρ m' ρ' hpre hagree
  have hn := core_lt23 m hpre
  refine ⟨_, run23 m (okIdeal23 m hpre) hn ρ, ?_⟩
  refine (θ_run Cert.Reference23Ideal.defs _ _).mono (fun _ h c => ⟨?_, (h c).2⟩) (ref_run23 (F := Ideal) m' ρ')
  rw [(h c).1]
  simp only [hagree c]
  obtain rfl : c = 0 := Subsingleton.elim _ _
  have hs : ∀ j : S1.Idx, BitVec.toNat (m (((0 : Dev nD).tc : Thread nD τ).loc main_arg0) j) = core23 m := fun j =>
    congrArg (fun j => BitVec.toNat (tbl m 0 j)) (one_idx _ _)
  exact ref_value23 _ _ _ _ hn hs

end Cert.AddCores

end
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.DwIn
public import proofs.«01_k».proof.Proof.Gen.Kernel3.Frame
public import proofs.«01_k».proof.Proof.Gen.Kernel3Ideal.Value
public import proofs.«01_k».proof.Proof.Gen.Reference3Ideal.Run
public import proofs.«01_k».proof.Proof.InprojClaim
public import proofs.«01_k».proof.Proof.Gen.Kernel4.Frame
public import proofs.«01_k».proof.Proof.Gen.Kernel4Ideal.Value
public import proofs.«01_k».proof.Proof.Gen.Reference4Ideal.Run
public import proofs.«01_k».proof.Proof.TailClaim
public import proofs.«01_k».proof.Proof.Gen.Kernel5.Frame
public import proofs.«01_k».proof.Proof.Gen.Kernel5Ideal.Value
public import proofs.«01_k».proof.Proof.Gen.Reference5Ideal.Run
public import proofs.«01_k».proof.Proof.DwOutSsm
public import proofs.«01_k».proof.Proof.Gen.Kernel6.Frame
public import proofs.«01_k».proof.Proof.Gen.Kernel6Ideal.Value
public import proofs.«01_k».proof.Proof.Gen.Reference6Ideal.Run
public import proofs.«01_k».proof.Proof.DwOutConf
public import proofs.«01_k».proof.Proof.Gen.Kernel7.Frame
public import proofs.«01_k».proof.Proof.Gen.Kernel7Ideal.Value
public import proofs.«01_k».proof.Proof.Gen.Reference7Ideal.Run
public import proofs.«01_k».proof.Proof.DwPleGate
public import proofs.«01_k».proof.Proof.Gen.Kernel8.Frame
public import proofs.«01_k».proof.Proof.Gen.Kernel8Ideal.Value
public import proofs.«01_k».proof.Proof.Gen.Reference8Ideal.Run
public import proofs.«01_k».proof.Proof.DwPleProj
public import proofs.«01_k».proof.Proof.Gen.Kernel9.Frame
public import proofs.«01_k».proof.Proof.Gen.Kernel9Ideal.Value
public import proofs.«01_k».proof.Proof.Gen.Reference9Ideal.Run
public import proofs.«01_k».proof.Proof.Adam
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.ConfFrame
public import proofs.«01_k».proof.Proof.ConfBitsFrame
public import proofs.«01_k».proof.Proof.Gen.Reference15Ideal.Run
public import proofs.«01_k».proof.Proof.ConfClaim
public import proofs.«01_k».proof.Proof.Gen.Kernel16.Frame
public import proofs.«01_k».proof.Proof.Gen.Kernel16Ideal.Frame
public import proofs.«01_k».proof.Proof.Gen.Reference16Ideal
public import proofs.«01_k».proof.Proof.AddChipsWIn
public import proofs.«01_k».proof.Proof.Gen.Kernel17.Frame
public import proofs.«01_k».proof.Proof.Gen.Kernel17Ideal.Frame
public import proofs.«01_k».proof.Proof.Gen.Reference17Ideal
public import proofs.«01_k».proof.Proof.AddChipsWOut
public import proofs.«01_k».proof.Proof.Gen.Kernel18.Frame
public import proofs.«01_k».proof.Proof.Gen.Kernel18Ideal.Frame
public import proofs.«01_k».proof.Proof.Gen.Reference18Ideal
public import proofs.«01_k».proof.Proof.AddChipsGate
public import proofs.«01_k».proof.Proof.Gen.Kernel19.Frame
public import proofs.«01_k».proof.Proof.Gen.Kernel19Ideal.Frame
public import proofs.«01_k».proof.Proof.Gen.Reference19Ideal
public import proofs.«01_k».proof.Proof.AddChipsProj
public import proofs.«01_k».proof.Proof.Gen.Kernel20.Frame
public import proofs.«01_k».proof.Proof.Gen.Kernel20Ideal.Frame
public import proofs.«01_k».proof.Proof.Gen.Reference20Ideal
public import proofs.«01_k».proof.Proof.AddCoresWIn
public import proofs.«01_k».proof.Proof.Gen.Kernel21.Frame
public import proofs.«01_k».proof.Proof.Gen.Kernel21Ideal.Frame
public import proofs.«01_k».proof.Proof.Gen.Reference21Ideal
public import proofs.«01_k».proof.Proof.AddCoresWOut
public import proofs.«01_k».proof.Proof.Gen.Kernel22.Frame
public import proofs.«01_k».proof.Proof.Gen.Kernel22Ideal.Frame
public import proofs.«01_k».proof.Proof.Gen.Reference22Ideal
public import proofs.«01_k».proof.Proof.AddCoresGate
public import proofs.«01_k».proof.Proof.Gen.Kernel23.Frame
public import proofs.«01_k».proof.Proof.Gen.Kernel23Ideal.Frame
public import proofs.«01_k».proof.Proof.Gen.Reference23Ideal
public import proofs.«01_k».proof.Proof.AddCoresProj
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Kernel17
public import proofs.«01_k».proof.Proof.Gen.Kernel17Ideal
public import proofs.«01_k».proof.Proof.Gen.Kernel18
public import proofs.«01_k».proof.Proof.Gen.Kernel18Ideal
public import proofs.«01_k».proof.Proof.Gen.Kernel19
public import proofs.«01_k».proof.Proof.Gen.Kernel19Ideal
public import proofs.«01_k».proof.Proof.Gen.Kernel20
public import proofs.«01_k».proof.Proof.Gen.Kernel20Ideal
public import proofs.«01_k».proof.Proof.Gen.Kernel21
public import proofs.«01_k».proof.Proof.Gen.Kernel21Ideal
public import proofs.«01_k».proof.Proof.Gen.Kernel22
public import proofs.«01_k».proof.Proof.Gen.Kernel22Ideal
public import proofs.«01_k».proof.Proof.Gen.Kernel23
public import proofs.«01_k».proof.Proof.Gen.Kernel23Ideal
public import proofs.«01_k».proof.Proof.Gen.Pre_finite3
public import proofs.«01_k».proof.Proof.Gen.Pre_finite4
public import proofs.«01_k».proof.Proof.Gen.Pre_finite15
public import proofs.«01_k».proof.Proof.Gen.Pre_a_chip16
public import proofs.«01_k».proof.Proof.Gen.Pre_a_chip17
public import proofs.«01_k».proof.Proof.Gen.Pre_a_chip18
public import proofs.«01_k».proof.Proof.Gen.Pre_a_chip19
public import proofs.«01_k».proof.Proof.Gen.Pre_a_core20
public import proofs.«01_k».proof.Proof.Gen.Pre_a_core21
public import proofs.«01_k».proof.Proof.Gen.Pre_a_core22
public import proofs.«01_k».proof.Proof.Gen.Pre_a_core23
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  funext i
  refine Eq.trans ?_ (Cert.DwIn.G2_eq m c i).symm
  pointwise
  exact Finset.sum_congr rfl fun x _ => mul_comm _ _

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  rw [(h c).1]
  simp only [hagree c]
  funext i
  refine Eq.trans ?_ (Cert.DwOutSsm.G2_eq m c i).symm
  pointwise
  exact Finset.sum_congr rfl fun x _ => mul_comm _ _

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  funext i
  refine Eq.trans ?_ (Cert.DwOutConf.G2_eq m c i).symm
  pointwise
  exact Finset.sum_congr rfl fun x _ => mul_comm _ _

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  simp only [hagree c]
  funext i
  refine Eq.trans ?_ (Cert.DwPleGate.G2_eq m c i).symm
  pointwise
  exact Finset.sum_congr rfl fun x _ => mul_comm _ _

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1]
  simp only [hagree c]
  funext i
  refine Eq.trans ?_ (Cert.DwPleProj.G2_eq m c i).symm
  pointwise
  exact Finset.sum_congr rfl fun x _ => mul_comm _ _

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite3.Gen.facts, Cert.Pre_finite4.Gen.facts, Cert.Pre_finite15.Gen.facts, Cert.Pre_a_chip16.Gen.facts, Cert.Pre_a_chip17.Gen.facts, Cert.Pre_a_chip18.Gen.facts, Cert.Pre_a_chip19.Gen.facts, Cert.Pre_a_core20.Gen.facts, Cert.Pre_a_core21.Gen.facts, Cert.Pre_a_core22.Gen.facts, Cert.Pre_a_core23.Gen.facts,
  fun m ρ _ => Cert.Kernel2.Gen.frame m ρ,
  fun m ρ _ => Cert.Kernel2Ideal.Gen.frame m ρ,
  quiescent_Reference2Ideal,
  fun m ρ _ => Cert.Kernel3.Gen.frame m ρ,
  fun m ρ _ => Cert.Kernel3Ideal.Gen.frame m ρ,
  fun m ρ _ => Cert.Kernel3Ideal.Gen.frame m ρ,
  Cert.Inproj.reference_quiescent,
  Cert.Inproj.reference_quiescent_pre,
  fun m ρ _ => Cert.Kernel4.Gen.frame m ρ,
  fun m ρ _ => Cert.Kernel4Ideal.Gen.frame m ρ,
  fun m ρ _ => Cert.Kernel4Ideal.Gen.frame m ρ,
  Cert.Tail.reference_quiescent,
  Cert.Tail.reference_quiescent_pre,
  fun m ρ _ => Cert.Kernel5.Gen.frame m ρ,
  fun m ρ _ => Cert.Kernel5Ideal.Gen.frame m ρ,
  quiescent_Reference5Ideal,
  fun m ρ _ => Cert.Kernel6.Gen.frame m ρ,
  fun m ρ _ => Cert.Kernel6Ideal.Gen.frame m ρ,
  quiescent_Reference6Ideal,
  fun m ρ _ => Cert.Kernel7.Gen.frame m ρ,
  fun m ρ _ => Cert.Kernel7Ideal.Gen.frame m ρ,
  quiescent_Reference7Ideal,
  fun m ρ _ => Cert.Kernel8.Gen.frame m ρ,
  fun m ρ _ => Cert.Kernel8Ideal.Gen.frame m ρ,
  quiescent_Reference8Ideal,
  fun m ρ _ => Cert.Kernel9.Gen.frame m ρ,
  fun m ρ _ => Cert.Kernel9Ideal.Gen.frame m ρ,
  Cert.Adam.reference_quiescent9,
  fun m ρ _ => Cert.Kernel10.Gen.frame m ρ,
  fun m ρ _ => Cert.Kernel10Ideal.Gen.frame m ρ,
  Cert.Adam.reference_quiescent10,
  fun m ρ _ => Cert.Kernel11.Gen.frame m ρ,
  fun m ρ _ => Cert.Kernel11Ideal.Gen.frame m ρ,
  Cert.Adam.reference_quiescent11,
  fun m ρ _ => Cert.Kernel12.Gen.frame m ρ,
  fun m ρ _ => Cert.Kernel12Ideal.Gen.frame m ρ,
  Cert.Adam.reference_quiescent12,
  fun m ρ _ => Cert.Kernel13.Gen.frame m ρ,
  fun m ρ _ => Cert.Kernel13Ideal.Gen.frame m ρ,
  Cert.Adam.reference_quiescent13,
  fun m ρ _ => Cert.Kernel14.Gen.frame m ρ,
  fun m ρ _ => Cert.Kernel14Ideal.Gen.frame m ρ,
  Cert.Adam.reference_quiescent14,
  fun m ρ _ => Cert.ConfBits.frame m ρ,
  fun m ρ _ => Cert.Conf.frame m ρ,
  fun m ρ _ => Cert.Conf.frame m ρ,
  Cert.Conf.reference_quiescent,
  Cert.Conf.reference_quiescent_pre,
  fun m ρ h => Cert.Kernel16.Gen.frame m ρ (Cert.AddChips.ok16 m h),
  fun m ρ h => Cert.Kernel16Ideal.Gen.frame m ρ (Cert.AddChips.okIdeal16 m h),
  Cert.AddChips.reference_quiescent16,
  Cert.AddChips.reference_quiescent16_pre,
  fun m ρ h => Cert.Kernel17.Gen.frame m ρ (Cert.AddChips.ok17 m h),
  fun m ρ h => Cert.Kernel17Ideal.Gen.frame m ρ (Cert.AddChips.okIdeal17 m h),
  Cert.AddChips.reference_quiescent17,
  Cert.AddChips.reference_quiescent17_pre,
  fun m ρ h => Cert.Kernel18.Gen.frame m ρ (Cert.AddChips.ok18 m h),
  fun m ρ h => Cert.Kernel18Ideal.Gen.frame m ρ (Cert.AddChips.okIdeal18 m h),
  Cert.AddChips.reference_quiescent18,
  Cert.AddChips.reference_quiescent18_pre,
  fun m ρ h => Cert.Kernel19.Gen.frame m ρ (Cert.AddChips.ok19 m h),
  fun m ρ h => Cert.Kernel19Ideal.Gen.frame m ρ (Cert.AddChips.okIdeal19 m h),
  Cert.AddChips.reference_quiescent19,
  Cert.AddChips.reference_quiescent19_pre,
  fun m ρ h => Cert.Kernel20.Gen.frame m ρ (Cert.AddCores.ok20 m h),
  fun m ρ h => Cert.Kernel20Ideal.Gen.frame m ρ (Cert.AddCores.okIdeal20 m h),
  Cert.AddCores.reference_quiescent20,
  Cert.AddCores.reference_quiescent20_pre,
  fun m ρ h => Cert.Kernel21.Gen.frame m ρ (Cert.AddCores.ok21 m h),
  fun m ρ h => Cert.Kernel21Ideal.Gen.frame m ρ (Cert.AddCores.okIdeal21 m h),
  Cert.AddCores.reference_quiescent21,
  Cert.AddCores.reference_quiescent21_pre,
  fun m ρ h => Cert.Kernel22.Gen.frame m ρ (Cert.AddCores.ok22 m h),
  fun m ρ h => Cert.Kernel22Ideal.Gen.frame m ρ (Cert.AddCores.okIdeal22 m h),
  Cert.AddCores.reference_quiescent22,
  Cert.AddCores.reference_quiescent22_pre,
  fun m ρ h => Cert.Kernel23.Gen.frame m ρ (Cert.AddCores.ok23 m h),
  fun m ρ h => Cert.Kernel23Ideal.Gen.frame m ρ (Cert.AddCores.okIdeal23 m h),
  Cert.AddCores.reference_quiescent23,
  Cert.AddCores.reference_quiescent23_pre,
  (trivial : preserves_Kernel2_Kernel2Ideal),
  algebraic_Kernel2Ideal_Reference2Ideal,
  (trivial : preserves_Kernel3_Kernel3Ideal),
  Cert.Inproj.algebraic,
  (trivial : preserves_Kernel4_Kernel4Ideal),
  Cert.Tail.algebraic,
  (trivial : preserves_Kernel5_Kernel5Ideal),
  algebraic_Kernel5Ideal_Reference5Ideal,
  (trivial : preserves_Kernel6_Kernel6Ideal),
  algebraic_Kernel6Ideal_Reference6Ideal,
  (trivial : preserves_Kernel7_Kernel7Ideal),
  algebraic_Kernel7Ideal_Reference7Ideal,
  (trivial : preserves_Kernel8_Kernel8Ideal),
  algebraic_Kernel8Ideal_Reference8Ideal,
  (trivial : preserves_Kernel9_Kernel9Ideal),
  Cert.Adam.algebraic9,
  (trivial : preserves_Kernel10_Kernel10Ideal),
  Cert.Adam.algebraic10,
  (trivial : preserves_Kernel11_Kernel11Ideal),
  Cert.Adam.algebraic11,
  (trivial : preserves_Kernel12_Kernel12Ideal),
  Cert.Adam.algebraic12,
  (trivial : preserves_Kernel13_Kernel13Ideal),
  Cert.Adam.algebraic13,
  (trivial : preserves_Kernel14_Kernel14Ideal),
  Cert.Adam.algebraic14,
  (trivial : preserves_Kernel15_Kernel15Ideal),
  Cert.Conf.algebraic,
  (trivial : preserves_Kernel16_Kernel16Ideal),
  Cert.AddChips.algebraic16,
  (trivial : preserves_Kernel17_Kernel17Ideal),
  Cert.AddChips.algebraic17,
  (trivial : preserves_Kernel18_Kernel18Ideal),
  Cert.AddChips.algebraic18,
  (trivial : preserves_Kernel19_Kernel19Ideal),
  Cert.AddChips.algebraic19,
  (trivial : preserves_Kernel20_Kernel20Ideal),
  Cert.AddCores.algebraic20,
  (trivial : preserves_Kernel21_Kernel21Ideal),
  Cert.AddCores.algebraic21,
  (trivial : preserves_Kernel22_Kernel22Ideal),
  Cert.AddCores.algebraic22,
  (trivial : preserves_Kernel23_Kernel23Ideal),
  Cert.AddCores.algebraic23⟩

end Cert.Proof

end
